-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_above_bottom [hPre_above_bottom : Cert.Pre_above_bottom.Facts] (m : (ℓ : Loc Cert.RouterIdeal.nD Cert.RouterIdeal.τ Cert.RouterIdeal.sig) → Buf (Elt Ideal) ℓ) : Prop :=
  ∀ c : Dev Cert.RouterIdeal.nD,
    (Cert.Pre_above_bottom.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_above_bottom [hPre_above_bottom : Cert.Pre_above_bottom.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_above_bottom.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5)) (m ((c.tc : Thread Cert.RouterReferenceIdeal.nD Cert.RouterReferenceIdeal.τ).loc Cert.RouterReferenceIdeal.main_arg6))) = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6))
      ∧ r.2.sem = fun _ => 0)

def quiescent_RouterIdeal_pre_above_bottom [hRouterIdeal : Cert.RouterIdeal.Facts] [hPre_above_bottom : Cert.Pre_above_bottom.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_above_bottom m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6))
      ∧ r.2.sem = fun _ => 0)

def quiescent_RouterReferenceIdeal_pre_above_bottom [hRouterReferenceIdeal : Cert.RouterReferenceIdeal.Facts] [hPre_above_bottom : Cert.Pre_above_bottom.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_above_bottom m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v12) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v11_0)) (v1 : (c : Dev Cert.OutIdeal.nD) → Buf (Elt Ideal) ((c.tc : Thread Cert.OutIdeal.nD Cert.OutIdeal.τ).loc Cert.OutIdeal.main_v11_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11_0) = v0 c
          ∧ r.2.mem ((c.tc : Thread Cert.OutIdeal.nD Cert.OutIdeal.τ).loc Cert.OutIdeal.main_v11_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_v29) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v27_0)) (v1 : (c : Dev Cert.LatentIdeal.nD) → Buf (Elt Ideal) ((c.tc : Thread Cert.LatentIdeal.nD Cert.LatentIdeal.τ).loc Cert.LatentIdeal.main_v27_1)) (v2 : (c : Dev Cert.LatentIdeal.nD) → Buf (Elt Ideal) ((c.tc : Thread Cert.LatentIdeal.nD Cert.LatentIdeal.τ).loc Cert.LatentIdeal.main_v27_2)) (v3 : (c : Dev Cert.LatentIdeal.nD) → Buf (Elt Ideal) ((c.tc : Thread Cert.LatentIdeal.nD Cert.LatentIdeal.τ).loc Cert.LatentIdeal.main_v27_3)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v27_0) = v0 c
          ∧ r.2.mem ((c.tc : Thread Cert.LatentIdeal.nD Cert.LatentIdeal.τ).loc Cert.LatentIdeal.main_v27_1) = v1 c
          ∧ r.2.mem ((c.tc : Thread Cert.LatentIdeal.nD Cert.LatentIdeal.τ).loc Cert.LatentIdeal.main_v27_2) = v2 c
          ∧ r.2.mem ((c.tc : Thread Cert.LatentIdeal.nD Cert.LatentIdeal.τ).loc Cert.LatentIdeal.main_v27_3) = v3 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v76) = v0 c
          ∧ r.2.mem ((c.tc : Thread Cert.LatentReferenceIdeal.nD Cert.LatentReferenceIdeal.τ).loc Cert.LatentReferenceIdeal.main_v79) = v1 c
          ∧ r.2.mem ((c.tc : Thread Cert.LatentReferenceIdeal.nD Cert.LatentReferenceIdeal.τ).loc Cert.LatentReferenceIdeal.main_v82) = v2 c
          ∧ r.2.mem ((c.tc : Thread Cert.LatentReferenceIdeal.nD Cert.LatentReferenceIdeal.τ).loc Cert.LatentReferenceIdeal.main_v85) = v3 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6))

def preserves_Router_RouterIdeal : Prop :=
  True

def algebraic_RouterIdeal_RouterReferenceIdeal_pre_above_bottom [hRouterIdeal : Cert.RouterIdeal.Facts] [hRouterReferenceIdeal : Cert.RouterReferenceIdeal.Facts] [hPre_above_bottom : Cert.Pre_above_bottom.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_above_bottom m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)) →
    ∃ (v0 : (c : Dev Cert.RouterIdeal.nD) → Buf (Elt Ideal) ((c.tc : Thread Cert.RouterIdeal.nD Cert.RouterIdeal.τ).loc Cert.RouterIdeal.main_v11_2)) (v1 : (c : Dev Cert.RouterIdeal.nD) → Buf (Elt Ideal) ((c.tc : Thread Cert.RouterIdeal.nD Cert.RouterIdeal.τ).loc Cert.RouterIdeal.main_v11_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v11_2) = v0 c
          ∧ r.2.mem ((c.tc : Thread Cert.RouterIdeal.nD Cert.RouterIdeal.τ).loc Cert.RouterIdeal.main_v11_3) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v44) = v0 c
          ∧ r.2.mem ((c.tc : Thread Cert.RouterReferenceIdeal.nD Cert.RouterReferenceIdeal.τ).loc Cert.RouterReferenceIdeal.main_v45) = v1 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)) →
    ∃ (v0 : (c : Dev Cert.HeadsIdeal.nD) → Buf (Elt Ideal) ((c.tc : Thread Cert.HeadsIdeal.nD Cert.HeadsIdeal.τ).loc Cert.HeadsIdeal.main_v34_0)) (v1 : (c : Dev Cert.HeadsIdeal.nD) → Buf (Elt Ideal) ((c.tc : Thread Cert.HeadsIdeal.nD Cert.HeadsIdeal.τ).loc Cert.HeadsIdeal.main_v34_1)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v34_0) = v0 c
          ∧ r.2.mem ((c.tc : Thread Cert.HeadsIdeal.nD Cert.HeadsIdeal.τ).loc Cert.HeadsIdeal.main_v34_1) = v1 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v78) = v0 c
          ∧ r.2.mem ((c.tc : Thread Cert.HeadsReferenceIdeal.nD Cert.HeadsReferenceIdeal.τ).loc Cert.HeadsReferenceIdeal.main_v81) = v1 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hLatent : Cert.Latent.Facts) (hLatentIdeal : Cert.LatentIdeal.Facts) (hLatentReferenceIdeal : Cert.LatentReferenceIdeal.Facts) (hRouter : Cert.Router.Facts) (hRouterIdeal : Cert.RouterIdeal.Facts) (hRouterReferenceIdeal : Cert.RouterReferenceIdeal.Facts) (hHeads : Cert.Heads.Facts) (hHeadsIdeal : Cert.HeadsIdeal.Facts) (hHeadsReferenceIdeal : Cert.HeadsReferenceIdeal.Facts) (hPre_finite_qk : Cert.Pre_finite_qk.Facts) (hPre_above_bottom : Cert.Pre_above_bottom.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Router (hRouter := hRouter)
    ∧ quiescent_RouterIdeal (hRouterIdeal := hRouterIdeal)
    ∧ quiescent_RouterIdeal_pre_above_bottom (hRouterIdeal := hRouterIdeal) (hPre_above_bottom := hPre_above_bottom)
    ∧ quiescent_RouterReferenceIdeal (hRouterReferenceIdeal := hRouterReferenceIdeal)
    ∧ quiescent_RouterReferenceIdeal_pre_above_bottom (hRouterReferenceIdeal := hRouterReferenceIdeal) (hPre_above_bottom := hPre_above_bottom)
    ∧ quiescent_Heads (hHeads := hHeads)
    ∧ quiescent_HeadsIdeal (hHeadsIdeal := hHeadsIdeal)
    ∧ quiescent_HeadsReferenceIdeal (hHeadsReferenceIdeal := hHeadsReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
    ∧ preserves_Latent_LatentIdeal
    ∧ algebraic_LatentIdeal_LatentReferenceIdeal (hLatentIdeal := hLatentIdeal) (hLatentReferenceIdeal := hLatentReferenceIdeal)
    ∧ preserves_Router_RouterIdeal
    ∧ algebraic_RouterIdeal_RouterReferenceIdeal_pre_above_bottom (hRouterIdeal := hRouterIdeal) (hRouterReferenceIdeal := hRouterReferenceIdeal) (hPre_above_bottom := hPre_above_bottom)
    ∧ preserves_Heads_HeadsIdeal
    ∧ algebraic_HeadsIdeal_HeadsReferenceIdeal (hHeadsIdeal := hHeadsIdeal) (hHeadsReferenceIdeal := hHeadsReferenceIdeal)
-- ==== Pre_above_bottom.lean ====
abbrev S1x8192x2048 : Shape := ⟨3, ![1, 8192, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩
abbrev S8192x32 : Shape := ⟨2, ![8192, 32]⟩
abbrev S1x32 : Shape := ⟨2, ![1, 32]⟩
abbrev S8192x4 : Shape := ⟨2, ![8192, 4]⟩

class Facts : Prop where
  bcast_S_S1x8192x2048 : S_.BroadcastsInDim S1x8192x2048 (![] : Fin 0 → Fin S1x8192x2048.rank)
  reducesTo_S1x8192x2048_S1x8192_d2 : S1x8192x2048.ReducesTo [2] S1x8192
  h_S_ : 0 < S_.numel
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1x8192x1_S1x8192x2048_0_1_2 : S1x8192x1.BroadcastsInDim S1x8192x2048 (![0, 1, 2] : Fin 3 → Fin S1x8192x2048.rank)
  bcast_S2048_S1x1x2048_2 : S2048.BroadcastsInDim S1x1x2048 (![2] : Fin 1 → Fin S1x1x2048.rank)
  bcast_S1x1x2048_S1x8192x2048_0_1_2 : S1x1x2048.BroadcastsInDim S1x8192x2048 (![0, 1, 2] : Fin 3 → Fin S1x8192x2048.rank)
  shapeCasts_S1x8192x2048_S8192x2048 : S1x8192x2048.ShapeCasts S8192x2048
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  sliceFits_S8192x32_S8192x4 : S8192x32.Slices (fun _ => 0) S8192x4
  bcast_S_S8192x4 : S_.BroadcastsInDim S8192x4 (![] : Fin 0 → Fin S8192x4.rank)
  dot_S1x8192x2048_S2048x2048_S1x8192x2048_2_0_01_1_n_n_wf : DotDims.WF S1x8192x2048 S2048x2048 S1x8192x2048 [2] [0] [0, 1] [1] [] []
  dot_S8192x2048_S2048x32_S8192x32_1_0_0_1_n_n_wf : DotDims.WF S8192x2048 S2048x32 S8192x32 [1] [0] [0] [1] [] []

variable [Facts]

def dot_S1x8192x2048_S2048x2048_S1x8192x2048_2_0_01_1_n_n : DotDims S1x8192x2048 S2048x2048 S1x8192x2048 where
  lhsContracting := [2]
  rhsContracting := [0]
  lhsNonContracting := [0, 1]
  rhsNonContracting := [1]
  lhsBatch := []
  rhsBatch := []
  wf := dot_S1x8192x2048_S2048x2048_S1x8192x2048_2_0_01_1_n_n_wf
def dot_S8192x2048_S2048x32_S8192x32_1_0_0_1_n_n : DotDims S8192x2048 S2048x32 S8192x32 where
  lhsContracting := [1]
  rhsContracting := [0]
  lhsNonContracting := [0]
  rhsNonContracting := [1]
  lhsBatch := []
  rhsBatch := []
  wf := dot_S8192x2048_S2048x32_S8192x32_1_0_0_1_n_n_wf
def fn_part1 {F : FTy → Type} [FloatOps F] (main_arg3 : FVec F S2048 .f32) (main_arg4 : FVec F S2048 .f32) (main_arg5 : FVec F S2048x32 .f32) (main_arg6 : FVec F S32 .f32) (main_v14 : FVec F S1x8192x1 .f32) (main_v16 : FVec F S1x8192x2048 .f32) (main_v17 : FVec F S1x8192x1 .f32) : IVec S8192x4 1 :=
  let main_v18 : FVec F S1x8192x1 .f32 := addf main_v14 main_v17
  let main_v19 : FVec F S1x8192x1 .f32 := Host.rsqrt main_v18
  let main_v20 : FVec F S1x8192x2048 .f32 := broadcastInDim S1x8192x2048 ![0, 1, 2] bcast_S1x8192x1_S1x8192x2048_0_1_2 main_v19
  let main_v21 : FVec F S1x8192x2048 .f32 := mulf main_v16 main_v20
  let main_v22 : FVec F S1x1x2048 .f32 := broadcastInDim S1x1x2048 ![2] bcast_S2048_S1x1x2048_2 main_arg3
  let main_v23 : FVec F S1x8192x2048 .f32 := broadcastInDim S1x8192x2048 ![0, 1, 2] bcast_S1x1x2048_S1x8192x2048_0_1_2 main_v22
  let main_v24 : FVec F S1x8192x2048 .f32 := mulf main_v21 main_v23
  let main_v25 : FVec F S1x1x2048 .f32 := broadcastInDim S1x1x2048 ![2] bcast_S2048_S1x1x2048_2 main_arg4
  let main_v26 : FVec F S1x8192x2048 .f32 := broadcastInDim S1x8192x2048 ![0, 1, 2] bcast_S1x1x2048_S1x8192x2048_0_1_2 main_v25
  let main_v27 : FVec F S1x8192x2048 .f32 := addf main_v24 main_v26
  let main_v28 : FVec F S8192x2048 .f32 := shapeCast S8192x2048 main_v27 shapeCasts_S1x8192x2048_S8192x2048
  let main_v29 : FVec F S8192x32 .f32 := (fun l r => Host.dotGeneral dot_S8192x2048_S2048x32_S8192x32_1_0_0_1_n_n none l r) main_v28 main_arg5
  let main_v30 : FVec F S1x32 .f32 := broadcastInDim S1x32 ![1] bcast_S32_S1x32_1 main_arg6
  let main_v31 : FVec F S8192x32 .f32 := broadcastInDim S8192x32 ![0, 1] bcast_S1x32_S8192x32_0_1 main_v30
  let main_v32 : FVec F S8192x32 .f32 := addf main_v29 main_v31
  let main_values : FVec F S8192x4 .f32 := (fun x => (Host.topK S8192x4 1 (FloatOps.cmpfTotal .gt) x sliceFits_S8192x32_S8192x4).1) main_v32
  let main_indices : IVec S8192x4 32 := (fun x => (Host.topK S8192x4 1 (FloatOps.cmpfTotal .gt) x sliceFits_S8192x32_S8192x4).2) main_v32
  let main_cst_5 : FVec F S_ .f32 := constant S_ .f32 0xFF800000#32
  let main_v33 : FVec F S8192x4 .f32 := broadcastInDim S8192x4 ![] bcast_S_S8192x4 main_cst_5
  let main_v34 : IVec S8192x4 1 := cmpf .ogt main_values main_v33
  main_v34

def fn {F : FTy → Type} [FloatOps F] (main_arg0 : FVec F S1x8192x2048 .f32) (main_arg1 : FVec F S2048x2048 .f32) (main_arg2 : FVec F S1x8192x2048 .f32) (main_arg3 : FVec F S2048 .f32) (main_arg4 : FVec F S2048 .f32) (main_arg5 : FVec F S2048x32 .f32) (main_arg6 : FVec F S32 .f32) : IVec S8192x4 1 :=
  let main_v0 : FVec F S1x8192x2048 .f32 := (fun l r => Host.dotGeneral dot_S1x8192x2048_S2048x2048_S1x8192x2048_2_0_01_1_n_n none l r) main_arg0 main_arg1
  let main_cst : FVec F S_ .f32 := constant S_ .f32 0x3FD744FD#32
  let main_v1 : FVec F S1x8192x2048 .f32 := broadcastInDim S1x8192x2048 ![] bcast_S_S1x8192x2048 main_cst
  let main_v2 : FVec F S1x8192x2048 .f32 := mulf main_v1 main_arg2
  let main_v3 : FVec F S1x8192x2048 .f32 := addf main_v2 main_v0
  let main_cst_0 : FVec F S_ .f32 := constant S_ .f32 0x00000000#32
  let main_v4 : FVec F S1x8192 .f32 := (fun x v => Host.reduceAdd x v reducesTo_S1x8192x2048_S1x8192_d2 h_S_) main_v3 main_cst_0
  let main_v5 : FVec F S1x8192x1 .f32 := broadcastInDim S1x8192x1 ![0, 1] bcast_S1x8192_S1x8192x1_0_1 main_v4
  let main_cst_1 : FVec F S_ .f32 := constant S_ .f32 0x45000000#32
  let main_v6 : FVec F S1x8192x1 .f32 := broadcastInDim S1x8192x1 ![] bcast_S_S1x8192x1 main_cst_1
  let main_v7 : FVec F S1x8192x1 .f32 := Host.divf main_v5 main_v6
  let main_v8 : FVec F S1x8192x2048 .f32 := broadcastInDim S1x8192x2048 ![0, 1, 2] bcast_S1x8192x1_S1x8192x2048_0_1_2 main_v7
  let main_v9 : FVec F S1x8192x2048 .f32 := subf main_v3 main_v8
  let main_v10 : FVec F S1x8192x2048 .f32 := mulf main_v9 main_v9
  let main_cst_2 : FVec F S_ .f32 := constant S_ .f32 0x00000000#32
  let main_v11 : FVec F S1x8192 .f32 := (fun x v => Host.reduceAdd x v reducesTo_S1x8192x2048_S1x8192_d2 h_S_) main_v10 main_cst_2
  let main_v12 : FVec F S1x8192x1 .f32 := broadcastInDim S1x8192x1 ![0, 1] bcast_S1x8192_S1x8192x1_0_1 main_v11
  let main_cst_3 : FVec F S_ .f32 := constant S_ .f32 0x45000000#32
  let main_v13 : FVec F S1x8192x1 .f32 := broadcastInDim S1x8192x1 ![] bcast_S_S1x8192x1 main_cst_3
  let main_v14 : FVec F S1x8192x1 .f32 := Host.divf main_v12 main_v13
  let main_v15 : FVec F S1x8192x2048 .f32 := broadcastInDim S1x8192x2048 ![0, 1, 2] bcast_S1x8192x1_S1x8192x2048_0_1_2 main_v7
  let main_v16 : FVec F S1x8192x2048 .f32 := subf main_v3 main_v15
  let main_cst_4 : FVec F S_ .f32 := constant S_ .f32 0x3727C5AC#32
  let main_v17 : FVec F S1x8192x1 .f32 := broadcastInDim S1x8192x1 ![] bcast_S_S1x8192x1 main_cst_4
  fn_part1 (F := F) main_arg3 main_arg4 main_arg5 main_arg6 main_v14 main_v16 main_v17
-- ==== Pre_finite_qk.lean ====
abbrev S1x8192x8x96 : Shape := ⟨4, ![1, 8192, 8, 96]⟩
abbrev S1x8192x8x64 : Shape := ⟨4, ![1, 8192, 8, 64]⟩
abbrev S_ : Shape := ⟨0, ![]⟩

class Facts : Prop where
  bcast_S_S1x8192x8x96 : S_.BroadcastsInDim S1x8192x8x96 (![] : Fin 0 → Fin S1x8192x8x96.rank)

variable [Facts]

def fn {F : FTy → Type} [FloatOps F] (main_arg0 : FVec F S1x8192x8x96 .f32) (main_arg1 : FVec F S1x8192x8x96 .f32) (main_arg2 : FVec F S1x8192x8x64 .f32) : IVec S1x8192x8x96 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_v3 : FVec F S1x8192x8x96 .f32 := Host.absf main_arg1
  let main_cst_0 : FVec F S_ .f32 := constant S_ .f32 0x7F800000#32
  let main_v4 : FVec F S1x8192x8x96 .f32 := broadcastInDim S1x8192x8x96 ![] bcast_S_S1x8192x8x96 main_cst_0
  let main_v5 : IVec S1x8192x8x96 1 := cmpf .olt main_v3 main_v4
  let main_v6 : IVec S1x8192x8x96 1 := andi main_v2 main_v5
  main_v6
-- ==== Kernel.lean ====
abbrev S1x8192x8x96 : Shape := ⟨4, ![1, 8192, 8, 96]⟩
abbrev S1x8192x8x64 : Shape := ⟨4, ![1, 8192, 8, 64]⟩
abbrev S8192x8x96 : Shape := ⟨3, ![8192, 8, 96]⟩
abbrev S_ : Shape := ⟨0, ![]⟩
abbrev S8192x8x128 : Shape := ⟨3, ![8192, 8, 128]⟩
abbrev S32x256x1024 : Shape := ⟨3, ![32, 256, 1024]⟩
abbrev S32x1024x256 : Shape := ⟨3, ![32, 1024, 256]⟩
abbrev S8192x1024 : Shape := ⟨2, ![8192, 1024]⟩
abbrev S32x256x512 : Shape := ⟨3, ![32, 256, 512]⟩
abbrev S32x512x256 : Shape := ⟨3, ![32, 512, 256]⟩
abbrev S8192x512 : Shape := ⟨2, ![8192, 512]⟩
abbrev S1x512x256 : Shape := ⟨3, ![1, 512, 256]⟩
abbrev S32x256x256 : Shape := ⟨3, ![32, 256, 256]⟩
abbrev S256x256 : Shape := ⟨2, ![256, 256]⟩
abbrev S2x4x256x256 : Shape := ⟨4, ![2, 4, 256, 256]⟩
abbrev S1x128x256 : Shape := ⟨3, ![1, 128, 256]⟩
abbrev S128x256 : Shape := ⟨2, ![128, 256]⟩
abbrev S256x128 : Shape := ⟨2, ![256, 128]⟩
abbrev S1x1x256x256 : Shape := ⟨4, ![1, 1, 256, 256]⟩
abbrev S256 : Shape := ⟨1, ![256]⟩
abbrev S1x256 : Shape := ⟨2, ![1, 256]⟩
abbrev S80x256 : Shape := ⟨2, ![80, 256]⟩
abbrev S1x64x256 : Shape := ⟨3, ![1, 64, 256]⟩
abbrev S64x256 : Shape := ⟨2, ![64, 256]⟩
abbrev S16x256 : Shape := ⟨2, ![16, 256]⟩

abbrev nBuf : Space → Nat
  | .hbm => 28
  | .vmem => 9
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S8192x8x96, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x8x96, .f32⟩
  | .hbm, ⟨11, _⟩ => ⟨S8192x8x96, .f32⟩
  | .hbm, ⟨12, _⟩ => ⟨S_, .i32⟩
  | .hbm, ⟨13, _⟩ => ⟨S_, .f32⟩
  | .hbm, ⟨14, _⟩ => ⟨S8192x8x128, .f32⟩
  | .hbm, ⟨15, _⟩ => ⟨S32x256x1024, .f32⟩
  | .hbm, ⟨16, _⟩ => ⟨S32x1024x256, .f32⟩
  | .hbm, ⟨17, _⟩ => ⟨S32x1024x256, .bf16⟩
  | .hbm, ⟨18, _⟩ => ⟨S8192x8x96, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S32x256x512, .f32⟩
  | .hbm, ⟨24, _⟩ => ⟨S32x512x256, .f32⟩
  | .hbm, ⟨25, _⟩ => ⟨S8192x1024, .bf16⟩
  | .hbm, ⟨26, _⟩ => ⟨S32x512x256, .bf16⟩
  | .hbm, ⟨27, _⟩ => ⟨S8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S8192x512, .bf16⟩
  | .local _ .vmem, ⟨3, _⟩ => ⟨S8192x512, .bf16⟩
  | .local _ .vmem, ⟨4, _⟩ => ⟨S32x256x256, .bf16⟩
  | .local _ .vmem, ⟨5, _⟩ => ⟨S32x256x256, .bf16⟩
  | .local _ .vmem, ⟨6, _⟩ => ⟨S256x256, .bf16⟩
  | .local _ .vmem, ⟨7, _⟩ => ⟨S256x256, .bf16⟩
  | .local _ .vmem, ⟨8, _⟩ => ⟨S2x4x256x256, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
@[reducible] def k0_t1_loop (i : grid0.Coords) : Scf.Loop 32 :=
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_47 : BitVec 32 := 1#32
  ⟨c0_i32_45, v77, c1_i32_47⟩
def k0_mult2 (i : grid0.Coords) (k0_t1 : Fin (k0_t1_loop i).trips) : BitVec 32 :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  v206
def k0_off1 (i : grid0.Coords) (k0_t1 : Fin (k0_t1_loop i).trips) : Fin 2 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v208 : Index := Scalar.indexCast v207
  let c0_101 : Index := 0#32
  ![v208.toNat, 0]
def k0_off2 (i : grid0.Coords) (k0_t1 : Fin (k0_t1_loop i).trips) : Fin 2 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v212 : Index := Scalar.indexCast v207
  let c128_103 : Index := 128#32
  ![v212.toNat, 128]
def k0_off3 (i : grid0.Coords) (k0_t1 : Fin (k0_t1_loop i).trips) : Fin 2 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v216 : Index := Scalar.indexCast v207
  let c256_105 : Index := 256#32
  ![v216.toNat, 256]
def k0_off4 (i : grid0.Coords) (k0_t1 : Fin (k0_t1_loop i).trips) : Fin 2 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v220 : Index := Scalar.indexCast v207
  let c384_107 : Index := 384#32
  ![v220.toNat, 384]
def k0_off5 (i : grid0.Coords) (k0_t1 : Fin (k0_t1_loop i).trips) : Fin 3 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let v226 : Index := Scalar.indexCast v204
  let c0_113 : Index := 0#32
  let c0_114 : Index := 0#32
  ![v226.toNat, 0, 0]
def k0_off6 (i : grid0.Coords) (k0_t1 : Fin (k0_t1_loop i).trips) : Fin 3 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let v244 : Index := Scalar.indexCast v204
  let c64_121 : Index := 64#32
  let c0_122 : Index := 0#32
  ![v244.toNat, 64, 0]
def k0_off7 (i : grid0.Coords) (k0_t1 : Fin (k0_t1_loop i).trips) : Fin 3 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let v262 : Index := Scalar.indexCast v204
  let c128_129 : Index := 128#32
  let c0_130 : Index := 0#32
  ![v262.toNat, 128, 0]
def k0_off8 (i : grid0.Coords) (k0_t1 : Fin (k0_t1_loop i).trips) : Fin 3 → Nat :=
  let c2_i32_99 : BitVec 32 := 2#32
  let c0_i32_45 : BitVec 32 := 0#32
  let c1_i32_47 : BitVec 32 := 1#32
  let arg7 : BitVec 32 := Scf.iv c0_i32_45 c1_i32_47 k0_t1
  let v204 : BitVec 32 := Scalar.muli c2_i32_99 arg7
  let v280 : Index := Scalar.indexCast v204
  let c192_137 : Index := 192#32
  let c0_138 : Index := 0#32
  ![v280.toNat, 192, 0]
def k0_mult3 (i : grid0.Coords) (k0_t1 : Fin (k0_t1_loop i).trips) : BitVec 32 :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  v317
def k0_off9 (i : grid0.Coords) (k0_t1 : Fin (k0_t1_loop i).trips) : Fin 2 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v319 : Index := Scalar.indexCast v318
  let c0_163 : Index := 0#32
  ![v319.toNat, 0]
def k0_off10 (i : grid0.Coords) (k0_t1 : Fin (k0_t1_loop i).trips) : Fin 2 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v323 : Index := Scalar.indexCast v318
  let c128_165 : Index := 128#32
  ![v323.toNat, 128]
def k0_off11 (i : grid0.Coords) (k0_t1 : Fin (k0_t1_loop i).trips) : Fin 2 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v327 : Index := Scalar.indexCast v318
  let c256_167 : Index := 256#32
  ![v327.toNat, 256]
def k0_off12 (i : grid0.Coords) (k0_t1 : Fin (k0_t1_loop i).trips) : Fin 2 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v331 : Index := Scalar.indexCast v318
  let c384_169 : Index := 384#32
  ![v331.toNat, 384]
def k0_off13 (i : grid0.Coords) (k0_t1 : Fin (k0_t1_loop i).trips) : Fin 3 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let v337 : Index := Scalar.indexCast v203
  let c0_175 : Index := 0#32
  let c0_176 : Index := 0#32
  ![v337.toNat, 0, 0]
def k0_off14 (i : grid0.Coords) (k0_t1 : Fin (k0_t1_loop i).trips) : Fin 3 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let v355 : Index := Scalar.indexCast v203
  let c64_183 : Index := 64#32
  let c0_184 : Index := 0#32
  ![v355.toNat, 64, 0]
def k0_off15 (i : grid0.Coords) (k0_t1 : Fin (k0_t1_loop i).trips) : Fin 3 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let v373 : Index := Scalar.indexCast v203
  let c128_191 : Index := 128#32
  let c0_192 : Index := 0#32
  ![v373.toNat, 128, 0]
def k0_off16 (i : grid0.Coords) (k0_t1 : Fin (k0_t1_loop i).trips) : Fin 3 → Nat :=
  let c2_i32_97 : BitVec 32 := 2#32
  let c0_i32_45 : BitVec 32 := 0#32
  let c1_i32_47 : BitVec 32 := 1#32
  let arg7 : BitVec 32 := Scf.iv c0_i32_45 c1_i32_47 k0_t1
  let v202 : BitVec 32 := Scalar.muli c2_i32_97 arg7
  let c1_i32_98 : BitVec 32 := 1#32
  let v203 : BitVec 32 := Scalar.addi v202 c1_i32_98
  let v391 : Index := Scalar.indexCast v203
  let c192_199 : Index := 192#32
  let c0_200 : Index := 0#32
  ![v391.toNat, 192, 0]
@[reducible] def k0_t2_loop (i : grid0.Coords) : Scf.Loop 32 :=
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let v74 : BitVec 32 := Scalar.addi c0_i32_45 v73
  let c1_i32_48 : BitVec 32 := 1#32
  ⟨v77, v74, c1_i32_48⟩
def k0_mult4 (i : grid0.Coords) (k0_t2 : Fin (k0_t2_loop i).trips) : BitVec 32 :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  v206
def k0_off17 (i : grid0.Coords) (k0_t2 : Fin (k0_t2_loop i).trips) : Fin 2 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v208 : Index := Scalar.indexCast v207
  let c0_101 : Index := 0#32
  ![v208.toNat, 0]
def k0_off18 (i : grid0.Coords) (k0_t2 : Fin (k0_t2_loop i).trips) : Fin 2 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v212 : Index := Scalar.indexCast v207
  let c128_103 : Index := 128#32
  ![v212.toNat, 128]
def k0_off19 (i : grid0.Coords) (k0_t2 : Fin (k0_t2_loop i).trips) : Fin 2 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v216 : Index := Scalar.indexCast v207
  let c256_105 : Index := 256#32
  ![v216.toNat, 256]
def k0_off20 (i : grid0.Coords) (k0_t2 : Fin (k0_t2_loop i).trips) : Fin 2 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let c1_i32_100 : BitVec 32 := 1#32
  let v205 : BitVec 32 := Scalar.addi v204 c1_i32_100
  let c256_i32 : BitVec 32 := 256#32
  let v206 : BitVec 32 := Scalar.muli v205 c256_i32
  let v207 : BitVec 32 := v206
  let v220 : Index := Scalar.indexCast v207
  let c384_107 : Index := 384#32
  ![v220.toNat, 384]
def k0_off21 (i : grid0.Coords) (k0_t2 : Fin (k0_t2_loop i).trips) : Fin 3 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let v226 : Index := Scalar.indexCast v204
  let c0_113 : Index := 0#32
  let c0_114 : Index := 0#32
  ![v226.toNat, 0, 0]
def k0_off22 (i : grid0.Coords) (k0_t2 : Fin (k0_t2_loop i).trips) : Fin 3 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let v244 : Index := Scalar.indexCast v204
  let c64_121 : Index := 64#32
  let c0_122 : Index := 0#32
  ![v244.toNat, 64, 0]
def k0_off23 (i : grid0.Coords) (k0_t2 : Fin (k0_t2_loop i).trips) : Fin 3 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let v262 : Index := Scalar.indexCast v204
  let c128_129 : Index := 128#32
  let c0_130 : Index := 0#32
  ![v262.toNat, 128, 0]
def k0_off24 (i : grid0.Coords) (k0_t2 : Fin (k0_t2_loop i).trips) : Fin 3 → Nat :=
  let c2_i32_99 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v204 : BitVec 32 := Scalar.muli c2_i32_99 arg7
  let v280 : Index := Scalar.indexCast v204
  let c192_137 : Index := 192#32
  let c0_138 : Index := 0#32
  ![v280.toNat, 192, 0]
def k0_mult5 (i : grid0.Coords) (k0_t2 : Fin (k0_t2_loop i).trips) : BitVec 32 :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  v317
def k0_off25 (i : grid0.Coords) (k0_t2 : Fin (k0_t2_loop i).trips) : Fin 2 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v319 : Index := Scalar.indexCast v318
  let c0_163 : Index := 0#32
  ![v319.toNat, 0]
def k0_off26 (i : grid0.Coords) (k0_t2 : Fin (k0_t2_loop i).trips) : Fin 2 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v323 : Index := Scalar.indexCast v318
  let c128_165 : Index := 128#32
  ![v323.toNat, 128]
def k0_off27 (i : grid0.Coords) (k0_t2 : Fin (k0_t2_loop i).trips) : Fin 2 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v327 : Index := Scalar.indexCast v318
  let c256_167 : Index := 256#32
  ![v327.toNat, 256]
def k0_off28 (i : grid0.Coords) (k0_t2 : Fin (k0_t2_loop i).trips) : Fin 2 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let c1_i32_161 : BitVec 32 := 1#32
  let v316 : BitVec 32 := Scalar.addi v203 c1_i32_161
  let c256_i32_162 : BitVec 32 := 256#32
  let v317 : BitVec 32 := Scalar.muli v316 c256_i32_162
  let v318 : BitVec 32 := v317
  let v331 : Index := Scalar.indexCast v318
  let c384_169 : Index := 384#32
  ![v331.toNat, 384]
def k0_off29 (i : grid0.Coords) (k0_t2 : Fin (k0_t2_loop i).trips) : Fin 3 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let v337 : Index := Scalar.indexCast v203
  let c0_175 : Index := 0#32
  let c0_176 : Index := 0#32
  ![v337.toNat, 0, 0]
def k0_off30 (i : grid0.Coords) (k0_t2 : Fin (k0_t2_loop i).trips) : Fin 3 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let v355 : Index := Scalar.indexCast v203
  let c64_183 : Index := 64#32
  let c0_184 : Index := 0#32
  ![v355.toNat, 64, 0]
def k0_off31 (i : grid0.Coords) (k0_t2 : Fin (k0_t2_loop i).trips) : Fin 3 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let v373 : Index := Scalar.indexCast v203
  let c128_191 : Index := 128#32
  let c0_192 : Index := 0#32
  ![v373.toNat, 128, 0]
def k0_off32 (i : grid0.Coords) (k0_t2 : Fin (k0_t2_loop i).trips) : Fin 3 → Nat :=
  let c2_i32_97 : BitVec 32 := 2#32
  let c0_i32_45 : BitVec 32 := 0#32
  let arg1 : BitVec 32 := BitVec.ofNat 32 (i 1).val
  let c0_i32_40 : BitVec 32 := 0#32
  let v57 : BitVec 1 := Scalar.cmpi .sgt arg1 c0_i32_40
  let v58 : BitVec 32 := Scalar.extui v57
  let c0_i32_41 : BitVec 32 := 0#32
  let v59 : BitVec 1 := Scalar.cmpi .slt arg1 c0_i32_41
  let v60 : BitVec 32 := Scalar.extui v59
  let v61 : BitVec 32 := Scalar.subi v58 v60
  let c2_i32 : BitVec 32 := 2#32
  let c0_i32_42 : BitVec 32 := 0#32
  let v62 : BitVec 1 := Scalar.cmpi .sgt c2_i32 c0_i32_42
  let v63 : BitVec 32 := Scalar.extui v62
  let c0_i32_43 : BitVec 32 := 0#32
  let v64 : BitVec 1 := Scalar.cmpi .slt c2_i32 c0_i32_43
  let v65 : BitVec 32 := Scalar.extui v64
  let v66 : BitVec 32 := Scalar.subi v63 v65
  let v67 : BitVec 1 := Scalar.cmpi .ne v61 v66
  let v68 : BitVec 32 := Scalar.remsi arg1 c2_i32
  let c0_i32_44 : BitVec 32 := 0#32
  let v69 : BitVec 1 := Scalar.cmpi .ne v68 c0_i32_44
  let v70 : BitVec 1 := Scalar.andi v67 v69
  let v56 : BitVec 32 := Scalar.divsi arg1 c2_i32
  let c1_i32 : BitVec 32 := 1#32
  let v71 : BitVec 32 := Scalar.subi v56 c1_i32
  let v72 : BitVec 32 := Scalar.select v70 v71 v56
  let v73 : BitVec 32 := Scalar.subi v72 c0_i32_45
  let c1_i32_46 : BitVec 32 := 1#32
  let v75 : BitVec 32 := Scalar.divsi v73 c1_i32_46
  let v76 : BitVec 32 := Scalar.muli v75 c1_i32_46
  let v77 : BitVec 32 := Scalar.addi c0_i32_45 v76
  let c1_i32_48 : BitVec 32 := 1#32
  let arg7 : BitVec 32 := Scf.iv v77 c1_i32_48 k0_t2
  let v202 : BitVec 32 := Scalar.muli c2_i32_97 arg7
  let c1_i32_98 : BitVec 32 := 1#32
  let v203 : BitVec 32 := Scalar.addi v202 c1_i32_98
  let v391 : Index := Scalar.indexCast v203
  let c192_199 : Index := 192#32
  let c0_200 : Index := 0#32
  ![v391.toNat, 192, 0]
def k0_cond1 (i : grid0.Coords) : BitVec 1 :=
  let arg1 : BitVec 32 := BitVec.ofNat 32 (i 1).val
  let c2_i32_49 : BitVec 32 := 2#32
  let c0_i32_50 : BitVec 32 := 0#32
  let v80 : BitVec 1 := Scalar.cmpi .eq c2_i32_49 c0_i32_50
  let c1_i32_51 : BitVec 32 := 1#32
  let v81 : BitVec 32 := Scalar.select v80 c1_i32_51 c2_i32_49
  let v82 : BitVec 32 := Scalar.remsi arg1 v81
  let c0_i32_53 : BitVec 32 := 0#32
  let v84 : BitVec 1 := Scalar.cmpi .slt v82 c0_i32_53
  let c0_i32_54 : BitVec 32 := 0#32
  let v85 : BitVec 1 := Scalar.cmpi .slt v81 c0_i32_54
  let v86 : BitVec 1 := Scalar.xori v84 v85
  let c0_i32_52 : BitVec 32 := 0#32
  let v83 : BitVec 1 := Scalar.cmpi .ne v82 c0_i32_52
  let v87 : BitVec 1 := Scalar.andi v86 v83
  let v88 : BitVec 32 := Scalar.addi v82 v81
  let v89 : BitVec 32 := Scalar.select v87 v88 v82
  let c1_i32_55 : BitVec 32 := 1#32
  let v90 : BitVec 1 := Scalar.cmpi .eq v89 c1_i32_55
  let v91 : BitVec 32 := Scalar.extui v90
  let c0_i32_56 : BitVec 32 := 0#32
  let v92 : BitVec 1 := Scalar.cmpi .ne v91 c0_i32_56
  v92

def k0_mult6 (i : grid0.Coords) : BitVec 32 :=
  let arg1 : BitVec 32 := BitVec.ofNat 32 (i 1).val
  let c1_i32_97 : BitVec 32 := 1#32
  let v202 : BitVec 32 := Scalar.subi arg1 c1_i32_97
  let c1_i32_98 : BitVec 32 := 1#32
  let v203 : BitVec 32 := Scalar.addi v202 c1_i32_98
  let c256_i32 : BitVec 32 := 256#32
  let v204 : BitVec 32 := Scalar.muli v203 c256_i32
  v204
def k0_off33 (i : grid0.Coords) : Fin 2 → Nat :=
  let arg1 : BitVec 32 := BitVec.ofNat 32 (i 1).val
  let c1_i32_97 : BitVec 32 := 1#32
  let v202 : BitVec 32 := Scalar.subi arg1 c1_i32_97
  let c1_i32_98 : BitVec 32 := 1#32
  let v203 : BitVec 32 := Scalar.addi v202 c1_i32_98
  let c256_i32 : BitVec 32 := 256#32
  let v204 : BitVec 32 := Scalar.muli v203 c256_i32
  let v205 : BitVec 32 := v204
  let v206 : Index := Scalar.indexCast v205
  let c0_99 : Index := 0#32
  ![v206.toNat, 0]
def k0_off34 (i : grid0.Coords) : Fin 2 → Nat :=
  let arg1 : BitVec 32 := BitVec.ofNat 32 (i 1).val
  let c1_i32_97 : BitVec 32 := 1#32
  let v202 : BitVec 32 := Scalar.subi arg1 c1_i32_97
  let c1_i32_98 : BitVec 32 := 1#32
  let v203 : BitVec 32 := Scalar.addi v202 c1_i32_98
  let c256_i32 : BitVec 32 := 256#32
  let v204 : BitVec 32 := Scalar.muli v203 c256_i32
  let v205 : BitVec 32 := v204
  let v210 : Index := Scalar.indexCast v205
  let c128_101 : Index := 128#32
  ![v210.toNat, 128]
def k0_off35 (i : grid0.Coords) : Fin 2 → Nat :=
  let arg1 : BitVec 32 := BitVec.ofNat 32 (i 1).val
  let c1_i32_97 : BitVec 32 := 1#32
  let v202 : BitVec 32 := Scalar.subi arg1 c1_i32_97
  let c1_i32_98 : BitVec 32 := 1#32
  let v203 : BitVec 32 := Scalar.addi v202 c1_i32_98
  let c256_i32 : BitVec 32 := 256#32
  let v204 : BitVec 32 := Scalar.muli v203 c256_i32
  let v205 : BitVec 32 := v204
  let v214 : Index := Scalar.indexCast v205
  let c256_103 : Index := 256#32
  ![v214.toNat, 256]
def k0_off36 (i : grid0.Coords) : Fin 2 → Nat :=
  let arg1 : BitVec 32 := BitVec.ofNat 32 (i 1).val
  let c1_i32_97 : BitVec 32 := 1#32
  let v202 : BitVec 32 := Scalar.subi arg1 c1_i32_97
  let c1_i32_98 : BitVec 32 := 1#32
  let v203 : BitVec 32 := Scalar.addi v202 c1_i32_98
  let c256_i32 : BitVec 32 := 256#32
  let v204 : BitVec 32 := Scalar.muli v203 c256_i32
  let v205 : BitVec 32 := v204
  let v218 : Index := Scalar.indexCast v205
  let c384_105 : Index := 384#32
  ![v218.toNat, 384]
def k0_off37 (i : grid0.Coords) : Fin 3 → Nat :=
  let arg1 : BitVec 32 := BitVec.ofNat 32 (i 1).val
  let c1_i32_97 : BitVec 32 := 1#32
  let v202 : BitVec 32 := Scalar.subi arg1 c1_i32_97
  let v224 : Index := Scalar.indexCast v202
  let c0_111 : Index := 0#32
  let c0_112 : Index := 0#32
  ![v224.toNat, 0, 0]
def k0_off38 (i : grid0.Coords) : Fin 3 → Nat :=
  let arg1 : BitVec 32 := BitVec.ofNat 32 (i 1).val
  let c1_i32_97 : BitVec 32 := 1#32
  let v202 : BitVec 32 := Scalar.subi arg1 c1_i32_97
  let v242 : Index := Scalar.indexCast v202
  let c64_119 : Index := 64#32
  let c0_120 : Index := 0#32
  ![v242.toNat, 64, 0]
def k0_off39 (i : grid0.Coords) : Fin 3 → Nat :=
  let arg1 : BitVec 32 := BitVec.ofNat 32 (i 1).val
  let c1_i32_97 : BitVec 32 := 1#32
  let v202 : BitVec 32 := Scalar.subi arg1 c1_i32_97
  let v260 : Index := Scalar.indexCast v202
  let c128_127 : Index := 128#32
  let c0_128 : Index := 0#32
  ![v260.toNat, 128, 0]
def k0_off40 (i : grid0.Coords) : Fin 3 → Nat :=
  let arg1 : BitVec 32 := BitVec.ofNat 32 (i 1).val
  let c1_i32_97 : BitVec 32 := 1#32
  let v202 : BitVec 32 := Scalar.subi arg1 c1_i32_97
  let v278 : Index := Scalar.indexCast v202
  let c192_135 : Index := 192#32
  let c0_136 : Index := 0#32
  ![v278.toNat, 192, 0]
def k0_off41 (i : grid0.Coords) : Fin 3 → Nat :=
  let arg1 : BitVec 32 := BitVec.ofNat 32 (i 1).val
  let v100 : Index := Scalar.indexCast arg1
  let c0_63 : Index := 0#32
  let c0_64 : Index := 0#32
  ![v100.toNat, 0, 0]
def k0_off42 (i : grid0.Coords) : Fin 3 → Nat :=
  let arg1 : BitVec 32 := BitVec.ofNat 32 (i 1).val
  let v126 : Index := Scalar.indexCast arg1
  let c64 : Index := 64#32
  let c0_73 : Index := 0#32
  ![v126.toNat, 64, 0]
def k0_off43 (i : grid0.Coords) : Fin 3 → Nat :=
  let arg1 : BitVec 32 := BitVec.ofNat 32 (i 1).val
  let v152 : Index := Scalar.indexCast arg1
  let c128_82 : Index := 128#32
  let c0_83 : Index := 0#32
  ![v152.toNat, 128, 0]
def k0_off44 (i : grid0.Coords) : Fin 3 → Nat :=
  let arg1 : BitVec 32 := BitVec.ofNat 32 (i 1).val
  let v178 : Index := Scalar.indexCast arg1
  let c192 : Index := 192#32
  let c0_92 : Index := 0#32
  ![v178.toNat, 192, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x8x96 : Shape := ⟨4, ![1, 8192, 8, 96]⟩
abbrev S1x8192x8x64 : Shape := ⟨4, ![1, 8192, 8, 64]⟩
abbrev S1x64x128x8x96 : Shape := ⟨5, ![1, 64, 128, 8, 96]⟩
abbrev S64x1x128x8x96 : Shape := ⟨5, ![64, 1, 128, 8, 96]⟩
abbrev S8192 : Shape := ⟨1, ![8192]⟩
abbrev S64 : Shape := ⟨1, ![64]⟩
abbrev S_ : Shape := ⟨0, ![]⟩
abbrev S64x1x128x8x64 : Shape := ⟨5, ![64, 1, 128, 8, 64]⟩
abbrev S1x1x128x8x96 : Shape := ⟨5, ![1, 1, 128, 8, 96]⟩
abbrev S1x128x8x96 : Shape := ⟨4, ![1, 128, 8, 96]⟩
abbrev S1 : Shape := ⟨1, ![1]⟩
abbrev S128 : Shape := ⟨1, ![128]⟩
abbrev S1x8x128x8192 : Shape := ⟨4, ![1, 8, 128, 8192]⟩
abbrev S1x8192 : Shape := ⟨2, ![1, 8192]⟩
abbrev S128x1 : Shape := ⟨2, ![128, 1]⟩
abbrev S128x8192 : Shape := ⟨2, ![128, 8192]⟩
abbrev S1x8x128 : Shape := ⟨3, ![1, 8, 128]⟩
abbrev S1x8x128x1 : Shape := ⟨4, ![1, 8, 128, 1]⟩
abbrev S1x8x64x128 : Shape := ⟨4, ![1, 8, 64, 128]⟩
abbrev S1x128x8x64 : Shape := ⟨4, ![1, 128, 8, 64]⟩
abbrev S1x1x128x8x64 : Shape := ⟨5, ![1, 1, 128, 8, 64]⟩
abbrev S1x64x128x8x64 : Shape := ⟨5, ![1, 64, 128, 8, 64]⟩
abbrev S8192x512 : Shape := ⟨2, ![8192, 512]⟩

abbrev nBuf : Space → Nat
  | .hbm => 73
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x64x128x8x96, .f32⟩
  | .hbm, ⟨4, _⟩ => ⟨S64x1x128x8x96, .f32⟩
  | .hbm, ⟨5, _⟩ => ⟨S8192, .i32⟩
  | .hbm, ⟨6, _⟩ => ⟨S64, .i32⟩
  | .hbm, ⟨7, _⟩ => ⟨S_, .f32⟩
  | .hbm, ⟨8, _⟩ => ⟨S64x1x128x8x64, .f32⟩
  | .hbm, ⟨9, _⟩ => ⟨S_, .i32⟩
  | .hbm, ⟨10, _⟩ => ⟨S64x1x128x8x96, .f32⟩
  | .hbm, ⟨11, _⟩ => ⟨S64, .i32⟩
  | .hbm, ⟨12, _⟩ => ⟨S1x8192x8x96, .f32⟩
  | .hbm, ⟨13, _⟩ => ⟨S8192, .i32⟩
  | .hbm, ⟨14, _⟩ => ⟨S1x8192x8x64, .f32⟩
  | .hbm, ⟨15, _⟩ => ⟨S_, .i32⟩
  | .hbm, ⟨16, _⟩ => ⟨S64x1x128x8x64, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x1x128x8x96, .f32⟩
  | .hbm, ⟨24, _⟩ => ⟨S1x128x8x96, .f32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S1x8x128x8192, .f32⟩
  | .hbm, ⟨33, _⟩ => ⟨S_, .f32⟩
  | .hbm, ⟨34, _⟩ => ⟨S1x8x128x8192, .f32⟩
  | .hbm, ⟨35, _⟩ => ⟨S1x8x128x8192, .f32⟩
  | .hbm, ⟨36, _⟩ => ⟨S1x8192, .i32⟩
  | .hbm, ⟨37, _⟩ => ⟨S128x1, .i32⟩
  | .hbm, ⟨38, _⟩ => ⟨S128x8192, .i32⟩
  | .hbm, ⟨39, _⟩ => ⟨S128x8192, .i32⟩
  | .hbm, ⟨40, _⟩ => ⟨S128x8192, .i1⟩
  | .hbm, ⟨41, _⟩ => ⟨S_, .f32⟩
  | .hbm, ⟨42, _⟩ => ⟨S_, .f32⟩
  | .hbm, ⟨43, _⟩ => ⟨S1x8x128x8192, .i1⟩
  | .hbm, ⟨44, _⟩ => ⟨S1x8x128x8192, .f32⟩
  | .hbm, ⟨45, _⟩ => ⟨S1x8x128x8192, .f32⟩
  | .hbm, ⟨46, _⟩ => ⟨S_, .f32⟩
  | .hbm, ⟨47, _⟩ => ⟨S1x8x128, .f32⟩
  | .hbm, ⟨48, _⟩ => ⟨S_, .f32⟩
  | .hbm, ⟨49, _⟩ => ⟨S1x8x128, .f32⟩
  | .hbm, ⟨50, _⟩ => ⟨S1x8x128, .f32⟩
  | .hbm, ⟨51, _⟩ => ⟨S1x8x128x1, .f32⟩
  | .hbm, ⟨52, _⟩ => ⟨S1x8x128x8192, .f32⟩
  | .hbm, ⟨53, _⟩ => ⟨S1x8x128x8192, .f32⟩
  | .hbm, ⟨54, _⟩ => ⟨S1x8x128x8192, .f32⟩
  | .hbm, ⟨55, _⟩ => ⟨S_, .f32⟩
  | .hbm, ⟨56, _⟩ => ⟨S1x8x128, .f32⟩
  | .hbm, ⟨57, _⟩ => ⟨S1x8x128x1, .f32⟩
  | .hbm, ⟨58, _⟩ => ⟨S1x8x128x8192, .f32⟩
  | .hbm, ⟨59, _⟩ => ⟨S1x8x128x8192, .f32⟩
  | .hbm, ⟨60, _⟩ => ⟨S1x8x64x128, .f32⟩
  | .hbm, ⟨61, _⟩ => ⟨S1x128x8x64, .f32⟩
  | .hbm, ⟨62, _⟩ => ⟨S1x1x128x8x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S64x1x128x8x64, .f32⟩
  | .hbm, ⟨68, _⟩ => ⟨S_, .i32⟩
  | .hbm, ⟨69, _⟩ => ⟨S_, .i32⟩
  | .hbm, ⟨70, _⟩ => ⟨S1x64x128x8x64, .f32⟩
  | .hbm, ⟨71, _⟩ => ⟨S8192x512, .f32⟩
  | .hbm, ⟨72, _⟩ => ⟨S8192x512, .bf16⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_while0c_c_6 : Ref sig .tc := ⟨.hbm, 17, rfl⟩
abbrev main_while0c_v9 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_c_1 : Ref sig .tc := ⟨.hbm, 21, rfl⟩
abbrev main_while0b_call0_c_2 : Ref sig .tc := ⟨.hbm, 22, rfl⟩
abbrev main_while0b_call0_v0 : Ref sig .tc := ⟨.hbm, 23, rfl⟩
abbrev main_while0b_v9 : Ref sig .tc := ⟨.hbm, 24, rfl⟩
abbrev main_while0b_call1_v0 : Ref sig .tc := ⟨.hbm, 25, rfl⟩
abbrev main_while0b_v10 : Ref sig .tc := ⟨.hbm, 26, rfl⟩
abbrev main_while0b_c_6 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_cst_7 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_cst_8 : Ref sig .tc := ⟨.hbm, 41, rfl⟩
abbrev main_while0b_call2_v0 : Ref sig .tc := ⟨.hbm, 42, rfl⟩
abbrev main_while0b_call2_v1 : Ref sig .tc := ⟨.hbm, 43, rfl⟩
abbrev main_while0b_call2_v2 : Ref sig .tc := ⟨.hbm, 44, rfl⟩
abbrev main_while0b_v23 : Ref sig .tc := ⟨.hbm, 45, rfl⟩
abbrev main_while0b_cst_9 : Ref sig .tc := ⟨.hbm, 46, rfl⟩
abbrev main_while0b_v24 : Ref sig .tc := ⟨.hbm, 47, rfl⟩
abbrev main_while0b_cst_10 : Ref sig .tc := ⟨.hbm, 48, rfl⟩
abbrev main_while0b_v25 : Ref sig .tc := ⟨.hbm, 49, rfl⟩
abbrev main_while0b_v26 : Ref sig .tc := ⟨.hbm, 50, rfl⟩
abbrev main_while0b_v27 : Ref sig .tc := ⟨.hbm, 51, rfl⟩
abbrev main_while0b_v28 : Ref sig .tc := ⟨.hbm, 52, rfl⟩
abbrev main_while0b_v29 : Ref sig .tc := ⟨.hbm, 53, rfl⟩
abbrev main_while0b_v30 : Ref sig .tc := ⟨.hbm, 54, rfl⟩
abbrev main_while0b_cst_11 : Ref sig .tc := ⟨.hbm, 55, rfl⟩
abbrev main_while0b_v31 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_call3_v0 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_call3_c_1 : Ref sig .tc := ⟨.hbm, 65, rfl⟩
abbrev main_while0b_call3_c_2 : Ref sig .tc := ⟨.hbm, 66, rfl⟩
abbrev main_while0b_v37 : Ref sig .tc := ⟨.hbm, 67, rfl⟩
abbrev main_while0b_c_12 : Ref sig .tc := ⟨.hbm, 68, rfl⟩
abbrev main_while0b_v38 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩

abbrev nD : Nat := 1
abbrev τ : Topo := Topo.v7x

variable {F : FTy → Type} [FloatOps F]

abbrev main_while0_count : Scf.Loop 32 := ⟨0#32, 64#32, 1#32⟩
-- ==== Merge.lean ====
abbrev S1x8192x2048 : Shape := ⟨3, ![1, 8192, 2048]⟩
abbrev S2048x13804 : Shape := ⟨2, ![2048, 13804]⟩
abbrev S4x2048 : Shape := ⟨2, ![4, 2048]⟩
abbrev S1x8192x512 : Shape := ⟨3, ![1, 8192, 512]⟩
abbrev S4x512x2048 : Shape := ⟨3, ![4, 512, 2048]⟩
abbrev S2048x8192 : Shape := ⟨2, ![2048, 8192]⟩
abbrev S8192x512 : Shape := ⟨2, ![8192, 512]⟩
abbrev S8192x2048 : Shape := ⟨2, ![8192, 2048]⟩
abbrev S1024x2048 : Shape := ⟨2, ![1024, 2048]⟩
abbrev S2048x256 : Shape := ⟨2, ![2048, 256]⟩
abbrev S4x256 : Shape := ⟨2, ![4, 256]⟩
abbrev S1024x512 : Shape := ⟨2, ![1024, 512]⟩
abbrev S4x512x256 : Shape := ⟨3, ![4, 512, 256]⟩
abbrev S1024x256 : Shape := ⟨2, ![1024, 256]⟩
abbrev S1x256 : Shape := ⟨2, ![1, 256]⟩
abbrev S1x512x256 : Shape := ⟨3, ![1, 512, 256]⟩
abbrev S512x256 : Shape := ⟨2, ![512, 256]⟩

abbrev nBuf : Space → Nat
  | .hbm => 22
  | .vmem => 24
  | .smem => 0
  | _ => 0

abbrev bufTy : (tb : Table) → Fin (tcTables nBuf tb) → BufTy
  | .hbm, ⟨0, _⟩ => ⟨S1x8192x2048, .f32⟩
  | .hbm, ⟨1, _⟩ => ⟨S2048x13804, .f32⟩
  | .hbm, ⟨2, _⟩ => ⟨S4x2048, .f32⟩
  | .hbm, ⟨3, _⟩ => ⟨S1x8192x512, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S4x512x2048, .f32⟩
  | .hbm, ⟨8, _⟩ => ⟨S2048x8192, .f32⟩
  | .hbm, ⟨9, _⟩ => ⟨S2048x8192, .bf16⟩
  | .hbm, ⟨10, _⟩ => ⟨S8192x512, .f32⟩
  | .hbm, ⟨11, _⟩ => ⟨S8192x512, .bf16⟩
  | .hbm, ⟨12, _⟩ => ⟨S8192x512, .f32⟩
  | .hbm, ⟨13, _⟩ => ⟨S8192x512, .bf16⟩
  | .hbm, ⟨14, _⟩ => ⟨S8192x512, .f32⟩
  | .hbm, ⟨15, _⟩ => ⟨S8192x512, .bf16⟩
  | .hbm, ⟨16, _⟩ => ⟨S8192x512, .f32⟩
  | .hbm, ⟨17, _⟩ => ⟨S8192x512, .bf16⟩
  | .hbm, ⟨18, _⟩ => ⟨S8192x2048, .f32⟩
  | .hbm, ⟨19, _⟩ => ⟨S8192x2048, .bf16⟩
  | .hbm, ⟨20, _⟩ => ⟨S4x512x2048, .bf16⟩
  | .hbm, ⟨21, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S4x512x256, .bf16⟩
  | .local _ .vmem, ⟨21, _⟩ => ⟨S4x512x256, .bf16⟩
  | .local _ .vmem, ⟨22, _⟩ => ⟨S1024x256, .bf16⟩
  | .local _ .vmem, ⟨23, _⟩ => ⟨S1024x256, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S1x8192x2048 : Shape := ⟨3, ![1, 8192, 2048]⟩
abbrev S2048x13804 : Shape := ⟨2, ![2048, 13804]⟩
abbrev S4x2048 : Shape := ⟨2, ![4, 2048]⟩
abbrev S1x8192x512 : Shape := ⟨3, ![1, 8192, 512]⟩
abbrev S4x512x2048 : Shape := ⟨3, ![4, 512, 2048]⟩
abbrev S1x8192x13804 : Shape := ⟨3, ![1, 8192, 13804]⟩
abbrev S1x8192x8192 : Shape := ⟨3, ![1, 8192, 8192]⟩
abbrev S1x8192x1x512 : Shape := ⟨4, ![1, 8192, 1, 512]⟩
abbrev S1x8192x4x512 : Shape := ⟨4, ![1, 8192, 4, 512]⟩
abbrev S4x2048x1x8192 : Shape := ⟨4, ![4, 2048, 1, 8192]⟩
abbrev S1x8192x4x2048 : Shape := ⟨4, ![1, 8192, 4, 2048]⟩
abbrev S1x1x4x2048 : Shape := ⟨4, ![1, 1, 4, 2048]⟩
abbrev S_ : Shape := ⟨0, ![]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x13804, .f32⟩
  | .hbm, ⟨2, _⟩ => ⟨S4x2048, .f32⟩
  | .hbm, ⟨3, _⟩ => ⟨S1x8192x512, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S4x512x2048, .f32⟩
  | .hbm, ⟨8, _⟩ => ⟨S1x8192x13804, .f32⟩
  | .hbm, ⟨9, _⟩ => ⟨S1x8192x8192, .f32⟩
  | .hbm, ⟨10, _⟩ => ⟨S1x8192x1x512, .f32⟩
  | .hbm, ⟨11, _⟩ => ⟨S1x8192x1x512, .f32⟩
  | .hbm, ⟨12, _⟩ => ⟨S1x8192x1x512, .f32⟩
  | .hbm, ⟨13, _⟩ => ⟨S1x8192x1x512, .f32⟩
  | .hbm, ⟨14, _⟩ => ⟨S1x8192x4x512, .f32⟩
  | .hbm, ⟨15, _⟩ => ⟨S4x2048x1x8192, .f32⟩
  | .hbm, ⟨16, _⟩ => ⟨S1x8192x4x2048, .f32⟩
  | .hbm, ⟨17, _⟩ => ⟨S1x8192x4x2048, .f32⟩
  | .hbm, ⟨18, _⟩ => ⟨S1x1x4x2048, .f32⟩
  | .hbm, ⟨19, _⟩ => ⟨S1x8192x4x2048, .f32⟩
  | .hbm, ⟨20, _⟩ => ⟨S1x8192x4x2048, .f32⟩
  | .hbm, ⟨21, _⟩ => ⟨S1x8192x4x2048, .f32⟩
  | .hbm, ⟨22, _⟩ => ⟨S1x8192x4x2048, .f32⟩
  | .hbm, ⟨23, _⟩ => ⟨S_, .f32⟩
  | .hbm, ⟨24, _⟩ => ⟨S1x8192x4x2048, .f32⟩
  | .hbm, ⟨25, _⟩ => ⟨S1x8192x4x2048, .f32⟩
  | .hbm, ⟨26, _⟩ => ⟨S_, .f32⟩
  | .hbm, ⟨27, _⟩ => ⟨S1x8192x4x2048, .f32⟩
  | .hbm, ⟨28, _⟩ => ⟨S1x8192x4x2048, .f32⟩
  | .hbm, ⟨29, _⟩ => ⟨S1x8192x4x2048, .f32⟩
  | .hbm, ⟨30, _⟩ => ⟨S_, .f32⟩
  | .hbm, ⟨31, _⟩ => ⟨S1x8192x2048, .f32⟩
  | .hbm, ⟨32, _⟩ => ⟨S8192x2048, .f32⟩
  | .hbm, ⟨33, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proj.lean ====
abbrev S1x8192x2048 : Shape := ⟨3, ![1, 8192, 2048]⟩
abbrev S2048x13804 : Shape := ⟨2, ![2048, 13804]⟩
abbrev S8192x2048 : Shape := ⟨2, ![8192, 2048]⟩
abbrev S2048x512 : Shape := ⟨2, ![2048, 512]⟩
abbrev S2048x1024 : Shape := ⟨2, ![2048, 1024]⟩
abbrev S2048x8 : Shape := ⟨2, ![2048, 8]⟩
abbrev S2048x4 : Shape := ⟨2, ![2048, 4]⟩
abbrev S2048x384 : Shape := ⟨2, ![2048, 384]⟩
abbrev S2048x256 : Shape := ⟨2, ![2048, 256]⟩
abbrev S2048x32 : Shape := ⟨2, ![2048, 32]⟩
abbrev S_ : Shape := ⟨0, ![]⟩
abbrev S2048x84 : Shape := ⟨2, ![2048, 84]⟩
abbrev S2048x2304 : Shape := ⟨2, ![2048, 2304]⟩
abbrev S8192x2304 : Shape := ⟨2, ![8192, 2304]⟩
abbrev S512x2048 : Shape := ⟨2, ![512, 2048]⟩
abbrev S2048x1152 : Shape := ⟨2, ![2048, 1152]⟩
abbrev S512x1152 : Shape := ⟨2, ![512, 1152]⟩

abbrev nBuf : Space → Nat
  | .hbm => 19
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S2048x13804, .f32⟩
  | .hbm, ⟨2, _⟩ => ⟨S8192x2048, .f32⟩
  | .hbm, ⟨3, _⟩ => ⟨S8192x2048, .bf16⟩
  | .hbm, ⟨4, _⟩ => ⟨S2048x512, .f32⟩
  | .hbm, ⟨5, _⟩ => ⟨S2048x1024, .f32⟩
  | .hbm, ⟨6, _⟩ => ⟨S2048x8, .f32⟩
  | .hbm, ⟨7, _⟩ => ⟨S2048x4, .f32⟩
  | .hbm, ⟨8, _⟩ => ⟨S2048x384, .f32⟩
  | .hbm, ⟨9, _⟩ => ⟨S2048x256, .f32⟩
  | .hbm, ⟨10, _⟩ => ⟨S2048x32, .f32⟩
  | .hbm, ⟨11, _⟩ => ⟨S_, .f32⟩
  | .hbm, ⟨12, _⟩ => ⟨S2048x84, .f32⟩
  | .hbm, ⟨13, _⟩ => ⟨S_, .f32⟩
  | .hbm, ⟨14, _⟩ => ⟨S2048x4, .f32⟩
  | .hbm, ⟨15, _⟩ => ⟨S2048x4, .f32⟩
  | .hbm, ⟨16, _⟩ => ⟨S2048x2304, .f32⟩
  | .hbm, ⟨17, _⟩ => ⟨S2048x2304, .bf16⟩
  | .hbm, ⟨18, _⟩ => ⟨S8192x2304, .f32⟩
  | .local _ .vmem, ⟨0, _⟩ => ⟨S512x2048, .bf16⟩
  | .local _ .vmem, ⟨1, _⟩ => ⟨S512x2048, .bf16⟩
  | .local _ .vmem, ⟨2, _⟩ => ⟨S2048x1152, .bf16⟩
  | .local _ .vmem, ⟨3, _⟩ => ⟨S2048x1152, .bf16⟩
  | .local _ .vmem, ⟨4, _⟩ => ⟨S512x1152, .f32⟩
  | .local _ .vmem, ⟨5, _⟩ => ⟨S512x1152, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S1x8192x2048 : Shape := ⟨3, ![1, 8192, 2048]⟩
abbrev S2048x13804 : Shape := ⟨2, ![2048, 13804]⟩
abbrev S1x8192x13804 : Shape := ⟨3, ![1, 8192, 13804]⟩
abbrev S8192x13804 : Shape := ⟨2, ![8192, 13804]⟩
abbrev S8192x512 : Shape := ⟨2, ![8192, 512]⟩
abbrev S8192x1024 : Shape := ⟨2, ![8192, 1024]⟩
abbrev S8192x8 : Shape := ⟨2, ![8192, 8]⟩
abbrev S8192x4 : Shape := ⟨2, ![8192, 4]⟩
abbrev S8192x384 : Shape := ⟨2, ![8192, 384]⟩
abbrev S8192x256 : Shape := ⟨2, ![8192, 256]⟩
abbrev S8192x32 : Shape := ⟨2, ![8192, 32]⟩
abbrev S_ : Shape := ⟨0, ![]⟩
abbrev S8192x84 : Shape := ⟨2, ![8192, 84]⟩
abbrev S8192x2304 : Shape := ⟨2, ![8192, 2304]⟩

abbrev nBuf : Space → Nat
  | .hbm => 17
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x13804, .f32⟩
  | .hbm, ⟨2, _⟩ => ⟨S1x8192x13804, .f32⟩
  | .hbm, ⟨3, _⟩ => ⟨S8192x13804, .f32⟩
  | .hbm, ⟨4, _⟩ => ⟨S8192x512, .f32⟩
  | .hbm, ⟨5, _⟩ => ⟨S8192x1024, .f32⟩
  | .hbm, ⟨6, _⟩ => ⟨S8192x8, .f32⟩
  | .hbm, ⟨7, _⟩ => ⟨S8192x4, .f32⟩
  | .hbm, ⟨8, _⟩ => ⟨S8192x384, .f32⟩
  | .hbm, ⟨9, _⟩ => ⟨S8192x256, .f32⟩
  | .hbm, ⟨10, _⟩ => ⟨S8192x32, .f32⟩
  | .hbm, ⟨11, _⟩ => ⟨S_, .f32⟩
  | .hbm, ⟨12, _⟩ => ⟨S8192x84, .f32⟩
  | .hbm, ⟨13, _⟩ => ⟨S_, .f32⟩
  | .hbm, ⟨14, _⟩ => ⟨S8192x4, .f32⟩
  | .hbm, ⟨15, _⟩ => ⟨S8192x4, .f32⟩
  | .hbm, ⟨16, _⟩ => ⟨S8192x2304, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Out.lean ====
abbrev S1x8192x2048 : Shape := ⟨3, ![1, 8192, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S8192x2048 : Shape := ⟨2, ![8192, 2048]⟩
abbrev S1x2048 : Shape := ⟨2, ![1, 2048]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S_, .f32⟩
  | .hbm, ⟨12, _⟩ => ⟨S96, .f32⟩
  | .hbm, ⟨13, _⟩ => ⟨S128, .f32⟩
  | .hbm, ⟨14, _⟩ => ⟨S1x128, .f32⟩
  | .hbm, ⟨15, _⟩ => ⟨S8192x2048, .f32⟩
  | .hbm, ⟨16, _⟩ => ⟨S8192x2048, .bf16⟩
  | .hbm, ⟨17, _⟩ => ⟨S2048x2048, .bf16⟩
  | .hbm, ⟨18, _⟩ => ⟨S8192x2048, .f32⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .bf16⟩
  | .hbm, ⟨23, _⟩ => ⟨S8192x128, .i32⟩
  | .hbm, ⟨24, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x128, .i32⟩
  | .local _ .vmem, ⟨14, _⟩ => ⟨S256x128, .i32⟩
  | .local _ .vmem, ⟨15, _⟩ => ⟨S256x128, .f32⟩
  | .local _ .vmem, ⟨16, _⟩ => ⟨S256x128, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutReferenceIdeal.lean ====
abbrev S1x8192x2048 : Shape := ⟨3, ![1, 8192, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S1x8192x2048, .f32⟩
  | .hbm, ⟨8, _⟩ => ⟨S_, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x8192x2048, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S1x8192x2048, .f32⟩
  | .hbm, ⟨28, _⟩ => ⟨S1x8192x2048, .f32⟩
  | .hbm, ⟨29, _⟩ => ⟨S_, .f32⟩
  | .hbm, ⟨30, _⟩ => ⟨S1x8192x1, .f32⟩
  | .hbm, ⟨31, _⟩ => ⟨S1x8192x1, .f32⟩
  | .hbm, ⟨32, _⟩ => ⟨S1x8192x1, .f32⟩
  | .hbm, ⟨33, _⟩ => ⟨S1x8192x2048, .f32⟩
  | .hbm, ⟨34, _⟩ => ⟨S1x8192x2048, .f32⟩
  | .hbm, ⟨35, _⟩ => ⟨S1x1x2048, .f32⟩
  | .hbm, ⟨36, _⟩ => ⟨S1x8192x2048, .f32⟩
  | .hbm, ⟨37, _⟩ => ⟨S1x8192x2048, .f32⟩
  | .hbm, ⟨38, _⟩ => ⟨S1x1x2048, .f32⟩
  | .hbm, ⟨39, _⟩ => ⟨S1x8192x2048, .f32⟩
  | .hbm, ⟨40, _⟩ => ⟨S1x8192x2048, .f32⟩
  | .hbm, ⟨41, _⟩ => ⟨S8192x2048, .f32⟩
  | .hbm, ⟨42, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Latent.lean ====
abbrev S8192x2304 : Shape := ⟨2, ![8192, 2304]⟩
abbrev S1x8192x16 : Shape := ⟨3, ![1, 8192, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S1x384 : Shape := ⟨2, ![1, 384]⟩
abbrev S1x256 : Shape := ⟨2, ![1, 256]⟩
abbrev S32x1024x256 : Shape := ⟨3, ![32, 1024, 256]⟩
abbrev S8192x1024 : Shape := ⟨2, ![8192, 1024]⟩
abbrev S32x512x256 : Shape := ⟨3, ![32, 512, 256]⟩
abbrev S32x128x256 : Shape := ⟨3, ![32, 128, 256]⟩
abbrev S256x384 : Shape := ⟨2, ![256, 384]⟩
abbrev S256x256 : Shape := ⟨2, ![256, 256]⟩
abbrev S256x128 : Shape := ⟨2, ![256, 128]⟩
abbrev S1x1024x256 : Shape := ⟨3, ![1, 1024, 256]⟩
abbrev S1x512x256 : Shape := ⟨3, ![1, 512, 256]⟩
abbrev S1x128x256 : Shape := ⟨3, ![1, 128, 256]⟩
abbrev S256x1 : Shape := ⟨2, ![256, 1]⟩
abbrev S128x256 : Shape := ⟨2, ![128, 256]⟩
abbrev S1x128 : Shape := ⟨2, ![1, 128]⟩

abbrev nBuf : Space → Nat
  | .hbm => 48
  | .vmem => 25
  | .smem => 0
  | _ => 0

abbrev bufTy : (tb : Table) → Fin (tcTables nBuf tb) → BufTy
  | .hbm, ⟨0, _⟩ => ⟨S8192x2304, .f32⟩
  | .hbm, ⟨1, _⟩ => ⟨S1x8192x16, .f32⟩
  | .hbm, ⟨2, _⟩ => ⟨S1x8192x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S384x8x96, .f32⟩
  | .hbm, ⟨8, _⟩ => ⟨S_, .f32⟩
  | .hbm, ⟨9, _⟩ => ⟨S384x8x96, .f32⟩
  | .hbm, ⟨10, _⟩ => ⟨S384x8x96, .f32⟩
  | .hbm, ⟨11, _⟩ => ⟨S_, .i32⟩
  | .hbm, ⟨12, _⟩ => ⟨S_, .f32⟩
  | .hbm, ⟨13, _⟩ => ⟨S384x8x128, .f32⟩
  | .hbm, ⟨14, _⟩ => ⟨S384x1024, .f32⟩
  | .hbm, ⟨15, _⟩ => ⟨S256x8x128, .f32⟩
  | .hbm, ⟨16, _⟩ => ⟨S256x8x64, .f32⟩
  | .hbm, ⟨17, _⟩ => ⟨S_, .i32⟩
  | .hbm, ⟨18, _⟩ => ⟨S_, .f32⟩
  | .hbm, ⟨19, _⟩ => ⟨S256x8x128, .f32⟩
  | .hbm, ⟨20, _⟩ => ⟨S256x1024, .f32⟩
  | .hbm, ⟨21, _⟩ => ⟨S256x8x64, .f32⟩
  | .hbm, ⟨22, _⟩ => ⟨S256x512, .f32⟩
  | .hbm, ⟨23, _⟩ => ⟨S384x1024, .bf16⟩
  | .hbm, ⟨24, _⟩ => ⟨S256x1024, .bf16⟩
  | .hbm, ⟨25, _⟩ => ⟨S256x512, .bf16⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x64, .f32⟩
  | .hbm, ⟨30, _⟩ => ⟨S_, .f32⟩
  | .hbm, ⟨31, _⟩ => ⟨S8192x64, .f32⟩
  | .hbm, ⟨32, _⟩ => ⟨S_, .f32⟩
  | .hbm, ⟨33, _⟩ => ⟨S8192x32, .f32⟩
  | .hbm, ⟨34, _⟩ => ⟨S_, .f32⟩
  | .hbm, ⟨35, _⟩ => ⟨S8192x32, .f32⟩
  | .hbm, ⟨36, _⟩ => ⟨S_, .f32⟩
  | .hbm, ⟨37, _⟩ => ⟨S8192x16, .f32⟩
  | .hbm, ⟨38, _⟩ => ⟨S8192x128, .f32⟩
  | .hbm, ⟨39, _⟩ => ⟨S8192x16, .f32⟩
  | .hbm, ⟨40, _⟩ => ⟨S8192x128, .f32⟩
  | .hbm, ⟨41, _⟩ => ⟨S8192x128, .f32⟩
  | .hbm, ⟨42, _⟩ => ⟨S1x384, .f32⟩
  | .hbm, ⟨43, _⟩ => ⟨S1x256, .f32⟩
  | .hbm, ⟨44, _⟩ => ⟨S32x1024x256, .bf16⟩
  | .hbm, ⟨45, _⟩ => ⟨S8192x1024, .bf16⟩
  | .hbm, ⟨46, _⟩ => ⟨S32x512x256, .bf16⟩
  | .hbm, ⟨47, _⟩ => ⟨S32x128x256, .f32⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S1x384, .f32⟩
  | .local _ .vmem, ⟨7, _⟩ => ⟨S1x256, .f32⟩
  | .local _ .vmem, ⟨8, _⟩ => ⟨S384x1024, .bf16⟩
  | .local _ .vmem, ⟨9, _⟩ => ⟨S256x1024, .bf16⟩
  | .local _ .vmem, ⟨10, _⟩ => ⟨S256x512, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1x1024x256, .bf16⟩
  | .local _ .vmem, ⟨18, _⟩ => ⟨S1x1024x256, .bf16⟩
  | .local _ .vmem, ⟨19, _⟩ => ⟨S256x1024, .bf16⟩
  | .local _ .vmem, ⟨20, _⟩ => ⟨S256x1024, .bf16⟩
  | .local _ .vmem, ⟨21, _⟩ => ⟨S1x512x256, .bf16⟩
  | .local _ .vmem, ⟨22, _⟩ => ⟨S1x512x256, .bf16⟩
  | .local _ .vmem, ⟨23, _⟩ => ⟨S1x128x256, .f32⟩
  | .local _ .vmem, ⟨24, _⟩ => ⟨S1x128x256, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LatentReferenceIdeal.lean ====
abbrev S8192x2304 : Shape := ⟨2, ![8192, 2304]⟩
abbrev S1x8192x16 : Shape := ⟨3, ![1, 8192, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8192x384 : Shape := ⟨2, ![8192, 384]⟩
abbrev S1x8192x384 : Shape := ⟨3, ![1, 8192, 384]⟩
abbrev S8192x256 : Shape := ⟨2, ![8192, 256]⟩
abbrev S1x8192x256 : Shape := ⟨3, ![1, 8192, 256]⟩
abbrev S8192x32 : Shape := ⟨2, ![8192, 32]⟩
abbrev S1x8192x32 : Shape := ⟨3, ![1, 8192, 32]⟩
abbrev S_ : Shape := ⟨0, ![]⟩
abbrev S1x8192 : Shape := ⟨2, ![1, 8192]⟩
abbrev S1x8192x1 : Shape := ⟨3, ![1, 8192, 1]⟩
abbrev S1x1x384 : Shape := ⟨3, ![1, 1, 384]⟩
abbrev S1x8192x768 : Shape := ⟨3, ![1, 8192, 768]⟩
abbrev S1x8192x8x96 : Shape := ⟨4, ![1, 8192, 8, 96]⟩
abbrev S1x8192x8x64 : Shape := ⟨4, ![1, 8192, 8, 64]⟩
abbrev S1x8192x8x32 : Shape := ⟨4, ![1, 8192, 8, 32]⟩
abbrev S1x8192x8x16 : Shape := ⟨4, ![1, 8192, 8, 16]⟩
abbrev S1x8192x1x16 : Shape := ⟨4, ![1, 8192, 1, 16]⟩
abbrev S1x1x256 : Shape := ⟨3, ![1, 1, 256]⟩
abbrev S1x8192x1024 : Shape := ⟨3, ![1, 8192, 1024]⟩
abbrev S1x8192x8x128 : Shape := ⟨4, ![1, 8192, 8, 128]⟩
abbrev S1x8192x1x32 : Shape := ⟨4, ![1, 8192, 1, 32]⟩
abbrev S8192x1024 : Shape := ⟨2, ![8192, 1024]⟩
abbrev S32x256x1024 : Shape := ⟨3, ![32, 256, 1024]⟩
abbrev S32x1024x256 : Shape := ⟨3, ![32, 1024, 256]⟩
abbrev S32x256x512 : Shape := ⟨3, ![32, 256, 512]⟩
abbrev S32x512x256 : Shape := ⟨3, ![32, 512, 256]⟩
abbrev S8192x128 : Shape := ⟨2, ![8192, 128]⟩
abbrev S32x256x128 : Shape := ⟨3, ![32, 256, 128]⟩
abbrev S32x128x256 : Shape := ⟨3, ![32, 128, 256]⟩

abbrev nBuf : Space → Nat
  | .hbm => 104
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S1x8192x16, .f32⟩
  | .hbm, ⟨2, _⟩ => ⟨S1x8192x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S8192x384, .f32⟩
  | .hbm, ⟨8, _⟩ => ⟨S1x8192x384, .f32⟩
  | .hbm, ⟨9, _⟩ => ⟨S8192x256, .f32⟩
  | .hbm, ⟨10, _⟩ => ⟨S1x8192x256, .f32⟩
  | .hbm, ⟨11, _⟩ => ⟨S8192x32, .f32⟩
  | .hbm, ⟨12, _⟩ => ⟨S1x8192x32, .f32⟩
  | .hbm, ⟨13, _⟩ => ⟨S1x8192x384, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S1x8192x384, .f32⟩
  | .hbm, ⟨25, _⟩ => ⟨S1x8192x384, .f32⟩
  | .hbm, ⟨26, _⟩ => ⟨S1x1x384, .f32⟩
  | .hbm, ⟨27, _⟩ => ⟨S1x8192x384, .f32⟩
  | .hbm, ⟨28, _⟩ => ⟨S1x8192x384, .f32⟩
  | .hbm, ⟨29, _⟩ => ⟨S1x8192x768, .f32⟩
  | .hbm, ⟨30, _⟩ => ⟨S1x8192x8x96, .f32⟩
  | .hbm, ⟨31, _⟩ => ⟨S1x8192x8x64, .f32⟩
  | .hbm, ⟨32, _⟩ => ⟨S1x8192x8x32, .f32⟩
  | .hbm, ⟨33, _⟩ => ⟨S1x8192x8x16, .f32⟩
  | .hbm, ⟨34, _⟩ => ⟨S1x8192x8x16, .f32⟩
  | .hbm, ⟨35, _⟩ => ⟨S1x8192x1x16, .f32⟩
  | .hbm, ⟨36, _⟩ => ⟨S1x8192x1x16, .f32⟩
  | .hbm, ⟨37, _⟩ => ⟨S1x8192x8x16, .f32⟩
  | .hbm, ⟨38, _⟩ => ⟨S1x8192x8x16, .f32⟩
  | .hbm, ⟨39, _⟩ => ⟨S1x8192x8x16, .f32⟩
  | .hbm, ⟨40, _⟩ => ⟨S1x8192x8x16, .f32⟩
  | .hbm, ⟨41, _⟩ => ⟨S1x8192x8x16, .f32⟩
  | .hbm, ⟨42, _⟩ => ⟨S1x8192x8x16, .f32⟩
  | .hbm, ⟨43, _⟩ => ⟨S1x8192x8x16, .f32⟩
  | .hbm, ⟨44, _⟩ => ⟨S1x8192x8x16, .f32⟩
  | .hbm, ⟨45, _⟩ => ⟨S1x8192x8x16, .f32⟩
  | .hbm, ⟨46, _⟩ => ⟨S1x8192x8x16, .f32⟩
  | .hbm, ⟨47, _⟩ => ⟨S1x8192x8x32, .f32⟩
  | .hbm, ⟨48, _⟩ => ⟨S1x8192x8x96, .f32⟩
  | .hbm, ⟨49, _⟩ => ⟨S1x8192x256, .f32⟩
  | .hbm, ⟨50, _⟩ => ⟨S_, .f32⟩
  | .hbm, ⟨51, _⟩ => ⟨S1x8192, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S_, .f32⟩
  | .hbm, ⟨57, _⟩ => ⟨S1x8192x1, .f32⟩
  | .hbm, ⟨58, _⟩ => ⟨S1x8192x1, .f32⟩
  | .hbm, ⟨59, _⟩ => ⟨S1x8192x1, .f32⟩
  | .hbm, ⟨60, _⟩ => ⟨S1x8192x256, .f32⟩
  | .hbm, ⟨61, _⟩ => ⟨S1x8192x256, .f32⟩
  | .hbm, ⟨62, _⟩ => ⟨S1x1x256, .f32⟩
  | .hbm, ⟨63, _⟩ => ⟨S1x8192x256, .f32⟩
  | .hbm, ⟨64, _⟩ => ⟨S1x8192x256, .f32⟩
  | .hbm, ⟨65, _⟩ => ⟨S1x8192x1024, .f32⟩
  | .hbm, ⟨66, _⟩ => ⟨S1x8192x8x128, .f32⟩
  | .hbm, ⟨67, _⟩ => ⟨S1x8192x1x32, .f32⟩
  | .hbm, ⟨68, _⟩ => ⟨S1x8192x1x16, .f32⟩
  | .hbm, ⟨69, _⟩ => ⟨S1x8192x1x16, .f32⟩
  | .hbm, ⟨70, _⟩ => ⟨S1x8192x1x16, .f32⟩
  | .hbm, ⟨71, _⟩ => ⟨S1x8192x1x16, .f32⟩
  | .hbm, ⟨72, _⟩ => ⟨S1x8192x1x16, .f32⟩
  | .hbm, ⟨73, _⟩ => ⟨S1x8192x1x16, .f32⟩
  | .hbm, ⟨74, _⟩ => ⟨S1x8192x1x16, .f32⟩
  | .hbm, ⟨75, _⟩ => ⟨S1x8192x1x16, .f32⟩
  | .hbm, ⟨76, _⟩ => ⟨S1x8192x1x16, .f32⟩
  | .hbm, ⟨77, _⟩ => ⟨S1x8192x1x16, .f32⟩
  | .hbm, ⟨78, _⟩ => ⟨S1x8192x1x32, .f32⟩
  | .hbm, ⟨79, _⟩ => ⟨S1x8192x8x64, .f32⟩
  | .hbm, ⟨80, _⟩ => ⟨S1x8192x8x32, .f32⟩
  | .hbm, ⟨81, _⟩ => ⟨S1x8192x8x96, .f32⟩
  | .hbm, ⟨82, _⟩ => ⟨S1x8192x8x64, .f32⟩
  | .hbm, ⟨83, _⟩ => ⟨S_, .f32⟩
  | .hbm, ⟨84, _⟩ => ⟨S1x8192x8x96, .f32⟩
  | .hbm, ⟨85, _⟩ => ⟨S1x8192x8x96, .f32⟩
  | .hbm, ⟨86, _⟩ => ⟨S_, .i32⟩
  | .hbm, ⟨87, _⟩ => ⟨S_, .f32⟩
  | .hbm, ⟨88, _⟩ => ⟨S1x8192x8x128, .f32⟩
  | .hbm, ⟨89, _⟩ => ⟨S8192x1024, .f32⟩
  | .hbm, ⟨90, _⟩ => ⟨S32x256x1024, .f32⟩
  | .hbm, ⟨91, _⟩ => ⟨S32x1024x256, .f32⟩
  | .hbm, ⟨92, _⟩ => ⟨S32x1024x256, .bf16⟩
  | .hbm, ⟨93, _⟩ => ⟨S_, .i32⟩
  | .hbm, ⟨94, _⟩ => ⟨S_, .f32⟩
  | .hbm, ⟨95, _⟩ => ⟨S1x8192x8x128, .f32⟩
  | .hbm, ⟨96, _⟩ => ⟨S8192x1024, .f32⟩
  | .hbm, ⟨97, _⟩ => ⟨S8192x1024, .bf16⟩
  | .hbm, ⟨98, _⟩ => ⟨S32x256x512, .f32⟩
  | .hbm, ⟨99, _⟩ => ⟨S32x512x256, .f32⟩
  | .hbm, ⟨100, _⟩ => ⟨S32x512x256, .bf16⟩
  | .hbm, ⟨101, _⟩ => ⟨S8192x128, .f32⟩
  | .hbm, ⟨102, _⟩ => ⟨S32x256x128, .f32⟩
  | .hbm, ⟨103, _⟩ => ⟨S32x128x256, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_c : Ref sig .tc := ⟨.hbm, 86, rfl⟩
abbrev main_call0_v0 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_c_6 : Ref sig .tc := ⟨.hbm, 93, rfl⟩
abbrev main_call1_v0 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩

abbrev nD : Nat := 1
abbrev τ : Topo := Topo.v7x

variable {F : FTy → Type} [FloatOps F]
-- ==== Router.lean ====
abbrev S1x8192x2048 : Shape := ⟨3, ![1, 8192, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S8192x2048 : Shape := ⟨2, ![8192, 2048]⟩
abbrev S1x2048 : Shape := ⟨2, ![1, 2048]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S_, .f32⟩
  | .hbm, ⟨12, _⟩ => ⟨S96, .f32⟩
  | .hbm, ⟨13, _⟩ => ⟨S128, .f32⟩
  | .hbm, ⟨14, _⟩ => ⟨S1x128, .f32⟩
  | .hbm, ⟨15, _⟩ => ⟨S8192x2048, .f32⟩
  | .hbm, ⟨16, _⟩ => ⟨S8192x2048, .bf16⟩
  | .hbm, ⟨17, _⟩ => ⟨S2048x2048, .bf16⟩
  | .hbm, ⟨18, _⟩ => ⟨S8192x2048, .f32⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .bf16⟩
  | .hbm, ⟨23, _⟩ => ⟨S8192x128, .i32⟩
  | .hbm, ⟨24, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x128, .i32⟩
  | .local _ .vmem, ⟨14, _⟩ => ⟨S256x128, .i32⟩
  | .local _ .vmem, ⟨15, _⟩ => ⟨S256x128, .f32⟩
  | .local _ .vmem, ⟨16, _⟩ => ⟨S256x128, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RouterReferenceIdeal.lean ====
abbrev S1x8192x2048 : Shape := ⟨3, ![1, 8192, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩
abbrev S8192x32 : Shape := ⟨2, ![8192, 32]⟩
abbrev S1x32 : Shape := ⟨2, ![1, 32]⟩
abbrev S8192x4 : Shape := ⟨2, ![8192, 4]⟩
abbrev S8192 : Shape := ⟨1, ![8192]⟩
abbrev S8192x1 : Shape := ⟨2, ![8192, 1]⟩
abbrev S8192x128 : Shape := ⟨2, ![8192, 128]⟩

abbrev nBuf : Space → Nat
  | .hbm => 68
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x2048, .f32⟩
  | .hbm, ⟨2, _⟩ => ⟨S1x8192x2048, .f32⟩
  | .hbm, ⟨3, _⟩ => ⟨S2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S1x8192x2048, .f32⟩
  | .hbm, ⟨8, _⟩ => ⟨S_, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x8192x2048, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S1x8192x2048, .f32⟩
  | .hbm, ⟨28, _⟩ => ⟨S1x8192x2048, .f32⟩
  | .hbm, ⟨29, _⟩ => ⟨S_, .f32⟩
  | .hbm, ⟨30, _⟩ => ⟨S1x8192x1, .f32⟩
  | .hbm, ⟨31, _⟩ => ⟨S1x8192x1, .f32⟩
  | .hbm, ⟨32, _⟩ => ⟨S1x8192x1, .f32⟩
  | .hbm, ⟨33, _⟩ => ⟨S1x8192x2048, .f32⟩
  | .hbm, ⟨34, _⟩ => ⟨S1x8192x2048, .f32⟩
  | .hbm, ⟨35, _⟩ => ⟨S1x1x2048, .f32⟩
  | .hbm, ⟨36, _⟩ => ⟨S1x8192x2048, .f32⟩
  | .hbm, ⟨37, _⟩ => ⟨S1x8192x2048, .f32⟩
  | .hbm, ⟨38, _⟩ => ⟨S1x1x2048, .f32⟩
  | .hbm, ⟨39, _⟩ => ⟨S1x8192x2048, .f32⟩
  | .hbm, ⟨40, _⟩ => ⟨S1x8192x2048, .f32⟩
  | .hbm, ⟨41, _⟩ => ⟨S8192x2048, .f32⟩
  | .hbm, ⟨42, _⟩ => ⟨S8192x32, .f32⟩
  | .hbm, ⟨43, _⟩ => ⟨S1x32, .f32⟩
  | .hbm, ⟨44, _⟩ => ⟨S8192x32, .f32⟩
  | .hbm, ⟨45, _⟩ => ⟨S8192x32, .f32⟩
  | .hbm, ⟨46, _⟩ => ⟨S8192x4, .f32⟩
  | .hbm, ⟨47, _⟩ => ⟨S8192x4, .i32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1, .f32⟩
  | .hbm, ⟨54, _⟩ => ⟨S8192x4, .f32⟩
  | .hbm, ⟨55, _⟩ => ⟨S8192x4, .f32⟩
  | .hbm, ⟨56, _⟩ => ⟨S8192x4, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x4, .f32⟩
  | .hbm, ⟨61, _⟩ => ⟨S8192x4, .f32⟩
  | .hbm, ⟨62, _⟩ => ⟨S_, .i32⟩
  | .hbm, ⟨63, _⟩ => ⟨S_, .i32⟩
  | .hbm, ⟨64, _⟩ => ⟨S8192x128, .i32⟩
  | .hbm, ⟨65, _⟩ => ⟨S_, .i32⟩
  | .hbm, ⟨66, _⟩ => ⟨S_, .f32⟩
  | .hbm, ⟨67, _⟩ => ⟨S8192x128, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_values : Ref sig .tc := ⟨.hbm, 46, rfl⟩
abbrev main_indices : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_call0_v0 : Ref sig .tc := ⟨.hbm, 63, rfl⟩
abbrev main_v44 : Ref sig .tc := ⟨.hbm, 64, rfl⟩
abbrev main_c_8 : Ref sig .tc := ⟨.hbm, 65, rfl⟩
abbrev main_call1_v0 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Heads.lean ====
abbrev S1x8192x2048 : Shape := ⟨3, ![1, 8192, 2048]⟩
abbrev S2048x13804 : Shape := ⟨2, ![2048, 13804]⟩
abbrev S1x8192x8 : Shape := ⟨3, ![1, 8192, 8]⟩
abbrev S7 : Shape := ⟨1, ![7]⟩
abbrev S8192x8 : Shape := ⟨2, ![8192, 8]⟩
abbrev S_ : Shape := ⟨0, ![]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x2048 : Shape := ⟨2, ![8192, 2048]⟩
abbrev S2048x512 : Shape := ⟨2, ![2048, 512]⟩
abbrev S2048x256 : Shape := ⟨2, ![2048, 256]⟩
abbrev S2048x64 : Shape := ⟨2, ![2048, 64]⟩
abbrev S2048x3584 : Shape := ⟨2, ![2048, 3584]⟩
abbrev S8192x3584 : Shape := ⟨2, ![8192, 3584]⟩
abbrev S32x3584x256 : Shape := ⟨3, ![32, 3584, 256]⟩
abbrev S512x2048 : Shape := ⟨2, ![512, 2048]⟩
abbrev S512x128 : Shape := ⟨2, ![512, 128]⟩
abbrev S512x512 : Shape := ⟨2, ![512, 512]⟩
abbrev S2x512x256 : Shape := ⟨3, ![2, 512, 256]⟩
abbrev S1 : Shape := ⟨1, ![1]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 45
  | .vmem => 14
  | .smem => 1
  | _ => 0

abbrev bufTy : (tb : Table) → Fin (tcTables nBuf tb) → BufTy
  | .hbm, ⟨0, _⟩ => ⟨S1x8192x2048, .f32⟩
  | .hbm, ⟨1, _⟩ => ⟨S2048x13804, .f32⟩
  | .hbm, ⟨2, _⟩ => ⟨S1x8192x8, .f32⟩
  | .hbm, ⟨3, _⟩ => ⟨S1x8192x8, .f32⟩
  | .hbm, ⟨4, _⟩ => ⟨S8192x8, .f32⟩
  | .hbm, ⟨5, _⟩ => ⟨S8192x8, .f32⟩
  | .hbm, ⟨6, _⟩ => ⟨S_, .f32⟩
  | .hbm, ⟨7, _⟩ => ⟨S8192x48, .f32⟩
  | .hbm, ⟨8, _⟩ => ⟨S_, .f32⟩
  | .hbm, ⟨9, _⟩ => ⟨S8192x48, .f32⟩
  | .hbm, ⟨10, _⟩ => ⟨S_, .f32⟩
  | .hbm, ⟨11, _⟩ => ⟨S8192x8, .f32⟩
  | .hbm, ⟨12, _⟩ => ⟨S8192x64, .f32⟩
  | .hbm, ⟨13, _⟩ => ⟨S8192x8, .f32⟩
  | .hbm, ⟨14, _⟩ => ⟨S8192x64, .f32⟩
  | .hbm, ⟨15, _⟩ => ⟨S8192x64, .f32⟩
  | .hbm, ⟨16, _⟩ => ⟨S1x8192x1x64, .f32⟩
  | .hbm, ⟨17, _⟩ => ⟨S1x8192x2x64, .f32⟩
  | .hbm, ⟨18, _⟩ => ⟨S8192x128, .f32⟩
  | .hbm, ⟨19, _⟩ => ⟨S1x8192x1x64, .f32⟩
  | .hbm, ⟨20, _⟩ => ⟨S1x8192x2x64, .f32⟩
  | .hbm, ⟨21, _⟩ => ⟨S8192x128, .f32⟩
  | .hbm, ⟨22, _⟩ => ⟨S1x8192x1x64, .f32⟩
  | .hbm, ⟨23, _⟩ => ⟨S1x8192x2x64, .f32⟩
  | .hbm, ⟨24, _⟩ => ⟨S8192x128, .f32⟩
  | .hbm, ⟨25, _⟩ => ⟨S8192x2048, .f32⟩
  | .hbm, ⟨26, _⟩ => ⟨S8192x2048, .bf16⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x256, .f32⟩
  | .hbm, ⟨34, _⟩ => ⟨S2048x64, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x3584, .f32⟩
  | .hbm, ⟨42, _⟩ => ⟨S2048x3584, .bf16⟩
  | .hbm, ⟨43, _⟩ => ⟨S8192x3584, .bf16⟩
  | .hbm, ⟨44, _⟩ => ⟨S32x3584x256, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S2x512x256, .bf16⟩
  | .local _ .vmem, ⟨13, _⟩ => ⟨S2x512x256, .bf16⟩
  | .local _ .smem, ⟨0, _⟩ => ⟨S7, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 16], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
def k0_off2 (i : grid0.Coords) : Fin 1 → Nat :=
  let arg0 : BitVec 32 := BitVec.ofNat 32 (i 0).val
  let v10 : Index := Scalar.indexCast arg0
  ![v10.toNat]
def k0_cond1 (v6 : BitVec 32) : BitVec 1 :=
  let c1_i32 : BitVec 32 := 1#32
  let v7 : BitVec 1 := Scalar.cmpi .eq v6 c1_i32
  let v8 : BitVec 32 := Scalar.extui v7
  let c0_i32 : BitVec 32 := 0#32
  let v9 : BitVec 1 := Scalar.cmpi .ne v8 c0_i32
  v9

def k0_cond2 (v11 : BitVec 32) : BitVec 1 :=
  let c0_i32_3 : BitVec 32 := 0#32
  let v12 : BitVec 1 := Scalar.cmpi .eq v11 c0_i32_3
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HeadsReferenceIdeal.lean ====
abbrev S1x8192x2048 : Shape := ⟨3, ![1, 8192, 2048]⟩
abbrev S2048x13804 : Shape := ⟨2, ![2048, 13804]⟩
abbrev S1x8192x8 : Shape := ⟨3, ![1, 8192, 8]⟩
abbrev S1x8192x13804 : Shape := ⟨3, ![1, 8192, 13804]⟩
abbrev S1x8192x1024 : Shape := ⟨3, ![1, 8192, 1024]⟩
abbrev S1x8192x512 : Shape := ⟨3, ![1, 8192, 512]⟩
abbrev S1x8192x320 : Shape := ⟨3, ![1, 8192, 320]⟩
abbrev S1x8192x16x64 : Shape := ⟨4, ![1, 8192, 16, 64]⟩
abbrev S1x8192x16x16 : Shape := ⟨4, ![1, 8192, 16, 16]⟩
abbrev S1x8192x16x8 : Shape := ⟨4, ![1, 8192, 16, 8]⟩
abbrev S1x8192x1x8 : Shape := ⟨4, ![1, 8192, 1, 8]⟩
abbrev S1x8192x16x48 : Shape := ⟨4, ![1, 8192, 16, 48]⟩
abbrev S1x8192x5x64 : Shape := ⟨4, ![1, 8192, 5, 64]⟩
abbrev S1x8192x5x16 : Shape := ⟨4, ![1, 8192, 5, 16]⟩
abbrev S1x8192x5x8 : Shape := ⟨4, ![1, 8192, 5, 8]⟩
abbrev S1x8192x5x48 : Shape := ⟨4, ![1, 8192, 5, 48]⟩
abbrev S1x8192x1x64 : Shape := ⟨4, ![1, 8192, 1, 64]⟩
abbrev S1x8192x4x64 : Shape := ⟨4, ![1, 8192, 4, 64]⟩
abbrev S1x8192x8x64 : Shape := ⟨4, ![1, 8192, 8, 64]⟩
abbrev S_ : Shape := ⟨0, ![]⟩
abbrev S1x8192x56x64 : Shape := ⟨4, ![1, 8192, 56, 64]⟩
abbrev S8192x3584 : Shape := ⟨2, ![8192, 3584]⟩
abbrev S32x256x3584 : Shape := ⟨3, ![32, 256, 3584]⟩
abbrev S32x3584x256 : Shape := ⟨3, ![32, 3584, 256]⟩

abbrev nBuf : Space → Nat
  | .hbm => 88
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048x13804, .f32⟩
  | .hbm, ⟨2, _⟩ => ⟨S1x8192x8, .f32⟩
  | .hbm, ⟨3, _⟩ => ⟨S1x8192x8, .f32⟩
  | .hbm, ⟨4, _⟩ => ⟨S1x8192x13804, .f32⟩
  | .hbm, ⟨5, _⟩ => ⟨S1x8192x1024, .f32⟩
  | .hbm, ⟨6, _⟩ => ⟨S1x8192x512, .f32⟩
  | .hbm, ⟨7, _⟩ => ⟨S1x8192x1024, .f32⟩
  | .hbm, ⟨8, _⟩ => ⟨S1x8192x512, .f32⟩
  | .hbm, ⟨9, _⟩ => ⟨S1x8192x320, .f32⟩
  | .hbm, ⟨10, _⟩ => ⟨S1x8192x16x64, .f32⟩
  | .hbm, ⟨11, _⟩ => ⟨S1x8192x16x16, .f32⟩
  | .hbm, ⟨12, _⟩ => ⟨S1x8192x16x8, .f32⟩
  | .hbm, ⟨13, _⟩ => ⟨S1x8192x16x8, .f32⟩
  | .hbm, ⟨14, _⟩ => ⟨S1x8192x1x8, .f32⟩
  | .hbm, ⟨15, _⟩ => ⟨S1x8192x1x8, .f32⟩
  | .hbm, ⟨16, _⟩ => ⟨S1x8192x16x8, .f32⟩
  | .hbm, ⟨17, _⟩ => ⟨S1x8192x16x8, .f32⟩
  | .hbm, ⟨18, _⟩ => ⟨S1x8192x16x8, .f32⟩
  | .hbm, ⟨19, _⟩ => ⟨S1x8192x16x8, .f32⟩
  | .hbm, ⟨20, _⟩ => ⟨S1x8192x16x8, .f32⟩
  | .hbm, ⟨21, _⟩ => ⟨S1x8192x16x8, .f32⟩
  | .hbm, ⟨22, _⟩ => ⟨S1x8192x16x8, .f32⟩
  | .hbm, ⟨23, _⟩ => ⟨S1x8192x16x8, .f32⟩
  | .hbm, ⟨24, _⟩ => ⟨S1x8192x16x8, .f32⟩
  | .hbm, ⟨25, _⟩ => ⟨S1x8192x16x8, .f32⟩
  | .hbm, ⟨26, _⟩ => ⟨S1x8192x16x16, .f32⟩
  | .hbm, ⟨27, _⟩ => ⟨S1x8192x16x48, .f32⟩
  | .hbm, ⟨28, _⟩ => ⟨S1x8192x16x64, .f32⟩
  | .hbm, ⟨29, _⟩ => ⟨S1x8192x16x64, .f32⟩
  | .hbm, ⟨30, _⟩ => ⟨S1x8192x16x16, .f32⟩
  | .hbm, ⟨31, _⟩ => ⟨S1x8192x16x8, .f32⟩
  | .hbm, ⟨32, _⟩ => ⟨S1x8192x16x8, .f32⟩
  | .hbm, ⟨33, _⟩ => ⟨S1x8192x1x8, .f32⟩
  | .hbm, ⟨34, _⟩ => ⟨S1x8192x1x8, .f32⟩
  | .hbm, ⟨35, _⟩ => ⟨S1x8192x16x8, .f32⟩
  | .hbm, ⟨36, _⟩ => ⟨S1x8192x16x8, .f32⟩
  | .hbm, ⟨37, _⟩ => ⟨S1x8192x16x8, .f32⟩
  | .hbm, ⟨38, _⟩ => ⟨S1x8192x16x8, .f32⟩
  | .hbm, ⟨39, _⟩ => ⟨S1x8192x16x8, .f32⟩
  | .hbm, ⟨40, _⟩ => ⟨S1x8192x16x8, .f32⟩
  | .hbm, ⟨41, _⟩ => ⟨S1x8192x16x8, .f32⟩
  | .hbm, ⟨42, _⟩ => ⟨S1x8192x16x8, .f32⟩
  | .hbm, ⟨43, _⟩ => ⟨S1x8192x16x8, .f32⟩
  | .hbm, ⟨44, _⟩ => ⟨S1x8192x16x8, .f32⟩
  | .hbm, ⟨45, _⟩ => ⟨S1x8192x16x16, .f32⟩
  | .hbm, ⟨46, _⟩ => ⟨S1x8192x16x48, .f32⟩
  | .hbm, ⟨47, _⟩ => ⟨S1x8192x16x64, .f32⟩
  | .hbm, ⟨48, _⟩ => ⟨S1x8192x5x64, .f32⟩
  | .hbm, ⟨49, _⟩ => ⟨S1x8192x5x16, .f32⟩
  | .hbm, ⟨50, _⟩ => ⟨S1x8192x5x8, .f32⟩
  | .hbm, ⟨51, _⟩ => ⟨S1x8192x5x8, .f32⟩
  | .hbm, ⟨52, _⟩ => ⟨S1x8192x1x8, .f32⟩
  | .hbm, ⟨53, _⟩ => ⟨S1x8192x1x8, .f32⟩
  | .hbm, ⟨54, _⟩ => ⟨S1x8192x5x8, .f32⟩
  | .hbm, ⟨55, _⟩ => ⟨S1x8192x5x8, .f32⟩
  | .hbm, ⟨56, _⟩ => ⟨S1x8192x5x8, .f32⟩
  | .hbm, ⟨57, _⟩ => ⟨S1x8192x5x8, .f32⟩
  | .hbm, ⟨58, _⟩ => ⟨S1x8192x5x8, .f32⟩
  | .hbm, ⟨59, _⟩ => ⟨S1x8192x5x8, .f32⟩
  | .hbm, ⟨60, _⟩ => ⟨S1x8192x5x8, .f32⟩
  | .hbm, ⟨61, _⟩ => ⟨S1x8192x5x8, .f32⟩
  | .hbm, ⟨62, _⟩ => ⟨S1x8192x5x8, .f32⟩
  | .hbm, ⟨63, _⟩ => ⟨S1x8192x5x8, .f32⟩
  | .hbm, ⟨64, _⟩ => ⟨S1x8192x5x16, .f32⟩
  | .hbm, ⟨65, _⟩ => ⟨S1x8192x5x48, .f32⟩
  | .hbm, ⟨66, _⟩ => ⟨S1x8192x5x64, .f32⟩
  | .hbm, ⟨67, _⟩ => ⟨S1x8192x1x64, .f32⟩
  | .hbm, ⟨68, _⟩ => ⟨S1x8192x4x64, .f32⟩
  | .hbm, ⟨69, _⟩ => ⟨S1x8192x8x64, .f32⟩
  | .hbm, ⟨70, _⟩ => ⟨S_, .f32⟩
  | .hbm, ⟨71, _⟩ => ⟨S1x8192x8x64, .f32⟩
  | .hbm, ⟨72, _⟩ => ⟨S1x8192x8x64, .f32⟩
  | .hbm, ⟨73, _⟩ => ⟨S1x8192x8x64, .f32⟩
  | .hbm, ⟨74, _⟩ => ⟨S1x8192x8x64, .f32⟩
  | .hbm, ⟨75, _⟩ => ⟨S1x8192x8x64, .f32⟩
  | .hbm, ⟨76, _⟩ => ⟨S_, .f32⟩
  | .hbm, ⟨77, _⟩ => ⟨S1x8192x8x64, .f32⟩
  | .hbm, ⟨78, _⟩ => ⟨S1x8192x8x64, .f32⟩
  | .hbm, ⟨79, _⟩ => ⟨S1x8192x8x64, .f32⟩
  | .hbm, ⟨80, _⟩ => ⟨S1x8192x8x64, .f32⟩
  | .hbm, ⟨81, _⟩ => ⟨S1x8192x4x64, .f32⟩
  | .hbm, ⟨82, _⟩ => ⟨S1x8192x56x64, .f32⟩
  | .hbm, ⟨83, _⟩ => ⟨S8192x3584, .f32⟩
  | .hbm, ⟨84, _⟩ => ⟨S8192x3584, .bf16⟩
  | .hbm, ⟨85, _⟩ => ⟨S32x256x3584, .f32⟩
  | .hbm, ⟨86, _⟩ => ⟨S32x3584x256, .f32⟩
  | .hbm, ⟨87, _⟩ => ⟨S32x3584x256, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_cst : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_cst_0 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩

abbrev nD : Nat := 1
abbrev τ : Topo := Topo.v7x

variable {F : FTy → Type} [FloatOps F]
-- ==== Proof.FrameBits.lean ====
/- The attention program as a whole: it ends and leaves its arguments alone. -/
module

public import proofs.«01_k».proof.Proof.RunBits
public import Idealize.ShloMosaic.Lib.Claim
public import Idealize.ShloMosaic.Lib.VecWindow
public import Idealize.ShloMosaic.Lib.Pipeline.Value

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers the body is handed at point `t`, and that each is a whole buffer. -/
abbrev st0 (t : Fin cfg0.N) : Memref sig .tc .vmem S1x512x256 .bf16 := win0_0.stage (cfg0.slots t 0)
abbrev wh0 (t : Fin cfg0.N) : (st0 t).IsWhole := hstage0_0 ((cfg0.slots t 0).cast nbuf0_0)
abbrev st1 (t : Fin cfg0.N) : Memref sig .tc .vmem S8192x512 .bf16 := win0_1.stage (cfg0.slots t 1)
abbrev wh1 (t : Fin cfg0.N) : (st1 t).IsWhole := hstage0_1 ((cfg0.slots t 1).cast nbuf0_1)
abbrev st2 (t : Fin cfg0.N) : Memref sig .tc .vmem S32x256x256 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S256x256 .bf16 := win0_3.stage (cfg0.slots t 3)
abbrev wh3 (t : Fin cfg0.N) : (st3 t).IsWhole := hstage0_3 ((cfg0.slots t 3).cast nbuf0_3)
/-- The scratch buffer the scores are parked in. -/
abbrev scr : Memref sig .tc .vmem S2x4x256x256 .f32 := Memref.whole cc0_scratch0

/-- Between two points the scratch buffer is held at some contents, beside the generator's register. -/
theorem between_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- Nothing is said of what the result's buffer is left at. -/
def dropped : Fin 4 → Bool := fun w => w.val == 3

/-- What the pipeline is proved against: every input staged at its block. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem data_A (c : Dev nD) (w : Fin cfg0.W) : (data m 0 c).A w = V m c (Pipeline.arrRef spec0 w) := by dsimp only [data]
theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = iblk m c 2 t := by dsimp only [data]
theorem data_before0 (c : Dev nD) (t : Fin cfg0.N) (d) : (data m 0 c).before 0 t d = iblk m c 0 t := before0_0_of m (data m 0 c) (data_A m c 0) (data_after0 m c) t d
theorem data_before1 (c : Dev nD) (t : Fin cfg0.N) (d) : (data m 0 c).before 1 t d = iblk m c 1 t := before0_1_of m (data m 0 c) (data_A m c 1) (data_after1 m c) t d
theorem data_before2 (c : Dev nD) (t : Fin cfg0.N) (d) : (data m 0 c).before 2 t d = iblk m c 2 t := before0_2_of m (data m 0 c) (data_A m c 2) (data_after2 m c) t d

/-- What the body is entered with at point `t`, buffer by buffer. -/
def entryAt (c : Dev nD) (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare d))

/-- What it is left with. -/
def exitAt (c : Dev nD) (t : Fin cfg0.N) : sProp 𝕄 :=
  iprop((data m 0 c).Φ t.succ ∗ (data m 0 c).owesAt () t.succ
    ∗ owns (c : Thread nD τ) (st0 t) fullShare ((data m 0 c).after 0 t)
    ∗ owns (c : Thread nD τ) (st1 t) fullShare ((data m 0 c).after 1 t)
    ∗ owns (c : Thread nD τ) (st2 t) fullShare ((data m 0 c).after 2 t)
    ∗ (∃ d, owns (c : Thread nD τ) (st3 t) fullShare d))

/-- The body at any point, whichever side of the conditional it takes and whatever the scratch held. -/
theorem body_at (c : Dev nD) (t : Fin cfg0.N) :
    entryAt m c t ⊢ wp frame (wpE (defs₀ (F := F)) Variants.none c none) Set.univ (bodyAt0 t) (fun _ => exitAt m c t) := by
  unfold entryAt exitAt bodyAt0
  simp only [data_before0, data_before1, data_before2]
  rw [show (data m 0 c).Φ t.succ = (data m 0 c).Φ t.castSucc from rfl,
    show (data m 0 c).owesAt () t.succ = (data m 0 c).owesAt () t.castSucc from rfl,
    data_after0, data_after1, data_after2]
  rw [show (data m 0 c).Φ t.castSucc = Pipeline.ΦA spec0 c from rfl, between_eq]
  rw [show (iprop(∃ d, owns (c : Thread nD τ) scr fullShare d) : sProp 𝕄) = iprop(∃ d, owns (c : Thread nD τ) scr fullShare d) from rfl]
  iintro ⟨⟨⟨%ds, HS⟩, Hg⟩, Ho, ⟨%d0, H0⟩, ⟨%d1, H1⟩, ⟨%d2, H2⟩, ⟨%d3, H3⟩⟩
  irevert HS
  rw [show (owns (c : Thread nD τ) scr fullShare ds : sProp 𝕄) = iprop(∃ f, ⌜scr.view.read (Elt F) f = ds⌝ ∗ (scr.view.loc (c : Thread nD τ) ↦[scr.view.set]{fullShare} f)) from rfl]
  iintro ⟨%fs, -, HS⟩
  by_cases hc : k0_cond1 (grid0.coords t) = 1#1
  ·
    iapply ((runOdd c (grid0.coords t) hc (st0 t) (wh0 t) (st1 t) (wh1 t) (st2 t) (wh2 t) (st3 t) (wh3 t) scr (Memref.isWhole_whole _) (iblk m c 0 t) (iblk m c 1 t) (iblk m c 2 t) fs).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    iexists _; unfold owns; iexists _; isplitr
    swap; · iexact H3
    ipureintro; rfl
  ·
    iapply ((runEven c (grid0.coords t) hc (st0 t) (wh0 t) (st1 t) (wh1 t) (st2 t) (wh2 t) (st3 t) (wh3 t) scr (Memref.isWhole_whole _) (iblk m c 0 t) (iblk m c 1 t) (iblk m c 2 t) fs).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    iexists _; unfold owns; iexists _; isplitr
    swap; · iexact H3
    ipureintro; rfl

/-- The body table at point `t`'s buffers is that body. -/
theorem table_at (t : Fin cfg0.N) : defs₀ (F := F) .tc cfg0.body (cfg0.bodyArgs t (cfg0.slots t)) = bodyAt0 t := by
  unfold defs₀; rw [Defs.onTc_tc]

theorem bodies (c : Dev nD) : BodyObligation (data (F := F) m 0 c) (defs₀ (F := F)) Variants.none () Set.univ dropped := fun t => by
  rw [bigSep_W0, bigSep_W0, table_at]
  exact triple_restated (body_at m c t) rfl .rfl fun _ => .rfl

set_option backward.isDefEq.respectTransparency.types false in
/-- Every execution ends, with the arrays as the pipeline's data says and every counter at zero. -/
theorem ends : θ_run defs (onTc (τ := τ) (main (F := F))) (s₀ m ρ) (fun r => (Pipeline.RDat.FramePost (cfgs 0) (fun c => (data m 0 c).toRForget dropped) (V m)) r ∧ r.2.sem = fun _ => 0) :=
  Pipeline.θ_run_frame_forget (Q' := _) cfgs (data m) (0 : Fin 1) launch0 defs₀ Variants.none dropped m ρ main
    (hbody := fun c => (bodies m c).loose) (hshare := fun c => (data m 0 c).share_full fun _ => rfl)
    (howed := fun _ _ => rfl) (V := V m) (hmain := hmain m Variants.none) (hA := data_A m) (hΦ := fun _ _ => rfl)

/-- Every execution ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (ends m ρ)

end Cert.Kernel.Att

end
-- ==== Proof.RunIdeal.lean ====
/- One grid point of the attention kernel of the idealized program, run once for each side of its conditional: what it leaves in the result's
   staging buffer, as a function of the three blocks it reads and of what its scratch held. -/
module

public import proofs.«01_k».proof.Proof.Gen.KernelIdeal.Loops
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The point whose number of earlier key blocks is odd: the conditional takes its first side. -/
noncomputable def runOdd (c : Dev nD) (i : grid0.Coords) (hc : k0_cond1 i = 1#1) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole)
    (x0 : Vec F S1x512x256 .bf16) (x1 : Vec F S8192x512 .bf16) (x2 : Vec F S32x256x256 .bf16) (s0 : BufTy.Contents (Elt F) arg6.view.ty) :
    Σ' (L3 : List (View.Piece (Elt F) S256x256 .bf16)), { LT0 : List (View.Piece (Elt F) S2x4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} s0)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) s0 LT0)) -∗ K ⟨⟩))
          ⊢ wp frame (wpE (defs₀ (F := F)) Variants.none c none) E (cc0_mla_attention i arg2 harg2 arg3 harg3 arg4 harg4 arg5 harg5 arg6 harg6) K } := by
  refine ⟨?_, ?_, fun E K => ?run⟩
  case run =>
    simp only [cc0_mla_attention_eq_skeleton]; unfold cc0_mla_attention_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, HS0, Hk⟩
    obtain rfl := harg2.eq_unread hf0; obtain rfl := harg3.eq_unread hf1; obtain rfl := harg4.eq_unread hf2
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HS0

set_option maxHeartbeats 1000000 in
/-- The point whose number of earlier key blocks is even: the conditional takes its second side. -/
noncomputable def runEven (c : Dev nD) (i : grid0.Coords) (hc : ¬ k0_cond1 i = 1#1) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole)
    (x0 : Vec F S1x512x256 .bf16) (x1 : Vec F S8192x512 .bf16) (x2 : Vec F S32x256x256 .bf16) (s0 : BufTy.Contents (Elt F) arg6.view.ty) :
    Σ' (L3 : List (View.Piece (Elt F) S256x256 .bf16)), { LT0 : List (View.Piece (Elt F) S2x4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} s0)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) s0 LT0)) -∗ K ⟨⟩))
          ⊢ wp frame (wpE (defs₀ (F := F)) Variants.none c none) E (cc0_mla_attention i arg2 harg2 arg3 harg3 arg4 harg4 arg5 harg5 arg6 harg6) K } := by
  refine ⟨?_, ?_, fun E K => ?run⟩
  case run =>
    simp only [cc0_mla_attention_eq_skeleton]; unfold cc0_mla_attention_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, HS0, Hk⟩
    obtain rfl := harg2.eq_unread hf0; obtain rfl := harg3.eq_unread hf1; obtain rfl := harg4.eq_unread hf2
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HS0

end Cert.KernelIdeal.Att

end
-- ==== Proof.Spec.lean ====
/- The loop over pairs of key blocks, by values: what the kernel carries from trip to trip (for each of the four heads the column maxima of the scores
   waiting in the scratch, the running maximum and the running sums) as the fold of one softmax step over the key blocks passed so far. -/
module

public import proofs.«01_k».proof.Proof.Gen.KernelIdeal.Loops
public import Idealize.ShloMosaic.Lib.ValueIdxCore
public import Idealize.ShloMosaic.Lib.WholeRead
public import Idealize.ShloMosaic.Lib.Pipeline.ReadBack

@[expose] public section

set_option maxRecDepth 16384

noncomputable section

namespace Cert.KernelIdeal.Att

open Cert.KernelIdeal Cert.KernelIdeal.Gen
open Idealize.ShloMosaic Idealize.ShloMosaic.TcCoe Idealize.ShloMosaic.ValueIdx Idealize.ShloMosaic.Tactic

variable {F : FTy → Type} [FloatOps F] [Named F]

/-- Rows `128 h …` of the queries of one block: the queries of head `h`, one column per query. -/
def qT (x0 : Vec F S1x512x256 .bf16) (h : ℕ) : FVec F S128x256 .bf16 :=
  fun y => x0 (ix3 0 ⟨(128 * h + (y 0).val) % 512, Nat.mod_lt _ (by decide)⟩ (y 1))

/-- Key block `n` of head `h`, one row per key. -/
def kT (x1 : Vec F S8192x512 .bf16) (h n : ℕ) : FVec F S256x128 .bf16 :=
  fun y => x1 (ix2 ⟨(256 * n + (y 0).val) % 8192, Nat.mod_lt _ (by decide)⟩ ⟨(128 * h + (y 1).val) % 512, Nat.mod_lt _ (by decide)⟩)

/-- Value block `n` of head `h`, one column per key. -/
def vT (x2 : Vec F S32x256x256 .bf16) (h n : ℕ) : FVec F S64x256 .bf16 :=
  fun y => x2 (ix3 ⟨n % 32, Nat.mod_lt _ (by decide)⟩ ⟨(64 * h + (y 0).val) % 256, Nat.mod_lt _ (by decide)⟩ (y 1))

/-- The scores of one key block against one query block. -/
def dotS (k : FVec F S256x128 .bf16) (q : FVec F S128x256 .bf16) : FVec F S256x256 .f32 :=
  matmul dot_S256x128_S128x256_S256x256_1_0_0_1_n_n none k q (constant S256x256 .f32 0#32)

/-- The largest score of every column. -/
def smaxOf (s : FVec F S256x256 .f32) : FVec F S1x256 .f32 :=
  shapeCast S1x256 (multiReduction .maximumf [0] S256 s 4286578688#32 reduces_S256x256_S256 k0_pay22._proof_1 k0_pay22._proof_2) shapeCasts_S256_S1x256

/-- One softmax step of the running sums: the sums so far rescaled from the old maximum `m` to the new one `m'`, and the block's weighted values added;
    the ones under the values make the last sixteen rows the running sum of the weights. -/
def stepAcc (m m' : FVec F S1x256 .f32) (a : FVec F S80x256 .f32) (v : FVec F S64x256 .bf16) (s : FVec F S256x256 .f32) : FVec F S80x256 .f32 :=
  addf (mulf (broadcastTo S80x256 (exp2 (subf m m')) broadcasts_S1x256_S80x256) a)
    (matmul dot_S80x256_S256x256_S80x256_1_0_0_1_n_n none
      (concatenate S80x256 0 [⟨S64x256, v⟩, ⟨S16x256, broadcast S16x256 (FloatOps.ofBits .bf16 16256#16)⟩] concatenates_S64x256_S16x256_S80x256_d0)
      (truncf .bf16 (exp2 (subf s (broadcastTo S256x256 m' broadcasts_S1x256_S256x256))) bitsLt_bf16_f32) (constant S80x256 .f32 0#32))

/-- The running maximum after the first `n` blocks. -/
def mOf (sc : ℕ → FVec F S256x256 .f32) : ℕ → FVec F S1x256 .f32
  | 0 => k0_pay123
  | n + 1 => maximumf (mOf sc n) (smaxOf (sc n))

/-- The running sums after the first `n` blocks. -/
def accOf (sc : ℕ → FVec F S256x256 .f32) (v : ℕ → FVec F S64x256 .bf16) : ℕ → FVec F S80x256 .f32
  | 0 => k0_pay124
  | n + 1 => stepAcc (mOf sc n) (mOf sc (n + 1)) (accOf sc v n) (v n) (sc n)

/-- The scores of key block `n` of head `h`, whose queries are `q`. -/
def sc (x1 : Vec F S8192x512 .bf16) (q : FVec F S128x256 .bf16) (h : ℕ) : ℕ → FVec F S256x256 .f32 := fun n => dotS (kT x1 h n) q

/-- What the loop carries before block `n`, head by head. -/
@[reducible] def carry (x1 : Vec F S8192x512 .bf16) (x2 : Vec F S32x256x256 .bf16) (v1 v3 v5 v7 : FVec F S128x256 .bf16) (n : ℕ) :
    FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 :=
  (smaxOf (sc x1 v1 0 n), mOf (sc x1 v1 0) n, accOf (sc x1 v1 0) (vT x2 0) n,
   smaxOf (sc x1 v3 1 n), mOf (sc x1 v3 1) n, accOf (sc x1 v3 1) (vT x2 1) n,
   smaxOf (sc x1 v5 2 n), mOf (sc x1 v5 2) n, accOf (sc x1 v5 2) (vT x2 2) n,
   smaxOf (sc x1 v7 3 n), mOf (sc x1 v7 3) n, accOf (sc x1 v7 3) (vT x2 3) n)

/-- A square of scores as the scratch holds it. -/
abbrev park (s : FVec F S256x256 .f32) : FVec F S1x1x256x256 .f32 := shapeCast S1x1x256x256 s shapeCasts_S256x256_S1x1x256x256

/-- The first half of the scratch holds the scores of block `n`, head by head. -/
def Banks (arg6 : Memref sig .tc .vmem S2x4x256x256 .f32) (x1 : Vec F S8192x512 .bf16) (v1 v3 v5 v7 : FVec F S128x256 .bf16) (n : ℕ)
    (f : BufTy.Contents (Elt F) arg6.view.ty) : Prop :=
  View.readAt (Elt F) arg6.view (Rect.unit (s := S2x4x256x256) ![0, 0, 0, 0] S1x1x256x256.size inb_S2x4x256x256_S1x1x256x256_0_0_0_0).toLoadRect f = park (sc x1 v1 0 n) ∧
  View.readAt (Elt F) arg6.view (Rect.unit (s := S2x4x256x256) ![0, 1, 0, 0] S1x1x256x256.size inb_S2x4x256x256_S1x1x256x256_0_1_0_0).toLoadRect f = park (sc x1 v3 1 n) ∧
  View.readAt (Elt F) arg6.view (Rect.unit (s := S2x4x256x256) ![0, 2, 0, 0] S1x1x256x256.size inb_S2x4x256x256_S1x1x256x256_0_2_0_0).toLoadRect f = park (sc x1 v5 2 n) ∧
  View.readAt (Elt F) arg6.view (Rect.unit (s := S2x4x256x256) ![0, 3, 0, 0] S1x1x256x256.size inb_S2x4x256x256_S1x1x256x256_0_3_0_0).toLoadRect f = park (sc x1 v7 3 n)

/-- A load of a key block is the block. -/
theorem kT_load (arg3 : Memref sig .tc .vmem S8192x512 .bf16) (harg3 : arg3.IsWhole) (x1 : Vec F S8192x512 .bf16) (h n : ℕ) (hh : h < 4) (hn : n < 32)
    (off : Fin 2 → ℕ) (ho : off = ![256 * n, 128 * h]) (inb : ∀ a, off a + S256x128.size a ≤ S8192x512.size a) (hs : S256x128.ShapeCasts S256x128) :
    shapeCast S256x128 (View.readAt (Elt F) arg3.view (Rect.unit (s := S8192x512) off S256x128.size inb).toLoadRect (harg3.unread x1)) hs = kT x1 h n := by
  subst ho
  funext y
  refine (shapeCast_apply (s := S256x128) (t := S256x128) _ hs y y rfl).trans ?_
  rw [harg3.readAt_unread]
  unfold kT
  refine congrArg x1 (funext fun a => Fin.ext ?_)
  fin_cases a
  · show 256 * n + 1 * (y 0).val = (256 * n + (y 0).val) % 8192
    have := (y 0).isLt; change (y 0).val < 256 at this; omega
  · show 128 * h + 1 * (y 1).val = (128 * h + (y 1).val) % 512
    have := (y 1).isLt; change (y 1).val < 128 at this; omega

/-- A load of a value block is the block. -/
theorem vT_load (arg4 : Memref sig .tc .vmem S32x256x256 .bf16) (harg4 : arg4.IsWhole) (x2 : Vec F S32x256x256 .bf16) (h n : ℕ) (hh : h < 4) (hn : n < 32)
    (off : Fin 3 → ℕ) (ho : off = ![n, 64 * h, 0]) (inb : ∀ a, off a + S1x64x256.size a ≤ S32x256x256.size a) (hs : S1x64x256.ShapeCasts S64x256) :
    shapeCast S64x256 (View.readAt (Elt F) arg4.view (Rect.unit (s := S32x256x256) off S1x64x256.size inb).toLoadRect (harg4.unread x2)) hs = vT x2 h n := by
  subst ho
  funext y
  refine (shapeCast_apply (s := S1x64x256) (t := S64x256) _ hs y (ix3 0 (y 0) (y 1)) (by
    rw [Shape.rowMajor_val_three, Shape.rowMajor_val_two]
    simp [S1x64x256, S64x256])).trans ?_
  rw [harg4.readAt_unread]
  unfold vT
  refine congrArg x2 (funext fun a => Fin.ext ?_)
  fin_cases a
  · show n + 1 * 0 = n % 32
    omega
  · show 64 * h + 1 * (y 0).val = (64 * h + (y 0).val) % 256
    have := (y 0).isLt; change (y 0).val < 64 at this; omega
  · show 0 + 1 * (y 1).val = (y 1).val
    omega

/-- A load of a head's queries is those queries. -/
theorem qT_load (arg2 : Memref sig .tc .vmem S1x512x256 .bf16) (harg2 : arg2.IsWhole) (x0 : Vec F S1x512x256 .bf16) (h : ℕ) (hh : h < 4)
    (off : Fin 3 → ℕ) (ho : off = ![0, 128 * h, 0]) (inb : ∀ a, off a + S1x128x256.size a ≤ S1x512x256.size a) (hs : S1x128x256.ShapeCasts S128x256) :
    shapeCast S128x256 (View.readAt (Elt F) arg2.view (Rect.unit (s := S1x512x256) off S1x128x256.size inb).toLoadRect (harg2.unread x0)) hs = qT x0 h := by
  subst ho
  funext y
  refine (shapeCast_apply (s := S1x128x256) (t := S128x256) _ hs y (ix3 0 (y 0) (y 1)) (by
    rw [Shape.rowMajor_val_three, Shape.rowMajor_val_two]
    simp [S1x128x256, S128x256])).trans ?_
  rw [harg2.readAt_unread]
  unfold qT
  refine congrArg x0 (funext fun a => Fin.ext ?_)
  fin_cases a
  · rfl
  · show 128 * h + 1 * (y 0).val = (128 * h + (y 0).val) % 512
    have := (y 0).isLt; change (y 0).val < 128 at this; omega
  · show 0 + 1 * (y 1).val = (y 1).val
    omega

/-- The trips of the loop are fewer than sixteen. -/
theorem trip_lt (i : grid0.Coords) (k : Fin (k0_t1_loop i).trips) : k.val < 15 := Nat.lt_of_lt_of_le k.isLt (k0_t1_abs i).2.1

theorem off1_eq (i : grid0.Coords) (k : Fin (k0_t1_loop i).trips) : k0_off1 i k = ![256 * (2 * k.val + 1), 128 * 0] := by
  have hk := trip_lt i k
  unfold k0_off1
  generalize k.val = n at hk ⊢
  interval_cases n <;> rfl

theorem off2_eq (i : grid0.Coords) (k : Fin (k0_t1_loop i).trips) : k0_off2 i k = ![256 * (2 * k.val + 1), 128 * 1] := by
  have hk := trip_lt i k
  unfold k0_off2
  generalize k.val = n at hk ⊢
  interval_cases n <;> rfl

theorem off3_eq (i : grid0.Coords) (k : Fin (k0_t1_loop i).trips) : k0_off3 i k = ![256 * (2 * k.val + 1), 128 * 2] := by
  have hk := trip_lt i k
  unfold k0_off3
  generalize k.val = n at hk ⊢
  interval_cases n <;> rfl

theorem off4_eq (i : grid0.Coords) (k : Fin (k0_t1_loop i).trips) : k0_off4 i k = ![256 * (2 * k.val + 1), 128 * 3] := by
  have hk := trip_lt i k
  unfold k0_off4
  generalize k.val = n at hk ⊢
  interval_cases n <;> rfl

theorem off5_eq (i : grid0.Coords) (k : Fin (k0_t1_loop i).trips) : k0_off5 i k = ![2 * k.val, 64 * 0, 0] := by
  have hk := trip_lt i k
  unfold k0_off5
  generalize k.val = n at hk ⊢
  interval_cases n <;> rfl

theorem off6_eq (i : grid0.Coords) (k : Fin (k0_t1_loop i).trips) : k0_off6 i k = ![2 * k.val, 64 * 1, 0] := by
  have hk := trip_lt i k
  unfold k0_off6
  generalize k.val = n at hk ⊢
  interval_cases n <;> rfl

theorem off7_eq (i : grid0.Coords) (k : Fin (k0_t1_loop i).trips) : k0_off7 i k = ![2 * k.val, 64 * 2, 0] := by
  have hk := trip_lt i k
  unfold k0_off7
  generalize k.val = n at hk ⊢
  interval_cases n <;> rfl

theorem off8_eq (i : grid0.Coords) (k : Fin (k0_t1_loop i).trips) : k0_off8 i k = ![2 * k.val, 64 * 3, 0] := by
  have hk := trip_lt i k
  unfold k0_off8
  generalize k.val = n at hk ⊢
  interval_cases n <;> rfl

theorem off9_eq (i : grid0.Coords) (k : Fin (k0_t1_loop i).trips) : k0_off9 i k = ![256 * (2 * k.val + 2), 128 * 0] := by
  have hk := trip_lt i k
  unfold k0_off9
  generalize k.val = n at hk ⊢
  interval_cases n <;> rfl

theorem off10_eq (i : grid0.Coords) (k : Fin (k0_t1_loop i).trips) : k0_off10 i k = ![256 * (2 * k.val + 2), 128 * 1] := by
  have hk := trip_lt i k
  unfold k0_off10
  generalize k.val = n at hk ⊢
  interval_cases n <;> rfl

theorem off11_eq (i : grid0.Coords) (k : Fin (k0_t1_loop i).trips) : k0_off11 i k = ![256 * (2 * k.val + 2), 128 * 2] := by
  have hk := trip_lt i k
  unfold k0_off11
  generalize k.val = n at hk ⊢
  interval_cases n <;> rfl

theorem off12_eq (i : grid0.Coords) (k : Fin (k0_t1_loop i).trips) : k0_off12 i k = ![256 * (2 * k.val + 2), 128 * 3] := by
  have hk := trip_lt i k
  unfold k0_off12
  generalize k.val = n at hk ⊢
  interval_cases n <;> rfl

theorem off13_eq (i : grid0.Coords) (k : Fin (k0_t1_loop i).trips) : k0_off13 i k = ![2 * k.val + 1, 64 * 0, 0] := by
  have hk := trip_lt i k
  unfold k0_off13
  generalize k.val = n at hk ⊢
  interval_cases n <;> rfl

theorem off14_eq (i : grid0.Coords) (k : Fin (k0_t1_loop i).trips) : k0_off14 i k = ![2 * k.val + 1, 64 * 1, 0] := by
  have hk := trip_lt i k
  unfold k0_off14
  generalize k.val = n at hk ⊢
  interval_cases n <;> rfl

theorem off15_eq (i : grid0.Coords) (k : Fin (k0_t1_loop i).trips) : k0_off15 i k = ![2 * k.val + 1, 64 * 2, 0] := by
  have hk := trip_lt i k
  unfold k0_off15
  generalize k.val = n at hk ⊢
  interval_cases n <;> rfl

theorem off16_eq (i : grid0.Coords) (k : Fin (k0_t1_loop i).trips) : k0_off16 i k = ![2 * k.val + 1, 64 * 3, 0] := by
  have hk := trip_lt i k
  unfold k0_off16
  generalize k.val = n at hk ⊢
  interval_cases n <;> rfl

/-! ## One trip: the tiles it reads -/

theorem v210_eq (i : grid0.Coords) (k : Fin (k0_t1_loop i).trips) (arg3 : Memref sig .tc .vmem S8192x512 .bf16) (harg3 : arg3.IsWhole) (x1 : Vec F S8192x512 .bf16) :
    trip_k0_t1.sl.v210 i arg3 (harg3.unread x1) k = kT x1 0 (2 * k.val + 1) :=
  kT_load arg3 harg3 x1 0 (2 * k.val + 1) (by decide) (by have := trip_lt i k; omega) _ (off1_eq i k) _ _

theorem v321_eq (i : grid0.Coords) (k : Fin (k0_t1_loop i).trips) (arg3 : Memref sig .tc .vmem S8192x512 .bf16) (harg3 : arg3.IsWhole) (x1 : Vec F S8192x512 .bf16) :
    trip_k0_t1.sl.v321 i arg3 (harg3.unread x1) k = kT x1 0 (2 * k.val + 2) :=
  kT_load arg3 harg3 x1 0 (2 * k.val + 2) (by decide) (by have := trip_lt i k; omega) _ (off9_eq i k) _ _

theorem v228_eq (i : grid0.Coords) (k : Fin (k0_t1_loop i).trips) (arg4 : Memref sig .tc .vmem S32x256x256 .bf16) (harg4 : arg4.IsWhole) (x2 : Vec F S32x256x256 .bf16) :
    trip_k0_t1.sl.v228 i arg4 (harg4.unread x2) k = vT x2 0 (2 * k.val) :=
  vT_load arg4 harg4 x2 0 (2 * k.val) (by decide) (by have := trip_lt i k; omega) _ (off5_eq i k) _ _

theorem v339_eq (i : grid0.Coords) (k : Fin (k0_t1_loop i).trips) (arg4 : Memref sig .tc .vmem S32x256x256 .bf16) (harg4 : arg4.IsWhole) (x2 : Vec F S32x256x256 .bf16) :
    trip_k0_t1.sl.v339 i arg4 (harg4.unread x2) k = vT x2 0 (2 * k.val + 1) :=
  vT_load arg4 harg4 x2 0 (2 * k.val + 1) (by decide) (by have := trip_lt i k; omega) _ (off13_eq i k) _ _

theorem v225_eq (arg6 : Memref sig .tc .vmem S2x4x256x256 .f32) (f : BufTy.Contents (Elt F) arg6.view.ty) (s : FVec F S256x256 .f32)
    (hf : View.readAt (Elt F) arg6.view (Rect.unit (s := S2x4x256x256) ![0, 0, 0, 0] S1x1x256x256.size inb_S2x4x256x256_S1x1x256x256_0_0_0_0).toLoadRect f = park s) :
    trip_k0_t1.sl.v225 arg6 f = s := by
  unfold trip_k0_t1.sl.v225
  exact (congrArg (fun z => shapeCast S256x256 z shapeCasts_S1x1x256x256_S256x256) hf).trans (shapeCast_shapeCast s _ _)

theorem v336_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v336 i arg3 arg6 v1 v3 v5 v7 (harg3.unread x1) k = sc x1 v1 0 (2 * k.val + 1) := by
  unfold trip_k0_t1.sl.v336 trip_k0_t1.sl.v335 trip_k0_t1.sl.HW_arg6_4
  simp (disch := decide) only [↓ View.readCov_skip, ↓ View.readCov_cons_toLoadRect]
  refine (shapeCast_shapeCast (dotS (trip_k0_t1.sl.v210 i arg3 (harg3.unread x1) k) v1) _ _).trans ?_
  rw [v210_eq]; rfl

theorem v214_eq (i : grid0.Coords) (k : Fin (k0_t1_loop i).trips) (arg3 : Memref sig .tc .vmem S8192x512 .bf16) (harg3 : arg3.IsWhole) (x1 : Vec F S8192x512 .bf16) :
    trip_k0_t1.sl.v214 i arg3 (harg3.unread x1) k = kT x1 1 (2 * k.val + 1) :=
  kT_load arg3 harg3 x1 1 (2 * k.val + 1) (by decide) (by have := trip_lt i k; omega) _ (off2_eq i k) _ _

theorem v325_eq (i : grid0.Coords) (k : Fin (k0_t1_loop i).trips) (arg3 : Memref sig .tc .vmem S8192x512 .bf16) (harg3 : arg3.IsWhole) (x1 : Vec F S8192x512 .bf16) :
    trip_k0_t1.sl.v325 i arg3 (harg3.unread x1) k = kT x1 1 (2 * k.val + 2) :=
  kT_load arg3 harg3 x1 1 (2 * k.val + 2) (by decide) (by have := trip_lt i k; omega) _ (off10_eq i k) _ _

theorem v246_eq (i : grid0.Coords) (k : Fin (k0_t1_loop i).trips) (arg4 : Memref sig .tc .vmem S32x256x256 .bf16) (harg4 : arg4.IsWhole) (x2 : Vec F S32x256x256 .bf16) :
    trip_k0_t1.sl.v246 i arg4 (harg4.unread x2) k = vT x2 1 (2 * k.val) :=
  vT_load arg4 harg4 x2 1 (2 * k.val) (by decide) (by have := trip_lt i k; omega) _ (off6_eq i k) _ _

theorem v357_eq (i : grid0.Coords) (k : Fin (k0_t1_loop i).trips) (arg4 : Memref sig .tc .vmem S32x256x256 .bf16) (harg4 : arg4.IsWhole) (x2 : Vec F S32x256x256 .bf16) :
    trip_k0_t1.sl.v357 i arg4 (harg4.unread x2) k = vT x2 1 (2 * k.val + 1) :=
  vT_load arg4 harg4 x2 1 (2 * k.val + 1) (by decide) (by have := trip_lt i k; omega) _ (off14_eq i k) _ _

theorem v243_eq (arg6 : Memref sig .tc .vmem S2x4x256x256 .f32) (f : BufTy.Contents (Elt F) arg6.view.ty) (s : FVec F S256x256 .f32)
    (hf : View.readAt (Elt F) arg6.view (Rect.unit (s := S2x4x256x256) ![0, 1, 0, 0] S1x1x256x256.size inb_S2x4x256x256_S1x1x256x256_0_1_0_0).toLoadRect f = park s) :
    trip_k0_t1.sl.v243 arg6 f = s := by
  unfold trip_k0_t1.sl.v243
  exact (congrArg (fun z => shapeCast S256x256 z shapeCasts_S1x1x256x256_S256x256) hf).trans (shapeCast_shapeCast s _ _)

theorem v354_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v354 i arg3 arg6 v1 v3 v5 v7 (harg3.unread x1) k = sc x1 v3 1 (2 * k.val + 1) := by
  unfold trip_k0_t1.sl.v354 trip_k0_t1.sl.v353 trip_k0_t1.sl.HW_arg6_4
  simp (disch := decide) only [↓ View.readCov_skip, ↓ View.readCov_cons_toLoadRect]
  refine (shapeCast_shapeCast (dotS (trip_k0_t1.sl.v214 i arg3 (harg3.unread x1) k) v3) _ _).trans ?_
  rw [v214_eq]; rfl

theorem v218_eq (i : grid0.Coords) (k : Fin (k0_t1_loop i).trips) (arg3 : Memref sig .tc .vmem S8192x512 .bf16) (harg3 : arg3.IsWhole) (x1 : Vec F S8192x512 .bf16) :
    trip_k0_t1.sl.v218 i arg3 (harg3.unread x1) k = kT x1 2 (2 * k.val + 1) :=
  kT_load arg3 harg3 x1 2 (2 * k.val + 1) (by decide) (by have := trip_lt i k; omega) _ (off3_eq i k) _ _

theorem v329_eq (i : grid0.Coords) (k : Fin (k0_t1_loop i).trips) (arg3 : Memref sig .tc .vmem S8192x512 .bf16) (harg3 : arg3.IsWhole) (x1 : Vec F S8192x512 .bf16) :
    trip_k0_t1.sl.v329 i arg3 (harg3.unread x1) k = kT x1 2 (2 * k.val + 2) :=
  kT_load arg3 harg3 x1 2 (2 * k.val + 2) (by decide) (by have := trip_lt i k; omega) _ (off11_eq i k) _ _

theorem v264_eq (i : grid0.Coords) (k : Fin (k0_t1_loop i).trips) (arg4 : Memref sig .tc .vmem S32x256x256 .bf16) (harg4 : arg4.IsWhole) (x2 : Vec F S32x256x256 .bf16) :
    trip_k0_t1.sl.v264 i arg4 (harg4.unread x2) k = vT x2 2 (2 * k.val) :=
  vT_load arg4 harg4 x2 2 (2 * k.val) (by decide) (by have := trip_lt i k; omega) _ (off7_eq i k) _ _

theorem v375_eq (i : grid0.Coords) (k : Fin (k0_t1_loop i).trips) (arg4 : Memref sig .tc .vmem S32x256x256 .bf16) (harg4 : arg4.IsWhole) (x2 : Vec F S32x256x256 .bf16) :
    trip_k0_t1.sl.v375 i arg4 (harg4.unread x2) k = vT x2 2 (2 * k.val + 1) :=
  vT_load arg4 harg4 x2 2 (2 * k.val + 1) (by decide) (by have := trip_lt i k; omega) _ (off15_eq i k) _ _

theorem v261_eq (arg6 : Memref sig .tc .vmem S2x4x256x256 .f32) (f : BufTy.Contents (Elt F) arg6.view.ty) (s : FVec F S256x256 .f32)
    (hf : View.readAt (Elt F) arg6.view (Rect.unit (s := S2x4x256x256) ![0, 2, 0, 0] S1x1x256x256.size inb_S2x4x256x256_S1x1x256x256_0_2_0_0).toLoadRect f = park s) :
    trip_k0_t1.sl.v261 arg6 f = s := by
  unfold trip_k0_t1.sl.v261
  exact (congrArg (fun z => shapeCast S256x256 z shapeCasts_S1x1x256x256_S256x256) hf).trans (shapeCast_shapeCast s _ _)

theorem v372_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v372 i arg3 arg6 v1 v3 v5 v7 (harg3.unread x1) k = sc x1 v5 2 (2 * k.val + 1) := by
  unfold trip_k0_t1.sl.v372 trip_k0_t1.sl.v371 trip_k0_t1.sl.HW_arg6_4
  simp (disch := decide) only [↓ View.readCov_skip, ↓ View.readCov_cons_toLoadRect]
  refine (shapeCast_shapeCast (dotS (trip_k0_t1.sl.v218 i arg3 (harg3.unread x1) k) v5) _ _).trans ?_
  rw [v218_eq]; rfl

theorem v222_eq (i : grid0.Coords) (k : Fin (k0_t1_loop i).trips) (arg3 : Memref sig .tc .vmem S8192x512 .bf16) (harg3 : arg3.IsWhole) (x1 : Vec F S8192x512 .bf16) :
    trip_k0_t1.sl.v222 i arg3 (harg3.unread x1) k = kT x1 3 (2 * k.val + 1) :=
  kT_load arg3 harg3 x1 3 (2 * k.val + 1) (by decide) (by have := trip_lt i k; omega) _ (off4_eq i k) _ _

theorem v333_eq (i : grid0.Coords) (k : Fin (k0_t1_loop i).trips) (arg3 : Memref sig .tc .vmem S8192x512 .bf16) (harg3 : arg3.IsWhole) (x1 : Vec F S8192x512 .bf16) :
    trip_k0_t1.sl.v333 i arg3 (harg3.unread x1) k = kT x1 3 (2 * k.val + 2) :=
  kT_load arg3 harg3 x1 3 (2 * k.val + 2) (by decide) (by have := trip_lt i k; omega) _ (off12_eq i k) _ _

theorem v282_eq (i : grid0.Coords) (k : Fin (k0_t1_loop i).trips) (arg4 : Memref sig .tc .vmem S32x256x256 .bf16) (harg4 : arg4.IsWhole) (x2 : Vec F S32x256x256 .bf16) :
    trip_k0_t1.sl.v282 i arg4 (harg4.unread x2) k = vT x2 3 (2 * k.val) :=
  vT_load arg4 harg4 x2 3 (2 * k.val) (by decide) (by have := trip_lt i k; omega) _ (off8_eq i k) _ _

theorem v393_eq (i : grid0.Coords) (k : Fin (k0_t1_loop i).trips) (arg4 : Memref sig .tc .vmem S32x256x256 .bf16) (harg4 : arg4.IsWhole) (x2 : Vec F S32x256x256 .bf16) :
    trip_k0_t1.sl.v393 i arg4 (harg4.unread x2) k = vT x2 3 (2 * k.val + 1) :=
  vT_load arg4 harg4 x2 3 (2 * k.val + 1) (by decide) (by have := trip_lt i k; omega) _ (off16_eq i k) _ _

theorem v279_eq (arg6 : Memref sig .tc .vmem S2x4x256x256 .f32) (f : BufTy.Contents (Elt F) arg6.view.ty) (s : FVec F S256x256 .f32)
    (hf : View.readAt (Elt F) arg6.view (Rect.unit (s := S2x4x256x256) ![0, 3, 0, 0] S1x1x256x256.size inb_S2x4x256x256_S1x1x256x256_0_3_0_0).toLoadRect f = park s) :
    trip_k0_t1.sl.v279 arg6 f = s := by
  unfold trip_k0_t1.sl.v279
  exact (congrArg (fun z => shapeCast S256x256 z shapeCasts_S1x1x256x256_S256x256) hf).trans (shapeCast_shapeCast s _ _)

theorem v390_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v390 i arg3 arg6 v1 v3 v5 v7 (harg3.unread x1) k = sc x1 v7 3 (2 * k.val + 1) := by
  unfold trip_k0_t1.sl.v390 trip_k0_t1.sl.v389 trip_k0_t1.sl.HW_arg6_4
  simp (disch := decide) only [↓ View.readCov_skip, ↓ View.readCov_cons_toLoadRect]
  refine (shapeCast_shapeCast (dotS (trip_k0_t1.sl.v222 i arg3 (harg3.unread x1) k) v7) _ _).trans ?_
  rw [v222_eq]; rfl

/-! ## One trip: what it carries on -/

theorem smax0_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v420 i arg3 v1 (harg3.unread x1) k = smaxOf (sc x1 v1 0 (2 * k.val + 2)) := by
  show smaxOf (dotS (trip_k0_t1.sl.v321 i arg3 (harg3.unread x1) k) v1) = _
  rw [v321_eq]; rfl

theorem m0_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.1 = smaxOf (sc x1 v1 0 (2 * k.val))) (hm : a.2.1 = mOf (sc x1 v1 0) (2 * k.val)) :
    trip_k0_t1.sl.v340 i arg3 v1 (harg3.unread x1) k a = mOf (sc x1 v1 0) (2 * k.val + 2) := by
  have e : trip_k0_t1.sl.v340 i arg3 v1 (harg3.unread x1) k a = maximumf (maximumf a.2.1 a.1) (smaxOf (dotS (trip_k0_t1.sl.v210 i arg3 (harg3.unread x1) k) v1)) := rfl
  rw [e, v210_eq, hs, hm]; rfl

theorem acc0_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.1 = smaxOf (sc x1 v1 0 (2 * k.val))) (hm : a.2.1 = mOf (sc x1 v1 0) (2 * k.val)) (ha : a.2.2.1 = accOf (sc x1 v1 0) (vT x2 0) (2 * k.val))
    (f : BufTy.Contents (Elt F) arg6.view.ty) (hf : View.readAt (Elt F) arg6.view (Rect.unit (s := S2x4x256x256) ![0, 0, 0, 0] S1x1x256x256.size inb_S2x4x256x256_S1x1x256x256_0_0_0_0).toLoadRect f = park (sc x1 v1 0 (2 * k.val))) :
    trip_k0_t1.sl.v352 i arg3 arg4 arg6 v1 v3 v5 v7 (harg3.unread x1) (harg4.unread x2) k a f = accOf (sc x1 v1 0) (vT x2 0) (2 * k.val + 2) := by
  have e : trip_k0_t1.sl.v352 i arg3 arg4 arg6 v1 v3 v5 v7 (harg3.unread x1) (harg4.unread x2) k a f =
    stepAcc (maximumf a.2.1 a.1) (trip_k0_t1.sl.v340 i arg3 v1 (harg3.unread x1) k a)
    (stepAcc a.2.1 (maximumf a.2.1 a.1) a.2.2.1 (trip_k0_t1.sl.v228 i arg4 (harg4.unread x2) k) (trip_k0_t1.sl.v225 arg6 f))
    (trip_k0_t1.sl.v339 i arg4 (harg4.unread x2) k) (trip_k0_t1.sl.v336 i arg3 arg6 v1 v3 v5 v7 (harg3.unread x1) k) := rfl
  rw [e, m0_eq i k arg3 harg3 arg4 harg4 arg6 x1 x2 v1 v3 v5 v7 a hs hm, v228_eq, v339_eq, v225_eq arg6 f _ hf, v336_eq i k arg3 harg3 arg4 harg4 arg6 x1 x2, hs, hm, ha]; rfl

theorem smax1_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v422 i arg3 v3 (harg3.unread x1) k = smaxOf (sc x1 v3 1 (2 * k.val + 2)) := by
  show smaxOf (dotS (trip_k0_t1.sl.v325 i arg3 (harg3.unread x1) k) v3) = _
  rw [v325_eq]; rfl

theorem m1_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.2.2.2.1 = smaxOf (sc x1 v3 1 (2 * k.val))) (hm : a.2.2.2.2.1 = mOf (sc x1 v3 1) (2 * k.val)) :
    trip_k0_t1.sl.v358 i arg3 v3 (harg3.unread x1) k a = mOf (sc x1 v3 1) (2 * k.val + 2) := by
  have e : trip_k0_t1.sl.v358 i arg3 v3 (harg3.unread x1) k a = maximumf (maximumf a.2.2.2.2.1 a.2.2.2.1) (smaxOf (dotS (trip_k0_t1.sl.v214 i arg3 (harg3.unread x1) k) v3)) := rfl
  rw [e, v214_eq, hs, hm]; rfl

theorem acc1_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.2.2.2.1 = smaxOf (sc x1 v3 1 (2 * k.val))) (hm : a.2.2.2.2.1 = mOf (sc x1 v3 1) (2 * k.val)) (ha : a.2.2.2.2.2.1 = accOf (sc x1 v3 1) (vT x2 1) (2 * k.val))
    (f : BufTy.Contents (Elt F) arg6.view.ty) (hf : View.readAt (Elt F) arg6.view (Rect.unit (s := S2x4x256x256) ![0, 1, 0, 0] S1x1x256x256.size inb_S2x4x256x256_S1x1x256x256_0_1_0_0).toLoadRect f = park (sc x1 v3 1 (2 * k.val))) :
    trip_k0_t1.sl.v370 i arg3 arg4 arg6 v1 v3 v5 v7 (harg3.unread x1) (harg4.unread x2) k a f = accOf (sc x1 v3 1) (vT x2 1) (2 * k.val + 2) := by
  have e : trip_k0_t1.sl.v370 i arg3 arg4 arg6 v1 v3 v5 v7 (harg3.unread x1) (harg4.unread x2) k a f =
    stepAcc (maximumf a.2.2.2.2.1 a.2.2.2.1) (trip_k0_t1.sl.v358 i arg3 v3 (harg3.unread x1) k a)
    (stepAcc a.2.2.2.2.1 (maximumf a.2.2.2.2.1 a.2.2.2.1) a.2.2.2.2.2.1 (trip_k0_t1.sl.v246 i arg4 (harg4.unread x2) k) (trip_k0_t1.sl.v243 arg6 f))
    (trip_k0_t1.sl.v357 i arg4 (harg4.unread x2) k) (trip_k0_t1.sl.v354 i arg3 arg6 v1 v3 v5 v7 (harg3.unread x1) k) := rfl
  rw [e, m1_eq i k arg3 harg3 arg4 harg4 arg6 x1 x2 v1 v3 v5 v7 a hs hm, v246_eq, v357_eq, v243_eq arg6 f _ hf, v354_eq i k arg3 harg3 arg4 harg4 arg6 x1 x2, hs, hm, ha]; rfl

theorem smax2_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    trip_k0_t1.sl.v424 i arg3 v5 (harg3.unread x1) k = smaxOf (sc x1 v5 2 (2 * k.val + 2)) := by
  show smaxOf (dotS (trip_k0_t1.sl.v329 i arg3 (harg3.unread x1) k) v5) = _
  rw [v329_eq]; rfl

theorem m2_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.2.2.2.2.2.2.1 = smaxOf (sc x1 v5 2 (2 * k.val))) (hm : a.2.2.2.2.2.2.2.1 = mOf (sc x1 v5 2) (2 * k.val)) :
    trip_k0_t1.sl.v376 i arg3 v5 (harg3.unread x1) k a = mOf (sc x1 v5 2) (2 * k.val + 2) := by
  have e : trip_k0_t1.sl.v376 i arg3 v5 (harg3.unread x1) k a = maximumf (maximumf a.2.2.2.2.2.2.2.1 a.2.2.2.2.2.2.1) (smaxOf (dotS (trip_k0_t1.sl.v218 i arg3 (harg3.unread x1) k) v5)) := rfl
  rw [e, v218_eq, hs, hm]; rfl

theorem acc2_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.2.2.2.2.2.2.1 = smaxOf (sc x1 v5 2 (2 * k.val))) (hm : a.2.2.2.2.2.2.2.1 = mOf (sc x1 v5 2) (2 * k.val)) (ha : a.2.2.2.2.2.2.2.2.1 = accOf (sc x1 v5 2) (vT x2 2) (2 * k.val))
    (f : BufTy.Contents (Elt F) arg6.view.ty) (hf : View.readAt (Elt F) arg6.view (Rect.unit (s := S2x4x256x256) ![0, 2, 0, 0] S1x1x256x256.size inb_S2x4x256x256_S1x1x256x256_0_2_0_0).toLoadRect f = park (sc x1 v5 2 (2 * k.val))) :
    trip_k0_t1.sl.v388 i arg3 arg4 arg6 v1 v3 v5 v7 (harg3.unread x1) (harg4.unread x2) k a f = accOf (sc x1 v5 2) (vT x2 2) (2 * k.val + 2) := by
  have e : trip_k0_t1.sl.v388 i arg3 arg4 arg6 v1 v3 v5 v7 (harg3.unread x1) (harg4.unread x2) k a f =
    stepAcc (maximumf a.2.2.2.2.2.2.2.1 a.2.2.2.2.2.2.1) (trip_k0_t1.sl.v376 i arg3 v5 (harg3.unread x1) k a)
    (stepAcc a.2.2.2.2.2.2.2.1 (maximumf a.2.2.2.2.2.2.2.1 a.2.2.2.2.2.2.1) a.2.2.2.2.2.2.2.2.1 (trip_k0_t1.sl.v264 i arg4 (harg4.unread x2) k) (trip_k0_t1.sl.v261 arg6 f))
    (trip_k0_t1.sl.v375 i arg4 (harg4.unread x2) k) (trip_k0_t1.sl.v372 i arg3 arg6 v1 v3 v5 v7 (harg3.unread x1) k) := rfl
  rw [e, m2_eq i k arg3 harg3 arg4 harg4 arg6 x1 x2 v1 v3 v5 v7 a hs hm, v264_eq, v375_eq, v261_eq arg6 f _ hf, v372_eq i k arg3 harg3 arg4 harg4 arg6 x1 x2, hs, hm, ha]; rfl

theorem smax3_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16) :
    k0_pay131 (trip_k0_t1.sl.v425 i arg3 v7 (harg3.unread x1) k) = smaxOf (sc x1 v7 3 (2 * k.val + 2)) := by
  show smaxOf (dotS (trip_k0_t1.sl.v333 i arg3 (harg3.unread x1) k) v7) = _
  rw [v333_eq]; rfl

theorem m3_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.2.2.2.2.2.2.2.2.2.1 = smaxOf (sc x1 v7 3 (2 * k.val))) (hm : a.2.2.2.2.2.2.2.2.2.2.1 = mOf (sc x1 v7 3) (2 * k.val)) :
    trip_k0_t1.sl.v394 i arg3 v7 (harg3.unread x1) k a = mOf (sc x1 v7 3) (2 * k.val + 2) := by
  have e : trip_k0_t1.sl.v394 i arg3 v7 (harg3.unread x1) k a = maximumf (maximumf a.2.2.2.2.2.2.2.2.2.2.1 a.2.2.2.2.2.2.2.2.2.1) (smaxOf (dotS (trip_k0_t1.sl.v222 i arg3 (harg3.unread x1) k) v7)) := rfl
  rw [e, v222_eq, hs, hm]; rfl

theorem acc3_eq (i : grid0.Coords) (k : Fin (k0_t1_loop i).trips) (arg3 : Memref sig .tc .vmem S8192x512 .bf16) (harg3 : arg3.IsWhole) (arg4 : Memref sig .tc .vmem S32x256x256 .bf16) (harg4 : arg4.IsWhole) (arg6 : Memref sig .tc .vmem S2x4x256x256 .f32) (x1 : Vec F S8192x512 .bf16) (x2 : Vec F S32x256x256 .bf16) (v1 v3 v5 v7 : FVec F S128x256 .bf16)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) (hs : a.2.2.2.2.2.2.2.2.2.1 = smaxOf (sc x1 v7 3 (2 * k.val))) (hm : a.2.2.2.2.2.2.2.2.2.2.1 = mOf (sc x1 v7 3) (2 * k.val)) (ha : a.2.2.2.2.2.2.2.2.2.2.2 = accOf (sc x1 v7 3) (vT x2 3) (2 * k.val))
    (f : BufTy.Contents (Elt F) arg6.view.ty) (hf : View.readAt (Elt F) arg6.view (Rect.unit (s := S2x4x256x256) ![0, 3, 0, 0] S1x1x256x256.size inb_S2x4x256x256_S1x1x256x256_0_3_0_0).toLoadRect f = park (sc x1 v7 3 (2 * k.val))) :
    trip_k0_t1.sl.v406 i arg3 arg4 arg6 v1 v3 v5 v7 (harg3.unread x1) (harg4.unread x2) k a f = accOf (sc x1 v7 3) (vT x2 3) (2 * k.val + 2) := by
  have e : trip_k0_t1.sl.v406 i arg3 arg4 arg6 v1 v3 v5 v7 (harg3.unread x1) (harg4.unread x2) k a f =
    stepAcc (maximumf a.2.2.2.2.2.2.2.2.2.2.1 a.2.2.2.2.2.2.2.2.2.1) (trip_k0_t1.sl.v394 i arg3 v7 (harg3.unread x1) k a)
    (stepAcc a.2.2.2.2.2.2.2.2.2.2.1 (maximumf a.2.2.2.2.2.2.2.2.2.2.1 a.2.2.2.2.2.2.2.2.2.1) a.2.2.2.2.2.2.2.2.2.2.2 (trip_k0_t1.sl.v282 i arg4 (harg4.unread x2) k) (trip_k0_t1.sl.v279 arg6 f))
    (trip_k0_t1.sl.v393 i arg4 (harg4.unread x2) k) (trip_k0_t1.sl.v390 i arg3 arg6 v1 v3 v5 v7 (harg3.unread x1) k) := rfl
  rw [e, m3_eq i k arg3 harg3 arg4 harg4 arg6 x1 x2 v1 v3 v5 v7 a hs hm, v282_eq, v393_eq, v279_eq arg6 f _ hf, v390_eq i k arg3 harg3 arg4 harg4 arg6 x1 x2, hs, hm, ha]; rfl

theorem tripR_eq (𝒱 : Variants) (c : Dev nD) (bd : Option 𝒱.V) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (arg1 : BitVec 32) (v1 : FVec F S128x256 .bf16) (v3 : FVec F S128x256 .bf16) (v5 : FVec F S128x256 .bf16) (v7 : FVec F S128x256 .bf16) (v10 : IVec S256x256 1) (v41 : FVec F S1x256 .f32) (v43 : FVec F S1x256 .f32) (v45 : FVec F S1x256 .f32) (v47 : FVec F S1x256 .f32) (v48 : FVec F S1x256 .f32) (v49 : FVec F S80x256 .f32) (v50 : FVec F S1x256 .f32) (v51 : FVec F S80x256 .f32) (v52 : FVec F S1x256 .f32) (v53 : FVec F S80x256 .f32) (v54 : FVec F S1x256 .f32) (v55 : FVec F S80x256 .f32) (c2_i32 : BitVec 32) (v56 : BitVec 32) (v61 : BitVec 32)  (x1 : Vec F S8192x512 .bf16) (x2 : Vec F S32x256x256 .bf16) (k : Fin (k0_t1_loop i).trips)
    (f : BufTy.Contents (Elt F) arg6.view.ty) (hf : Banks arg6 x1 v1 v3 v5 v7 (2 * k.val) f) :
    tripR_k0_t1 (F := F) 𝒱 c bd i arg2 harg2 arg3 harg3 arg4 harg4 arg5 harg5 arg6 harg6 arg1 v1 v3 v5 v7 v10 v41 v43 v45 v47 v48 v49 v50 v51 v52 v53 v54 v55 c2_i32 v56 v61 (harg3.unread x1) (harg4.unread x2) k (carry x1 x2 v1 v3 v5 v7 (2 * k.val)) f = carry x1 x2 v1 v3 v5 v7 (2 * k.val + 2) := by
  unfold tripR_k0_t1 trip_k0_t1
  dsimp only
  have h1 := hf.1; have h2 := hf.2.1; have h3 := hf.2.2.1; have h4 := hf.2.2.2
  rw [smax0_eq i k arg3 harg3 arg4 harg4 arg6 x1 x2 v1 v3 v5 v7,
    m0_eq i k arg3 harg3 arg4 harg4 arg6 x1 x2 v1 v3 v5 v7 (carry x1 x2 v1 v3 v5 v7 (2 * k.val)) (by dsimp only) (by dsimp only),
    acc0_eq i k arg3 harg3 arg4 harg4 arg6 x1 x2 v1 v3 v5 v7 (carry x1 x2 v1 v3 v5 v7 (2 * k.val)) (by dsimp only) (by dsimp only) (by dsimp only) f h1,
    smax1_eq i k arg3 harg3 arg4 harg4 arg6 x1 x2 v1 v3 v5 v7,
    m1_eq i k arg3 harg3 arg4 harg4 arg6 x1 x2 v1 v3 v5 v7 (carry x1 x2 v1 v3 v5 v7 (2 * k.val)) (by dsimp only) (by dsimp only),
    acc1_eq i k arg3 harg3 arg4 harg4 arg6 x1 x2 v1 v3 v5 v7 (carry x1 x2 v1 v3 v5 v7 (2 * k.val)) (by dsimp only) (by dsimp only) (by dsimp only) f h2,
    smax2_eq i k arg3 harg3 arg4 harg4 arg6 x1 x2 v1 v3 v5 v7,
    m2_eq i k arg3 harg3 arg4 harg4 arg6 x1 x2 v1 v3 v5 v7 (carry x1 x2 v1 v3 v5 v7 (2 * k.val)) (by dsimp only) (by dsimp only),
    acc2_eq i k arg3 harg3 arg4 harg4 arg6 x1 x2 v1 v3 v5 v7 (carry x1 x2 v1 v3 v5 v7 (2 * k.val)) (by dsimp only) (by dsimp only) (by dsimp only) f h3,
    smax3_eq i k arg3 harg3 arg4 harg4 arg6 x1 x2 v1 v3 v5 v7,
    m3_eq i k arg3 harg3 arg4 harg4 arg6 x1 x2 v1 v3 v5 v7 (carry x1 x2 v1 v3 v5 v7 (2 * k.val)) (by dsimp only) (by dsimp only),
    acc3_eq i k arg3 harg3 arg4 harg4 arg6 x1 x2 v1 v3 v5 v7 (carry x1 x2 v1 v3 v5 v7 (2 * k.val)) (by dsimp only) (by dsimp only) (by dsimp only) f h4]

theorem tripL_banks (𝒱 : Variants) (c : Dev nD) (bd : Option 𝒱.V) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (arg1 : BitVec 32) (v1 : FVec F S128x256 .bf16) (v3 : FVec F S128x256 .bf16) (v5 : FVec F S128x256 .bf16) (v7 : FVec F S128x256 .bf16) (v10 : IVec S256x256 1) (v41 : FVec F S1x256 .f32) (v43 : FVec F S1x256 .f32) (v45 : FVec F S1x256 .f32) (v47 : FVec F S1x256 .f32) (v48 : FVec F S1x256 .f32) (v49 : FVec F S80x256 .f32) (v50 : FVec F S1x256 .f32) (v51 : FVec F S80x256 .f32) (v52 : FVec F S1x256 .f32) (v53 : FVec F S80x256 .f32) (v54 : FVec F S1x256 .f32) (v55 : FVec F S80x256 .f32) (c2_i32 : BitVec 32) (v56 : BitVec 32) (v61 : BitVec 32)  (x1 : Vec F S8192x512 .bf16) (x2 : Vec F S32x256x256 .bf16) (k : Fin (k0_t1_loop i).trips)
    (a : FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32)
    (f f' : BufTy.Contents (Elt F) arg6.view.ty) :
    Banks arg6 x1 v1 v3 v5 v7 (2 * k.val + 2) (arg6.view.writes (Elt F) f' (tripL_k0_t1 (F := F) 𝒱 c bd i arg2 harg2 arg3 harg3 arg4 harg4 arg5 harg5 arg6 harg6 arg1 v1 v3 v5 v7 v10 v41 v43 v45 v47 v48 v49 v50 v51 v52 v53 v54 v55 c2_i32 v56 v61 (harg3.unread x1) (harg4.unread x2) k a f)) := by
  unfold tripL_k0_t1 trip_k0_t1
  dsimp only
  refine ⟨?_, ?_, ?_, ?_⟩

  · rw [View.readAt_writes_of_cover _ _ _ _ (LoadRect.cover_of_covChk _ _ (.leaf 3) (by sl_kernel_rfl))]
    simp (disch := decide) only [↓ View.readCov_skip, ↓ View.readCov_cons_toLoadRect]
    show park (dotS (trip_k0_t1.sl.v321 i arg3 (harg3.unread x1) k) v1) = _
    rw [v321_eq]; rfl
  · rw [View.readAt_writes_of_cover _ _ _ _ (LoadRect.cover_of_covChk _ _ (.leaf 2) (by sl_kernel_rfl))]
    simp (disch := decide) only [↓ View.readCov_skip, ↓ View.readCov_cons_toLoadRect]
    show park (dotS (trip_k0_t1.sl.v325 i arg3 (harg3.unread x1) k) v3) = _
    rw [v325_eq]; rfl
  · rw [View.readAt_writes_of_cover _ _ _ _ (LoadRect.cover_of_covChk _ _ (.leaf 1) (by sl_kernel_rfl))]
    simp (disch := decide) only [↓ View.readCov_skip, ↓ View.readCov_cons_toLoadRect]
    show park (dotS (trip_k0_t1.sl.v329 i arg3 (harg3.unread x1) k) v5) = _
    rw [v329_eq]; rfl
  · rw [View.readAt_writes_of_cover _ _ _ _ (LoadRect.cover_of_covChk _ _ (.leaf 0) (by sl_kernel_rfl))]
    simp (disch := decide) only [↓ View.readCov_skip, ↓ View.readCov_cons_toLoadRect]
    show park (dotS (trip_k0_t1.sl.v333 i arg3 (harg3.unread x1) k) v7) = _
    rw [v333_eq]; rfl

/-- Before trip `k` the loop carries the fold over the first `2 k` key blocks, and the scratch holds the scores of block `2 k`. -/
theorem st_eq (𝒱 : Variants) (c : Dev nD) (bd : Option 𝒱.V) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (arg1 : BitVec 32) (v1 : FVec F S128x256 .bf16) (v3 : FVec F S128x256 .bf16) (v5 : FVec F S128x256 .bf16) (v7 : FVec F S128x256 .bf16) (v10 : IVec S256x256 1) (v41 : FVec F S1x256 .f32) (v43 : FVec F S1x256 .f32) (v45 : FVec F S1x256 .f32) (v47 : FVec F S1x256 .f32) (v48 : FVec F S1x256 .f32) (v49 : FVec F S80x256 .f32) (v50 : FVec F S1x256 .f32) (v51 : FVec F S80x256 .f32) (v52 : FVec F S1x256 .f32) (v53 : FVec F S80x256 .f32) (v54 : FVec F S1x256 .f32) (v55 : FVec F S80x256 .f32) (c2_i32 : BitVec 32) (v56 : BitVec 32) (v61 : BitVec 32)  (x1 : Vec F S8192x512 .bf16) (x2 : Vec F S32x256x256 .bf16) (f : BufTy.Contents (Elt F) arg6.view.ty) (hf : Banks arg6 x1 v1 v3 v5 v7 0 f)
    (k : ℕ) (hk : k ≤ (k0_t1_loop i).trips) :
    (st_k0_t1 (F := F) 𝒱 c bd i arg2 harg2 arg3 harg3 arg4 harg4 arg5 harg5 arg6 harg6 arg1 v1 v3 v5 v7 v10 v41 v43 v45 v47 v48 v49 v50 v51 v52 v53 v54 v55 c2_i32 v56 v61 (harg3.unread x1) (harg4.unread x2) f (carry x1 x2 v1 v3 v5 v7 0) k).1 = carry x1 x2 v1 v3 v5 v7 (2 * k) ∧
    Banks arg6 x1 v1 v3 v5 v7 (2 * k) (arg6.view.writes (Elt F) f (st_k0_t1 (F := F) 𝒱 c bd i arg2 harg2 arg3 harg3 arg4 harg4 arg5 harg5 arg6 harg6 arg1 v1 v3 v5 v7 v10 v41 v43 v45 v47 v48 v49 v50 v51 v52 v53 v54 v55 c2_i32 v56 v61 (harg3.unread x1) (harg4.unread x2) f (carry x1 x2 v1 v3 v5 v7 0) k).2) := by
  induction k with
  | zero => exact ⟨rfl, hf⟩
  | succ k ih =>
    obtain ⟨e, hb⟩ := ih (by omega)
    have h := st_k0_t1_succ (F := F) 𝒱 c bd i arg2 harg2 arg3 harg3 arg4 harg4 arg5 harg5 arg6 harg6 arg1 v1 v3 v5 v7 v10 v41 v43 v45 v47 v48 v49 v50 v51 v52 v53 v54 v55 c2_i32 v56 v61 (harg3.unread x1) (harg4.unread x2) f (carry x1 x2 v1 v3 v5 v7 0) ⟨k, hk⟩
    dsimp only at h
    rw [h]
    refine ⟨?_, ?_⟩
    · dsimp only
      rw [e]
      exact tripR_eq 𝒱 c bd i arg2 harg2 arg3 harg3 arg4 harg4 arg5 harg5 arg6 harg6 arg1 v1 v3 v5 v7 v10 v41 v43 v45 v47 v48 v49 v50 v51 v52 v53 v54 v55 c2_i32 v56 v61 x1 x2 ⟨k, hk⟩ _ hb
    · dsimp only
      rw [View.writes_append]
      exact tripL_banks 𝒱 c bd i arg2 harg2 arg3 harg3 arg4 harg4 arg5 harg5 arg6 harg6 arg1 v1 v3 v5 v7 v10 v41 v43 v45 v47 v48 v49 v50 v51 v52 v53 v54 v55 c2_i32 v56 v61 x1 x2 ⟨k, hk⟩ _ _ _

end Cert.KernelIdeal.Att

end
-- ==== Proof.Tile.lean ====
/- One grid point of the attention kernel, by value: what either side of the conditional leaves in the result's staging buffer is the softmax fold
   over the key blocks before the query block, closed by the masked diagonal block, whatever the scratch held. -/
module

public import proofs.«01_k».proof.Proof.RunIdeal
public import proofs.«01_k».proof.Proof.Spec

@[expose] public section

set_option maxRecDepth 16384

noncomputable section

namespace Cert.KernelIdeal.Att

open Cert.KernelIdeal Cert.KernelIdeal.Gen
open Idealize.ShloMosaic Idealize.ShloMosaic.TcCoe Idealize.ShloMosaic.ValueIdx Idealize.ShloMosaic.Tactic

variable {F : FTy → Type} [FloatOps F] [Named F]

/-- The scores of the diagonal block: a key after its query is masked away. -/
def maskS (s : FVec F S256x256 .f32) : FVec F S256x256 .f32 :=
  select k0_pay110 s (broadcast S256x256 (Named.named κ "mask" 0xf149f2ca#32))

/-- The last softmax step of one head, and its quotient: the running sums of the weighted values over the running sum of the weights. -/
def fin (m : FVec F S1x256 .f32) (a : FVec F S80x256 .f32) (v : FVec F S64x256 .bf16) (s : FVec F S256x256 .f32) : FVec F S64x256 .f32 :=
  divf (extractStridedSlice S64x256 ![0, 0] (stepAcc m (maximumf m (smaxOf (maskS s))) a v (maskS s)) slices_S80x256_o0_0_S64x256)
    (broadcastTo S64x256 (extractStridedSlice S1x256 ![64, 0] (stepAcc m (maximumf m (smaxOf (maskS s))) a v (maskS s)) slices_S80x256_o64_0_S1x256)
      broadcasts_S1x256_S64x256)

/-- The four heads one under the other, transposed and rounded. -/
def heads (a b c d : FVec F S64x256 .f32) : FVec F S256x256 .bf16 :=
  truncf .bf16 (transpose S256x256 [1, 0]
    (concatenate S256x256 0 [⟨S64x256, a⟩, ⟨S64x256, b⟩, ⟨S64x256, c⟩, ⟨S64x256, d⟩] concatenates_S64x256_S64x256_S64x256_S64x256_S256x256_d0)
    transposes_S256x256_p1_0_S256x256) bitsLt_bf16_f32

/-- What one head of query block `n` comes to. -/
def headOut (x0 : Vec F S1x512x256 .bf16) (x1 : Vec F S8192x512 .bf16) (x2 : Vec F S32x256x256 .bf16) (h n : ℕ) : FVec F S64x256 .f32 :=
  fin (mOf (sc x1 (qT x0 h) h) n) (accOf (sc x1 (qT x0 h) h) (vT x2 h) n) (vT x2 h n) (sc x1 (qT x0 h) h n)

/-- What query block `n` comes to. -/
def outTile (x0 : Vec F S1x512x256 .bf16) (x1 : Vec F S8192x512 .bf16) (x2 : Vec F S32x256x256 .bf16) (n : ℕ) : FVec F S256x256 .bf16 :=
  heads (headOut x0 x1 x2 0 n) (headOut x0 x1 x2 1 n) (headOut x0 x1 x2 2 n) (headOut x0 x1 x2 3 n)

/-- The step over one further key block, folded into the running maximum and the running sums. -/
theorem fin_step (x0 : Vec F S1x512x256 .bf16) (x1 : Vec F S8192x512 .bf16) (x2 : Vec F S32x256x256 .bf16) (h n : ℕ) :
    fin (maximumf (mOf (sc x1 (qT x0 h) h) n) (smaxOf (sc x1 (qT x0 h) h n)))
      (stepAcc (mOf (sc x1 (qT x0 h) h) n) (maximumf (mOf (sc x1 (qT x0 h) h) n) (smaxOf (sc x1 (qT x0 h) h n)))
        (accOf (sc x1 (qT x0 h) h) (vT x2 h) n) (vT x2 h n) (sc x1 (qT x0 h) h n))
      (vT x2 h (n + 1)) (sc x1 (qT x0 h) h (n + 1)) = headOut x0 x1 x2 h (n + 1) := by
  unfold headOut
  rw [accOf, mOf]

/-! ## The grid's arithmetic -/

theorem trips_eq : ∀ i : grid0.Coords, Scf.trips (k0_t1_loop i).lb (k0_t1_loop i).ub (k0_t1_loop i).st = (i 1).val / 2 := by decide +kernel

theorem trips2_eq (i : grid0.Coords) : Scf.trips (k0_t2_loop i).lb (k0_t2_loop i).ub (k0_t2_loop i).st = 0 := Nat.le_zero.mp (k0_t2_abs i).2.1

theorem odd_of : ∀ i : grid0.Coords, k0_cond1 i = 1#1 → (i 1).val = 2 * ((i 1).val / 2) + 1 := by decide +kernel

theorem even_of : ∀ i : grid0.Coords, ¬ k0_cond1 i = 1#1 → (i 1).val = 2 * ((i 1).val / 2) := by decide +kernel

theorem qblk_lt (i : grid0.Coords) : (i 1).val < 32 := (i 1).isLt

theorem off37_eq : ∀ i : grid0.Coords, k0_cond1 i = 1#1 → k0_off37 i = ![2 * ((i 1).val / 2), 64 * 0, 0] := by decide +kernel

theorem off38_eq : ∀ i : grid0.Coords, k0_cond1 i = 1#1 → k0_off38 i = ![2 * ((i 1).val / 2), 64 * 1, 0] := by decide +kernel

theorem off39_eq : ∀ i : grid0.Coords, k0_cond1 i = 1#1 → k0_off39 i = ![2 * ((i 1).val / 2), 64 * 2, 0] := by decide +kernel

theorem off40_eq : ∀ i : grid0.Coords, k0_cond1 i = 1#1 → k0_off40 i = ![2 * ((i 1).val / 2), 64 * 3, 0] := by decide +kernel

/-! ## The two loops' results -/

/-- The scores of key block 0, parked before the loop. -/
def parked0 (arg2 : Memref sig .tc .vmem S1x512x256 .bf16) (harg2 : arg2.IsWhole) (arg3 : Memref sig .tc .vmem S8192x512 .bf16) (harg3 : arg3.IsWhole) (x0 : Vec F S1x512x256 .bf16) (x1 : Vec F S8192x512 .bf16) : List (View.Piece (Elt F) S2x4x256x256 .f32) :=
  [⟨(Rect.unit (s := S2x4x256x256) ![0, 3, 0, 0] S1x1x256x256.size inb_S2x4x256x256_S1x1x256x256_0_3_0_0), k0_pay118 (k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1)))⟩, ⟨(Rect.unit (s := S2x4x256x256) ![0, 2, 0, 0] S1x1x256x256.size inb_S2x4x256x256_S1x1x256x256_0_2_0_0), k0_pay117 (k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1)))⟩,
    ⟨(Rect.unit (s := S2x4x256x256) ![0, 1, 0, 0] S1x1x256x256.size inb_S2x4x256x256_S1x1x256x256_0_1_0_0), k0_pay116 (k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1)))⟩, ⟨(Rect.unit (s := S2x4x256x256) ![0, 0, 0, 0] S1x1x256x256.size inb_S2x4x256x256_S1x1x256x256_0_0_0_0), k0_pay115 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1))⟩]

/-- The loop's carry, and what it wrote to the scratch, after all its trips. -/
def T1 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) :
    (FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) × List (View.Piece (Elt F) S2x4x256x256 .f32) :=
  st_k0_t1 Variants.none c none i arg2 harg2 arg3 harg3 arg4 harg4 arg5 harg5 arg6 harg6 (BitVec.ofNat 32 (i 1).val)
    (k0_pay106 (View.readAt (Elt F) arg2.view (Rect.unit (s := S1x512x256) ![0, 0, 0] S1x128x256.size inb_S1x512x256_S1x128x256_0_0_0).toLoadRect (harg2.unread x0))) (k0_pay107 (View.readAt (Elt F) arg2.view (Rect.unit (s := S1x512x256) ![0, 128, 0] S1x128x256.size inb_S1x512x256_S1x128x256_0_128_0).toLoadRect (harg2.unread x0))) (k0_pay108 (View.readAt (Elt F) arg2.view (Rect.unit (s := S1x512x256) ![0, 256, 0] S1x128x256.size inb_S1x512x256_S1x128x256_0_256_0).toLoadRect (harg2.unread x0))) (k0_pay109 (View.readAt (Elt F) arg2.view (Rect.unit (s := S1x512x256) ![0, 384, 0] S1x128x256.size inb_S1x512x256_S1x128x256_0_384_0).toLoadRect (harg2.unread x0))) k0_pay110
    (k0_pay119 (k0_pay111 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1))))
    (k0_pay120 (k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1))))
    (k0_pay121 (k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1))))
    (k0_pay122 (k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1))))
    k0_pay123 k0_pay124 k0_pay125 k0_pay126 k0_pay127 k0_pay128 k0_pay129 k0_pay130 2#32 (runEven.sl.v56 i) (runEven.sl.v61 i) (harg3.unread x1) (harg4.unread x2)
    (arg6.view.writes (Elt F) s0 (parked0 arg2 harg2 arg3 harg3 x0 x1))
    ((k0_pay119 (k0_pay111 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1)))), k0_pay123, k0_pay124, (k0_pay120 (k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1)))), k0_pay125, k0_pay126,
      (k0_pay121 (k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1)))), k0_pay127, k0_pay128, (k0_pay122 (k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1)))), k0_pay129, k0_pay130)
    (Scf.trips (k0_t1_loop i).lb (k0_t1_loop i).ub (k0_t1_loop i).st)

/-- The same after the loop for the trips left over, of which there are none. -/
def T2 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) :
    (FVec F S1x256 .f32 × FVec F S1x256 .f32 × FVec F S80x256 .f32 × FVec F S1x256 .f32 × FVec F S1x256 .f32 × FVec F S80x256 .f32 × FVec F S1x256 .f32 × FVec F S1x256 .f32 × FVec F S80x256 .f32 × FVec F S1x256 .f32 × FVec F S1x256 .f32 × FVec F S80x256 .f32) × List (View.Piece (Elt F) S2x4x256x256 .f32) :=
  st_k0_t2 Variants.none c none i arg2 harg2 arg3 harg3 arg4 harg4 arg5 harg5 arg6 harg6 (BitVec.ofNat 32 (i 1).val)
    (k0_pay106 (View.readAt (Elt F) arg2.view (Rect.unit (s := S1x512x256) ![0, 0, 0] S1x128x256.size inb_S1x512x256_S1x128x256_0_0_0).toLoadRect (harg2.unread x0))) (k0_pay107 (View.readAt (Elt F) arg2.view (Rect.unit (s := S1x512x256) ![0, 128, 0] S1x128x256.size inb_S1x512x256_S1x128x256_0_128_0).toLoadRect (harg2.unread x0))) (k0_pay108 (View.readAt (Elt F) arg2.view (Rect.unit (s := S1x512x256) ![0, 256, 0] S1x128x256.size inb_S1x512x256_S1x128x256_0_256_0).toLoadRect (harg2.unread x0))) (k0_pay109 (View.readAt (Elt F) arg2.view (Rect.unit (s := S1x512x256) ![0, 384, 0] S1x128x256.size inb_S1x512x256_S1x128x256_0_384_0).toLoadRect (harg2.unread x0))) k0_pay110
    (k0_pay119 (k0_pay111 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1))))
    (k0_pay120 (k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1))))
    (k0_pay121 (k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1))))
    (k0_pay122 (k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1))))
    k0_pay123 k0_pay124 k0_pay125 k0_pay126 k0_pay127 k0_pay128 k0_pay129 k0_pay130 2#32 (runEven.sl.v56 i) (runEven.sl.v61 i) (runEven.sl.v77 i) (harg3.unread x1) (harg4.unread x2)
    (arg6.view.writes (Elt F) s0 ((T1 c i arg2 harg2 arg3 harg3 arg4 harg4 arg5 harg5 arg6 harg6 x0 x1 x2 s0).2 ++ parked0 arg2 harg2 arg3 harg3 x0 x1))
    ((T1 c i arg2 harg2 arg3 harg3 arg4 harg4 arg5 harg5 arg6 harg6 x0 x1 x2 s0).1.1, (T1 c i arg2 harg2 arg3 harg3 arg4 harg4 arg5 harg5 arg6 harg6 x0 x1 x2 s0).1.2.1, (T1 c i arg2 harg2 arg3 harg3 arg4 harg4 arg5 harg5 arg6 harg6 x0 x1 x2 s0).1.2.2.1, (T1 c i arg2 harg2 arg3 harg3 arg4 harg4 arg5 harg5 arg6 harg6 x0 x1 x2 s0).1.2.2.2.1, (T1 c i arg2 harg2 arg3 harg3 arg4 harg4 arg5 harg5 arg6 harg6 x0 x1 x2 s0).1.2.2.2.2.1, (T1 c i arg2 harg2 arg3 harg3 arg4 harg4 arg5 harg5 arg6 harg6 x0 x1 x2 s0).1.2.2.2.2.2.1, (T1 c i arg2 harg2 arg3 harg3 arg4 harg4 arg5 harg5 arg6 harg6 x0 x1 x2 s0).1.2.2.2.2.2.2.1, (T1 c i arg2 harg2 arg3 harg3 arg4 harg4 arg5 harg5 arg6 harg6 x0 x1 x2 s0).1.2.2.2.2.2.2.2.1, (T1 c i arg2 harg2 arg3 harg3 arg4 harg4 arg5 harg5 arg6 harg6 x0 x1 x2 s0).1.2.2.2.2.2.2.2.2.1, (T1 c i arg2 harg2 arg3 harg3 arg4 harg4 arg5 harg5 arg6 harg6 x0 x1 x2 s0).1.2.2.2.2.2.2.2.2.2.1, (T1 c i arg2 harg2 arg3 harg3 arg4 harg4 arg5 harg5 arg6 harg6 x0 x1 x2 s0).1.2.2.2.2.2.2.2.2.2.2.1, (T1 c i arg2 harg2 arg3 harg3 arg4 harg4 arg5 harg5 arg6 harg6 x0 x1 x2 s0).1.2.2.2.2.2.2.2.2.2.2.2)
    (Scf.trips (k0_t2_loop i).lb (k0_t2_loop i).ub (k0_t2_loop i).st)

theorem T2_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) : T2 c i arg2 harg2 arg3 harg3 arg4 harg4 arg5 harg5 arg6 harg6 x0 x1 x2 s0 = ((T1 c i arg2 harg2 arg3 harg3 arg4 harg4 arg5 harg5 arg6 harg6 x0 x1 x2 s0).1, []) := by
  unfold T2
  generalize T1 c i arg2 harg2 arg3 harg3 arg4 harg4 arg5 harg5 arg6 harg6 x0 x1 x2 s0 = t
  obtain ⟨⟨a0, a1, a2, a3, a4, a5, a6, a7, a8, a9, a10, a11⟩, l⟩ := t
  rw [trips2_eq]
  rfl

attribute [local irreducible] st_k0_t1 st_k0_t2

theorem q0_eq (arg2 : Memref sig .tc .vmem S1x512x256 .bf16) (harg2 : arg2.IsWhole) (x0 : Vec F S1x512x256 .bf16) : k0_pay106 (View.readAt (Elt F) arg2.view (Rect.unit (s := S1x512x256) ![0, 0, 0] S1x128x256.size inb_S1x512x256_S1x128x256_0_0_0).toLoadRect (harg2.unread x0)) = qT x0 0 :=
  qT_load arg2 harg2 x0 0 (by decide) _ rfl _ _

theorem s0_eq (arg2 : Memref sig .tc .vmem S1x512x256 .bf16) (harg2 : arg2.IsWhole) (arg3 : Memref sig .tc .vmem S8192x512 .bf16) (harg3 : arg3.IsWhole) (x0 : Vec F S1x512x256 .bf16) (x1 : Vec F S8192x512 .bf16) : k0_pay111 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1)) = sc x1 (qT x0 0) 0 0 := by
  have e : k0_pay111 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1)) = dotS (shapeCast S256x128 (View.readAt (Elt F) arg3.view (Rect.unit (s := S8192x512) ![0, 0] S256x128.size inb_S8192x512_S256x128_0_0).toLoadRect (harg3.unread x1)) shapeCasts_S256x128_S256x128) (k0_pay106 (View.readAt (Elt F) arg2.view (Rect.unit (s := S1x512x256) ![0, 0, 0] S1x128x256.size inb_S1x512x256_S1x128x256_0_0_0).toLoadRect (harg2.unread x0))) := rfl
  rw [e, q0_eq, kT_load arg3 harg3 x1 0 0 (by decide) (by decide) _ rfl]; rfl

theorem q1_eq (arg2 : Memref sig .tc .vmem S1x512x256 .bf16) (harg2 : arg2.IsWhole) (x0 : Vec F S1x512x256 .bf16) : k0_pay107 (View.readAt (Elt F) arg2.view (Rect.unit (s := S1x512x256) ![0, 128, 0] S1x128x256.size inb_S1x512x256_S1x128x256_0_128_0).toLoadRect (harg2.unread x0)) = qT x0 1 :=
  qT_load arg2 harg2 x0 1 (by decide) _ rfl _ _

theorem s1_eq (arg2 : Memref sig .tc .vmem S1x512x256 .bf16) (harg2 : arg2.IsWhole) (arg3 : Memref sig .tc .vmem S8192x512 .bf16) (harg3 : arg3.IsWhole) (x0 : Vec F S1x512x256 .bf16) (x1 : Vec F S8192x512 .bf16) : k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1)) = sc x1 (qT x0 1) 1 0 := by
  have e : k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1)) = dotS (shapeCast S256x128 (View.readAt (Elt F) arg3.view (Rect.unit (s := S8192x512) ![0, 128] S256x128.size inb_S8192x512_S256x128_0_128).toLoadRect (harg3.unread x1)) shapeCasts_S256x128_S256x128) (k0_pay107 (View.readAt (Elt F) arg2.view (Rect.unit (s := S1x512x256) ![0, 128, 0] S1x128x256.size inb_S1x512x256_S1x128x256_0_128_0).toLoadRect (harg2.unread x0))) := rfl
  rw [e, q1_eq, kT_load arg3 harg3 x1 1 0 (by decide) (by decide) _ rfl]; rfl

theorem q2_eq (arg2 : Memref sig .tc .vmem S1x512x256 .bf16) (harg2 : arg2.IsWhole) (x0 : Vec F S1x512x256 .bf16) : k0_pay108 (View.readAt (Elt F) arg2.view (Rect.unit (s := S1x512x256) ![0, 256, 0] S1x128x256.size inb_S1x512x256_S1x128x256_0_256_0).toLoadRect (harg2.unread x0)) = qT x0 2 :=
  qT_load arg2 harg2 x0 2 (by decide) _ rfl _ _

theorem s2_eq (arg2 : Memref sig .tc .vmem S1x512x256 .bf16) (harg2 : arg2.IsWhole) (arg3 : Memref sig .tc .vmem S8192x512 .bf16) (harg3 : arg3.IsWhole) (x0 : Vec F S1x512x256 .bf16) (x1 : Vec F S8192x512 .bf16) : k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1)) = sc x1 (qT x0 2) 2 0 := by
  have e : k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1)) = dotS (shapeCast S256x128 (View.readAt (Elt F) arg3.view (Rect.unit (s := S8192x512) ![0, 256] S256x128.size inb_S8192x512_S256x128_0_256).toLoadRect (harg3.unread x1)) shapeCasts_S256x128_S256x128) (k0_pay108 (View.readAt (Elt F) arg2.view (Rect.unit (s := S1x512x256) ![0, 256, 0] S1x128x256.size inb_S1x512x256_S1x128x256_0_256_0).toLoadRect (harg2.unread x0))) := rfl
  rw [e, q2_eq, kT_load arg3 harg3 x1 2 0 (by decide) (by decide) _ rfl]; rfl

theorem q3_eq (arg2 : Memref sig .tc .vmem S1x512x256 .bf16) (harg2 : arg2.IsWhole) (x0 : Vec F S1x512x256 .bf16) : k0_pay109 (View.readAt (Elt F) arg2.view (Rect.unit (s := S1x512x256) ![0, 384, 0] S1x128x256.size inb_S1x512x256_S1x128x256_0_384_0).toLoadRect (harg2.unread x0)) = qT x0 3 :=
  qT_load arg2 harg2 x0 3 (by decide) _ rfl _ _

theorem s3_eq (arg2 : Memref sig .tc .vmem S1x512x256 .bf16) (harg2 : arg2.IsWhole) (arg3 : Memref sig .tc .vmem S8192x512 .bf16) (harg3 : arg3.IsWhole) (x0 : Vec F S1x512x256 .bf16) (x1 : Vec F S8192x512 .bf16) : k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1)) = sc x1 (qT x0 3) 3 0 := by
  have e : k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1)) = dotS (shapeCast S256x128 (View.readAt (Elt F) arg3.view (Rect.unit (s := S8192x512) ![0, 384] S256x128.size inb_S8192x512_S256x128_0_384).toLoadRect (harg3.unread x1)) shapeCasts_S256x128_S256x128) (k0_pay109 (View.readAt (Elt F) arg2.view (Rect.unit (s := S1x512x256) ![0, 384, 0] S1x128x256.size inb_S1x512x256_S1x128x256_0_384_0).toLoadRect (harg2.unread x0))) := rfl
  rw [e, q3_eq, kT_load arg3 harg3 x1 3 0 (by decide) (by decide) _ rfl]; rfl

/-- Before the loop the first half of the scratch holds the scores of key block 0. -/
theorem parked0_banks (arg2 : Memref sig .tc .vmem S1x512x256 .bf16) (harg2 : arg2.IsWhole) (arg3 : Memref sig .tc .vmem S8192x512 .bf16) (harg3 : arg3.IsWhole) (x0 : Vec F S1x512x256 .bf16) (x1 : Vec F S8192x512 .bf16) (arg6 : Memref sig .tc .vmem S2x4x256x256 .f32) (s0 : BufTy.Contents (Elt F) arg6.view.ty) :
    Banks arg6 x1 (qT x0 0) (qT x0 1) (qT x0 2) (qT x0 3) 0 (arg6.view.writes (Elt F) s0 (parked0 arg2 harg2 arg3 harg3 x0 x1)) := by
  unfold parked0
  refine ⟨?_, ?_, ?_, ?_⟩
  · rw [View.readAt_writes_of_cover _ _ _ _ (LoadRect.cover_of_covChk _ _ (.leaf 3) (by sl_kernel_rfl))]
    simp (disch := decide) only [↓ View.readCov_skip, ↓ View.readCov_cons_toLoadRect]
    show park (k0_pay111 (View.readAt (Elt F) arg2.view (Rect.unit (s := S1x512x256) ![0, 0, 0] S1x128x256.size inb_S1x512x256_S1x128x256_0_0_0).toLoadRect (harg2.unread x0)) (View.readAt (Elt F) arg3.view (Rect.unit (s := S8192x512) ![0, 0] S256x128.size inb_S8192x512_S256x128_0_0).toLoadRect (harg3.unread x1))) = _
    rw [s0_eq]
  · rw [View.readAt_writes_of_cover _ _ _ _ (LoadRect.cover_of_covChk _ _ (.leaf 2) (by sl_kernel_rfl))]
    simp (disch := decide) only [↓ View.readCov_skip, ↓ View.readCov_cons_toLoadRect]
    show park (k0_pay112 (View.readAt (Elt F) arg2.view (Rect.unit (s := S1x512x256) ![0, 128, 0] S1x128x256.size inb_S1x512x256_S1x128x256_0_128_0).toLoadRect (harg2.unread x0)) (View.readAt (Elt F) arg3.view (Rect.unit (s := S8192x512) ![0, 128] S256x128.size inb_S8192x512_S256x128_0_128).toLoadRect (harg3.unread x1))) = _
    rw [s1_eq]
  · rw [View.readAt_writes_of_cover _ _ _ _ (LoadRect.cover_of_covChk _ _ (.leaf 1) (by sl_kernel_rfl))]
    simp (disch := decide) only [↓ View.readCov_skip, ↓ View.readCov_cons_toLoadRect]
    show park (k0_pay113 (View.readAt (Elt F) arg2.view (Rect.unit (s := S1x512x256) ![0, 256, 0] S1x128x256.size inb_S1x512x256_S1x128x256_0_256_0).toLoadRect (harg2.unread x0)) (View.readAt (Elt F) arg3.view (Rect.unit (s := S8192x512) ![0, 256] S256x128.size inb_S8192x512_S256x128_0_256).toLoadRect (harg3.unread x1))) = _
    rw [s2_eq]
  · rw [View.readAt_writes_of_cover _ _ _ _ (LoadRect.cover_of_covChk _ _ (.leaf 0) (by sl_kernel_rfl))]
    simp (disch := decide) only [↓ View.readCov_skip, ↓ View.readCov_cons_toLoadRect]
    show park (k0_pay114 (View.readAt (Elt F) arg2.view (Rect.unit (s := S1x512x256) ![0, 384, 0] S1x128x256.size inb_S1x512x256_S1x128x256_0_384_0).toLoadRect (harg2.unread x0)) (View.readAt (Elt F) arg3.view (Rect.unit (s := S8192x512) ![0, 384] S256x128.size inb_S8192x512_S256x128_0_384).toLoadRect (harg3.unread x1))) = _
    rw [s3_eq]

theorem T1_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) :
    (T1 c i arg2 harg2 arg3 harg3 arg4 harg4 arg5 harg5 arg6 harg6 x0 x1 x2 s0).1 = carry x1 x2 (qT x0 0) (qT x0 1) (qT x0 2) (qT x0 3) (2 * ((i 1).val / 2)) ∧
    Banks arg6 x1 (qT x0 0) (qT x0 1) (qT x0 2) (qT x0 3) (2 * ((i 1).val / 2))
      (arg6.view.writes (Elt F) s0 ((T1 c i arg2 harg2 arg3 harg3 arg4 harg4 arg5 harg5 arg6 harg6 x0 x1 x2 s0).2 ++ parked0 arg2 harg2 arg3 harg3 x0 x1)) := by
  rw [View.writes_append]
  unfold T1
  rw [q0_eq, s0_eq, q1_eq, s1_eq, q2_eq, s2_eq, q3_eq, s3_eq, ← trips_eq i]
  exact st_eq Variants.none c none i arg2 harg2 arg3 harg3 arg4 harg4 arg5 harg5 arg6 harg6 _ _ _ _ _ _ _ _ _ _ _ _ _ _ _ _ _ _ _ _ _ x1 x2 _
    (parked0_banks arg2 harg2 arg3 harg3 x0 x1 arg6 s0) _ (le_refl _)

/-- Everything the two loops and the stores before them wrote to the scratch. -/
abbrev wrote (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) : List (View.Piece (Elt F) S2x4x256x256 .f32) :=
  (T2 c i arg2 harg2 arg3 harg3 arg4 harg4 arg5 harg5 arg6 harg6 x0 x1 x2 s0).2 ++ ((T1 c i arg2 harg2 arg3 harg3 arg4 harg4 arg5 harg5 arg6 harg6 x0 x1 x2 s0).2 ++ parked0 arg2 harg2 arg3 harg3 x0 x1)

theorem bank0_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hs : S1x1x256x256.ShapeCasts S256x256) :
    shapeCast S256x256 (arg6.view.readCov (wrote c i arg2 harg2 arg3 harg3 arg4 harg4 arg5 harg5 arg6 harg6 x0 x1 x2 s0) (Rect.unit (s := S2x4x256x256) ![0, 0, 0, 0] S1x1x256x256.size inb_S2x4x256x256_S1x1x256x256_0_0_0_0).toLoadRect) hs = sc x1 (qT x0 0) 0 (2 * ((i 1).val / 2)) := by
  unfold wrote
  rw [T2_eq]
  dsimp only
  rw [List.nil_append, ← View.readAt_writes_of_cover arg6.view s0 _ _ (fun j => by
      obtain ⟨p, hp, hj⟩ := LoadRect.cover_of_covChk (parked0 arg2 harg2 arg3 harg3 x0 x1) (Rect.unit (s := S2x4x256x256) ![0, 0, 0, 0] S1x1x256x256.size inb_S2x4x256x256_S1x1x256x256_0_0_0_0).toLoadRect (.leaf 3) (by sl_kernel_rfl) j
      exact ⟨p, List.mem_append_right _ hp, hj⟩), (T1_eq c i arg2 harg2 arg3 harg3 arg4 harg4 arg5 harg5 arg6 harg6 x0 x1 x2 s0).2.1]
  exact shapeCast_shapeCast _ _ _

theorem bank1_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hs : S1x1x256x256.ShapeCasts S256x256) :
    shapeCast S256x256 (arg6.view.readCov (wrote c i arg2 harg2 arg3 harg3 arg4 harg4 arg5 harg5 arg6 harg6 x0 x1 x2 s0) (Rect.unit (s := S2x4x256x256) ![0, 1, 0, 0] S1x1x256x256.size inb_S2x4x256x256_S1x1x256x256_0_1_0_0).toLoadRect) hs = sc x1 (qT x0 1) 1 (2 * ((i 1).val / 2)) := by
  unfold wrote
  rw [T2_eq]
  dsimp only
  rw [List.nil_append, ← View.readAt_writes_of_cover arg6.view s0 _ _ (fun j => by
      obtain ⟨p, hp, hj⟩ := LoadRect.cover_of_covChk (parked0 arg2 harg2 arg3 harg3 x0 x1) (Rect.unit (s := S2x4x256x256) ![0, 1, 0, 0] S1x1x256x256.size inb_S2x4x256x256_S1x1x256x256_0_1_0_0).toLoadRect (.leaf 2) (by sl_kernel_rfl) j
      exact ⟨p, List.mem_append_right _ hp, hj⟩), (T1_eq c i arg2 harg2 arg3 harg3 arg4 harg4 arg5 harg5 arg6 harg6 x0 x1 x2 s0).2.2.1]
  exact shapeCast_shapeCast _ _ _

theorem bank2_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hs : S1x1x256x256.ShapeCasts S256x256) :
    shapeCast S256x256 (arg6.view.readCov (wrote c i arg2 harg2 arg3 harg3 arg4 harg4 arg5 harg5 arg6 harg6 x0 x1 x2 s0) (Rect.unit (s := S2x4x256x256) ![0, 2, 0, 0] S1x1x256x256.size inb_S2x4x256x256_S1x1x256x256_0_2_0_0).toLoadRect) hs = sc x1 (qT x0 2) 2 (2 * ((i 1).val / 2)) := by
  unfold wrote
  rw [T2_eq]
  dsimp only
  rw [List.nil_append, ← View.readAt_writes_of_cover arg6.view s0 _ _ (fun j => by
      obtain ⟨p, hp, hj⟩ := LoadRect.cover_of_covChk (parked0 arg2 harg2 arg3 harg3 x0 x1) (Rect.unit (s := S2x4x256x256) ![0, 2, 0, 0] S1x1x256x256.size inb_S2x4x256x256_S1x1x256x256_0_2_0_0).toLoadRect (.leaf 1) (by sl_kernel_rfl) j
      exact ⟨p, List.mem_append_right _ hp, hj⟩), (T1_eq c i arg2 harg2 arg3 harg3 arg4 harg4 arg5 harg5 arg6 harg6 x0 x1 x2 s0).2.2.2.1]
  exact shapeCast_shapeCast _ _ _

theorem bank3_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hs : S1x1x256x256.ShapeCasts S256x256) :
    shapeCast S256x256 (arg6.view.readCov (wrote c i arg2 harg2 arg3 harg3 arg4 harg4 arg5 harg5 arg6 harg6 x0 x1 x2 s0) (Rect.unit (s := S2x4x256x256) ![0, 3, 0, 0] S1x1x256x256.size inb_S2x4x256x256_S1x1x256x256_0_3_0_0).toLoadRect) hs = sc x1 (qT x0 3) 3 (2 * ((i 1).val / 2)) := by
  unfold wrote
  rw [T2_eq]
  dsimp only
  rw [List.nil_append, ← View.readAt_writes_of_cover arg6.view s0 _ _ (fun j => by
      obtain ⟨p, hp, hj⟩ := LoadRect.cover_of_covChk (parked0 arg2 harg2 arg3 harg3 x0 x1) (Rect.unit (s := S2x4x256x256) ![0, 3, 0, 0] S1x1x256x256.size inb_S2x4x256x256_S1x1x256x256_0_3_0_0).toLoadRect (.leaf 0) (by sl_kernel_rfl) j
      exact ⟨p, List.mem_append_right _ hp, hj⟩), (T1_eq c i arg2 harg2 arg3 harg3 arg4 harg4 arg5 harg5 arg6 harg6 x0 x1 x2 s0).2.2.2.2]
  exact shapeCast_shapeCast _ _ _

/-! ## The even points -/

theorem even_s0 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) :
    (shapeCast S256x256 (runEven.sl.v94 c i arg2 harg2 arg3 harg3 arg4 harg4 arg5 harg5 arg6 harg6 x0 x1 x2 s0) shapeCasts_S1x1x256x256_S256x256) = sc x1 (qT x0 0) 0 (i 1).val := by
  have e : (shapeCast S256x256 (runEven.sl.v94 c i arg2 harg2 arg3 harg3 arg4 harg4 arg5 harg5 arg6 harg6 x0 x1 x2 s0) shapeCasts_S1x1x256x256_S256x256) = shapeCast S256x256 (arg6.view.readCov (wrote c i arg2 harg2 arg3 harg3 arg4 harg4 arg5 harg5 arg6 harg6 x0 x1 x2 s0) (Rect.unit (s := S2x4x256x256) ![0, 0, 0, 0] S1x1x256x256.size inb_S2x4x256x256_S1x1x256x256_0_0_0_0).toLoadRect) shapeCasts_S1x1x256x256_S256x256 := rfl
  rw [e, bank0_eq, ← even_of i hc]

theorem even_s1 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) :
    (shapeCast S256x256 (runEven.sl.v120 c i arg2 harg2 arg3 harg3 arg4 harg4 arg5 harg5 arg6 harg6 x0 x1 x2 s0) shapeCasts_S1x1x256x256_S256x256) = sc x1 (qT x0 1) 1 (i 1).val := by
  have e : (shapeCast S256x256 (runEven.sl.v120 c i arg2 harg2 arg3 harg3 arg4 harg4 arg5 harg5 arg6 harg6 x0 x1 x2 s0) shapeCasts_S1x1x256x256_S256x256) = shapeCast S256x256 (arg6.view.readCov (wrote c i arg2 harg2 arg3 harg3 arg4 harg4 arg5 harg5 arg6 harg6 x0 x1 x2 s0) (Rect.unit (s := S2x4x256x256) ![0, 1, 0, 0] S1x1x256x256.size inb_S2x4x256x256_S1x1x256x256_0_1_0_0).toLoadRect) shapeCasts_S1x1x256x256_S256x256 := rfl
  rw [e, bank1_eq, ← even_of i hc]

theorem even_s2 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) :
    (shapeCast S256x256 (runEven.sl.v146 c i arg2 harg2 arg3 harg3 arg4 harg4 arg5 harg5 arg6 harg6 x0 x1 x2 s0) shapeCasts_S1x1x256x256_S256x256) = sc x1 (qT x0 2) 2 (i 1).val := by
  have e : (shapeCast S256x256 (runEven.sl.v146 c i arg2 harg2 arg3 harg3 arg4 harg4 arg5 harg5 arg6 harg6 x0 x1 x2 s0) shapeCasts_S1x1x256x256_S256x256) = shapeCast S256x256 (arg6.view.readCov (wrote c i arg2 harg2 arg3 harg3 arg4 harg4 arg5 harg5 arg6 harg6 x0 x1 x2 s0) (Rect.unit (s := S2x4x256x256) ![0, 2, 0, 0] S1x1x256x256.size inb_S2x4x256x256_S1x1x256x256_0_2_0_0).toLoadRect) shapeCasts_S1x1x256x256_S256x256 := rfl
  rw [e, bank2_eq, ← even_of i hc]

theorem even_s3 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) :
    (shapeCast S256x256 (runEven.sl.v172 c i arg2 harg2 arg3 harg3 arg4 harg4 arg5 harg5 arg6 harg6 x0 x1 x2 s0) shapeCasts_S1x1x256x256_S256x256) = sc x1 (qT x0 3) 3 (i 1).val := by
  have e : (shapeCast S256x256 (runEven.sl.v172 c i arg2 harg2 arg3 harg3 arg4 harg4 arg5 harg5 arg6 harg6 x0 x1 x2 s0) shapeCasts_S1x1x256x256_S256x256) = shapeCast S256x256 (arg6.view.readCov (wrote c i arg2 harg2 arg3 harg3 arg4 harg4 arg5 harg5 arg6 harg6 x0 x1 x2 s0) (Rect.unit (s := S2x4x256x256) ![0, 3, 0, 0] S1x1x256x256.size inb_S2x4x256x256_S1x1x256x256_0_3_0_0).toLoadRect) shapeCasts_S1x1x256x256_S256x256 := rfl
  rw [e, bank3_eq, ← even_of i hc]

theorem vload0_eq (i : grid0.Coords) (arg4 : Memref sig .tc .vmem S32x256x256 .bf16) (harg4 : arg4.IsWhole) (x2 : Vec F S32x256x256 .bf16) (inb : ∀ a, k0_off41 i a + S1x64x256.size a ≤ S32x256x256.size a) :
    (shapeCast S64x256 (View.readAt (Elt F) arg4.view (Rect.unit (s := S32x256x256) (k0_off41 i) S1x64x256.size inb).toLoadRect (harg4.unread x2)) shapeCasts_S1x64x256_S64x256) = vT x2 0 (i 1).val :=
  vT_load arg4 harg4 x2 0 (i 1).val (by decide) (qblk_lt i) _ (k0_off41_eq i) _ _

theorem vload1_eq (i : grid0.Coords) (arg4 : Memref sig .tc .vmem S32x256x256 .bf16) (harg4 : arg4.IsWhole) (x2 : Vec F S32x256x256 .bf16) (inb : ∀ a, k0_off42 i a + S1x64x256.size a ≤ S32x256x256.size a) :
    (shapeCast S64x256 (View.readAt (Elt F) arg4.view (Rect.unit (s := S32x256x256) (k0_off42 i) S1x64x256.size inb).toLoadRect (harg4.unread x2)) shapeCasts_S1x64x256_S64x256) = vT x2 1 (i 1).val :=
  vT_load arg4 harg4 x2 1 (i 1).val (by decide) (qblk_lt i) _ (k0_off42_eq i) _ _

theorem vload2_eq (i : grid0.Coords) (arg4 : Memref sig .tc .vmem S32x256x256 .bf16) (harg4 : arg4.IsWhole) (x2 : Vec F S32x256x256 .bf16) (inb : ∀ a, k0_off43 i a + S1x64x256.size a ≤ S32x256x256.size a) :
    (shapeCast S64x256 (View.readAt (Elt F) arg4.view (Rect.unit (s := S32x256x256) (k0_off43 i) S1x64x256.size inb).toLoadRect (harg4.unread x2)) shapeCasts_S1x64x256_S64x256) = vT x2 2 (i 1).val :=
  vT_load arg4 harg4 x2 2 (i 1).val (by decide) (qblk_lt i) _ (k0_off43_eq i) _ _

theorem vload3_eq (i : grid0.Coords) (arg4 : Memref sig .tc .vmem S32x256x256 .bf16) (harg4 : arg4.IsWhole) (x2 : Vec F S32x256x256 .bf16) (inb : ∀ a, k0_off44 i a + S1x64x256.size a ≤ S32x256x256.size a) :
    (shapeCast S64x256 (View.readAt (Elt F) arg4.view (Rect.unit (s := S32x256x256) (k0_off44 i) S1x64x256.size inb).toLoadRect (harg4.unread x2)) shapeCasts_S1x64x256_S64x256) = vT x2 3 (i 1).val :=
  vT_load arg4 harg4 x2 3 (i 1).val (by decide) (qblk_lt i) _ (k0_off44_eq i) _ _

theorem even0_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) : runEven.sl.r_22 c i arg2 harg2 arg3 harg3 arg4 harg4 arg5 harg5 arg6 harg6 x0 x1 x2 s0 = headOut x0 x1 x2 0 (i 1).val := by
  have e : runEven.sl.r_22 c i arg2 harg2 arg3 harg3 arg4 harg4 arg5 harg5 arg6 harg6 x0 x1 x2 s0 = fin ((T2 c i arg2 harg2 arg3 harg3 arg4 harg4 arg5 harg5 arg6 harg6 x0 x1 x2 s0).1.2.1) ((T2 c i arg2 harg2 arg3 harg3 arg4 harg4 arg5 harg5 arg6 harg6 x0 x1 x2 s0).1.2.2.1)
      (shapeCast S64x256 (View.readAt (Elt F) arg4.view (Rect.unit (s := S32x256x256) (k0_off41 i) S1x64x256.size (k0_off41_inb i)).toLoadRect (harg4.unread x2)) shapeCasts_S1x64x256_S64x256) (shapeCast S256x256 (runEven.sl.v94 c i arg2 harg2 arg3 harg3 arg4 harg4 arg5 harg5 arg6 harg6 x0 x1 x2 s0) shapeCasts_S1x1x256x256_S256x256) := rfl
  rw [e, even_s0 c i arg2 harg2 arg3 harg3 arg4 harg4 arg5 harg5 arg6 harg6 x0 x1 x2 s0 hc, vload0_eq, T2_eq, (T1_eq c i arg2 harg2 arg3 harg3 arg4 harg4 arg5 harg5 arg6 harg6 x0 x1 x2 s0).1, ← even_of i hc]
  rfl

theorem even1_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) : runEven.sl.r_23 c i arg2 harg2 arg3 harg3 arg4 harg4 arg5 harg5 arg6 harg6 x0 x1 x2 s0 = headOut x0 x1 x2 1 (i 1).val := by
  have e : runEven.sl.r_23 c i arg2 harg2 arg3 harg3 arg4 harg4 arg5 harg5 arg6 harg6 x0 x1 x2 s0 = fin ((T2 c i arg2 harg2 arg3 harg3 arg4 harg4 arg5 harg5 arg6 harg6 x0 x1 x2 s0).1.2.2.2.2.1) ((T2 c i arg2 harg2 arg3 harg3 arg4 harg4 arg5 harg5 arg6 harg6 x0 x1 x2 s0).1.2.2.2.2.2.1)
      (shapeCast S64x256 (View.readAt (Elt F) arg4.view (Rect.unit (s := S32x256x256) (k0_off42 i) S1x64x256.size (k0_off42_inb i)).toLoadRect (harg4.unread x2)) shapeCasts_S1x64x256_S64x256) (shapeCast S256x256 (runEven.sl.v120 c i arg2 harg2 arg3 harg3 arg4 harg4 arg5 harg5 arg6 harg6 x0 x1 x2 s0) shapeCasts_S1x1x256x256_S256x256) := rfl
  rw [e, even_s1 c i arg2 harg2 arg3 harg3 arg4 harg4 arg5 harg5 arg6 harg6 x0 x1 x2 s0 hc, vload1_eq, T2_eq, (T1_eq c i arg2 harg2 arg3 harg3 arg4 harg4 arg5 harg5 arg6 harg6 x0 x1 x2 s0).1, ← even_of i hc]
  rfl

theorem even2_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) : runEven.sl.r_24 c i arg2 harg2 arg3 harg3 arg4 harg4 arg5 harg5 arg6 harg6 x0 x1 x2 s0 = headOut x0 x1 x2 2 (i 1).val := by
  have e : runEven.sl.r_24 c i arg2 harg2 arg3 harg3 arg4 harg4 arg5 harg5 arg6 harg6 x0 x1 x2 s0 = fin ((T2 c i arg2 harg2 arg3 harg3 arg4 harg4 arg5 harg5 arg6 harg6 x0 x1 x2 s0).1.2.2.2.2.2.2.2.1) ((T2 c i arg2 harg2 arg3 harg3 arg4 harg4 arg5 harg5 arg6 harg6 x0 x1 x2 s0).1.2.2.2.2.2.2.2.2.1)
      (shapeCast S64x256 (View.readAt (Elt F) arg4.view (Rect.unit (s := S32x256x256) (k0_off43 i) S1x64x256.size (k0_off43_inb i)).toLoadRect (harg4.unread x2)) shapeCasts_S1x64x256_S64x256) (shapeCast S256x256 (runEven.sl.v146 c i arg2 harg2 arg3 harg3 arg4 harg4 arg5 harg5 arg6 harg6 x0 x1 x2 s0) shapeCasts_S1x1x256x256_S256x256) := rfl
  rw [e, even_s2 c i arg2 harg2 arg3 harg3 arg4 harg4 arg5 harg5 arg6 harg6 x0 x1 x2 s0 hc, vload2_eq, T2_eq, (T1_eq c i arg2 harg2 arg3 harg3 arg4 harg4 arg5 harg5 arg6 harg6 x0 x1 x2 s0).1, ← even_of i hc]
  rfl

theorem evenOut_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : ¬ k0_cond1 i = 1#1) :
    (runEven c i hc arg2 harg2 arg3 harg3 arg4 harg4 arg5 harg5 arg6 harg6 x0 x1 x2 s0).1 = [⟨Rect.unit (s := S256x256) ![0, 0] ![256, 256] inb_S256x256_S256x256_0_0, outTile x0 x1 x2 (i 1).val⟩] := by
  have e : (runEven c i hc arg2 harg2 arg3 harg3 arg4 harg4 arg5 harg5 arg6 harg6 x0 x1 x2 s0).1 = [⟨Rect.unit (s := S256x256) ![0, 0] ![256, 256] inb_S256x256_S256x256_0_0,
      heads (runEven.sl.r_22 c i arg2 harg2 arg3 harg3 arg4 harg4 arg5 harg5 arg6 harg6 x0 x1 x2 s0) (runEven.sl.r_23 c i arg2 harg2 arg3 harg3 arg4 harg4 arg5 harg5 arg6 harg6 x0 x1 x2 s0) (runEven.sl.r_24 c i arg2 harg2 arg3 harg3 arg4 harg4 arg5 harg5 arg6 harg6 x0 x1 x2 s0)
        (fin ((T2 c i arg2 harg2 arg3 harg3 arg4 harg4 arg5 harg5 arg6 harg6 x0 x1 x2 s0).1.2.2.2.2.2.2.2.2.2.2.1) ((T2 c i arg2 harg2 arg3 harg3 arg4 harg4 arg5 harg5 arg6 harg6 x0 x1 x2 s0).1.2.2.2.2.2.2.2.2.2.2.2) (shapeCast S64x256 (View.readAt (Elt F) arg4.view (Rect.unit (s := S32x256x256) (k0_off44 i) S1x64x256.size (k0_off44_inb i)).toLoadRect (harg4.unread x2)) shapeCasts_S1x64x256_S64x256) (shapeCast S256x256 (runEven.sl.v172 c i arg2 harg2 arg3 harg3 arg4 harg4 arg5 harg5 arg6 harg6 x0 x1 x2 s0) shapeCasts_S1x1x256x256_S256x256))⟩] := rfl
  rw [e, even0_eq c i arg2 harg2 arg3 harg3 arg4 harg4 arg5 harg5 arg6 harg6 x0 x1 x2 s0 hc, even1_eq c i arg2 harg2 arg3 harg3 arg4 harg4 arg5 harg5 arg6 harg6 x0 x1 x2 s0 hc, even2_eq c i arg2 harg2 arg3 harg3 arg4 harg4 arg5 harg5 arg6 harg6 x0 x1 x2 s0 hc, even_s3 c i arg2 harg2 arg3 harg3 arg4 harg4 arg5 harg5 arg6 harg6 x0 x1 x2 s0 hc, vload3_eq, T2_eq, (T1_eq c i arg2 harg2 arg3 harg3 arg4 harg4 arg5 harg5 arg6 harg6 x0 x1 x2 s0).1, ← even_of i hc]
  rfl

/-! ## The odd points -/

theorem odd_v0 (i : grid0.Coords) (hc : k0_cond1 i = 1#1) (arg4 : Memref sig .tc .vmem S32x256x256 .bf16) (harg4 : arg4.IsWhole) (x2 : Vec F S32x256x256 .bf16) :
    runOdd.sl.v226 i hc arg4 harg4 x2 = vT x2 0 (2 * ((i 1).val / 2)) :=
  vT_load arg4 harg4 x2 0 _ (by decide) (by have := qblk_lt i; omega) _ (off37_eq i hc) _ _

theorem odd_k0 (i : grid0.Coords) (hc : k0_cond1 i = 1#1) (arg3 : Memref sig .tc .vmem S8192x512 .bf16) (harg3 : arg3.IsWhole) (x1 : Vec F S8192x512 .bf16) :
    runOdd.sl.v208 i hc arg3 harg3 x1 = kT x1 0 (i 1).val :=
  kT_load arg3 harg3 x1 0 (i 1).val (by decide) (qblk_lt i) _ (k0_off33_eq i) _ _

theorem odd_p0 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) : runOdd.sl.v223 c i arg2 harg2 arg3 harg3 arg4 harg4 arg5 harg5 arg6 harg6 x0 x1 x2 s0 = sc x1 (qT x0 0) 0 (2 * ((i 1).val / 2)) := by
  have e : runOdd.sl.v223 c i arg2 harg2 arg3 harg3 arg4 harg4 arg5 harg5 arg6 harg6 x0 x1 x2 s0 = shapeCast S256x256 (arg6.view.readCov (wrote c i arg2 harg2 arg3 harg3 arg4 harg4 arg5 harg5 arg6 harg6 x0 x1 x2 s0) (Rect.unit (s := S2x4x256x256) ![0, 0, 0, 0] S1x1x256x256.size inb_S2x4x256x256_S1x1x256x256_0_0_0_0).toLoadRect) shapeCasts_S1x1x256x256_S256x256 := rfl
  rw [e, bank0_eq]

theorem odd_s0 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) :
    (shapeCast S256x256 (runOdd.sl.v94 c i hc arg2 harg2 arg3 harg3 arg4 harg4 arg5 harg5 arg6 harg6 x0 x1 x2 s0) shapeCasts_S1x1x256x256_S256x256) = sc x1 (qT x0 0) 0 (i 1).val := by
  unfold runOdd.sl.v94 runOdd.sl.HS0_4
  simp (disch := decide) only [↓ View.readCov_skip, ↓ View.readCov_cons_toLoadRect]
  refine (shapeCast_shapeCast (dotS (runOdd.sl.v208 i hc arg3 harg3 x1) (k0_pay106 (View.readAt (Elt F) arg2.view (Rect.unit (s := S1x512x256) ![0, 0, 0] S1x128x256.size inb_S1x512x256_S1x128x256_0_0_0).toLoadRect (harg2.unread x0)))) _ _).trans ?_
  rw [odd_k0, q0_eq]; rfl

theorem odd0_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) : runOdd.sl.r_16 c i hc arg2 harg2 arg3 harg3 arg4 harg4 arg5 harg5 arg6 harg6 x0 x1 x2 s0 = headOut x0 x1 x2 0 (i 1).val := by
  have e : runOdd.sl.r_16 c i hc arg2 harg2 arg3 harg3 arg4 harg4 arg5 harg5 arg6 harg6 x0 x1 x2 s0 = fin (maximumf ((T2 c i arg2 harg2 arg3 harg3 arg4 harg4 arg5 harg5 arg6 harg6 x0 x1 x2 s0).1.2.1) ((T2 c i arg2 harg2 arg3 harg3 arg4 harg4 arg5 harg5 arg6 harg6 x0 x1 x2 s0).1.1))
      (stepAcc ((T2 c i arg2 harg2 arg3 harg3 arg4 harg4 arg5 harg5 arg6 harg6 x0 x1 x2 s0).1.2.1) (maximumf ((T2 c i arg2 harg2 arg3 harg3 arg4 harg4 arg5 harg5 arg6 harg6 x0 x1 x2 s0).1.2.1) ((T2 c i arg2 harg2 arg3 harg3 arg4 harg4 arg5 harg5 arg6 harg6 x0 x1 x2 s0).1.1)) ((T2 c i arg2 harg2 arg3 harg3 arg4 harg4 arg5 harg5 arg6 harg6 x0 x1 x2 s0).1.2.2.1) (runOdd.sl.v226 i hc arg4 harg4 x2) (runOdd.sl.v223 c i arg2 harg2 arg3 harg3 arg4 harg4 arg5 harg5 arg6 harg6 x0 x1 x2 s0))
      (shapeCast S64x256 (View.readAt (Elt F) arg4.view (Rect.unit (s := S32x256x256) (k0_off41 i) S1x64x256.size (k0_off41_inb i)).toLoadRect (harg4.unread x2)) shapeCasts_S1x64x256_S64x256) (shapeCast S256x256 (runOdd.sl.v94 c i hc arg2 harg2 arg3 harg3 arg4 harg4 arg5 harg5 arg6 harg6 x0 x1 x2 s0) shapeCasts_S1x1x256x256_S256x256) := rfl
  rw [e, odd_s0 c i arg2 harg2 arg3 harg3 arg4 harg4 arg5 harg5 arg6 harg6 x0 x1 x2 s0 hc, odd_p0, odd_v0, vload0_eq, T2_eq, (T1_eq c i arg2 harg2 arg3 harg3 arg4 harg4 arg5 harg5 arg6 harg6 x0 x1 x2 s0).1]
  have h2 := odd_of i hc
  generalize (i 1).val / 2 = n at h2 ⊢
  rw [h2]
  dsimp only
  exact fin_step x0 x1 x2 0 (2 * n)

theorem odd_v1 (i : grid0.Coords) (hc : k0_cond1 i = 1#1) (arg4 : Memref sig .tc .vmem S32x256x256 .bf16) (harg4 : arg4.IsWhole) (x2 : Vec F S32x256x256 .bf16) :
    runOdd.sl.v244 i hc arg4 harg4 x2 = vT x2 1 (2 * ((i 1).val / 2)) :=
  vT_load arg4 harg4 x2 1 _ (by decide) (by have := qblk_lt i; omega) _ (off38_eq i hc) _ _

theorem odd_k1 (i : grid0.Coords) (hc : k0_cond1 i = 1#1) (arg3 : Memref sig .tc .vmem S8192x512 .bf16) (harg3 : arg3.IsWhole) (x1 : Vec F S8192x512 .bf16) :
    runOdd.sl.v212 i hc arg3 harg3 x1 = kT x1 1 (i 1).val :=
  kT_load arg3 harg3 x1 1 (i 1).val (by decide) (qblk_lt i) _ (k0_off34_eq i) _ _

theorem odd_p1 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) : runOdd.sl.v241 c i arg2 harg2 arg3 harg3 arg4 harg4 arg5 harg5 arg6 harg6 x0 x1 x2 s0 = sc x1 (qT x0 1) 1 (2 * ((i 1).val / 2)) := by
  have e : runOdd.sl.v241 c i arg2 harg2 arg3 harg3 arg4 harg4 arg5 harg5 arg6 harg6 x0 x1 x2 s0 = shapeCast S256x256 (arg6.view.readCov (wrote c i arg2 harg2 arg3 harg3 arg4 harg4 arg5 harg5 arg6 harg6 x0 x1 x2 s0) (Rect.unit (s := S2x4x256x256) ![0, 1, 0, 0] S1x1x256x256.size inb_S2x4x256x256_S1x1x256x256_0_1_0_0).toLoadRect) shapeCasts_S1x1x256x256_S256x256 := rfl
  rw [e, bank1_eq]

theorem odd_s1 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) :
    (shapeCast S256x256 (runOdd.sl.v120 c i hc arg2 harg2 arg3 harg3 arg4 harg4 arg5 harg5 arg6 harg6 x0 x1 x2 s0) shapeCasts_S1x1x256x256_S256x256) = sc x1 (qT x0 1) 1 (i 1).val := by
  unfold runOdd.sl.v120 runOdd.sl.HS0_4
  simp (disch := decide) only [↓ View.readCov_skip, ↓ View.readCov_cons_toLoadRect]
  refine (shapeCast_shapeCast (dotS (runOdd.sl.v212 i hc arg3 harg3 x1) (k0_pay107 (View.readAt (Elt F) arg2.view (Rect.unit (s := S1x512x256) ![0, 128, 0] S1x128x256.size inb_S1x512x256_S1x128x256_0_128_0).toLoadRect (harg2.unread x0)))) _ _).trans ?_
  rw [odd_k1, q1_eq]; rfl

theorem odd1_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) : runOdd.sl.r_17 c i hc arg2 harg2 arg3 harg3 arg4 harg4 arg5 harg5 arg6 harg6 x0 x1 x2 s0 = headOut x0 x1 x2 1 (i 1).val := by
  have e : runOdd.sl.r_17 c i hc arg2 harg2 arg3 harg3 arg4 harg4 arg5 harg5 arg6 harg6 x0 x1 x2 s0 = fin (maximumf ((T2 c i arg2 harg2 arg3 harg3 arg4 harg4 arg5 harg5 arg6 harg6 x0 x1 x2 s0).1.2.2.2.2.1) ((T2 c i arg2 harg2 arg3 harg3 arg4 harg4 arg5 harg5 arg6 harg6 x0 x1 x2 s0).1.2.2.2.1))
      (stepAcc ((T2 c i arg2 harg2 arg3 harg3 arg4 harg4 arg5 harg5 arg6 harg6 x0 x1 x2 s0).1.2.2.2.2.1) (maximumf ((T2 c i arg2 harg2 arg3 harg3 arg4 harg4 arg5 harg5 arg6 harg6 x0 x1 x2 s0).1.2.2.2.2.1) ((T2 c i arg2 harg2 arg3 harg3 arg4 harg4 arg5 harg5 arg6 harg6 x0 x1 x2 s0).1.2.2.2.1)) ((T2 c i arg2 harg2 arg3 harg3 arg4 harg4 arg5 harg5 arg6 harg6 x0 x1 x2 s0).1.2.2.2.2.2.1) (runOdd.sl.v244 i hc arg4 harg4 x2) (runOdd.sl.v241 c i arg2 harg2 arg3 harg3 arg4 harg4 arg5 harg5 arg6 harg6 x0 x1 x2 s0))
      (shapeCast S64x256 (View.readAt (Elt F) arg4.view (Rect.unit (s := S32x256x256) (k0_off42 i) S1x64x256.size (k0_off42_inb i)).toLoadRect (harg4.unread x2)) shapeCasts_S1x64x256_S64x256) (shapeCast S256x256 (runOdd.sl.v120 c i hc arg2 harg2 arg3 harg3 arg4 harg4 arg5 harg5 arg6 harg6 x0 x1 x2 s0) shapeCasts_S1x1x256x256_S256x256) := rfl
  rw [e, odd_s1 c i arg2 harg2 arg3 harg3 arg4 harg4 arg5 harg5 arg6 harg6 x0 x1 x2 s0 hc, odd_p1, odd_v1, vload1_eq, T2_eq, (T1_eq c i arg2 harg2 arg3 harg3 arg4 harg4 arg5 harg5 arg6 harg6 x0 x1 x2 s0).1]
  have h2 := odd_of i hc
  generalize (i 1).val / 2 = n at h2 ⊢
  rw [h2]
  dsimp only
  exact fin_step x0 x1 x2 1 (2 * n)

theorem odd_v2 (i : grid0.Coords) (hc : k0_cond1 i = 1#1) (arg4 : Memref sig .tc .vmem S32x256x256 .bf16) (harg4 : arg4.IsWhole) (x2 : Vec F S32x256x256 .bf16) :
    runOdd.sl.v262 i hc arg4 harg4 x2 = vT x2 2 (2 * ((i 1).val / 2)) :=
  vT_load arg4 harg4 x2 2 _ (by decide) (by have := qblk_lt i; omega) _ (off39_eq i hc) _ _

theorem odd_k2 (i : grid0.Coords) (hc : k0_cond1 i = 1#1) (arg3 : Memref sig .tc .vmem S8192x512 .bf16) (harg3 : arg3.IsWhole) (x1 : Vec F S8192x512 .bf16) :
    runOdd.sl.v216 i hc arg3 harg3 x1 = kT x1 2 (i 1).val :=
  kT_load arg3 harg3 x1 2 (i 1).val (by decide) (qblk_lt i) _ (k0_off35_eq i) _ _

theorem odd_p2 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) : runOdd.sl.v259 c i arg2 harg2 arg3 harg3 arg4 harg4 arg5 harg5 arg6 harg6 x0 x1 x2 s0 = sc x1 (qT x0 2) 2 (2 * ((i 1).val / 2)) := by
  have e : runOdd.sl.v259 c i arg2 harg2 arg3 harg3 arg4 harg4 arg5 harg5 arg6 harg6 x0 x1 x2 s0 = shapeCast S256x256 (arg6.view.readCov (wrote c i arg2 harg2 arg3 harg3 arg4 harg4 arg5 harg5 arg6 harg6 x0 x1 x2 s0) (Rect.unit (s := S2x4x256x256) ![0, 2, 0, 0] S1x1x256x256.size inb_S2x4x256x256_S1x1x256x256_0_2_0_0).toLoadRect) shapeCasts_S1x1x256x256_S256x256 := rfl
  rw [e, bank2_eq]

theorem odd_s2 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) :
    (shapeCast S256x256 (runOdd.sl.v146 c i hc arg2 harg2 arg3 harg3 arg4 harg4 arg5 harg5 arg6 harg6 x0 x1 x2 s0) shapeCasts_S1x1x256x256_S256x256) = sc x1 (qT x0 2) 2 (i 1).val := by
  unfold runOdd.sl.v146 runOdd.sl.HS0_4
  simp (disch := decide) only [↓ View.readCov_skip, ↓ View.readCov_cons_toLoadRect]
  refine (shapeCast_shapeCast (dotS (runOdd.sl.v216 i hc arg3 harg3 x1) (k0_pay108 (View.readAt (Elt F) arg2.view (Rect.unit (s := S1x512x256) ![0, 256, 0] S1x128x256.size inb_S1x512x256_S1x128x256_0_256_0).toLoadRect (harg2.unread x0)))) _ _).trans ?_
  rw [odd_k2, q2_eq]; rfl

theorem odd2_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) : runOdd.sl.r_18 c i hc arg2 harg2 arg3 harg3 arg4 harg4 arg5 harg5 arg6 harg6 x0 x1 x2 s0 = headOut x0 x1 x2 2 (i 1).val := by
  have e : runOdd.sl.r_18 c i hc arg2 harg2 arg3 harg3 arg4 harg4 arg5 harg5 arg6 harg6 x0 x1 x2 s0 = fin (maximumf ((T2 c i arg2 harg2 arg3 harg3 arg4 harg4 arg5 harg5 arg6 harg6 x0 x1 x2 s0).1.2.2.2.2.2.2.2.1) ((T2 c i arg2 harg2 arg3 harg3 arg4 harg4 arg5 harg5 arg6 harg6 x0 x1 x2 s0).1.2.2.2.2.2.2.1))
      (stepAcc ((T2 c i arg2 harg2 arg3 harg3 arg4 harg4 arg5 harg5 arg6 harg6 x0 x1 x2 s0).1.2.2.2.2.2.2.2.1) (maximumf ((T2 c i arg2 harg2 arg3 harg3 arg4 harg4 arg5 harg5 arg6 harg6 x0 x1 x2 s0).1.2.2.2.2.2.2.2.1) ((T2 c i arg2 harg2 arg3 harg3 arg4 harg4 arg5 harg5 arg6 harg6 x0 x1 x2 s0).1.2.2.2.2.2.2.1)) ((T2 c i arg2 harg2 arg3 harg3 arg4 harg4 arg5 harg5 arg6 harg6 x0 x1 x2 s0).1.2.2.2.2.2.2.2.2.1) (runOdd.sl.v262 i hc arg4 harg4 x2) (runOdd.sl.v259 c i arg2 harg2 arg3 harg3 arg4 harg4 arg5 harg5 arg6 harg6 x0 x1 x2 s0))
      (shapeCast S64x256 (View.readAt (Elt F) arg4.view (Rect.unit (s := S32x256x256) (k0_off43 i) S1x64x256.size (k0_off43_inb i)).toLoadRect (harg4.unread x2)) shapeCasts_S1x64x256_S64x256) (shapeCast S256x256 (runOdd.sl.v146 c i hc arg2 harg2 arg3 harg3 arg4 harg4 arg5 harg5 arg6 harg6 x0 x1 x2 s0) shapeCasts_S1x1x256x256_S256x256) := rfl
  rw [e, odd_s2 c i arg2 harg2 arg3 harg3 arg4 harg4 arg5 harg5 arg6 harg6 x0 x1 x2 s0 hc, odd_p2, odd_v2, vload2_eq, T2_eq, (T1_eq c i arg2 harg2 arg3 harg3 arg4 harg4 arg5 harg5 arg6 harg6 x0 x1 x2 s0).1]
  have h2 := odd_of i hc
  generalize (i 1).val / 2 = n at h2 ⊢
  rw [h2]
  dsimp only
  exact fin_step x0 x1 x2 2 (2 * n)

theorem odd_v3 (i : grid0.Coords) (hc : k0_cond1 i = 1#1) (arg4 : Memref sig .tc .vmem S32x256x256 .bf16) (harg4 : arg4.IsWhole) (x2 : Vec F S32x256x256 .bf16) :
    runOdd.sl.v280 i hc arg4 harg4 x2 = vT x2 3 (2 * ((i 1).val / 2)) :=
  vT_load arg4 harg4 x2 3 _ (by decide) (by have := qblk_lt i; omega) _ (off40_eq i hc) _ _

theorem odd_k3 (i : grid0.Coords) (hc : k0_cond1 i = 1#1) (arg3 : Memref sig .tc .vmem S8192x512 .bf16) (harg3 : arg3.IsWhole) (x1 : Vec F S8192x512 .bf16) :
    runOdd.sl.v220 i hc arg3 harg3 x1 = kT x1 3 (i 1).val :=
  kT_load arg3 harg3 x1 3 (i 1).val (by decide) (qblk_lt i) _ (k0_off36_eq i) _ _

theorem odd_p3 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) : runOdd.sl.v277 c i arg2 harg2 arg3 harg3 arg4 harg4 arg5 harg5 arg6 harg6 x0 x1 x2 s0 = sc x1 (qT x0 3) 3 (2 * ((i 1).val / 2)) := by
  have e : runOdd.sl.v277 c i arg2 harg2 arg3 harg3 arg4 harg4 arg5 harg5 arg6 harg6 x0 x1 x2 s0 = shapeCast S256x256 (arg6.view.readCov (wrote c i arg2 harg2 arg3 harg3 arg4 harg4 arg5 harg5 arg6 harg6 x0 x1 x2 s0) (Rect.unit (s := S2x4x256x256) ![0, 3, 0, 0] S1x1x256x256.size inb_S2x4x256x256_S1x1x256x256_0_3_0_0).toLoadRect) shapeCasts_S1x1x256x256_S256x256 := rfl
  rw [e, bank3_eq]

theorem odd_s3 (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) :
    (shapeCast S256x256 (runOdd.sl.v172 c i hc arg2 harg2 arg3 harg3 arg4 harg4 arg5 harg5 arg6 harg6 x0 x1 x2 s0) shapeCasts_S1x1x256x256_S256x256) = sc x1 (qT x0 3) 3 (i 1).val := by
  unfold runOdd.sl.v172 runOdd.sl.HS0_4
  simp (disch := decide) only [↓ View.readCov_skip, ↓ View.readCov_cons_toLoadRect]
  refine (shapeCast_shapeCast (dotS (runOdd.sl.v220 i hc arg3 harg3 x1) (k0_pay109 (View.readAt (Elt F) arg2.view (Rect.unit (s := S1x512x256) ![0, 384, 0] S1x128x256.size inb_S1x512x256_S1x128x256_0_384_0).toLoadRect (harg2.unread x0)))) _ _).trans ?_
  rw [odd_k3, q3_eq]; rfl

theorem oddOut_eq (c : Dev nD) (i : grid0.Coords) (arg2 : Memref sig .tc .vmem S1x512x256 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S256x256 .bf16) (harg5 : arg5.IsWhole) (arg6 : Memref sig .tc .vmem S2x4x256x256 .f32) (harg6 : arg6.IsWhole) (x0 : Vec F S1x512x256 .bf16) (x1 : Vec F S8192x512 .bf16) (x2 : Vec F S32x256x256 .bf16) (s0 : BufTy.Contents (Elt F) arg6.view.ty) (hc : k0_cond1 i = 1#1) :
    (runOdd c i hc arg2 harg2 arg3 harg3 arg4 harg4 arg5 harg5 arg6 harg6 x0 x1 x2 s0).1 = [⟨Rect.unit (s := S256x256) ![0, 0] ![256, 256] inb_S256x256_S256x256_0_0, outTile x0 x1 x2 (i 1).val⟩] := by
  have e : (runOdd c i hc arg2 harg2 arg3 harg3 arg4 harg4 arg5 harg5 arg6 harg6 x0 x1 x2 s0).1 = [⟨Rect.unit (s := S256x256) ![0, 0] ![256, 256] inb_S256x256_S256x256_0_0,
      heads (runOdd.sl.r_16 c i hc arg2 harg2 arg3 harg3 arg4 harg4 arg5 harg5 arg6 harg6 x0 x1 x2 s0) (runOdd.sl.r_17 c i hc arg2 harg2 arg3 harg3 arg4 harg4 arg5 harg5 arg6 harg6 x0 x1 x2 s0) (runOdd.sl.r_18 c i hc arg2 harg2 arg3 harg3 arg4 harg4 arg5 harg5 arg6 harg6 x0 x1 x2 s0)
        (fin (maximumf ((T2 c i arg2 harg2 arg3 harg3 arg4 harg4 arg5 harg5 arg6 harg6 x0 x1 x2 s0).1.2.2.2.2.2.2.2.2.2.2.1) ((T2 c i arg2 harg2 arg3 harg3 arg4 harg4 arg5 harg5 arg6 harg6 x0 x1 x2 s0).1.2.2.2.2.2.2.2.2.2.1))
      (stepAcc ((T2 c i arg2 harg2 arg3 harg3 arg4 harg4 arg5 harg5 arg6 harg6 x0 x1 x2 s0).1.2.2.2.2.2.2.2.2.2.2.1) (maximumf ((T2 c i arg2 harg2 arg3 harg3 arg4 harg4 arg5 harg5 arg6 harg6 x0 x1 x2 s0).1.2.2.2.2.2.2.2.2.2.2.1) ((T2 c i arg2 harg2 arg3 harg3 arg4 harg4 arg5 harg5 arg6 harg6 x0 x1 x2 s0).1.2.2.2.2.2.2.2.2.2.1)) ((T2 c i arg2 harg2 arg3 harg3 arg4 harg4 arg5 harg5 arg6 harg6 x0 x1 x2 s0).1.2.2.2.2.2.2.2.2.2.2.2) (runOdd.sl.v280 i hc arg4 harg4 x2) (runOdd.sl.v277 c i arg2 harg2 arg3 harg3 arg4 harg4 arg5 harg5 arg6 harg6 x0 x1 x2 s0))
      (shapeCast S64x256 (View.readAt (Elt F) arg4.view (Rect.unit (s := S32x256x256) (k0_off44 i) S1x64x256.size (k0_off44_inb i)).toLoadRect (harg4.unread x2)) shapeCasts_S1x64x256_S64x256) (shapeCast S256x256 (runOdd.sl.v172 c i hc arg2 harg2 arg3 harg3 arg4 harg4 arg5 harg5 arg6 harg6 x0 x1 x2 s0) shapeCasts_S1x1x256x256_S256x256))⟩] := rfl
  rw [e, odd0_eq c i arg2 harg2 arg3 harg3 arg4 harg4 arg5 harg5 arg6 harg6 x0 x1 x2 s0 hc, odd1_eq c i arg2 harg2 arg3 harg3 arg4 harg4 arg5 harg5 arg6 harg6 x0 x1 x2 s0 hc, odd2_eq c i arg2 harg2 arg3 harg3 arg4 harg4 arg5 harg5 arg6 harg6 x0 x1 x2 s0 hc, odd_s3 c i arg2 harg2 arg3 harg3 arg4 harg4 arg5 harg5 arg6 harg6 x0 x1 x2 s0 hc, odd_p3, odd_v3, vload3_eq, T2_eq, (T1_eq c i arg2 harg2 arg3 harg3 arg4 harg4 arg5 harg5 arg6 harg6 x0 x1 x2 s0).1]
  have h2 := odd_of i hc
  generalize (i 1).val / 2 = n at h2 ⊢
  rw [h2]
  dsimp only
  rw [fin_step]
  rfl

end Cert.KernelIdeal.Att
-- ==== Proof.FrameIdeal.lean ====
/- The idealized attention program as a whole: it ends, leaves its arguments alone, and leaves in its result array, block by block, the tiles its points compute. -/
module

public import proofs.«01_k».proof.Proof.Tile
public import Idealize.ShloMosaic.Lib.Claim
public import Idealize.ShloMosaic.Lib.VecWindow
public import Idealize.ShloMosaic.Lib.Pipeline.Value

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers the body is handed at point `t`, and that each is a whole buffer. -/
abbrev st0 (t : Fin cfg0.N) : Memref sig .tc .vmem S1x512x256 .bf16 := win0_0.stage (cfg0.slots t 0)
abbrev wh0 (t : Fin cfg0.N) : (st0 t).IsWhole := hstage0_0 ((cfg0.slots t 0).cast nbuf0_0)
abbrev st1 (t : Fin cfg0.N) : Memref sig .tc .vmem S8192x512 .bf16 := win0_1.stage (cfg0.slots t 1)
abbrev wh1 (t : Fin cfg0.N) : (st1 t).IsWhole := hstage0_1 ((cfg0.slots t 1).cast nbuf0_1)
abbrev st2 (t : Fin cfg0.N) : Memref sig .tc .vmem S32x256x256 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S256x256 .bf16 := win0_3.stage (cfg0.slots t 3)
abbrev wh3 (t : Fin cfg0.N) : (st3 t).IsWhole := hstage0_3 ((cfg0.slots t 3).cast nbuf0_3)
/-- The scratch buffer the scores are parked in. -/
abbrev scr : Memref sig .tc .vmem S2x4x256x256 .f32 := Memref.whole cc0_scratch0

/-- Between two points the scratch buffer is held at some contents, beside the generator's register. -/
theorem between_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- What the pipeline is proved against: every input staged at its block, the result's buffer left at the tile the point computes. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t) ((grid0.coords t) 1).val
  Φ _ := Pipeline.ΦA spec0 c
  q _ := fullShare
  owed _ := 0

theorem data_A (c : Dev nD) (w : Fin cfg0.W) : (data m 0 c).A w = V m c (Pipeline.arrRef spec0 w) := by dsimp only [data]
theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = iblk m c 2 t := by dsimp only [data]
theorem data_after3 (c : Dev nD) (t : Fin cfg0.N) : (data m 0 c).after 3 t = outTile (iblk m c 0 t) (iblk m c 1 t) (iblk m c 2 t) ((grid0.coords t) 1).val := by dsimp only [data]
theorem data_before0 (c : Dev nD) (t : Fin cfg0.N) (d) : (data m 0 c).before 0 t d = iblk m c 0 t := before0_0_of m (data m 0 c) (data_A m c 0) (data_after0 m c) t d
theorem data_before1 (c : Dev nD) (t : Fin cfg0.N) (d) : (data m 0 c).before 1 t d = iblk m c 1 t := before0_1_of m (data m 0 c) (data_A m c 1) (data_after1 m c) t d
theorem data_before2 (c : Dev nD) (t : Fin cfg0.N) (d) : (data m 0 c).before 2 t d = iblk m c 2 t := before0_2_of m (data m 0 c) (data_A m c 2) (data_after2 m c) t d

/-- What the body is entered with at point `t`, buffer by buffer. -/
def entryAt (c : Dev nD) (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare ((data m 0 c).before 3 t d)))

/-- What it is left with. -/
def exitAt (c : Dev nD) (t : Fin cfg0.N) : sProp 𝕄 :=
  iprop((data m 0 c).Φ t.succ ∗ (data m 0 c).owesAt () t.succ
    ∗ owns (c : Thread nD τ) (st0 t) fullShare ((data m 0 c).after 0 t)
    ∗ owns (c : Thread nD τ) (st1 t) fullShare ((data m 0 c).after 1 t)
    ∗ owns (c : Thread nD τ) (st2 t) fullShare ((data m 0 c).after 2 t)
    ∗ owns (c : Thread nD τ) (st3 t) fullShare ((data m 0 c).after 3 t))

/-- One store over a whole buffer reads back as what was stored. -/
theorem read_whole (v : View sig .tc .vmem S256x256 .bf16) (f) (L : List (View.Piece (Elt F) S256x256 .bf16)) (x : Vec F S256x256 .bf16)
    (h : L = [⟨Rect.unit (s := S256x256) ![0, 0] ![256, 256] inb_S256x256_S256x256_0_0, x⟩]) :
    v.read (Elt F) (v.writes (Elt F) f L) = x := by
  subst h
  exact View.read_writes_full v f inb_S256x256_S256x256_0_0 x []

/-- The body at any point, whichever side of the conditional it takes and whatever the scratch held. -/
theorem body_at (c : Dev nD) (t : Fin cfg0.N) :
    entryAt m c t ⊢ wp frame (wpE (defs₀ (F := F)) Variants.none c none) Set.univ (bodyAt0 t) (fun _ => exitAt m c t) := by
  unfold entryAt exitAt bodyAt0
  simp only [data_before0, data_before1, data_before2]
  rw [show (data m 0 c).Φ t.succ = (data m 0 c).Φ t.castSucc from rfl,
    show (data m 0 c).owesAt () t.succ = (data m 0 c).owesAt () t.castSucc from rfl,
    data_after0, data_after1, data_after2, data_after3]
  rw [show (data m 0 c).Φ t.castSucc = Pipeline.ΦA spec0 c from rfl, between_eq]
  rw [show (iprop(∃ d, owns (c : Thread nD τ) scr fullShare d) : sProp 𝕄) = iprop(∃ d, owns (c : Thread nD τ) scr fullShare d) from rfl]
  iintro ⟨⟨⟨%ds, HS⟩, Hg⟩, Ho, ⟨%d0, H0⟩, ⟨%d1, H1⟩, ⟨%d2, H2⟩, ⟨%d3, H3⟩⟩
  irevert HS
  rw [show (owns (c : Thread nD τ) scr fullShare ds : sProp 𝕄) = iprop(∃ f, ⌜scr.view.read (Elt F) f = ds⌝ ∗ (scr.view.loc (c : Thread nD τ) ↦[scr.view.set]{fullShare} f)) from rfl]
  iintro ⟨%fs, -, HS⟩
  by_cases hc : k0_cond1 (grid0.coords t) = 1#1
  ·
    iapply ((runOdd c (grid0.coords t) hc (st0 t) (wh0 t) (st1 t) (wh1 t) (st2 t) (wh2 t) (st3 t) (wh3 t) scr (Memref.isWhole_whole _) (iblk m c 0 t) (iblk m c 1 t) (iblk m c 2 t) fs).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact read_whole _ _ _ _ (oddOut_eq c (grid0.coords t) _ _ _ _ _ _ _ _ _ _ _ _ _ _ hc)
  ·
    iapply ((runEven c (grid0.coords t) hc (st0 t) (wh0 t) (st1 t) (wh1 t) (st2 t) (wh2 t) (st3 t) (wh3 t) scr (Memref.isWhole_whole _) (iblk m c 0 t) (iblk m c 1 t) (iblk m c 2 t) fs).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact read_whole _ _ _ _ (evenOut_eq c (grid0.coords t) _ _ _ _ _ _ _ _ _ _ _ _ _ _ hc)

/-- The body table at point `t`'s buffers is that body. -/
theorem table_at (t : Fin cfg0.N) : defs₀ (F := F) .tc cfg0.body (cfg0.bodyArgs t (cfg0.slots t)) = bodyAt0 t := by
  unfold defs₀; rw [Defs.onTc_tc]

theorem bodies (c : Dev nD) : BodyObligation (data (F := F) m 0 c) (defs₀ (F := F)) Variants.none () Set.univ := fun t => by
  rw [bigSep_W0, bigSep_W0, table_at]
  exact triple_restated (body_at m c t) rfl .rfl fun _ => .rfl

set_option backward.isDefEq.respectTransparency.types false in
/-- Every execution ends, with the arrays as the pipeline's data says and every counter at zero. -/
theorem ends : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (bodies m c).loose) (hshare := fun c => (data m 0 c).share_full fun _ => rfl)
    (howed := fun _ _ => rfl) (V := V m) (hmain := hmain m Variants.none) (hA := data_A m) (hΦ := fun _ _ => rfl)

/-- Every execution ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (ends m ρ)

/-! ## The result array, block by block -/

/-- No two points write the same block. -/
theorem blocks_inj : ∀ t t' : Fin cfg0.N, win0_3.index t = win0_3.index t' → t = t' :=
  (by decide +kernel : ∀ t t' : Fin grid0.N, win0_3.index t = win0_3.index t' → t = t')

/-- What the result array holds at a point's block is the tile that point computed. -/
theorem block_eq (c : Dev nD) (t : Fin cfg0.N) (hf : (cfg0.win 3).flush t = true) :
    ((cfg0.win 3).blk t).view.read (Elt F) ((data m 0 c).arrAt 3 cfg0.N)
      = (cfg0.win 3).cut (grid0.coords t) (outTile (iblk m c 0 t) (iblk m c 1 t) (iblk m c 2 t) ((grid0.coords t) 1).val) :=
  ((data m 0 c).read_blk_arrAt_eq_flushed 3 (fun a b _ _ hne => (cfg0.win 3).disjoint_blk fun h => hne (blocks_inj a b h)) cfg0.N t t.isLt hf).trans (by
    show (cfg0.win 3).cut (grid0.coords t) ((data m 0 c).after 3 t) = _
    rw [data_after3])

/-- Every execution ends with the result array at the pipeline's, the arguments as they were and every counter at zero. -/
theorem ends_value : θ_run defs (onTc (τ := τ) (main (F := F))) ⟨m, fun _ => 0, ρ⟩ fun r => ∀ c : Dev nD,
      r.2.mem ((c : Thread nD τ).loc main_v18) = (data m 0 c).arrAt 3 cfg0.N :=
  (θ_run defs _ _).mono (fun r h c => (h.1 c).1 3) (ends m ρ)

end Cert.KernelIdeal.Att

end
-- ==== Proof.Soft.lean ====
/- Softmax sums over the extended reals: what a fold that rescales running sums from one maximum to the next comes to, and the
   weighted mean it stands for. Scores are real or ⊥ (a masked key), values are anything. -/
module

public import Idealize.ShloMosaic.PureOps.Ideal

@[expose] public section

noncomputable section

namespace Cert.Soft

open Finset

/-- Two to a score: zero at ⊥. -/
def two (s : EReal) : ℝ := if s = ⊥ then 0 else (2 : ℝ) ^ s.toReal

theorem two_bot : two ⊥ = 0 := by simp [two]
theorem two_coe (x : ℝ) : two (x : EReal) = (2 : ℝ) ^ x := by simp [two]
theorem two_nonneg (s : EReal) : 0 ≤ two s := by
  unfold two; split
  · exact le_rfl
  · positivity

/-- A finite nonnegative factor goes into any sum. -/
theorem mul_sum_coe {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a t ha ih =>
    rw [Finset.sum_insert ha, Finset.sum_insert ha, EReal.left_distrib_of_nonneg_of_ne_top (by exact_mod_cast hc) (EReal.coe_ne_top c), ih]

theorem coe_sum {ι : Type*} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- `exp2` of a score less a real shift. -/
theorem exp2_sub (s : EReal) (hs : s ≠ ⊤) (μ : ℝ) : Idealize.ShloMosaic.Ideal.exp2 (s - (μ : EReal)) = ((two s * (2 : ℝ) ^ (-μ) : ℝ) : EReal) := by
  induction s using EReal.rec with
  | bot =>
    rw [two_bot, zero_mul, EReal.bot_sub, EReal.coe_zero]
    exact Idealize.ShloMosaic.Ideal.exp2_bot
  | coe x =>
    rw [two_coe, ← EReal.coe_sub, Idealize.ShloMosaic.Ideal.exp2_coe, sub_eq_add_neg, ← Real.rpow_add (by norm_num)]
    rfl
  | top => exact absurd rfl hs

/-- Running maximum `m` and one running sum `a` after `n` key blocks: nothing yet, or a real maximum and the sum of the values
    weighted with two to the score less that maximum. -/
def Good (s v : ℕ → Fin 256 → EReal) (m a : EReal) (n : ℕ) : Prop :=
  (n = 0 ∧ m = ⊥ ∧ a = 0) ∨
    ∃ μ : ℝ, m = (μ : EReal) ∧ a = ∑ b ∈ range n, ∑ r : Fin 256, v b r * ((two (s b r) * (2 : ℝ) ^ (-μ) : ℝ) : EReal)

theorem Good.congr {s s' v : ℕ → Fin 256 → EReal} {m a : EReal} {n : ℕ} (h : Good s v m a n) (hs : ∀ b < n, s b = s' b) : Good s' v m a n := by
  rcases h with h | ⟨μ, hm, ha⟩
  · exact Or.inl h
  · refine Or.inr ⟨μ, hm, ha.trans (Finset.sum_congr rfl fun b hb => ?_)⟩
    rw [hs b (Finset.mem_range.mp hb)]

theorem Good.congrV {s v v' : ℕ → Fin 256 → EReal} {m a : EReal} {n : ℕ} (h : Good s v m a n) (hv : ∀ b < n, v b = v' b) : Good s v' m a n := by
  rcases h with h | ⟨μ, hm, ha⟩
  · exact Or.inl h
  · refine Or.inr ⟨μ, hm, ha.trans (Finset.sum_congr rfl fun b hb => ?_)⟩
    rw [hv b (Finset.mem_range.mp hb)]

/-- One block more: the running sum is rescaled from the old maximum to the new one. -/
theorem Good.step {s v : ℕ → Fin 256 → EReal} {m a : EReal} {n : ℕ} (h : Good s v m a n) (hs : ∀ r, s n r ≠ ⊤) {M : EReal}
    (hM : ∃ x : ℝ, M = (x : EReal)) :
    Good s v (max m M) (Idealize.ShloMosaic.Ideal.exp2 (m - max m M) * a +
      ∑ r : Fin 256, v n r * Idealize.ShloMosaic.Ideal.exp2 (s n r - max m M)) (n + 1) := by
  obtain ⟨x, rfl⟩ := hM
  rcases h with ⟨rfl, rfl, rfl⟩ | ⟨μ, rfl, rfl⟩
  · refine Or.inr ⟨x, by simp, ?_⟩
    rw [mul_zero, zero_add, Finset.sum_range_one, max_eq_right bot_le]
    exact Finset.sum_congr rfl fun r _ => by rw [exp2_sub _ (hs r)]
  · refine Or.inr ⟨max μ x, (EReal.coe_strictMono.monotone.map_max (a := μ) (b := x)).symm, ?_⟩
    rw [← EReal.coe_strictMono.monotone.map_max (a := μ) (b := x), exp2_sub _ (EReal.coe_ne_top μ), two_coe, Finset.sum_range_succ,
      mul_sum_coe _ (by positivity)]
    congr 1
    · refine Finset.sum_congr rfl fun b _ => ?_
      rw [mul_sum_coe _ (by positivity)]
      refine Finset.sum_congr rfl fun r _ => ?_
      rw [mul_left_comm, ← EReal.coe_mul]
      congr 2
      have : (2 : ℝ) ^ μ * (2 : ℝ) ^ (-μ) = 1 := by
        rw [← Real.rpow_add (by norm_num)]; simp
      calc (2 : ℝ) ^ μ * (2 : ℝ) ^ (-(max μ x)) * (two (s b r) * (2 : ℝ) ^ (-μ))
          = two (s b r) * (2 : ℝ) ^ (-(max μ x)) * ((2 : ℝ) ^ μ * (2 : ℝ) ^ (-μ)) := by ring
        _ = _ := by rw [this, mul_one]
    · exact Finset.sum_congr rfl fun r _ => by rw [exp2_sub _ (hs r)]

/-- The mean of `v` over the first `N` keys, weighted with `E`. -/
def mean (N : ℕ) (E : ℕ → ℝ) (v : ℕ → EReal) : EReal := ∑ j ∈ range N, v j * ((E j / ∑ i ∈ range N, E i : ℝ) : EReal)

/-- A sum by blocks of 256 is the sum over all. -/
theorem sum_blocks {β : Type*} [AddCommMonoid β] (f : ℕ → β) (n : ℕ) :
    ∑ b ∈ range n, ∑ r : Fin 256, f (256 * b + r.val) = ∑ j ∈ range (256 * n), f j := by
  induction n with
  | zero => simp
  | succ n ih =>
    rw [Finset.sum_range_succ, ih, Nat.mul_succ, Finset.sum_range_add, Finset.sum_range (n := 256)]

theorem mean_extend {N M : ℕ} (h : N ≤ M) (E : ℕ → ℝ) (v : ℕ → EReal) (hE : ∀ j, N ≤ j → E j = 0) : mean N E v = mean M E v := by
  obtain ⟨d, rfl⟩ := Nat.exists_eq_add_of_le h
  unfold mean
  have h0 : ∑ i ∈ range (N + d), E i = ∑ i ∈ range N, E i := by
    rw [Finset.sum_range_add, Finset.sum_eq_zero (s := range d) (fun i _ => hE _ (Nat.le_add_right _ _)), add_zero]
  rw [h0, Finset.sum_range_add (n := N), Finset.sum_eq_zero (s := range d), add_zero]
  intro i _
  rw [hE _ (Nat.le_add_right _ _), zero_div, EReal.coe_zero, mul_zero]

theorem div_pos_coe (x : EReal) {L : ℝ} (h : 0 < L) : Idealize.ShloMosaic.Ideal.div x (L : EReal) = ((1 / L : ℝ) : EReal) * x := by
  rw [Idealize.ShloMosaic.Ideal.div_coe h.ne', mul_comm]

/-- What the fold ends in: the running sum over the running sum of the weights is the weighted mean. -/
theorem Good.mean {s : ℕ → Fin 256 → EReal} {v : ℕ → EReal} {m a l : EReal} {n : ℕ} {E : ℕ → ℝ}
    (ha : Good s (fun b r => v (256 * b + r.val)) m a (n + 1)) (hl : Good s (fun _ _ => 1) m l (n + 1))
    (hE : ∀ b ≤ n, ∀ r : Fin 256, two (s b r) = E (256 * b + r.val)) (hpos : 0 < ∑ j ∈ range (256 * (n + 1)), E j) :
    Idealize.ShloMosaic.Ideal.div a l = mean (256 * (n + 1)) E v := by
  rcases ha with ⟨h, _⟩ | ⟨μ, hm, ha⟩
  · exact absurd h (Nat.succ_ne_zero n)
  rcases hl with ⟨h, _⟩ | ⟨μ', hm', hl⟩
  · exact absurd h (Nat.succ_ne_zero n)
  obtain rfl : μ = μ' := EReal.coe_injective (hm.symm.trans hm')
  have hl' : l = (((∑ j ∈ range (256 * (n + 1)), E j) * (2 : ℝ) ^ (-μ) : ℝ) : EReal) := by
    rw [hl, Finset.sum_mul, coe_sum, ← sum_blocks]
    refine Finset.sum_congr rfl fun b hb => Finset.sum_congr rfl fun r _ => ?_
    rw [one_mul, hE b (Nat.lt_succ_iff.mp (Finset.mem_range.mp hb)) r]
  have ha' : a = ∑ j ∈ range (256 * (n + 1)), v j * ((E j * (2 : ℝ) ^ (-μ) : ℝ) : EReal) := by
    rw [ha, ← sum_blocks]
    refine Finset.sum_congr rfl fun b hb => Finset.sum_congr rfl fun r _ => ?_
    rw [hE b (Nat.lt_succ_iff.mp (Finset.mem_range.mp hb)) r]
  have h2 : (0 : ℝ) < (2 : ℝ) ^ (-μ) := by positivity
  rw [hl', ha', div_pos_coe _ (mul_pos hpos h2), mul_sum_coe _ (by positivity)]
  refine Finset.sum_congr rfl fun j _ => ?_
  rw [mul_left_comm, ← EReal.coe_mul]
  congr 2
  field_simp

/-- The largest of finitely many scores, none ⊤ and one of them real, is real. -/
theorem fold_max_real {n : ℕ} (f : Fin n → EReal) (h : ∀ k, f k ≠ ⊤) (k : Fin n) (hk : f k ≠ ⊥) :
    ∃ x : ℝ, Finset.univ.fold max (⊥ : EReal) f = (x : EReal) := by
  have h1 : Finset.univ.fold max (⊥ : EReal) f ≠ ⊤ := by
    have : Finset.univ.fold max (⊥ : EReal) f < ⊤ := by
      rw [Finset.fold_max_lt]
      exact ⟨bot_lt_top, fun x _ => lt_top_iff_ne_top.mpr (h x)⟩
    exact this.ne
  have h2 : Finset.univ.fold max (⊥ : EReal) f ≠ ⊥ := by
    have : ⊥ < Finset.univ.fold max (⊥ : EReal) f := by
      rw [Finset.lt_fold_max]
      exact Or.inr ⟨k, Finset.mem_univ _, bot_lt_iff_ne_bot.mpr hk⟩
    exact this.ne'
  exact ⟨_, (EReal.coe_toReal h1 h2).symm⟩

/-- The exponential of a score: zero at ⊥. -/
def nat (s : EReal) : ℝ := if s = ⊥ then 0 else Real.exp s.toReal

theorem nat_bot : nat ⊥ = 0 := by simp [nat]
theorem nat_coe (x : ℝ) : nat (x : EReal) = Real.exp x := by simp [nat]
theorem nat_nonneg (s : EReal) : 0 ≤ nat s := by
  unfold nat; split
  · exact le_rfl
  · positivity

theorem exp_sub (s : EReal) (hs : s ≠ ⊤) (μ : ℝ) : Idealize.ShloMosaic.Ideal.exp (s - (μ : EReal)) = ((nat s * Real.exp (-μ) : ℝ) : EReal) := by
  induction s using EReal.rec with
  | bot =>
    rw [nat_bot, zero_mul, EReal.bot_sub, EReal.coe_zero]
    exact Idealize.ShloMosaic.Ideal.exp_bot
  | coe x =>
    rw [nat_coe, ← EReal.coe_sub, Idealize.ShloMosaic.Ideal.exp_coe, sub_eq_add_neg, Real.exp_add]
  | top => exact absurd rfl hs

/-- The plain softmax: exponentials less the maximum over their sum, times the values, is the same weighted mean. -/
theorem softmax_mean {N : ℕ} (s : Fin N → EReal) (v : ℕ → EReal) (E : ℕ → ℝ) (X S : EReal) (hX : ∃ x : ℝ, X = (x : EReal)) (h : ∀ k, s k ≠ ⊤)
    (hE : ∀ k, nat (s k) = E k.val) (hpos : 0 < ∑ j ∈ range N, E j)
    (hS : S = ∑ k : Fin N, Idealize.ShloMosaic.Ideal.exp (s k - X)) :
    ∑ k : Fin N, v k.val * Idealize.ShloMosaic.Ideal.div (Idealize.ShloMosaic.Ideal.exp (s k - X)) S = mean N E v := by
  obtain ⟨x, rfl⟩ := hX
  have hS' : S = (((∑ j ∈ range N, E j) * Real.exp (-x) : ℝ) : EReal) := by
    rw [hS, Finset.sum_mul, coe_sum, Finset.sum_range]
    exact Finset.sum_congr rfl fun k _ => by rw [exp_sub _ (h k), hE]
  have h2 : 0 < Real.exp (-x) := Real.exp_pos _
  unfold mean
  rw [Finset.sum_range]
  refine Finset.sum_congr rfl fun k _ => ?_
  rw [exp_sub _ (h k), hE, hS', div_pos_coe _ (mul_pos hpos h2), ← EReal.coe_mul]
  congr 2
  field_simp

/-- Two to a score over `log 2` is the exponential of the score. -/
theorem two_div_log (x : ℝ) : two ((x / Real.log 2 : ℝ) : EReal) = Real.exp x := by
  have h : Real.log 2 ≠ 0 := (Real.log_pos (by norm_num)).ne'
  rw [two_coe, Real.rpow_def_of_pos (by norm_num)]
  congr 1
  field_simp

/-! ## Causal attention -/

/-- Neither infinity. -/
def Fini (x : EReal) : Prop := x ≠ ⊤ ∧ x ≠ ⊥

theorem Fini.coe {x : EReal} (h : Fini x) : ((x.toReal : ℝ) : EReal) = x := EReal.coe_toReal h.1 h.2

/-- The scale of the scores, as the programs' word for it denotes. -/
def cR : ℝ := (Idealize.ShloMosaic.Ideal.ofBits .f32 0x3DD105EC#32 : EReal).toReal

theorem cR_eq : (Idealize.ShloMosaic.Ideal.ofBits .f32 0x3DD105EC#32 : EReal) = ((cR : ℝ) : EReal) := by
  refine (EReal.coe_toReal ?_ ?_).symm <;> simp [Idealize.ShloMosaic.Ideal.ofBits, Idealize.ShloMosaic.Ideal.ieee, -EReal.coe_mul]

/-- The score of key `j` for query `t` in head `h`. -/
def score (q k : Fin 8192 → Fin 8 → Fin 96 → EReal) (h : Fin 8) (t j : Fin 8192) : ℝ :=
  (∑ e : Fin 96, (q t h e).toReal * (k j h e).toReal) * cR

/-- A query's weighted mean of the values of the keys up to it. -/
def attn (q k : Fin 8192 → Fin 8 → Fin 96 → EReal) (v : Fin 8192 → Fin 8 → Fin 64 → EReal) (t : Fin 8192) (h : Fin 8) (d : Fin 64) : EReal :=
  mean 8192 (fun j => if j ≤ t.val then Real.exp (score q k h t ⟨j % 8192, Nat.mod_lt _ (by decide)⟩) else 0)
    (fun j => v ⟨j % 8192, Nat.mod_lt _ (by decide)⟩ h d)

theorem attn_pos (q k : Fin 8192 → Fin 8 → Fin 96 → EReal) (t : Fin 8192) (h : Fin 8) (N : ℕ) (hN : 0 < N) :
    0 < ∑ j ∈ range N, (if j ≤ t.val then Real.exp (score q k h t ⟨j % 8192, Nat.mod_lt _ (by decide)⟩) else 0) := by
  refine Finset.sum_pos' (fun j _ => ?_) ⟨0, Finset.mem_range.mpr hN, ?_⟩
  · split
    · positivity
    · exact le_rfl
  · rw [if_pos (Nat.zero_le _)]; positivity

/-- A scaled dot product of reals. -/
theorem dot_real {n : ℕ} (q k : Fin n → EReal) (hq : ∀ e, Fini (q e)) (hk : ∀ e, Fini (k e)) :
    ∑ e : Fin n, q e * k e = ((∑ e : Fin n, (q e).toReal * (k e).toReal : ℝ) : EReal) := by
  rw [coe_sum]
  exact Finset.sum_congr rfl fun e _ => by rw [EReal.coe_mul, (hq e).coe, (hk e).coe]

end Cert.Soft

end
-- ==== Proof.Val.lean ====
/- The softmax fold of one head at an entry, over the extended reals: what a query block comes to is the weighted mean of the values. -/
module

public import proofs.«01_k».proof.Proof.Tile
public import proofs.«01_k».proof.Proof.Soft
public import Idealize.ShloMosaic.Lib.Pointwise
public import Idealize.ShloMosaic.Lib.Tactic.IndexArith

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Cert.Soft

theorem neg_inf : Ideal.ofBits FTy.f32 4286578688#32 = (⊥ : EReal) := by
  simp [Ideal.ofBits, Ideal.ieee]

theorem m0_entry (c : Fin 256) : (k0_pay123 (F := Ideal)) (ix2 (0 : Fin 1) c) = (⊥ : EReal) := by
  pointwise [k0_pay123]
  exact IdealRules.named_const.ideal_named_scalar _ _ _ _ rfl

theorem a0_entry (d : Fin 80) (c : Fin 256) : (k0_pay124 (F := Ideal)) (ix2 d c) = (0 : EReal) := by
  pointwise [k0_pay124]

theorem smax_entry (s : FVec Ideal S256x256 .f32) (c : Fin 256) : smaxOf s (ix2 (0 : Fin 1) c) = Finset.univ.fold max (⊥ : EReal) (fun r : Fin 256 => s (ix2 r c)) := by
  pointwise [smaxOf]
  rw [neg_inf]

theorem mask_entry (s : FVec Ideal S256x256 .f32) (r c : Fin 256) : maskS s (ix2 r c) = if r.val ≤ c.val then s (ix2 r c) else (⊥ : EReal) := by
  pointwise [maskS, k0_pay110]
  rw [IdealRules.named_const.ideal_named_scalar _ _ _ _ (show κ "mask" = some ⊥ from rfl)]
  have hr := r.isLt
  have hc := c.isLt
  have h : IntOp.cmpi CmpIPredicate.sle (BitVec.ofNat 32 r.val) (BitVec.ofNat 32 c.val) = if r.val ≤ c.val then 1#1 else 0#1 := by
    rw [WordCmp.cmpi_sle_ofNat (by omega) (by omega)]
    by_cases h : r.val ≤ c.val <;> simp [h]
  rw [h]
  split <;> rfl

theorem dot_entry (k : FVec Ideal S256x128 .bf16) (q : FVec Ideal S128x256 .bf16) (r c : Fin 256) :
    dotS k q (ix2 r c) = ∑ e : Fin 128, (k (ix2 r e) * q (ix2 e c) : EReal) := by
  pointwise [dotS]

theorem step_entry (m m' : FVec Ideal S1x256 .f32) (a : FVec Ideal S80x256 .f32) (v : FVec Ideal S64x256 .bf16) (s : FVec Ideal S256x256 .f32) (d : Fin 64) (c : Fin 256) :
    stepAcc m m' a v s (ix2 (⟨d.val, by omega⟩ : Fin 80) c) = (Ideal.exp2 (m (ix2 (0 : Fin 1) c) - m' (ix2 (0 : Fin 1) c) : EReal) * a (ix2 (⟨d.val, by omega⟩ : Fin 80) c) +
      ∑ r : Fin 256, v (ix2 d r) * Ideal.exp2 (s (ix2 r c) - m' (ix2 (0 : Fin 1) c) : EReal) : EReal) := by
  pointwise [stepAcc]
  rfl

theorem step_ones (m m' : FVec Ideal S1x256 .f32) (a : FVec Ideal S80x256 .f32) (v : FVec Ideal S64x256 .bf16) (s : FVec Ideal S256x256 .f32) (c : Fin 256) :
    stepAcc m m' a v s (ix2 (64 : Fin 80) c) = (Ideal.exp2 (m (ix2 (0 : Fin 1) c) - m' (ix2 (0 : Fin 1) c) : EReal) * a (ix2 (64 : Fin 80) c) +
      ∑ r : Fin 256, (1 : EReal) * Ideal.exp2 (s (ix2 r c) - m' (ix2 (0 : Fin 1) c) : EReal) : EReal) := by
  pointwise [stepAcc]
  rfl

theorem fin_entry (m : FVec Ideal S1x256 .f32) (a : FVec Ideal S80x256 .f32) (v : FVec Ideal S64x256 .bf16) (s : FVec Ideal S256x256 .f32) (d : Fin 64) (c : Fin 256) :
    fin m a v s (ix2 d c) = Ideal.div (stepAcc m (maximumf m (smaxOf (maskS s))) a v (maskS s) (ix2 (⟨d.val, by omega⟩ : Fin 80) c))
      (stepAcc m (maximumf m (smaxOf (maskS s))) a v (maskS s) (ix2 (64 : Fin 80) c)) := by
  unfold fin
  generalize stepAcc m (maximumf m (smaxOf (maskS s))) a v (maskS s) = z
  pointwise []

theorem heads_entry (a b c d : FVec Ideal S64x256 .f32) (f : ℕ → FVec Ideal S64x256 .f32) (ha : f 0 = a) (hb : f 1 = b) (hc : f 2 = c) (hd : f 3 = d) (y : Fin 256) (x : Fin 256) :
    heads a b c d (ix2 y x) = f (x.val / 64) (ix2 ⟨x.val % 64, Nat.mod_lt _ (by decide)⟩ y) := by
  pointwise [heads]
  have hx := x.isLt
  by_cases h1 : x.val < 64
  · rw [dif_pos h1, show x.val / 64 = 0 by omega, ha]
    exact congrArg (fun i => a (ix2 i y)) (Fin.ext (by show x.val = x.val % 64; omega))
  rw [dif_neg h1]
  by_cases h2 : x.val - 64 < 64
  · rw [dif_pos h2, show x.val / 64 = 1 by omega, hb]
    exact congrArg (fun i => b (ix2 i y)) (Fin.ext (by show x.val - 64 = x.val % 64; omega))
  rw [dif_neg h2]
  by_cases h3 : x.val - 64 - 64 < 64
  · rw [dif_pos h3, show x.val / 64 = 2 by omega, hc]
    exact congrArg (fun i => c (ix2 i y)) (Fin.ext (by show x.val - 64 - 64 = x.val % 64; omega))
  rw [dif_neg h3, show x.val / 64 = 3 by omega, hd]
  exact congrArg (fun i => d (ix2 i y)) (Fin.ext (by show x.val - 64 - 64 - 64 = x.val % 64; omega))

theorem maxi_entry (m n : FVec Ideal S1x256 .f32) (c : Fin 256) : maximumf m n (ix2 (0 : Fin 1) c) = (max (m (ix2 (0 : Fin 1) c) : EReal) (n (ix2 (0 : Fin 1) c)) : EReal) := rfl

/-- Before the diagonal block: the running maximum and one row of the running sums. -/
theorem good_upto (s : ℕ → FVec Ideal S256x256 .f32) (v : ℕ → FVec Ideal S64x256 .bf16) (c : Fin 256) (n : ℕ)
    (hs : ∀ b < n, ∀ r : Fin 256, ∃ x : ℝ, s b (ix2 r c) = (x : EReal)) (d : Fin 64) :
    Good (fun b r => s b (ix2 r c)) (fun b r => v b (ix2 d r)) (mOf s n (ix2 (0 : Fin 1) c)) (accOf s v n (ix2 (⟨d.val, by omega⟩ : Fin 80) c)) n ∧
      Good (fun b r => s b (ix2 r c)) (fun _ _ => 1) (mOf s n (ix2 (0 : Fin 1) c)) (accOf s v n (ix2 (64 : Fin 80) c)) n := by
  induction n with
  | zero => exact ⟨Or.inl ⟨rfl, m0_entry c, a0_entry _ c⟩, Or.inl ⟨rfl, m0_entry c, a0_entry _ c⟩⟩
  | succ n ih =>
    obtain ⟨h1, h2⟩ := ih fun b hb => hs b (Nat.lt_succ_of_lt hb)
    have hn := hs n (Nat.lt_succ_self n)
    have ht : ∀ r : Fin 256, s n (ix2 r c) ≠ (⊤ : EReal) := fun r => by
      obtain ⟨x, hx⟩ := hn r
      rw [hx]; exact EReal.coe_ne_top x
    have hM : ∃ x : ℝ, smaxOf (s n) (ix2 (0 : Fin 1) c) = (x : EReal) := by
      rw [smax_entry]
      refine fold_max_real _ ht 0 ?_
      obtain ⟨x, hx⟩ := hn 0
      rw [hx]; exact EReal.coe_ne_bot x
    rw [accOf, step_entry, step_ones, mOf, maxi_entry]
    exact ⟨h1.step ht hM, h2.step ht hM⟩

/-- One head of a query block at an entry. -/
theorem headOut_entry (x0 : Vec Ideal S1x512x256 .bf16) (x1 : Vec Ideal S8192x512 .bf16) (x2 : Vec Ideal S32x256x256 .bf16) (h n : ℕ) (c : Fin 256) (d : Fin 64)
    (σ : ℕ → ℝ) (V : ℕ → EReal)
    (hσ : ∀ b ≤ n, ∀ r : Fin 256, sc x1 (qT x0 h) h b (ix2 r c) = ((σ (256 * b + r.val) / Real.log 2 : ℝ) : EReal))
    (hV : ∀ b ≤ n, ∀ r : Fin 256, vT x2 h b (ix2 d r) = V (256 * b + r.val)) :
    headOut x0 x1 x2 h n (ix2 d c) = mean (256 * (n + 1)) (fun j => if j ≤ 256 * n + c.val then Real.exp (σ j) else 0) V := by
  have hc := c.isLt
  obtain ⟨h1, h2⟩ := good_upto (sc x1 (qT x0 h) h) (vT x2 h) c n (fun b hb r => ⟨_, hσ b hb.le r⟩) d
  set s' : ℕ → Fin 256 → EReal := fun b r => if b < n then sc x1 (qT x0 h) h b (ix2 r c) else maskS (sc x1 (qT x0 h) h n) (ix2 r c) with hs'
  have hlt : ∀ b < n, (fun r : Fin 256 => (sc x1 (qT x0 h) h b (ix2 r c) : EReal)) = s' b := fun b hb => by
    funext r; simp only [hs', if_pos hb]
  have hn : ∀ r : Fin 256, s' n r = maskS (sc x1 (qT x0 h) h n) (ix2 r c) := fun r => by
    simp only [hs', lt_irrefl, if_false]
  have hn' : ∀ r : Fin 256, s' n r = if r.val ≤ c.val then ((σ (256 * n + r.val) / Real.log 2 : ℝ) : EReal) else ⊥ := fun r => by
    rw [hn, mask_entry, hσ n le_rfl r]
  have ht : ∀ r : Fin 256, s' n r ≠ ⊤ := fun r => by
    rw [hn']; split
    · exact EReal.coe_ne_top _
    · exact bot_ne_top
  have hM : ∃ x : ℝ, smaxOf (maskS (sc x1 (qT x0 h) h n)) (ix2 (0 : Fin 1) c) = (x : EReal) := by
    rw [smax_entry]
    refine fold_max_real _ (fun r => hn r ▸ ht r) 0 ?_
    rw [← hn, hn', if_pos (by show 0 ≤ c.val; omega)]
    exact EReal.coe_ne_bot _
  have g1 := (h1.congr hlt).step ht hM
  have g2 := (h2.congr hlt).step ht hM
  have hgv : Good s' (fun b r => V (256 * b + r.val))
      (max (mOf (sc x1 (qT x0 h) h) n (ix2 (0 : Fin 1) c)) (smaxOf (maskS (sc x1 (qT x0 h) h n)) (ix2 (0 : Fin 1) c)) : EReal) _ (n + 1) :=
    g1.congrV fun b hb => by funext r; exact hV b (Nat.lt_succ_iff.mp hb) r
  unfold headOut
  rw [fin_entry, step_entry, step_ones, maxi_entry]
  simp only [hn] at hgv g2
  refine Good.mean hgv g2 ?_ ?_
  · intro b hb r
    have hr := r.isLt
    rcases lt_or_eq_of_le hb with hb' | rfl
    · rw [← congrFun (hlt b hb') r, hσ b hb r, two_div_log, if_pos (by omega)]
    · rw [hn']
      by_cases hrc : r.val ≤ c.val
      · rw [if_pos hrc, two_div_log, if_pos (by omega)]
      · rw [if_neg hrc, two_bot, if_neg (by omega)]
  · refine Finset.sum_pos' (fun j _ => ?_) ⟨0, by simp, ?_⟩
    · split
      · positivity
      · exact le_rfl
    · rw [if_pos (Nat.zero_le _)]; positivity

end Cert.KernelIdeal.Att

end
-- ==== Proof.KArr.lean ====
/- The arrays the kernel is entered with, entry by entry, and the blocks of them its points read. -/
module

public import proofs.«01_k».proof.Proof.FrameIdeal
public import proofs.«01_k».proof.Proof.Val
public import Idealize.ShloMosaic.Lib.Claim
public import Idealize.ShloMosaic.Lib.Pipeline.ValueKit.Point
public import Idealize.ShloMosaic.Lib.Tactic.CleanTypes

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Cert.Soft

variable (m : (ℓ : Loc nD τ sig) → Buf (Elt Ideal) ℓ) (c : Dev nD)

/-- The queries, keys and values at their places in the arguments. -/
def Qf : Fin 8192 → Fin 8 → Fin 96 → EReal := fun t h e => (m ((c.tc : Thread nD τ).loc main_arg0) : FVec Ideal S1x8192x8x96 .f32) (ix4 (0 : Fin 1) t h e)
def Kf : Fin 8192 → Fin 8 → Fin 96 → EReal := fun t h e => (m ((c.tc : Thread nD τ).loc main_arg1) : FVec Ideal S1x8192x8x96 .f32) (ix4 (0 : Fin 1) t h e)
def Vf : Fin 8192 → Fin 8 → Fin 64 → EReal := fun t h d => (m ((c.tc : Thread nD τ).loc main_arg2) : FVec Ideal S1x8192x8x64 .f32) (ix4 (0 : Fin 1) t h d)

/-- The scaled queries, each padded to 128 lanes, one column per query. -/
def qA (x : FVec Ideal S1x8192x8x96 .f32) : FVec Ideal S32x1024x256 .bf16 :=
  truncf .bf16 (transpose S32x1024x256 [0, 2, 1] (shapeCast S32x256x1024 (pad S8192x8x128 ![0, 0, 0] ![0, 0, 32] ![0, 0, 0]
    (Host.divf (mulf (shapeCast S8192x8x96 x shapeCasts_S1x8192x8x96_S8192x8x96) (broadcastInDim S8192x8x96 ![] bcast_S_S8192x8x96 (constant S_ .f32 1037108716#32)))
      (broadcastInDim S8192x8x96 ![] bcast_S_S8192x8x96 (Host.log (constant S_ .f32 1073741824#32))))
    (sitofp .f32 (constantI S_ 32 0#32)) pads_S8192x8x96_S8192x8x128_000_000_0320 h_S_)
    shapeCasts_S8192x8x128_S32x256x1024) transposes_S32x256x1024_S32x1024x256_0_2_1) bitsLt_bf16_f32

/-- The keys, each padded to 128 lanes, one row per key. -/
def kA (x : FVec Ideal S1x8192x8x96 .f32) : FVec Ideal S8192x1024 .bf16 :=
  truncf .bf16 (shapeCast S8192x1024 (pad S8192x8x128 ![0, 0, 0] ![0, 0, 32] ![0, 0, 0] (shapeCast S8192x8x96 x shapeCasts_S1x8192x8x96_S8192x8x96)
    (sitofp .f32 (constantI S_ 32 0#32)) pads_S8192x8x96_S8192x8x128_000_000_0320 h_S_)
    shapeCasts_S8192x8x128_S8192x1024) bitsLt_bf16_f32

/-- The values, one column per key. -/
def vA (x : FVec Ideal S1x8192x8x64 .f32) : FVec Ideal S32x512x256 .bf16 :=
  truncf .bf16 (transpose S32x512x256 [0, 2, 1] (shapeCast S32x256x512 x shapeCasts_S1x8192x8x64_S32x256x512) transposes_S32x256x512_S32x512x256_0_2_1) bitsLt_bf16_f32

theorem entry_q : (V m c main_v10 : FVec Ideal S32x1024x256 .bf16) = qA (m ((c.tc : Thread nD τ).loc main_arg0)) := by
  simp only [V, hostOps0, hostOps0_1, hostOps0_2, hostOps0_3, hostOps0_4, List.flatten_cons, List.flatten_nil, List.append_nil, List.cons_append, List.nil_append]
  entry_read
  rfl
theorem entry_k : (V m c main_v16 : FVec Ideal S8192x1024 .bf16) = kA (m ((c.tc : Thread nD τ).loc main_arg1)) := by
  simp only [V, hostOps0, hostOps0_1, hostOps0_2, hostOps0_3, hostOps0_4, List.flatten_cons, List.flatten_nil, List.append_nil, List.cons_append, List.nil_append]
  entry_read
  rfl
theorem entry_v : (V m c main_v17 : FVec Ideal S32x512x256 .bf16) = vA (m ((c.tc : Thread nD τ).loc main_arg2)) := by
  simp only [V, hostOps0, hostOps0_1, hostOps0_2, hostOps0_3, hostOps0_4, List.flatten_cons, List.flatten_nil, List.append_nil, List.cons_append, List.nil_append]
  entry_read
  rfl

theorem two_bits : (Ideal.ofBits .f32 0x40000000#32 : EReal) = ((2 : ℝ) : EReal) := by
  simp [Ideal.ofBits, Ideal.ieee, -EReal.coe_mul]
  norm_num

theorem zero_word : (FloatOps.sitofp .f32 (0#32 : BitVec 32) : Ideal .f32) = (0 : EReal) := by
  show (((0#32 : BitVec 32).toInt : ℝ) : EReal) = 0
  simp

theorem log_two : Ideal.log (Ideal.ofBits .f32 0x40000000#32) = ((Real.log 2 : ℝ) : EReal) := by
  rw [two_bits, Ideal.log_coe, if_neg (by norm_num)]

theorem qA_entry (x : FVec Ideal S1x8192x8x96 .f32) (i : Fin 32) (h : Fin 8) (e : Fin 128) (y : Fin 256) (r : Fin 1024) (hr : r.val = 128 * h.val + e.val) :
    qA x (ix3 i r y) = if he : e.val < 96 then Ideal.div (x (ix4 (0 : Fin 1) ⟨256 * i.val + y.val, by omega⟩ h ⟨e.val, he⟩) * ((cR : ℝ) : EReal)) ((Real.log 2 : ℝ) : EReal) else 0 := by
  pointwise [qA]
  have e1 : r.val / 128 = h.val := by omega
  have e2 : r.val % 128 = e.val := by omega
  have e0 : i.val * 256 + y.val = 256 * i.val + y.val := by omega
  simp only [e0, e1, e2]
  by_cases he : e.val < 96
  · rw [dif_pos ⟨by omega, h.isLt, he⟩, dif_pos he, log_two, cR_eq]
  · rw [dif_neg fun hh => he hh.2.2, dif_neg he, zero_word]

theorem kA_entry (x : FVec Ideal S1x8192x8x96 .f32) (j : Fin 8192) (h : Fin 8) (e : Fin 128) (r : Fin 1024) (hr : r.val = 128 * h.val + e.val) :
    kA x (ix2 j r) = if he : e.val < 96 then x (ix4 (0 : Fin 1) j h ⟨e.val, he⟩) else 0 := by
  pointwise [kA]
  have e1 : r.val / 128 = h.val := by omega
  have e2 : r.val % 128 = e.val := by omega
  simp only [e1, e2]
  by_cases he : e.val < 96
  · rw [dif_pos ⟨h.isLt, he⟩, dif_pos he]
  · rw [dif_neg fun hh => he hh.2, dif_neg he, zero_word]

theorem vA_entry (x : FVec Ideal S1x8192x8x64 .f32) (b : Fin 32) (h : Fin 8) (d : Fin 64) (y : Fin 256) (r : Fin 512) (hr : r.val = 64 * h.val + d.val) :
    vA x (ix3 b r y) = x (ix4 (0 : Fin 1) ⟨256 * b.val + y.val, by omega⟩ h d) := by
  pointwise [vA]
  have e1 : r.val / 64 = h.val := by omega
  have e2 : r.val % 64 = d.val := by omega
  have e0 : b.val * 256 + y.val = 256 * b.val + y.val := by omega
  simp only [e0, e1, e2]

theorem idx : ∀ t : Fin cfg0.N, win0_0.index t 0 = (grid0.coords t 1).val ∧ win0_0.index t 1 = (grid0.coords t 0).val ∧ win0_0.index t 2 = 0
    ∧ win0_1.index t 0 = 0 ∧ win0_1.index t 1 = (grid0.coords t 0).val
    ∧ win0_2.index t 0 = 0 ∧ win0_2.index t 1 = (grid0.coords t 0).val ∧ win0_2.index t 2 = 0
    ∧ win0_3.index t 0 = (grid0.coords t 1).val ∧ win0_3.index t 1 = (grid0.coords t 0).val
    ∧ (grid0.coords t 0).val < 2 ∧ (grid0.coords t 1).val < 32 :=
  (by decide +kernel : ∀ t : Fin grid0.N, win0_0.index t 0 = (grid0.coords t 1).val ∧ win0_0.index t 1 = (grid0.coords t 0).val ∧ win0_0.index t 2 = 0
    ∧ win0_1.index t 0 = 0 ∧ win0_1.index t 1 = (grid0.coords t 0).val
    ∧ win0_2.index t 0 = 0 ∧ win0_2.index t 1 = (grid0.coords t 0).val ∧ win0_2.index t 2 = 0
    ∧ win0_3.index t 0 = (grid0.coords t 1).val ∧ win0_3.index t 1 = (grid0.coords t 0).val
    ∧ (grid0.coords t 0).val < 2 ∧ (grid0.coords t 1).val < 32)

theorem iblk0 (t : Fin cfg0.N) (r : Fin 512) (y : Fin 256) (i' : Fin 32) (r' : Fin 1024) (hi : i'.val = (grid0.coords t 1).val) (hr : r'.val = 512 * (grid0.coords t 0).val + r.val) :
    (iblk m c 0 t : FVec Ideal S1x512x256 .bf16) (ix3 (0 : Fin 1) r y) = (V m c main_v10 : FVec Ideal S32x1024x256 .bf16) (ix3 i' r' y) := by
  obtain ⟨h0, h1, h2, -⟩ := idx t
  blk_ext [iblk, h0, h1, h2]

theorem iblk1 (t : Fin cfg0.N) (j : Fin 8192) (r : Fin 512) (r' : Fin 1024) (hr : r'.val = 512 * (grid0.coords t 0).val + r.val) :
    (iblk m c 1 t : FVec Ideal S8192x512 .bf16) (ix2 j r) = (V m c main_v16 : FVec Ideal S8192x1024 .bf16) (ix2 j r') := by
  obtain ⟨-, -, -, h0, h1, -⟩ := idx t
  blk_ext [iblk, h0, h1]

theorem iblk2 (t : Fin cfg0.N) (b : Fin 32) (r : Fin 256) (y : Fin 256) (r' : Fin 512) (hr : r'.val = 256 * (grid0.coords t 0).val + r.val) :
    (iblk m c 2 t : FVec Ideal S32x256x256 .bf16) (ix3 b r y) = (V m c main_v17 : FVec Ideal S32x512x256 .bf16) (ix3 b r' y) := by
  obtain ⟨-, -, -, -, -, h0, h1, h2, -⟩ := idx t
  blk_ext [iblk, h0, h1, h2]

end Cert.KernelIdeal.Att

end
-- ==== Proof.KVal.lean ====
/- The kernel's result array: every entry is a query's weighted mean of the values of the keys up to it. -/
module

public import proofs.«01_k».proof.Proof.KArr

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Cert.Soft

/-- A padded key against a padded, scaled query is their score over `log 2`. -/
theorem padded_dot (q k : Fin 96 → EReal) (fq : ∀ e, Fini (q e)) (fk : ∀ e, Fini (k e)) :
    (∑ e : Fin 128, (if he : e.val < 96 then k ⟨e.val, he⟩ else 0) * (if he : e.val < 96 then Ideal.div (q ⟨e.val, he⟩ * ((cR : ℝ) : EReal)) ((Real.log 2 : ℝ) : EReal) else 0))
      = (((∑ e : Fin 96, (q e).toReal * (k e).toReal) * cR / Real.log 2 : ℝ) : EReal) := by
  have hl : Real.log 2 ≠ 0 := (Real.log_pos (by norm_num)).ne'
  refine (Fin.sum_univ_add (a := 96) (b := 32) (fun e : Fin (96 + 32) => (if he : e.val < 96 then k ⟨e.val, he⟩ else 0) * (if he : e.val < 96 then Ideal.div (q ⟨e.val, he⟩ * ((cR : ℝ) : EReal)) ((Real.log 2 : ℝ) : EReal) else 0))).trans ?_
  rw [Finset.sum_eq_zero (s := (Finset.univ : Finset (Fin 32))), add_zero, Finset.sum_mul, Finset.sum_div, coe_sum]
  · refine Finset.sum_congr rfl fun e _ => ?_
    have he : (Fin.castAdd 32 e).val < 96 := e.isLt
    rw [dif_pos he, dif_pos he]
    show k e * Ideal.div (q e * ((cR : ℝ) : EReal)) ((Real.log 2 : ℝ) : EReal) = _
    rw [← (fq e).coe, ← (fk e).coe, ← EReal.coe_mul, Ideal.div_coe hl, ← EReal.coe_mul, ← EReal.coe_mul, EReal.toReal_coe, EReal.toReal_coe]
    congr 1
    ring
  · intro e _
    have he : ¬ (Fin.natAdd 96 e).val < 96 := by simp
    rw [dif_neg he, dif_neg he, mul_zero]

variable (m : (ℓ : Loc nD τ sig) → Buf (Elt Ideal) ℓ) (c : Dev nD)

/-- A score of a point's query block against a key block, in the exponent the kernel raises two to. -/
theorem score_entry (fq : ∀ t h e, Fini (Qf m c t h e)) (fk : ∀ t h e, Fini (Kf m c t h e)) (t : Fin cfg0.N) (h : ℕ) (hh : h < 4) (H : Fin 8)
    (hH : H.val = 4 * (grid0.coords t 0).val + h) (b : ℕ) (r y : Fin 256) (T : Fin 8192) (hT : T.val = 256 * (grid0.coords t 1).val + y.val) :
    sc (iblk m c 1 t) (qT (iblk m c 0 t) h) h b (ix2 r y) = ((score (Qf m c) (Kf m c) H T ⟨(256 * b + r.val) % 8192, Nat.mod_lt _ (by decide)⟩ / Real.log 2 : ℝ) : EReal) := by
  obtain ⟨-, -, -, -, -, -, -, -, -, -, hg, hi⟩ := idx t
  refine (dot_entry _ _ r y).trans ((Finset.sum_congr rfl fun e _ => ?_).trans (padded_dot (Qf m c T H) (Kf m c ⟨(256 * b + r.val) % 8192, Nat.mod_lt _ (by decide)⟩ H) (fq T H) (fk _ H)))
  have he := e.isLt
  have hm : (128 * h + e.val) % 512 = 128 * h + e.val := Nat.mod_eq_of_lt (by omega)
  refine congrArg₂ (· * ·) ?_ ?_
  · refine (iblk1 m c t ⟨(256 * b + r.val) % 8192, Nat.mod_lt _ (by decide)⟩ ⟨(128 * h + e.val) % 512, Nat.mod_lt _ (by decide)⟩ ⟨128 * H.val + e.val, by omega⟩ (by show 128 * H.val + e.val = _ + (128 * h + e.val) % 512; omega)).trans ?_
    rw [entry_k]
    exact kA_entry _ _ H e _ rfl
  · refine (iblk0 m c t ⟨(128 * h + e.val) % 512, Nat.mod_lt _ (by decide)⟩ y ⟨(grid0.coords t 1).val, hi⟩ ⟨128 * H.val + e.val, by omega⟩ rfl (by show 128 * H.val + e.val = _ + (128 * h + e.val) % 512; omega)).trans ?_
    rw [entry_q]
    refine (qA_entry _ _ H e y _ rfl).trans ?_
    have e0 : (⟨256 * (grid0.coords t 1).val + y.val, by omega⟩ : Fin 8192) = T := Fin.ext hT.symm
    simp only [e0]
    rfl

/-- A value a point reads, at its place in the argument. -/
theorem value_entry (t : Fin cfg0.N) (h : ℕ) (hh : h < 4) (H : Fin 8) (hH : H.val = 4 * (grid0.coords t 0).val + h) (b : ℕ) (hb : b < 32) (r : Fin 256) (d : Fin 64) :
    vT (iblk m c 2 t) h b (ix2 d r) = Vf m c ⟨(256 * b + r.val) % 8192, Nat.mod_lt _ (by decide)⟩ H d := by
  obtain ⟨-, -, -, -, -, -, -, -, -, -, hg, hi⟩ := idx t
  have hd := d.isLt
  have hm : (64 * h + d.val) % 256 = 64 * h + d.val := Nat.mod_eq_of_lt (by omega)
  refine (iblk2 m c t ⟨b % 32, Nat.mod_lt _ (by decide)⟩ ⟨(64 * h + d.val) % 256, Nat.mod_lt _ (by decide)⟩ r ⟨64 * H.val + d.val, by omega⟩ (by show 64 * H.val + d.val = _ + (64 * h + d.val) % 256; omega)).trans ?_
  rw [entry_v]
  refine (vA_entry _ _ H d r _ rfl).trans ?_
  exact congrArg (fun j => Vf m c j H d) (Fin.ext (by show 256 * (b % 32) + r.val = (256 * b + r.val) % 8192; omega))

/-- What a point's tile holds. -/
theorem tile_entry (fq : ∀ t h e, Fini (Qf m c t h e)) (fk : ∀ t h e, Fini (Kf m c t h e)) (t : Fin cfg0.N) (y x : Fin 256) (T : Fin 8192) (H : Fin 8) (D : Fin 64)
    (hT : T.val = 256 * (grid0.coords t 1).val + y.val) (hH : H.val = (256 * (grid0.coords t 0).val + x.val) / 64) (hD : D.val = (256 * (grid0.coords t 0).val + x.val) % 64) :
    outTile (iblk m c 0 t) (iblk m c 1 t) (iblk m c 2 t) (grid0.coords t 1).val (ix2 y x) = attn (Qf m c) (Kf m c) (Vf m c) T H D := by
  obtain ⟨-, -, -, -, -, -, -, -, -, -, hg, hi⟩ := idx t
  have hx := x.isLt
  have hy := y.isLt
  have hh : x.val / 64 < 4 := by omega
  have hH' : H.val = 4 * (grid0.coords t 0).val + x.val / 64 := by omega
  have hD' : (⟨x.val % 64, Nat.mod_lt _ (by decide)⟩ : Fin 64) = D := Fin.ext (by show x.val % 64 = D.val; omega)
  refine (heads_entry _ _ _ _ (fun h => headOut (iblk m c 0 t) (iblk m c 1 t) (iblk m c 2 t) h (grid0.coords t 1).val) rfl rfl rfl rfl y x).trans ?_
  rw [hD']
  refine (headOut_entry _ _ _ (x.val / 64) (grid0.coords t 1).val y D (fun j => score (Qf m c) (Kf m c) H T ⟨j % 8192, Nat.mod_lt _ (by decide)⟩)
    (fun j => Vf m c ⟨j % 8192, Nat.mod_lt _ (by decide)⟩ H D) (fun b _ r => score_entry m c fq fk t _ hh H hH' b r y T hT)
    (fun b hb r => value_entry m c t _ hh H hH' b (by omega) r D)).trans ?_
  rw [← hT]
  exact mean_extend (by omega) _ _ fun j hj => if_neg (by omega)

/-- The kernel's result, as a function of its arguments. -/
def result : FVec Ideal S8192x512 .bf16 := fun i => attn (Qf m c) (Kf m c) (Vf m c) (i 0) ⟨(i 1).val / 64, by have h : (i 1).val < 512 := (i 1).isLt; omega⟩ ⟨(i 1).val % 64, Nat.mod_lt _ (by decide)⟩

theorem arr_eq (fq : ∀ t h e, Fini (Qf m c t h e)) (fk : ∀ t h e, Fini (Kf m c t h e)) : (data m 0 c).arrAt 3 cfg0.N = result m c := by
  refine (data m 0 c).arrAt_eq_of_covers 3 _ (by decide +kernel) fun t hf y => ?_
  obtain ⟨-, -, -, -, -, -, -, -, h0, h1, -⟩ := idx t
  have k0 : ((((cfg0.win 3).blk t).view.emb y) 0 : ℕ) = 256 * (grid0.coords t 1).val + (y 0).val := by
    blk_simp [h0]
    omega
  have k1 : ((((cfg0.win 3).blk t).view.emb y) 1 : ℕ) = 256 * (grid0.coords t 0).val + (y 1).val := by
    blk_simp [h1]
    omega
  rw [data_after3]
  show outTile _ _ _ _ _ = _
  have hy : (y : S256x256.Idx) = ix2 (y 0) (y 1) := eq_ix2 (n0 := 256) (n1 := 256) y
  refine (congrArg _ hy).trans ?_
  exact tile_entry m c fq fk t (y 0) (y 1) _ _ _ k0 (by show (((((cfg0.win 3).blk t).view.emb y) 1 : ℕ)) / 64 = _; rw [k1]) (by show (((((cfg0.win 3).blk t).view.emb y) 1 : ℕ)) % 64 = _; rw [k1])

end Cert.KernelIdeal.Att

end
-- ==== Proof.Ref.lean ====
/- The reference: one trip of its loop at an entry of the block it writes, and the loop as a whole. -/
module

public import proofs.«01_k».proof.Proof.Gen.ReferenceIdeal.Run
public import proofs.«01_k».proof.Proof.Soft
public import Idealize.ShloMosaic.Lib.Pointwise
public import Idealize.ShloMosaic.Lib.Tactic.IndexArith
public import Idealize.ShloMosaic.Lib.Tactic.CleanTypes
public import Idealize.ShloMosaic.Lib.DynamicIndex
public import Idealize.ShloMosaic.Lib.WordCmp

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.ShloMosaic.Tactic
open Idealize.ShloMosaic.StableHlo
open Cert.Soft

/-- The masked scores of one block of queries. -/
def mscores (q5 : FVec Ideal S64x1x128x8x96 .f32) (k4 : FVec Ideal S1x8192x8x96 .f32) (n : ℕ) (hn : n < 64) : FVec Ideal S1x8x128x8192 .f32 :=
  fun i => if (i 3).val ≤ 128 * n + (i 2).val then ((∑ e : Fin 96, (q5 (ix5 ⟨n, hn⟩ (0 : Fin 1) (i 2) (i 1) e) * k4 (ix4 (0 : Fin 1) (i 3) (i 1) e) : EReal)) * (cR : EReal) : EReal) else (⊥ : EReal)

theorem slices1 (n : ℕ) (hn : n < 64) : Shape.Slices S64 ![n] S1 := ⟨rfl, fun a => by
  match a with
  | ⟨0, _⟩ => show n + 1 ≤ 64; omega⟩

theorem slices5 (n : ℕ) (hn : n < 64) : Shape.Slices S64x1x128x8x96 ![n, 0, 0, 0, 0] S1x1x128x8x96 := ⟨rfl, fun a => by
  match a with
  | ⟨0, _⟩ => show n + 1 ≤ 64; omega
  | ⟨1, _⟩ => exact le_rfl
  | ⟨2, _⟩ => exact le_rfl
  | ⟨3, _⟩ => exact le_rfl
  | ⟨4, _⟩ => exact le_rfl⟩

theorem slices5' (n : ℕ) (hn : n < 64) : Shape.Slices S64x1x128x8x64 ![n, 0, 0, 0, 0] S1x1x128x8x64 := ⟨rfl, fun a => by
  match a with
  | ⟨0, _⟩ => show n + 1 ≤ 64; omega
  | ⟨1, _⟩ => exact le_rfl
  | ⟨2, _⟩ => exact le_rfl
  | ⟨3, _⟩ => exact le_rfl
  | ⟨4, _⟩ => exact le_rfl⟩

theorem starts1 (n : ℕ) (hn : n < 64) (a : Fin 1) :
    BitVec.toInt ((![fun _ => BitVec.ofNat 32 n] : Fin 1 → IVec S_ 32) a (Shape.Idx.first h_S_)) = ((![n] : Fin 1 → ℕ) a : Int) := by
  match a with
  | ⟨0, _⟩ => exact toInt_ofNat_of_lt (by omega)

theorem starts5 (n : ℕ) (hn : n < 64) (a : Fin 5) :
    BitVec.toInt ((![fun _ => BitVec.ofNat 32 n, constantI S_ 32 0#32, constantI S_ 32 0#32, constantI S_ 32 0#32, constantI S_ 32 0#32] : Fin 5 → IVec S_ 32) a (Shape.Idx.first h_S_)) =
      ((![n, 0, 0, 0, 0] : Fin 5 → ℕ) a : Int) := by
  match a with
  | ⟨0, _⟩ => exact toInt_ofNat_of_lt (by omega)
  | ⟨1, _⟩ => rfl
  | ⟨2, _⟩ => rfl
  | ⟨3, _⟩ => rfl
  | ⟨4, _⟩ => rfl

theorem clamp5 (n : ℕ) (hn : n < 64) (a : Fin 5) :
    (min (max (BitVec.toInt ((![fun _ => BitVec.ofNat 32 n, constantI S_ 32 0#32, constantI S_ 32 0#32, constantI S_ 32 0#32, constantI S_ 32 0#32] : Fin 5 → IVec S_ 32) a (Shape.Idx.first h_S_))) 0)
      ((S64x1x128x8x64.size a - S1x1x128x8x64.size a : ℕ) : ℤ)).toNat = (![n, 0, 0, 0, 0] : Fin 5 → ℕ) a := by
  rw [starts5 n hn a]
  match a with
  | ⟨0, _⟩ => show (min (max (n : ℤ) 0) ((64 - 1 : ℕ) : ℤ)).toNat = n; omega
  | ⟨1, _⟩ => rfl
  | ⟨2, _⟩ => rfl
  | ⟨3, _⟩ => rfl
  | ⟨4, _⟩ => rfl

theorem neg_inf : Ideal.ofBits FTy.f32 4286578688#32 = (⊥ : EReal) := by
  simp [Ideal.ofBits, Ideal.ieee]

theorem scores_entry (V : Valuation τ sig (Elt Ideal)) (n : ℕ) (hn : n < 64)
    (h1 : V (Proc.devRef .tc main_v5_1) = iotaInDim S64 32 0) (h3 : V (Proc.devRef .tc main_v5_3) = iotaInDim S8192 32 0)
    (h5 : V (Proc.devRef .tc main_v5_5) = fun _ => BitVec.ofNat 32 n) (h : Fin 8) (y : Fin 128) (j : Fin 8192) :
    res_main_while0b_v23 V (ix4 (0 : Fin 1) h y j) = mscores (V (Proc.devRef .tc main_v5_0)) (V (Proc.devRef .tc main_v5_2)) n hn (ix4 (0 : Fin 1) h y j) := by
  unfold res_main_while0b_v23 mscores
  rw [h1, h3, h5]
  generalize V (Proc.devRef .tc main_v5_0) = q5
  generalize V (Proc.devRef .tc main_v5_2) = k4
  clean_types
  rw [Host.dynamicSlice_eq_extractStridedSlice S1 (iotaInDim S64 32 0) _ ![n] _ (slices1 n hn) (by exact starts1 n hn)]
  rw [Host.dynamicSlice_eq_extractStridedSlice S1x1x128x8x96 q5 _ ![n, 0, 0, 0, 0] _ (slices5 n hn) (by exact starts5 n hn)]
  pointwise
  have hy := y.isLt
  have hj := j.isLt
  have ha : IntOp.addi (IntOp.muli (BitVec.ofNat 32 n) 128#32) (BitVec.ofNat 32 y.val) = BitVec.ofNat 32 (128 * n + y.val) := by
    rw [mul_comm]
    show BitVec.ofNat 32 n * BitVec.ofNat 32 128 + _ = _
    rw [← BitVec.ofNat_mul, ← BitVec.ofNat_add]
  rw [ha, WordCmp.cmpi_sle_ofNat (by omega) (by omega)]
  have hc : Ideal.ofBits FTy.f32 1037108716#32 = (cR : EReal) := cR_eq
  rw [hc]
  by_cases hm : j.val ≤ 128 * n + y.val
  · simp only [hm, decide_true, if_true]; rfl
  · simp only [hm, decide_false, if_false]; exact neg_inf

/-- A row's maximum. -/
theorem rmax_entry (v23 : FVec Ideal S1x8x128x8192 .f32) (h : Fin 8) (y : Fin 128) :
    Host.reduce FloatOps.maximumf v23 (constant S_ .f32 0xFF800000#32) reducesTo_S1x8x128x8192_S1x8x128_d3 h_S_ (ix3 (0 : Fin 1) h y) =
      (Finset.univ.fold max (⊥ : EReal) (fun x : Fin 8192 => v23 (ix4 (0 : Fin 1) h y x)) : EReal) := by
  have hr : S1x8x128x8192.Reduces [3] S1x8x128 := by decide
  rw [Host.reduce_eq_fold_single FloatOps.maximumf v23 _ _ hr _ _]
  have e : v23 ∘ hr.lift (ix3 (0 : Fin 1) h y) = fun x : Fin 8192 => v23 (ix4 (0 : Fin 1) h y x) := by
    funext x
    show v23 _ = v23 _
    congr 1
    funext a
    match a with
    | ⟨0, _⟩ => rfl
    | ⟨1, _⟩ => rfl
    | ⟨2, _⟩ => rfl
    | ⟨3, _⟩ => rfl
  rw [e]
  have e2 : (constant S_ FTy.f32 0xFF800000#32 : FVec Ideal S_ .f32) (Shape.Idx.first h_S_) = (⊥ : EReal) := neg_inf
  rw [e2]
  generalize (fun x : Fin 8192 => v23 (ix4 (0 : Fin 1) h y x)) = f
  rfl

/-- The exponentials of the scores less their maximum. -/
def expo (v23 : FVec Ideal S1x8x128x8192 .f32) (mx : FVec Ideal S1x8x128 .f32) : FVec Ideal S1x8x128x8192 .f32 :=
  Host.exp (subf v23 (broadcastInDim S1x8x128x8192 ![0, 1, 2, 3] bcast_S1x8x128x1_S1x8x128x8192_0_1_2_3 (broadcastInDim S1x8x128x1 ![0, 1, 2] bcast_S1x8x128_S1x8x128x1_0_1_2
    (maximumf (broadcastInDim S1x8x128 ![] bcast_S_S1x8x128 (constant S_ .f32 0xFF800000#32)) mx))))

theorem expo_entry (v23 : FVec Ideal S1x8x128x8192 .f32) (mx : FVec Ideal S1x8x128 .f32) (h : Fin 8) (y : Fin 128) (j : Fin 8192) :
    expo v23 mx (ix4 (0 : Fin 1) h y j) = Ideal.exp (v23 (ix4 (0 : Fin 1) h y j) - mx (ix3 (0 : Fin 1) h y) : EReal) := by
  pointwise [expo]
  rw [neg_inf, max_eq_right bot_le]

/-- The exponentials over their sum. -/
def quot (e : FVec Ideal S1x8x128x8192 .f32) : FVec Ideal S1x8x128x8192 .f32 :=
  Host.divf e (broadcastInDim S1x8x128x8192 ![0, 1, 2, 3] bcast_S1x8x128x1_S1x8x128x8192_0_1_2_3 (broadcastInDim S1x8x128x1 ![0, 1, 2] bcast_S1x8x128_S1x8x128x1_0_1_2
    (Host.reduceAdd e (constant S_ .f32 0x00000000#32) reducesTo_S1x8x128x8192_S1x8x128_d3 h_S_)))

theorem quot_entry (e : FVec Ideal S1x8x128x8192 .f32) (h : Fin 8) (y : Fin 128) (j : Fin 8192) :
    quot e (ix4 (0 : Fin 1) h y j) = Ideal.div (e (ix4 (0 : Fin 1) h y j)) (∑ x : Fin 8192, (e (ix4 (0 : Fin 1) h y x) : EReal)) := by
  pointwise [quot]

/-- The weighted values, as a block of the result. -/
def blk (v4 : FVec Ideal S1x8192x8x64 .f32) (p : FVec Ideal S1x8x128x8192 .f32) : FVec Ideal S1x1x128x8x64 .f32 :=
  broadcastInDim S1x1x128x8x64 ![1, 2, 3, 4] bcast_S1x128x8x64_S1x1x128x8x64_1_2_3_4 (transpose S1x128x8x64 [0, 3, 1, 2]
    (Host.dotGeneral dot_S1x8192x8x64_S1x8x128x8192_S1x8x64x128_1_3_3_2_02_01 none v4 p) transposes_S1x8x64x128_S1x128x8x64_0_3_1_2)

theorem blk_entry (v4 : FVec Ideal S1x8192x8x64 .f32) (p : FVec Ideal S1x8x128x8192 .f32) (h : Fin 8) (y : Fin 128) (d : Fin 64) :
    blk v4 p (ix5 (0 : Fin 1) (0 : Fin 1) y h d) = (∑ x : Fin 8192, v4 (ix4 (0 : Fin 1) x h d) * p (ix4 (0 : Fin 1) h y x) : EReal) := by
  pointwise [blk]

/-- The result with one block overwritten. -/
theorem upd_entry (o : FVec Ideal S64x1x128x8x64 .f32) (u : FVec Ideal S1x1x128x8x64 .f32) (n : ℕ) (hn : n < 64) (b : Fin 64) (h : Fin 8) (y : Fin 128) (d : Fin 64) :
    updateSlice o u ![n, 0, 0, 0, 0] (slices5' n hn) (ix5 b (0 : Fin 1) y h d) = if b.val = n then u (ix5 (0 : Fin 1) (0 : Fin 1) y h d) else o (ix5 b (0 : Fin 1) y h d) := by
  pointwise
  by_cases hb : b.val = n
  · rw [if_pos hb, dif_pos ⟨hb.ge, by omega⟩]
    exact congrArg (fun i => u (ix5 i (0 : Fin 1) y h d)) (Fin.ext (by show b.val - n = 0; omega))
  · rw [if_neg hb, dif_neg (by omega)]

/-- One trip's block of the result. -/
theorem step_eq (V : Valuation τ sig (Elt Ideal)) (n : ℕ) (hn : n < 64) (h5 : V (Proc.devRef .tc main_v5_5) = fun _ => BitVec.ofNat 32 n) :
    step_main_v5_6 V = updateSlice (V (Proc.devRef .tc main_v5_6) : FVec Ideal S64x1x128x8x64 .f32)
      (blk (V (Proc.devRef .tc main_v5_4)) (quot (expo (res_main_while0b_v23 V)
        (Host.reduce FloatOps.maximumf (res_main_while0b_v23 V) (constant S_ .f32 0xFF800000#32) reducesTo_S1x8x128x8192_S1x8x128_d3 h_S_))))
      ![n, 0, 0, 0, 0] (slices5' n hn) := by
  unfold step_main_v5_6 res_main_while0b_v30
  rw [h5]
  show Host.dynamicUpdateSlice _ _ _ _ = _
  rw [Host.dynamicUpdateSlice_eq_updateSlice _ _ _ _ ![n, 0, 0, 0, 0] (by exact clamp5 n hn) (by exact slices5' n hn)]
  rfl

/-- One trip's block, from real queries and keys: the weighted means of its queries. -/
theorem block_entry (q5 : FVec Ideal S64x1x128x8x96 .f32) (k4 : FVec Ideal S1x8192x8x96 .f32) (v4 : FVec Ideal S1x8192x8x64 .f32) (v23 : FVec Ideal S1x8x128x8192 .f32)
    (n : ℕ) (hn : n < 64) (h : Fin 8) (y : Fin 128) (d : Fin 64) (Q K : Fin 8192 → Fin 8 → Fin 96 → EReal)
    (h23 : ∀ j, v23 (ix4 (0 : Fin 1) h y j) = mscores q5 k4 n hn (ix4 (0 : Fin 1) h y j))
    (hq : ∀ e, q5 (ix5 ⟨n, hn⟩ (0 : Fin 1) y h e) = Q ⟨128 * n + y.val, by omega⟩ h e) (hk : ∀ j e, k4 (ix4 (0 : Fin 1) j h e) = K j h e)
    (fq : ∀ t h e, Fini (Q t h e)) (fk : ∀ t h e, Fini (K t h e)) :
    blk v4 (quot (expo v23 (Host.reduce FloatOps.maximumf v23 (constant S_ .f32 0xFF800000#32) reducesTo_S1x8x128x8192_S1x8x128_d3 h_S_)))
      (ix5 (0 : Fin 1) (0 : Fin 1) y h d) = attn Q K (fun j h d => v4 (ix4 (0 : Fin 1) j h d)) ⟨128 * n + y.val, by omega⟩ h d := by
  have hy := y.isLt
  have hs : ∀ j : Fin 8192, v23 (ix4 (0 : Fin 1) h y j) =
      if j.val ≤ 128 * n + y.val then ((score Q K h ⟨128 * n + y.val, by omega⟩ j : ℝ) : EReal) else ⊥ := fun j => by
    rw [h23]
    show (if j.val ≤ 128 * n + y.val then (∑ e : Fin 96, (q5 (ix5 ⟨n, hn⟩ (0 : Fin 1) y h e) * k4 (ix4 (0 : Fin 1) j h e) : EReal)) * (cR : EReal) else (⊥ : EReal)) = _
    simp only [hq, hk]
    rw [dot_real _ _ (fq _ _) (fk _ _), ← EReal.coe_mul, score]
  have ht : ∀ j : Fin 8192, v23 (ix4 (0 : Fin 1) h y j) ≠ (⊤ : EReal) := fun j => by
    rw [hs]; split
    · exact EReal.coe_ne_top _
    · exact bot_ne_top
  have hX : ∃ x : ℝ, (Finset.univ.fold max (⊥ : EReal) (fun x : Fin 8192 => v23 (ix4 (0 : Fin 1) h y x)) : EReal) = (x : EReal) := by
    refine fold_max_real _ ht ⟨0, by decide⟩ ?_
    rw [hs, if_pos (Nat.zero_le _)]
    exact EReal.coe_ne_bot _
  rw [blk_entry]
  simp only [quot_entry, expo_entry, rmax_entry]
  have key := softmax_mean (fun j : Fin 8192 => (v23 (ix4 (0 : Fin 1) h y j) : EReal)) (fun j => v4 (ix4 (0 : Fin 1) ⟨j % 8192, Nat.mod_lt _ (by decide)⟩ h d))
    (fun j => if j ≤ 128 * n + y.val then Real.exp (score Q K h ⟨128 * n + y.val, by omega⟩ ⟨j % 8192, Nat.mod_lt _ (by decide)⟩) else 0) _ _ hX ht
    (fun j => by
      have hj : (⟨j.val % 8192, Nat.mod_lt _ (by decide)⟩ : Fin 8192) = j := Fin.ext (Nat.mod_eq_of_lt j.isLt)
      rw [hs]
      by_cases hm : j.val ≤ 128 * n + y.val
      · rw [if_pos hm, if_pos hm, nat_coe, hj]
      · rw [if_neg hm, if_neg hm, nat_bot]) (attn_pos Q K ⟨128 * n + y.val, by omega⟩ h 8192 (by decide)) rfl
  rw [attn, ← key]
  refine Finset.sum_congr rfl fun j _ => ?_
  have hj : (⟨j.val % 8192, Nat.mod_lt _ (by decide)⟩ : Fin 8192) = j := Fin.ext (Nat.mod_eq_of_lt j.isLt)
  rw [hj]

/-- The queries by blocks. -/
theorem q5_entry (x : FVec Ideal S1x8192x8x96 .f32) (n : ℕ) (hn : n < 64) (y : Fin 128) (h : Fin 8) (e : Fin 96) :
    transpose S64x1x128x8x96 [1, 0, 2, 3, 4] (shapeCast S1x64x128x8x96 x shapeCasts_S1x8192x8x96_S1x64x128x8x96) transposes_S1x64x128x8x96_S64x1x128x8x96_1_0_2_3_4
      (ix5 ⟨n, hn⟩ (0 : Fin 1) y h e) = x (ix4 (0 : Fin 1) ⟨128 * n + y.val, by omega⟩ h e) := by
  pointwise
  exact congrArg (fun t => x (ix4 (0 : Fin 1) t h e)) (Fin.ext (by show n * 128 + y.val = 128 * n + y.val; omega))

variable (m : (ℓ : Loc nD τ sig) → Buf (Elt Ideal) ℓ) (c : Dev nD)

/-- The queries, keys and values at their places in the arguments. -/
def Qf : Fin 8192 → Fin 8 → Fin 96 → EReal := fun t h e => (m ((c.tc : Thread nD τ).loc main_arg0) : FVec Ideal S1x8192x8x96 .f32) (ix4 (0 : Fin 1) t h e)
def Kf : Fin 8192 → Fin 8 → Fin 96 → EReal := fun t h e => (m ((c.tc : Thread nD τ).loc main_arg1) : FVec Ideal S1x8192x8x96 .f32) (ix4 (0 : Fin 1) t h e)
def Vf : Fin 8192 → Fin 8 → Fin 64 → EReal := fun t h d => (m ((c.tc : Thread nD τ).loc main_arg2) : FVec Ideal S1x8192x8x64 .f32) (ix4 (0 : Fin 1) t h d)

theorem entry0 : entryContents preI m c (Proc.devRef .tc main_v5_0) = transpose S64x1x128x8x96 [1, 0, 2, 3, 4]
    (shapeCast S1x64x128x8x96 (m ((c.tc : Thread nD τ).loc main_arg0) : FVec Ideal S1x8192x8x96 .f32) shapeCasts_S1x8192x8x96_S1x64x128x8x96) transposes_S1x64x128x8x96_S64x1x128x8x96_1_0_2_3_4 := by
  simp only [entryContents, afterL_cons, afterL_nil]
  after_reads_simp
  rfl
theorem entry1 : entryContents preI m c (Proc.devRef .tc main_v5_1) = iotaInDim S64 32 0 := by
  simp only [entryContents, afterL_cons, afterL_nil]
  after_reads_simp
  rfl
theorem entry2 : entryContents preI m c (Proc.devRef .tc main_v5_2) = m ((c.tc : Thread nD τ).loc main_arg1) := by
  simp only [entryContents, afterL_cons, afterL_nil]
  after_reads_simp
  rfl
theorem entry3 : entryContents preI m c (Proc.devRef .tc main_v5_3) = iotaInDim S8192 32 0 := by
  simp only [entryContents, afterL_cons, afterL_nil]
  after_reads_simp
  rfl
theorem entry4 : entryContents preI m c (Proc.devRef .tc main_v5_4) = m ((c.tc : Thread nD τ).loc main_arg2) := by
  simp only [entryContents, afterL_cons, afterL_nil]
  after_reads_simp
  rfl

/-- The buffers the loop reads and does not change, and its counter, before trip `n`. -/
theorem iter_keep (n : ℕ) (hn : n ≤ 64) :
    (STEP^[n] (entryContents preI m c)) (Proc.devRef .tc main_v5_0) = entryContents preI m c (Proc.devRef .tc main_v5_0) ∧
    (STEP^[n] (entryContents preI m c)) (Proc.devRef .tc main_v5_1) = entryContents preI m c (Proc.devRef .tc main_v5_1) ∧
    (STEP^[n] (entryContents preI m c)) (Proc.devRef .tc main_v5_2) = entryContents preI m c (Proc.devRef .tc main_v5_2) ∧
    (STEP^[n] (entryContents preI m c)) (Proc.devRef .tc main_v5_3) = entryContents preI m c (Proc.devRef .tc main_v5_3) ∧
    (STEP^[n] (entryContents preI m c)) (Proc.devRef .tc main_v5_4) = entryContents preI m c (Proc.devRef .tc main_v5_4) ∧
    (STEP^[n] (entryContents preI m c)) (Proc.devRef .tc main_v5_5) = fun _ => BitVec.ofNat 32 n := by
  induction n with
  | zero => exact ⟨rfl, rfl, rfl, rfl, rfl, ctr_entry m c⟩
  | succ n ih =>
    obtain ⟨h0, h1, h2, h3, h4, h5⟩ := ih (by omega)
    rw [Function.iterate_succ_apply', STEP_main_v5_0, STEP_main_v5_1, STEP_main_v5_2, STEP_main_v5_3, STEP_main_v5_4, STEP_main_v5_5]
    refine ⟨h0, h1, h2, h3, h4, ?_⟩
    unfold step_main_v5_5
    rw [h5]
    funext i
    show BitVec.ofNat 32 n + 1#32 = _
    exact (BitVec.ofNat_add n 1).symm

/-- The result so far, before trip `n`: the blocks before the `n`-th are done. -/
theorem iter_val (fq : ∀ t h e, Fini (Qf m c t h e)) (fk : ∀ t h e, Fini (Kf m c t h e)) (n : ℕ) (hn : n ≤ 64) (b : Fin 64) (hb : b.val < n)
    (y : Fin 128) (h : Fin 8) (d : Fin 64) :
    ((STEP^[n] (entryContents preI m c)) (Proc.devRef .tc main_v5_6) : FVec Ideal S64x1x128x8x64 .f32) (ix5 b (0 : Fin 1) y h d) =
      attn (Qf m c) (Kf m c) (Vf m c) ⟨128 * b.val + y.val, by omega⟩ h d := by
  induction n with
  | zero => exact absurd hb (Nat.not_lt_zero _)
  | succ n ih =>
    obtain ⟨h0, h1, h2, h3, h4, h5⟩ := iter_keep m c n (by omega)
    have hn' : n < 64 := hn
    rw [Function.iterate_succ_apply', STEP_main_v5_6, step_eq _ n hn' h5, upd_entry _ _ n hn']
    by_cases hbn : b.val = n
    · rw [if_pos hbn]
      obtain rfl : n = b.val := hbn.symm
      rw [h4, entry4]
      refine block_entry _ _ _ _ b.val b.isLt h y d (Qf m c) (Kf m c)
        (fun j => scores_entry _ b.val b.isLt (h1.trans (entry1 m c)) (h3.trans (entry3 m c)) h5 h y j) (fun e => ?_) (fun j e => ?_) fq fk
      · rw [h0, entry0]
        exact q5_entry _ b.val b.isLt y h e
      · rw [h2, entry2]
        rfl
    · rw [if_neg hbn]
      exact ih (by omega) (by omega)

/-- The result at an entry. -/
theorem out_entry (fq : ∀ t h e, Fini (Qf m c t h e)) (fk : ∀ t h e, Fini (Kf m c t h e)) (t : Fin 8192) (x : Fin 512) :
    (out_main_v8 (STEP^[64] (entryContents preI m c)) : FVec Ideal S8192x512 .bf16) (ix2 t x) =
      attn (Qf m c) (Kf m c) (Vf m c) t ⟨x.val / 64, by omega⟩ ⟨x.val % 64, by omega⟩ := by
  have hv := iter_val m c fq fk 64 le_rfl
  unfold out_main_v8
  generalize (STEP^[64] (entryContents preI m c)) (Proc.devRef .tc main_v5_6) = o at hv ⊢
  clean_types
  pointwise
  rw [hv _ (by show t.val / 128 < 64; omega)]
  exact congrArg (fun t => attn (Qf m c) (Kf m c) (Vf m c) t _ _) (Fin.ext (by show 128 * (t.val / 128) + t.val % 128 = t.val; omega))

end Cert.ReferenceIdeal.Att

end
-- ==== Proof.MergeVal.lean ====
/- The gated merge, entry by entry: every entry of the kernel's result and of the reference's is the four branches'
   products, each times the logistic function of its gate. -/
module

public import proofs.«01_k».proof.Proof.Gen.MergeIdeal.Value
public import proofs.«01_k».proof.Proof.Gen.MergeReferenceIdeal.Run
public import Idealize.ShloMosaic.Lib.Pointwise
public import Idealize.ShloMosaic.Lib.Tactic.IndexArith
public import Idealize.ShloMosaic.Lib.Claim
public import Idealize.ShloMosaic.Lib.Pipeline.ValueKit.Point
public import Idealize.ShloMosaic.Lib.Tactic.CleanTypes

@[expose] public section

set_option maxRecDepth 16384

noncomputable section

namespace Cert.MergeVal

open Idealize.ShloMosaic Idealize.ShloMosaic.TcCoe Idealize.ShloMosaic.Tactic

/-- The logistic function as both programs compute it. -/
def sigm (z : EReal) : EReal := Ideal.div 1 (1 + Ideal.exp (-z))

/-- A branch's product times its gate: `x` and `w` a row and a column of the gate's product, `b` its bias, `o` and `v` a row and a column of the branch's. -/
def gated (x w : Fin 2048 → EReal) (b : EReal) (o v : Fin 512 → EReal) : EReal := sigm ((∑ k, x k * w k) + b) * ∑ k, o k * v k

end Cert.MergeVal

namespace Cert.MergeIdeal.Mrg

open Cert.MergeIdeal Cert.MergeIdeal.Gen Cert.MergeVal
open Idealize.ShloMosaic Idealize.ShloMosaic.TcCoe Idealize.ShloMosaic.Tactic

theorem out_entry (x0 : Vec Ideal S1024x2048 .bf16) (x1 : Vec Ideal S2048x256 .bf16) (x2 : Vec Ideal S2048x256 .bf16) (x3 : Vec Ideal S2048x256 .bf16) (x4 : Vec Ideal S2048x256 .bf16) (x5 : Vec Ideal S4x256 .f32) (x6 : Vec Ideal S1024x512 .bf16) (x7 : Vec Ideal S1024x512 .bf16) (x8 : Vec Ideal S1024x512 .bf16) (x9 : Vec Ideal S1024x512 .bf16) (x10 : Vec Ideal S4x512x256 .bf16) (i : Fin 1024) (j : Fin 256) :
    out0_11 x0 x1 x2 x3 x4 x5 x6 x7 x8 x9 x10 (ix2 i j) =
      gated (fun k => x0 (ix2 i k)) (fun k => x1 (ix2 k j)) (x5 (ix2 (0 : Fin 4) j)) (fun k => x6 (ix2 i k)) (fun k => x10 (ix3 (0 : Fin 4) k j)) +
      gated (fun k => x0 (ix2 i k)) (fun k => x2 (ix2 k j)) (x5 (ix2 (1 : Fin 4) j)) (fun k => x7 (ix2 i k)) (fun k => x10 (ix3 (1 : Fin 4) k j)) +
      gated (fun k => x0 (ix2 i k)) (fun k => x3 (ix2 k j)) (x5 (ix2 (2 : Fin 4) j)) (fun k => x8 (ix2 i k)) (fun k => x10 (ix3 (2 : Fin 4) k j)) +
      gated (fun k => x0 (ix2 i k)) (fun k => x4 (ix2 k j)) (x5 (ix2 (3 : Fin 4) j)) (fun k => x9 (ix2 i k)) (fun k => x10 (ix3 (3 : Fin 4) k j)) := by
  unfold_out out0_11
  frame_out
  pointwise [k0_pay1, k0_pay2, k0_pay3, k0_pay4, k0_pay5, k0_pay6, k0_pay7]
  simp only [gated, sigm, zero_sub]

variable (m : (ℓ : Loc nD τ sig) → Buf (Elt Ideal) ℓ) (c : Dev nD)

/-- The rows of the activations, the gate's columns of the weights, a branch's rows and the branch weights, as the kernel is entered with them. -/
def xA (x : FVec Ideal S1x8192x2048 .f32) : FVec Ideal S8192x2048 .bf16 := truncf .bf16 (shapeCast S8192x2048 x shapeCasts_S1x8192x2048_S8192x2048) bitsLt_bf16_f32
def wA (w : FVec Ideal S2048x13804 .f32) : FVec Ideal S2048x8192 .bf16 := truncf .bf16 (extractStridedSlice S2048x8192 ![0, 5612] w slices_S2048x13804_S2048x8192_0_5612) bitsLt_bf16_f32
def oA (o : FVec Ideal S1x8192x512 .f32) : FVec Ideal S8192x512 .bf16 := truncf .bf16 (shapeCast S8192x512 o shapeCasts_S1x8192x512_S8192x512) bitsLt_bf16_f32
def vA (v : FVec Ideal S4x512x2048 .f32) : FVec Ideal S4x512x2048 .bf16 := truncf .bf16 v bitsLt_bf16_f32

theorem entry_x : (V m c main_v11 : FVec Ideal S8192x2048 .bf16) = xA (m ((c.tc : Thread nD τ).loc main_arg0)) := by entry_read; rfl
theorem entry_w : (V m c main_v1 : FVec Ideal S2048x8192 .bf16) = wA (m ((c.tc : Thread nD τ).loc main_arg1)) := by entry_read; rfl
theorem entry_b : (V m c main_arg2 : FVec Ideal S4x2048 .f32) = m ((c.tc : Thread nD τ).loc main_arg2) := V_main_arg2 m c
theorem entry_o0 : (V m c main_v3 : FVec Ideal S8192x512 .bf16) = oA (m ((c.tc : Thread nD τ).loc main_arg3)) := by entry_read; rfl
theorem entry_o1 : (V m c main_v5 : FVec Ideal S8192x512 .bf16) = oA (m ((c.tc : Thread nD τ).loc main_arg4)) := by entry_read; rfl
theorem entry_o2 : (V m c main_v7 : FVec Ideal S8192x512 .bf16) = oA (m ((c.tc : Thread nD τ).loc main_arg5)) := by entry_read; rfl
theorem entry_o3 : (V m c main_v9 : FVec Ideal S8192x512 .bf16) = oA (m ((c.tc : Thread nD τ).loc main_arg6)) := by entry_read; rfl
theorem entry_v : (V m c main_v12 : FVec Ideal S4x512x2048 .bf16) = vA (m ((c.tc : Thread nD τ).loc main_arg7)) := by entry_read; rfl

theorem xA_entry (x : FVec Ideal S1x8192x2048 .f32) (t : Fin 8192) (k : Fin 2048) : xA x (ix2 t k) = x (ix3 (0 : Fin 1) t k) := by
  pointwise [xA]
theorem wA_entry (w : FVec Ideal S2048x13804 .f32) (k : Fin 2048) (r : Fin 8192) : wA w (ix2 k r) = w (ix2 k ⟨5612 + r.val, by omega⟩) := by
  pointwise [wA]
theorem oA_entry (o : FVec Ideal S1x8192x512 .f32) (t : Fin 8192) (k : Fin 512) : oA o (ix2 t k) = o (ix3 (0 : Fin 1) t k) := by
  pointwise [oA]

/-- A branch's part of an entry of the result, from the arguments. -/
def part (x : FVec Ideal S1x8192x2048 .f32) (w : FVec Ideal S2048x13804 .f32) (b : FVec Ideal S4x2048 .f32) (o : FVec Ideal S1x8192x512 .f32) (v : FVec Ideal S4x512x2048 .f32)
    (g : Fin 4) (t : Fin 8192) (d : Fin 2048) : EReal :=
  gated (fun k => x (ix3 (0 : Fin 1) t k)) (fun k => w (ix2 k ⟨5612 + (2048 * g.val + d.val), by omega⟩)) (b (ix2 g d)) (fun k => o (ix3 (0 : Fin 1) t k)) (fun k => v (ix3 g k d))

theorem idx : ∀ t : Fin cfg0.N, (win0_0.index t 0 = (grid0.coords t 1).val ∧ win0_0.index t 1 = 0)
    ∧ (win0_1.index t 0 = 0 ∧ win0_1.index t 1 = (grid0.coords t 0).val) ∧ (win0_2.index t 0 = 0 ∧ win0_2.index t 1 = 8 + (grid0.coords t 0).val)
    ∧ (win0_3.index t 0 = 0 ∧ win0_3.index t 1 = 16 + (grid0.coords t 0).val) ∧ (win0_4.index t 0 = 0 ∧ win0_4.index t 1 = 24 + (grid0.coords t 0).val)
    ∧ (win0_5.index t 0 = 0 ∧ win0_5.index t 1 = (grid0.coords t 0).val)
    ∧ (win0_6.index t 0 = (grid0.coords t 1).val ∧ win0_6.index t 1 = 0) ∧ (win0_7.index t 0 = (grid0.coords t 1).val ∧ win0_7.index t 1 = 0)
    ∧ (win0_8.index t 0 = (grid0.coords t 1).val ∧ win0_8.index t 1 = 0) ∧ (win0_9.index t 0 = (grid0.coords t 1).val ∧ win0_9.index t 1 = 0)
    ∧ (win0_10.index t 0 = 0 ∧ win0_10.index t 1 = 0 ∧ win0_10.index t 2 = (grid0.coords t 0).val)
    ∧ (win0_11.index t 0 = (grid0.coords t 1).val ∧ win0_11.index t 1 = (grid0.coords t 0).val) :=
  (by decide +kernel : ∀ t : Fin grid0.N, (win0_0.index t 0 = (grid0.coords t 1).val ∧ win0_0.index t 1 = 0)
    ∧ (win0_1.index t 0 = 0 ∧ win0_1.index t 1 = (grid0.coords t 0).val) ∧ (win0_2.index t 0 = 0 ∧ win0_2.index t 1 = 8 + (grid0.coords t 0).val)
    ∧ (win0_3.index t 0 = 0 ∧ win0_3.index t 1 = 16 + (grid0.coords t 0).val) ∧ (win0_4.index t 0 = 0 ∧ win0_4.index t 1 = 24 + (grid0.coords t 0).val)
    ∧ (win0_5.index t 0 = 0 ∧ win0_5.index t 1 = (grid0.coords t 0).val)
    ∧ (win0_6.index t 0 = (grid0.coords t 1).val ∧ win0_6.index t 1 = 0) ∧ (win0_7.index t 0 = (grid0.coords t 1).val ∧ win0_7.index t 1 = 0)
    ∧ (win0_8.index t 0 = (grid0.coords t 1).val ∧ win0_8.index t 1 = 0) ∧ (win0_9.index t 0 = (grid0.coords t 1).val ∧ win0_9.index t 1 = 0)
    ∧ (win0_10.index t 0 = 0 ∧ win0_10.index t 1 = 0 ∧ win0_10.index t 2 = (grid0.coords t 0).val)
    ∧ (win0_11.index t 0 = (grid0.coords t 1).val ∧ win0_11.index t 1 = (grid0.coords t 0).val))

theorem iblk0 (t : Fin cfg0.N) (i : Fin 1024) (k : Fin 2048) (T : Fin 8192) (hT : T.val = 1024 * (grid0.coords t 1).val + i.val) :
    (iblk m c 0 t : FVec Ideal S1024x2048 .bf16) (ix2 i k) = (V m c main_v11 : FVec Ideal S8192x2048 .bf16) (ix2 T k) := by
  obtain ⟨⟨h0, h1⟩, -⟩ := idx t
  blk_ext [iblk, h0, h1]

theorem iblk1 (t : Fin cfg0.N) (k : Fin 2048) (j : Fin 256) (r : Fin 8192) (hr : r.val = 256 * (grid0.coords t 0).val + j.val) :
    (iblk m c 1 t : FVec Ideal S2048x256 .bf16) (ix2 k j) = (V m c main_v1 : FVec Ideal S2048x8192 .bf16) (ix2 k r) := by
  obtain ⟨-, ⟨h0, h1⟩, -⟩ := idx t
  blk_ext [iblk, h0, h1]

theorem iblk2 (t : Fin cfg0.N) (k : Fin 2048) (j : Fin 256) (r : Fin 8192) (hr : r.val = 2048 + (256 * (grid0.coords t 0).val + j.val)) :
    (iblk m c 2 t : FVec Ideal S2048x256 .bf16) (ix2 k j) = (V m c main_v1 : FVec Ideal S2048x8192 .bf16) (ix2 k r) := by
  obtain ⟨-, -, ⟨h0, h1⟩, -⟩ := idx t
  blk_ext [iblk, h0, h1]

theorem iblk3 (t : Fin cfg0.N) (k : Fin 2048) (j : Fin 256) (r : Fin 8192) (hr : r.val = 4096 + (256 * (grid0.coords t 0).val + j.val)) :
    (iblk m c 3 t : FVec Ideal S2048x256 .bf16) (ix2 k j) = (V m c main_v1 : FVec Ideal S2048x8192 .bf16) (ix2 k r) := by
  obtain ⟨-, -, -, ⟨h0, h1⟩, -⟩ := idx t
  blk_ext [iblk, h0, h1]

theorem iblk4 (t : Fin cfg0.N) (k : Fin 2048) (j : Fin 256) (r : Fin 8192) (hr : r.val = 6144 + (256 * (grid0.coords t 0).val + j.val)) :
    (iblk m c 4 t : FVec Ideal S2048x256 .bf16) (ix2 k j) = (V m c main_v1 : FVec Ideal S2048x8192 .bf16) (ix2 k r) := by
  obtain ⟨-, -, -, -, ⟨h0, h1⟩, -⟩ := idx t
  blk_ext [iblk, h0, h1]

theorem iblk5 (t : Fin cfg0.N) (g : Fin 4) (j : Fin 256) (d : Fin 2048) (hd : d.val = 256 * (grid0.coords t 0).val + j.val) :
    (iblk m c 5 t : FVec Ideal S4x256 .f32) (ix2 g j) = (V m c main_arg2 : FVec Ideal S4x2048 .f32) (ix2 g d) := by
  obtain ⟨-, -, -, -, -, ⟨h0, h1⟩, -⟩ := idx t
  blk_ext [iblk, h0, h1]

theorem iblk6 (t : Fin cfg0.N) (i : Fin 1024) (k : Fin 512) (T : Fin 8192) (hT : T.val = 1024 * (grid0.coords t 1).val + i.val) :
    (iblk m c 6 t : FVec Ideal S1024x512 .bf16) (ix2 i k) = (V m c main_v3 : FVec Ideal S8192x512 .bf16) (ix2 T k) := by
  obtain ⟨-, -, -, -, -, -, ⟨h0, h1⟩, -⟩ := idx t
  blk_ext [iblk, h0, h1]

theorem iblk7 (t : Fin cfg0.N) (i : Fin 1024) (k : Fin 512) (T : Fin 8192) (hT : T.val = 1024 * (grid0.coords t 1).val + i.val) :
    (iblk m c 7 t : FVec Ideal S1024x512 .bf16) (ix2 i k) = (V m c main_v5 : FVec Ideal S8192x512 .bf16) (ix2 T k) := by
  obtain ⟨-, -, -, -, -, -, -, ⟨h0, h1⟩, -⟩ := idx t
  blk_ext [iblk, h0, h1]

theorem iblk8 (t : Fin cfg0.N) (i : Fin 1024) (k : Fin 512) (T : Fin 8192) (hT : T.val = 1024 * (grid0.coords t 1).val + i.val) :
    (iblk m c 8 t : FVec Ideal S1024x512 .bf16) (ix2 i k) = (V m c main_v7 : FVec Ideal S8192x512 .bf16) (ix2 T k) := by
  obtain ⟨-, -, -, -, -, -, -, -, ⟨h0, h1⟩, -⟩ := idx t
  blk_ext [iblk, h0, h1]

theorem iblk9 (t : Fin cfg0.N) (i : Fin 1024) (k : Fin 512) (T : Fin 8192) (hT : T.val = 1024 * (grid0.coords t 1).val + i.val) :
    (iblk m c 9 t : FVec Ideal S1024x512 .bf16) (ix2 i k) = (V m c main_v9 : FVec Ideal S8192x512 .bf16) (ix2 T k) := by
  obtain ⟨-, -, -, -, -, -, -, -, -, ⟨h0, h1⟩, -⟩ := idx t
  blk_ext [iblk, h0, h1]

theorem iblk10 (t : Fin cfg0.N) (g : Fin 4) (k : Fin 512) (j : Fin 256) (d : Fin 2048) (hd : d.val = 256 * (grid0.coords t 0).val + j.val) :
    (iblk m c 10 t : FVec Ideal S4x512x256 .bf16) (ix3 g k j) = (V m c main_v12 : FVec Ideal S4x512x2048 .bf16) (ix3 g k d) := by
  obtain ⟨-, -, -, -, -, -, -, -, -, -, ⟨h0, h1, h2⟩, -⟩ := idx t
  blk_ext [iblk, h0, h1, h2]

/-- The result, from the arguments. -/
def result : FVec Ideal S8192x2048 .bf16 := fun i =>
  let x := (m ((c.tc : Thread nD τ).loc main_arg0) : FVec Ideal S1x8192x2048 .f32)
  let w := (m ((c.tc : Thread nD τ).loc main_arg1) : FVec Ideal S2048x13804 .f32)
  let b := (m ((c.tc : Thread nD τ).loc main_arg2) : FVec Ideal S4x2048 .f32)
  let v := (m ((c.tc : Thread nD τ).loc main_arg7) : FVec Ideal S4x512x2048 .f32)
  part x w b (m ((c.tc : Thread nD τ).loc main_arg3)) v 0 (i 0) (i 1) + part x w b (m ((c.tc : Thread nD τ).loc main_arg4)) v 1 (i 0) (i 1)
    + part x w b (m ((c.tc : Thread nD τ).loc main_arg5)) v 2 (i 0) (i 1) + part x w b (m ((c.tc : Thread nD τ).loc main_arg6)) v 3 (i 0) (i 1)

/-- What a point's tile holds. -/
theorem tile_entry (t : Fin cfg0.N) (i : Fin 1024) (j : Fin 256) (y : S8192x2048.Idx)
    (hT : (y 0).val = 1024 * (grid0.coords t 1).val + i.val) (hd : (y 1).val = 256 * (grid0.coords t 0).val + j.val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = result m c y := by
  refine (out_entry _ _ _ _ _ _ _ _ _ _ _ i j).trans ?_
  have hy : (y 1).val < 2048 := (y 1).isLt
  have hx : ∀ k : Fin 2048, (iblk m c 0 t : FVec Ideal S1024x2048 .bf16) (ix2 i k) = (m ((c.tc : Thread nD τ).loc main_arg0) : FVec Ideal S1x8192x2048 .f32) (ix3 (0 : Fin 1) (y 0) k) := fun k => by
    rw [iblk0 m c t i k (y 0) hT, entry_x]; exact xA_entry _ _ _
  have hw1 : ∀ k : Fin 2048, (iblk m c 1 t : FVec Ideal S2048x256 .bf16) (ix2 k j) = (m ((c.tc : Thread nD τ).loc main_arg1) : FVec Ideal S2048x13804 .f32) (ix2 k ⟨5612 + (2048 * 0 + (y 1).val), by omega⟩) := fun k => by
    rw [iblk1 m c t k j ⟨2048 * 0 + (y 1).val, by omega⟩ (by show 2048 * 0 + (y 1).val = _; omega), entry_w]; exact wA_entry _ _ _
  have hw2 : ∀ k : Fin 2048, (iblk m c 2 t : FVec Ideal S2048x256 .bf16) (ix2 k j) = (m ((c.tc : Thread nD τ).loc main_arg1) : FVec Ideal S2048x13804 .f32) (ix2 k ⟨5612 + (2048 * 1 + (y 1).val), by omega⟩) := fun k => by
    rw [iblk2 m c t k j ⟨2048 * 1 + (y 1).val, by omega⟩ (by show 2048 * 1 + (y 1).val = _; omega), entry_w]; exact wA_entry _ _ _
  have hw3 : ∀ k : Fin 2048, (iblk m c 3 t : FVec Ideal S2048x256 .bf16) (ix2 k j) = (m ((c.tc : Thread nD τ).loc main_arg1) : FVec Ideal S2048x13804 .f32) (ix2 k ⟨5612 + (2048 * 2 + (y 1).val), by omega⟩) := fun k => by
    rw [iblk3 m c t k j ⟨2048 * 2 + (y 1).val, by omega⟩ (by show 2048 * 2 + (y 1).val = _; omega), entry_w]; exact wA_entry _ _ _
  have hw4 : ∀ k : Fin 2048, (iblk m c 4 t : FVec Ideal S2048x256 .bf16) (ix2 k j) = (m ((c.tc : Thread nD τ).loc main_arg1) : FVec Ideal S2048x13804 .f32) (ix2 k ⟨5612 + (2048 * 3 + (y 1).val), by omega⟩) := fun k => by
    rw [iblk4 m c t k j ⟨2048 * 3 + (y 1).val, by omega⟩ (by show 2048 * 3 + (y 1).val = _; omega), entry_w]; exact wA_entry _ _ _
  have hb : ∀ g : Fin 4, (iblk m c 5 t : FVec Ideal S4x256 .f32) (ix2 g j) = (m ((c.tc : Thread nD τ).loc main_arg2) : FVec Ideal S4x2048 .f32) (ix2 g (y 1)) := fun g => by
    rw [iblk5 m c t g j (y 1) hd, entry_b]
  have ho0 : ∀ k : Fin 512, (iblk m c 6 t : FVec Ideal S1024x512 .bf16) (ix2 i k) = (m ((c.tc : Thread nD τ).loc main_arg3) : FVec Ideal S1x8192x512 .f32) (ix3 (0 : Fin 1) (y 0) k) := fun k => by
    rw [iblk6 m c t i k (y 0) hT, entry_o0]; exact oA_entry _ _ _
  have ho1 : ∀ k : Fin 512, (iblk m c 7 t : FVec Ideal S1024x512 .bf16) (ix2 i k) = (m ((c.tc : Thread nD τ).loc main_arg4) : FVec Ideal S1x8192x512 .f32) (ix3 (0 : Fin 1) (y 0) k) := fun k => by
    rw [iblk7 m c t i k (y 0) hT, entry_o1]; exact oA_entry _ _ _
  have ho2 : ∀ k : Fin 512, (iblk m c 8 t : FVec Ideal S1024x512 .bf16) (ix2 i k) = (m ((c.tc : Thread nD τ).loc main_arg5) : FVec Ideal S1x8192x512 .f32) (ix3 (0 : Fin 1) (y 0) k) := fun k => by
    rw [iblk8 m c t i k (y 0) hT, entry_o2]; exact oA_entry _ _ _
  have ho3 : ∀ k : Fin 512, (iblk m c 9 t : FVec Ideal S1024x512 .bf16) (ix2 i k) = (m ((c.tc : Thread nD τ).loc main_arg6) : FVec Ideal S1x8192x512 .f32) (ix3 (0 : Fin 1) (y 0) k) := fun k => by
    rw [iblk9 m c t i k (y 0) hT, entry_o3]; exact oA_entry _ _ _
  have hv : ∀ (g : Fin 4) (k : Fin 512), (iblk m c 10 t : FVec Ideal S4x512x256 .bf16) (ix3 g k j) = (m ((c.tc : Thread nD τ).loc main_arg7) : FVec Ideal S4x512x2048 .f32) (ix3 g k (y 1)) := fun g k => by
    rw [iblk10 m c t g k j (y 1) hd, entry_v]; rfl
  simp only [hx, hw1, hw2, hw3, hw4, hb, ho0, ho1, ho2, ho3, hv]
  rfl

theorem tile_point (t : Fin cfg0.N) (z : S1024x256.Idx) (y : S8192x2048.Idx)
    (hT : (y 0).val = 1024 * (grid0.coords t 1).val + (z 0).val) (hd : (y 1).val = 256 * (grid0.coords t 0).val + (z 1).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) z = result m c y := by
  obtain ⟨i, j, rfl⟩ : ∃ (i : Fin 1024) (j : Fin 256), z = ix2 i j := ⟨z 0, z 1, eq_ix2 (n0 := 1024) (n1 := 256) z⟩
  exact tile_entry m c t i j y hT hd

theorem arr_eq : (dats m 0 c).arrAt 11 cfg0.N = result m c := by
  refine (dats m 0 c).arrAt_eq_of_covers 11 _ (by decide +kernel) fun t hf y => ?_
  obtain ⟨-, -, -, -, -, -, -, -, -, -, -, h0, h1⟩ := idx t
  have k0 : ((((cfg0.win 11).blk t).view.emb y) 0 : ℕ) = 1024 * (grid0.coords t 1).val + (y 0).val := by
    blk_simp [h0]
    omega
  have k1 : ((((cfg0.win 11).blk t).view.emb y) 1 : ℕ) = 256 * (grid0.coords t 0).val + (y 1).val := by
    blk_simp [h1]
    omega
  rw [after0_11]
  generalize hG : result m c = G
  generalize hE : ((cfg0.win 11).blk t).view.emb y = e at k0 k1 ⊢
  blk_simp
  subst hG
  exact tile_point m c t y _ k0 k1

end Cert.MergeIdeal.Mrg

namespace Cert.MergeReferenceIdeal.Mrg

open Cert.MergeReferenceIdeal Cert.MergeReferenceIdeal.Gen Cert.MergeVal
open Idealize.ShloMosaic Idealize.ShloMosaic.TcCoe Idealize.ShloMosaic.Tactic

/-- The gates. -/
def gates (x : FVec Ideal S1x8192x2048 .f32) (w : FVec Ideal S2048x13804 .f32) (b : FVec Ideal S4x2048 .f32) : FVec Ideal S1x8192x4x2048 .f32 :=
  Host.divf (broadcastInDim S1x8192x4x2048 ![] bcast_S_S1x8192x4x2048 (constant S_ .f32 0x3F800000#32)) (addf (broadcastInDim S1x8192x4x2048 ![] bcast_S_S1x8192x4x2048 (constant S_ .f32 0x3F800000#32)) (Host.exp (Host.negf (addf (shapeCast _ (extractStridedSlice S1x8192x8192 ![0, 0, 5612] (Host.dotGeneral dot_S1x8192x2048_S2048x13804_S1x8192x13804_2_0_01_1_n_n none x w) slices_S1x8192x13804_S1x8192x8192_0_0_5612) shapeCasts_S1x8192x8192_S1x8192x4x2048) (broadcastInDim S1x8192x4x2048 ![0, 1, 2, 3] bcast_S1x1x4x2048_S1x8192x4x2048_0_1_2_3 (broadcastInDim S1x1x4x2048 ![2, 3] bcast_S4x2048_S1x1x4x2048_2_3 b))))))

/-- The branches' products. -/
def prods (o0 o1 o2 o3 : FVec Ideal S1x8192x512 .f32) (v : FVec Ideal S4x512x2048 .f32) : FVec Ideal S1x8192x4x2048 .f32 :=
  transpose S1x8192x4x2048 [2, 3, 0, 1] (Host.dotGeneral dot_S4x512x2048_S1x8192x4x512_S4x2048x1x8192_1_3_2_01_0_2 none v ((concatenate S1x8192x4x512 2 [⟨S1x8192x1x512, ((broadcastInDim S1x8192x1x512 ![0, 1, 3] bcast_S1x8192x512_S1x8192x1x512_0_1_3 o0) : FVec Ideal S1x8192x1x512 .f32)⟩, ⟨S1x8192x1x512, ((broadcastInDim S1x8192x1x512 ![0, 1, 3] bcast_S1x8192x512_S1x8192x1x512_0_1_3 o1) : FVec Ideal S1x8192x1x512 .f32)⟩, ⟨S1x8192x1x512, ((broadcastInDim S1x8192x1x512 ![0, 1, 3] bcast_S1x8192x512_S1x8192x1x512_0_1_3 o2) : FVec Ideal S1x8192x1x512 .f32)⟩, ⟨S1x8192x1x512, ((broadcastInDim S1x8192x1x512 ![0, 1, 3] bcast_S1x8192x512_S1x8192x1x512_0_1_3 o3) : FVec Ideal S1x8192x1x512 .f32)⟩] concatenates_S1x8192x1x512_S1x8192x1x512_S1x8192x1x512_S1x8192x1x512_S1x8192x4x512_d2 : FVec Ideal S1x8192x4x512 .f32))) transposes_S4x2048x1x8192_S1x8192x4x2048_2_3_0_1

/-- The branches' sum. -/
def total (g p : FVec Ideal S1x8192x4x2048 .f32) : FVec Ideal S8192x2048 .bf16 :=
  truncf .bf16 (shapeCast _ (Host.reduceAdd (mulf g p) (constant S_ .f32 0x00000000#32) reducesTo_S1x8192x4x2048_S1x8192x2048_d2 h_S_) shapeCasts_S1x8192x2048_S8192x2048) bitsLt_bf16_f32

theorem gates_entry (x : FVec Ideal S1x8192x2048 .f32) (w : FVec Ideal S2048x13804 .f32) (b : FVec Ideal S4x2048 .f32) (t : Fin 8192) (g : Fin 4) (d : Fin 2048) :
    gates x w b (ix4 (0 : Fin 1) t g d) = sigm ((∑ k : Fin 2048, x (ix3 (0 : Fin 1) t k) * w (ix2 k ⟨5612 + (2048 * g.val + d.val), by omega⟩)) + b (ix2 g d)) := by
  pointwise [gates]
  have e : 5612 + (g.val * 2048 + d.val) = 5612 + (2048 * g.val + d.val) := by omega
  simp only [sigm, e]

theorem prods_entry (o0 o1 o2 o3 : FVec Ideal S1x8192x512 .f32) (v : FVec Ideal S4x512x2048 .f32) (t : Fin 8192) (g : Fin 4) (d : Fin 2048) :
    prods o0 o1 o2 o3 v (ix4 (0 : Fin 1) t g d) = ∑ k : Fin 512, (![o0, o1, o2, o3] g) (ix3 (0 : Fin 1) t k) * v (ix3 g k d) := by
  fin_cases g <;> pointwise [prods] <;> exact Finset.sum_congr rfl fun k _ => mul_comm _ _

theorem total_entry (g p : FVec Ideal S1x8192x4x2048 .f32) (t : Fin 8192) (d : Fin 2048) :
    total g p (ix2 t d) = ∑ e : Fin 4, (g (ix4 (0 : Fin 1) t e d) * p (ix4 (0 : Fin 1) t e d) : EReal) := by
  pointwise [total]

theorem total_eq (x : FVec Ideal S1x8192x2048 .f32) (w : FVec Ideal S2048x13804 .f32) (b : FVec Ideal S4x2048 .f32) (o0 o1 o2 o3 : FVec Ideal S1x8192x512 .f32) (v : FVec Ideal S4x512x2048 .f32)
    (t : Fin 8192) (d : Fin 2048) :
    total (gates x w b) (prods o0 o1 o2 o3 v) (ix2 t d) =
      Cert.MergeIdeal.Mrg.part x w b o0 v 0 t d + Cert.MergeIdeal.Mrg.part x w b o1 v 1 t d + Cert.MergeIdeal.Mrg.part x w b o2 v 2 t d + Cert.MergeIdeal.Mrg.part x w b o3 v 3 t d := by
  rw [total_entry, Fin.sum_univ_four]
  simp only [gates_entry, prods_entry]
  rfl

end Cert.MergeReferenceIdeal.Mrg

end
-- ==== Proof.ProjVal.lean ====
/- The projections' call, entry by entry: a row of the activations times a column of the weights, which both programs lay out in the same order. -/
module

public import proofs.«01_k».proof.Proof.Gen.ProjIdeal.Value
public import proofs.«01_k».proof.Proof.Gen.ProjReferenceIdeal.Run
public import Idealize.ShloMosaic.Lib.Pointwise
public import Idealize.ShloMosaic.Lib.Tactic.IndexArith
public import Idealize.ShloMosaic.Lib.Claim
public import Idealize.ShloMosaic.Lib.Pipeline.ValueKit.Point
public import Idealize.ShloMosaic.Lib.Tactic.CleanTypes

@[expose] public section

set_option maxRecDepth 16384

noncomputable section

namespace Cert.ProjIdeal.Prj

open Cert.ProjIdeal Cert.ProjIdeal.Gen
open Idealize.ShloMosaic Idealize.ShloMosaic.TcCoe Idealize.ShloMosaic.Tactic

theorem out_entry (x : Vec Ideal S512x2048 .bf16) (w : Vec Ideal S2048x1152 .bf16) (i : Fin 512) (j : Fin 1152) :
    out0_2 x w (ix2 i j) = ∑ k : Fin 2048, (x (ix2 i k) * w (ix2 k j) : EReal) := by
  unfold out0_2
  frame_out
  pointwise [k0_pay1]

variable (m : (ℓ : Loc nD τ sig) → Buf (Elt Ideal) ℓ) (c : Dev nD)

/-- The rows of the activations and the chosen columns of the weights, as the kernel is entered with them. -/
def xA (x : FVec Ideal S1x8192x2048 .f32) : FVec Ideal S8192x2048 .bf16 := truncf .bf16 (shapeCast S8192x2048 x shapeCasts_S1x8192x2048_S8192x2048) bitsLt_bf16_f32

def wA (w : FVec Ideal S2048x13804 .f32) : FVec Ideal S2048x2304 .bf16 :=
  truncf .bf16 (concatenate S2048x2304 1 [⟨S2048x1024, (extractStridedSlice S2048x1024 ![0, 2048] w slices_S2048x13804_S2048x1024_0_2048 : FVec Ideal S2048x1024 .f32)⟩,
    ⟨S2048x512, (extractStridedSlice S2048x512 ![0, 1536] w slices_S2048x13804_S2048x512_0_1536 : FVec Ideal S2048x512 .f32)⟩,
    ⟨S2048x384, (extractStridedSlice S2048x384 ![0, 4940] w slices_S2048x13804_S2048x384_0_4940 : FVec Ideal S2048x384 .f32)⟩,
    ⟨S2048x32, (extractStridedSlice S2048x32 ![0, 5580] w slices_S2048x13804_S2048x32_0_5580 : FVec Ideal S2048x32 .f32)⟩,
    ⟨S2048x8, (extractStridedSlice S2048x8 ![0, 3072] w slices_S2048x13804_S2048x8_0_3072 : FVec Ideal S2048x8 .f32)⟩,
    ⟨S2048x4, (mulf (extractStridedSlice S2048x4 ![0, 4936] w slices_S2048x13804_S2048x4_0_4936) (broadcastInDim S2048x4 ![] bcast_S_S2048x4 (constant S_ .f32 0x3D800000#32)) : FVec Ideal S2048x4 .f32)⟩,
    ⟨S2048x84, (broadcastInDim S2048x84 ![] bcast_S_S2048x84 (constant S_ .f32 0x00000000#32) : FVec Ideal S2048x84 .f32)⟩,
    ⟨S2048x256, (extractStridedSlice S2048x256 ![0, 5324] w slices_S2048x13804_S2048x256_0_5324 : FVec Ideal S2048x256 .f32)⟩]
    concatenates_S2048x1024_S2048x512_S2048x384_S2048x32_S2048x8_S2048x4_S2048x84_S2048x256_S2048x2304_d1 : FVec Ideal S2048x2304 .f32) bitsLt_bf16_f32

theorem entry_x : (V m c main_v1 : FVec Ideal S8192x2048 .bf16) = xA (m ((c.tc : Thread nD τ).loc main_arg0)) := by entry_read; rfl
theorem entry_w : (V m c main_v13 : FVec Ideal S2048x2304 .bf16) = wA (m ((c.tc : Thread nD τ).loc main_arg1)) := by
  unfold_abbrev_sides
  after_reads_simp
  rfl

theorem xA_entry (x : FVec Ideal S1x8192x2048 .f32) (t : Fin 8192) (k : Fin 2048) : xA x (ix2 t k) = x (ix3 (0 : Fin 1) t k) := by
  pointwise [xA]

theorem idx : ∀ t : Fin cfg0.N, (win0_0.index t 0 = (grid0.coords t 1).val ∧ win0_0.index t 1 = 0)
    ∧ (win0_1.index t 0 = 0 ∧ win0_1.index t 1 = (grid0.coords t 0).val) ∧ (win0_2.index t 0 = (grid0.coords t 1).val ∧ win0_2.index t 1 = (grid0.coords t 0).val) :=
  (by decide +kernel : ∀ t : Fin grid0.N, (win0_0.index t 0 = (grid0.coords t 1).val ∧ win0_0.index t 1 = 0)
    ∧ (win0_1.index t 0 = 0 ∧ win0_1.index t 1 = (grid0.coords t 0).val) ∧ (win0_2.index t 0 = (grid0.coords t 1).val ∧ win0_2.index t 1 = (grid0.coords t 0).val))

theorem iblk0 (t : Fin cfg0.N) (i : Fin 512) (k : Fin 2048) (T : Fin 8192) (hT : T.val = 512 * (grid0.coords t 1).val + i.val) :
    (iblk m c 0 t : FVec Ideal S512x2048 .bf16) (ix2 i k) = (V m c main_v1 : FVec Ideal S8192x2048 .bf16) (ix2 T k) := by
  obtain ⟨⟨h0, h1⟩, -⟩ := idx t
  blk_ext [iblk, h0, h1]

theorem iblk1 (t : Fin cfg0.N) (k : Fin 2048) (j : Fin 1152) (r : Fin 2304) (hr : r.val = 1152 * (grid0.coords t 0).val + j.val) :
    (iblk m c 1 t : FVec Ideal S2048x1152 .bf16) (ix2 k j) = (V m c main_v13 : FVec Ideal S2048x2304 .bf16) (ix2 k r) := by
  obtain ⟨-, ⟨h0, h1⟩, -⟩ := idx t
  blk_ext [iblk, h0, h1]

/-- The result, from the arguments. -/
def rows (x : FVec Ideal S1x8192x2048 .f32) (w : FVec Ideal S2048x13804 .f32) : FVec Ideal S8192x2304 .f32 := fun i => ∑ k : Fin 2048, (x (ix3 (0 : Fin 1) (i 0) k) * wA w (ix2 k (i 1)) : EReal)

def result : FVec Ideal S8192x2304 .f32 := rows (m ((c.tc : Thread nD τ).loc main_arg0)) (m ((c.tc : Thread nD τ).loc main_arg1))

theorem tile_point (t : Fin cfg0.N) (z : S512x1152.Idx) (y : S8192x2304.Idx)
    (hT : (y 0).val = 512 * (grid0.coords t 1).val + (z 0).val) (hd : (y 1).val = 1152 * (grid0.coords t 0).val + (z 1).val) :
    out0_2 (iblk m c 0 t) (iblk m c 1 t) z = result m c y := by
  obtain ⟨i, j, rfl⟩ : ∃ (i : Fin 512) (j : Fin 1152), z = ix2 i j := ⟨z 0, z 1, eq_ix2 (n0 := 512) (n1 := 1152) z⟩
  refine (out_entry _ _ i j).trans ?_
  have hx : ∀ k : Fin 2048, (iblk m c 0 t : FVec Ideal S512x2048 .bf16) (ix2 i k) = (m ((c.tc : Thread nD τ).loc main_arg0) : FVec Ideal S1x8192x2048 .f32) (ix3 (0 : Fin 1) (y 0) k) := fun k => by
    rw [iblk0 m c t i k (y 0) hT, entry_x]; exact xA_entry _ _ _
  have hw : ∀ k : Fin 2048, (iblk m c 1 t : FVec Ideal S2048x1152 .bf16) (ix2 k j) = wA (m ((c.tc : Thread nD τ).loc main_arg1)) (ix2 k (y 1)) := fun k => by
    rw [iblk1 m c t k j (y 1) hd, entry_w]
  simp only [hx, hw]
  rfl

theorem arr_eq : (dats m 0 c).arrAt 2 cfg0.N = result m c := by
  refine (dats m 0 c).arrAt_eq_of_covers 2 _ (by decide +kernel) fun t hf y => ?_
  obtain ⟨-, -, h0, h1⟩ := idx t
  have k0 : ((((cfg0.win 2).blk t).view.emb y) 0 : ℕ) = 512 * (grid0.coords t 1).val + (y 0).val := by
    blk_simp [h0]
    omega
  have k1 : ((((cfg0.win 2).blk t).view.emb y) 1 : ℕ) = 1152 * (grid0.coords t 0).val + (y 1).val := by
    blk_simp [h1]
    omega
  rw [after0_2]
  generalize hG : result m c = G
  generalize hE : ((cfg0.win 2).blk t).view.emb y = e at k0 k1 ⊢
  blk_simp
  subst hG
  exact tile_point m c t y _ k0 k1

end Cert.ProjIdeal.Prj

namespace Cert.ProjReferenceIdeal.Prj

open Cert.ProjReferenceIdeal Cert.ProjReferenceIdeal.Gen
open Idealize.ShloMosaic Idealize.ShloMosaic.TcCoe Idealize.ShloMosaic.Tactic

/-- All the projections. -/
def proj (x : FVec Ideal S1x8192x2048 .f32) (w : FVec Ideal S2048x13804 .f32) : FVec Ideal S8192x13804 .f32 :=
  shapeCast _ (Host.dotGeneral dot_S1x8192x2048_S2048x13804_S1x8192x13804_2_0_01_1_n_n none x w) shapeCasts_S1x8192x13804_S8192x13804

/-- The ones the call computes, in its order. -/
def chosen (p : FVec Ideal S8192x13804 .f32) : FVec Ideal S8192x2304 .f32 :=
  (concatenate S8192x2304 1 [⟨S8192x1024, ((extractStridedSlice S8192x1024 ![0, 2048] p slices_S8192x13804_S8192x1024_0_2048) : FVec Ideal S8192x1024 .f32)⟩, ⟨S8192x512, ((extractStridedSlice S8192x512 ![0, 1536] p slices_S8192x13804_S8192x512_0_1536) : FVec Ideal S8192x512 .f32)⟩, ⟨S8192x384, ((extractStridedSlice S8192x384 ![0, 4940] p slices_S8192x13804_S8192x384_0_4940) : FVec Ideal S8192x384 .f32)⟩, ⟨S8192x32, ((extractStridedSlice S8192x32 ![0, 5580] p slices_S8192x13804_S8192x32_0_5580) : FVec Ideal S8192x32 .f32)⟩, ⟨S8192x8, ((extractStridedSlice S8192x8 ![0, 3072] p slices_S8192x13804_S8192x8_0_3072) : FVec Ideal S8192x8 .f32)⟩, ⟨S8192x4, ((mulf (extractStridedSlice S8192x4 ![0, 4936] p slices_S8192x13804_S8192x4_0_4936) (broadcastInDim S8192x4 ![] bcast_S_S8192x4 (constant S_ .f32 0x3D800000#32))) : FVec Ideal S8192x4 .f32)⟩, ⟨S8192x84, ((broadcastInDim S8192x84 ![] bcast_S_S8192x84 (constant S_ .f32 0x00000000#32)) : FVec Ideal S8192x84 .f32)⟩, ⟨S8192x256, ((extractStridedSlice S8192x256 ![0, 5324] p slices_S8192x13804_S8192x256_0_5324) : FVec Ideal S8192x256 .f32)⟩] concatenates_S8192x1024_S8192x512_S8192x384_S8192x32_S8192x8_S8192x4_S8192x84_S8192x256_S8192x2304_d1 : FVec Ideal S8192x2304 .f32)

theorem proj_entry (x : FVec Ideal S1x8192x2048 .f32) (w : FVec Ideal S2048x13804 .f32) (t : Fin 8192) (r : Fin 13804) :
    proj x w (ix2 t r) = ∑ k : Fin 2048, (x (ix3 (0 : Fin 1) t k) * w (ix2 k r) : EReal) := by
  pointwise [proj]

/-- A nonnegative real factor may be taken out of a sum. -/
theorem sum_scale (f g : Fin 2048 → EReal) (s : ℝ) (hs : 0 ≤ s) : (∑ k, f k * g k) * ((s : ℝ) : EReal) = ∑ k, f k * (g k * ((s : ℝ) : EReal)) := by
  have h : ∀ F : Finset (Fin 2048), (∑ k ∈ F, f k * g k) * ((s : ℝ) : EReal) = ∑ k ∈ F, f k * (g k * ((s : ℝ) : EReal)) := fun F => by
    induction F using Finset.induction_on with
    | empty => simp
    | insert a F ha ih =>
      rw [Finset.sum_insert ha, Finset.sum_insert ha, EReal.right_distrib_of_nonneg_of_ne_top (by exact_mod_cast hs) (EReal.coe_ne_top s), ih, mul_assoc]
  exact h Finset.univ

theorem sixteenth : (Ideal.ofBits .f32 0x3D800000#32 : EReal) = ((1 / 16 : ℝ) : EReal) := by
  simp [Ideal.ofBits, Ideal.ieee, -EReal.coe_mul]
  norm_num

theorem chosen_entry (x : FVec Ideal S1x8192x2048 .f32) (w : FVec Ideal S2048x13804 .f32) (t : Fin 8192) (r : Fin 2304) :
    chosen (proj x w) (ix2 t r) = ∑ k : Fin 2048, (x (ix3 (0 : Fin 1) t k) * Cert.ProjIdeal.Prj.wA w (ix2 k r) : EReal) := by
  have hp : ∀ r, proj x w (ix2 t r) = _ := proj_entry x w t
  generalize proj x w = p at hp ⊢
  pointwise [chosen, Cert.ProjIdeal.Prj.wA]
  by_cases h1 : r.val < 1024
  · simp only [dif_pos h1, hp]
  by_cases h2 : r.val - 1024 < 512
  · simp only [dif_neg h1, dif_pos h2, hp]
  by_cases h3 : r.val - 1024 - 512 < 384
  · simp only [dif_neg h1, dif_neg h2, dif_pos h3, hp]
  by_cases h4 : r.val - 1024 - 512 - 384 < 32
  · simp only [dif_neg h1, dif_neg h2, dif_neg h3, dif_pos h4, hp]
  by_cases h5 : r.val - 1024 - 512 - 384 - 32 < 8
  · simp only [dif_neg h1, dif_neg h2, dif_neg h3, dif_neg h4, dif_pos h5, hp]
  by_cases h6 : r.val - 1024 - 512 - 384 - 32 - 8 < 4
  · simp only [dif_neg h1, dif_neg h2, dif_neg h3, dif_neg h4, dif_neg h5, dif_pos h6, hp, sixteenth]
    exact sum_scale _ _ _ (by norm_num)
  by_cases h7 : r.val - 1024 - 512 - 384 - 32 - 8 - 4 < 84
  · simp only [dif_neg h1, dif_neg h2, dif_neg h3, dif_neg h4, dif_neg h5, dif_neg h6, dif_pos h7]
    exact (Finset.sum_eq_zero fun k _ => mul_zero _).symm
  · simp only [dif_neg h1, dif_neg h2, dif_neg h3, dif_neg h4, dif_neg h5, dif_neg h6, dif_neg h7, hp]

end Cert.ProjReferenceIdeal.Prj

end
-- ==== Proof.OutVal.lean ====
/- The output projection, its residual and the layer norm, entry by entry: every row of the result is the normalized row of
   `DN_ALPHA * x + merged @ w_out`. -/
module

public import proofs.«01_k».proof.Proof.Gen.OutIdeal.Value
public import proofs.«01_k».proof.Proof.Gen.OutReferenceIdeal.Run
public import Idealize.ShloMosaic.Lib.Pointwise
public import Idealize.ShloMosaic.Lib.Tactic.IndexArith
public import Idealize.ShloMosaic.Lib.Claim
public import Idealize.ShloMosaic.Lib.Pipeline.ValueKit.Point
public import Idealize.ShloMosaic.Lib.Tactic.CleanTypes

@[expose] public section

set_option maxRecDepth 16384

noncomputable section

namespace Cert.OutVal

open Idealize.ShloMosaic Idealize.ShloMosaic.TcCoe Idealize.ShloMosaic.Tactic

/-- The mean of a row. -/
def mean (v : Fin 2048 → EReal) : EReal := Ideal.div (∑ k, v k) (Ideal.ofBits .f32 0x45000000#32)

/-- A row normalized, at one place. -/
def norm (v : Fin 2048 → EReal) (g b : EReal) (d : Fin 2048) : EReal :=
  (v d - mean v) * Ideal.rsqrt (mean (fun k => (v k - mean v) * (v k - mean v)) + Ideal.ofBits .f32 0x3727C5AC#32) * g + b

/-- A row of the residual and the projection. -/
def row (x q : Fin 2048 → EReal) (w : Fin 2048 → Fin 2048 → EReal) : Fin 2048 → EReal := fun d => Ideal.ofBits .f32 0x3FD744FD#32 * x d + ∑ k, q k * w k d

end Cert.OutVal

namespace Cert.OutIdeal.Prj

open Cert.OutIdeal Cert.OutIdeal.Gen Cert.OutVal
open Idealize.ShloMosaic Idealize.ShloMosaic.TcCoe Idealize.ShloMosaic.Tactic

theorem pay_entry (q : Vec Ideal S256x2048 .bf16) (w : Vec Ideal S2048x2048 .bf16) (x : Vec Ideal S256x2048 .f32) (g b : Vec Ideal S1x2048 .f32) (i : Fin 256) (d : Fin 2048) :
    k0_pay2 q w x g b (ix2 i d) = norm (row (fun k => x (ix2 i k)) (fun k => q (ix2 i k)) (fun k e => w (ix2 k e))) (g (ix2 (0 : Fin 1) d)) (b (ix2 (0 : Fin 1) d)) d := by
  pointwise [k0_pay2]
  rfl

theorem out7_entry (q : Vec Ideal S256x2048 .bf16) (w : Vec Ideal S2048x2048 .bf16) (x : Vec Ideal S256x2048 .f32) (g b : Vec Ideal S1x2048 .f32) (rw : Vec Ideal S2048x128 .bf16) (rb : Vec Ideal S1x128 .f32) (i : Fin 256) (d : Fin 2048) :
    out0_7 q w x g b rw rb (ix2 i d) = norm (row (fun k => x (ix2 i k)) (fun k => q (ix2 i k)) (fun k e => w (ix2 k e))) (g (ix2 (0 : Fin 1) d)) (b (ix2 (0 : Fin 1) d)) d := by
  unfold_out out0_7
  frame_out
  exact pay_entry q w x g b i d

theorem out8_entry (q : Vec Ideal S256x2048 .bf16) (w : Vec Ideal S2048x2048 .bf16) (x : Vec Ideal S256x2048 .f32) (g b : Vec Ideal S1x2048 .f32) (rw : Vec Ideal S2048x128 .bf16) (rb : Vec Ideal S1x128 .f32) (i : Fin 256) (d : Fin 2048) :
    out0_8 q w x g b rw rb (ix2 i d) = norm (row (fun k => x (ix2 i k)) (fun k => q (ix2 i k)) (fun k e => w (ix2 k e))) (g (ix2 (0 : Fin 1) d)) (b (ix2 (0 : Fin 1) d)) d := by
  unfold_out out0_8
  frame_out
  exact pay_entry q w x g b i d

variable (m : (ℓ : Loc nD τ sig) → Buf (Elt Ideal) ℓ) (c : Dev nD)

/-- The merged rows, the weights, the residual's rows and the norm's scale and shift, as the kernel is entered with them. -/
def qA (x : FVec Ideal S1x8192x2048 .f32) : FVec Ideal S8192x2048 .bf16 := truncf .bf16 (shapeCast S8192x2048 x shapeCasts_S1x8192x2048_S8192x2048) bitsLt_bf16_f32
def wA (w : FVec Ideal S2048x2048 .f32) : FVec Ideal S2048x2048 .bf16 := truncf .bf16 w bitsLt_bf16_f32
def xA (x : FVec Ideal S1x8192x2048 .f32) : FVec Ideal S8192x2048 .f32 := shapeCast S8192x2048 x shapeCasts_S1x8192x2048_S8192x2048
def gA (g : FVec Ideal S2048 .f32) : FVec Ideal S1x2048 .f32 := shapeCast S1x2048 g shapeCasts_S2048_S1x2048

theorem entry_q : (V m c main_v6 : FVec Ideal S8192x2048 .bf16) = qA (m ((c.tc : Thread nD τ).loc main_arg0)) := by
  unfold_abbrev_sides
  after_reads_simp
  rfl
theorem entry_w : (V m c main_v7 : FVec Ideal S2048x2048 .bf16) = wA (m ((c.tc : Thread nD τ).loc main_arg1)) := by
  unfold_abbrev_sides
  after_reads_simp
  rfl
theorem entry_x : (V m c main_v8 : FVec Ideal S8192x2048 .f32) = xA (m ((c.tc : Thread nD τ).loc main_arg2)) := by
  unfold_abbrev_sides
  after_reads_simp
  rfl
theorem entry_g : (V m c main_v9 : FVec Ideal S1x2048 .f32) = gA (m ((c.tc : Thread nD τ).loc main_arg3)) := by
  unfold_abbrev_sides
  after_reads_simp
  rfl
theorem entry_b : (V m c main_v10 : FVec Ideal S1x2048 .f32) = gA (m ((c.tc : Thread nD τ).loc main_arg4)) := by
  unfold_abbrev_sides
  after_reads_simp
  rfl

theorem qA_entry (x : FVec Ideal S1x8192x2048 .f32) (t : Fin 8192) (k : Fin 2048) : qA x (ix2 t k) = x (ix3 (0 : Fin 1) t k) := by
  pointwise [qA]
theorem xA_entry (x : FVec Ideal S1x8192x2048 .f32) (t : Fin 8192) (k : Fin 2048) : xA x (ix2 t k) = x (ix3 (0 : Fin 1) t k) := by
  pointwise [xA]
theorem gA_entry (g : FVec Ideal S2048 .f32) (k : Fin 2048) : gA g (ix2 (0 : Fin 1) k) = g (ix1 k) := by
  pointwise [gA]

theorem idx : ∀ t : Fin cfg0.N, (win0_0.index t 0 = (grid0.coords t 0).val ∧ win0_0.index t 1 = 0) ∧ (win0_1.index t 0 = 0 ∧ win0_1.index t 1 = 0) ∧ (win0_2.index t 0 = (grid0.coords t 0).val ∧ win0_2.index t 1 = 0) ∧ (win0_3.index t 0 = 0 ∧ win0_3.index t 1 = 0) ∧ (win0_4.index t 0 = 0 ∧ win0_4.index t 1 = 0) ∧ (win0_7.index t 0 = (grid0.coords t 0).val ∧ win0_7.index t 1 = 0) ∧ (win0_8.index t 0 = (grid0.coords t 0).val ∧ win0_8.index t 1 = 0) :=
  (by decide +kernel : ∀ t : Fin grid0.N, (win0_0.index t 0 = (grid0.coords t 0).val ∧ win0_0.index t 1 = 0) ∧ (win0_1.index t 0 = 0 ∧ win0_1.index t 1 = 0) ∧ (win0_2.index t 0 = (grid0.coords t 0).val ∧ win0_2.index t 1 = 0) ∧ (win0_3.index t 0 = 0 ∧ win0_3.index t 1 = 0) ∧ (win0_4.index t 0 = 0 ∧ win0_4.index t 1 = 0) ∧ (win0_7.index t 0 = (grid0.coords t 0).val ∧ win0_7.index t 1 = 0) ∧ (win0_8.index t 0 = (grid0.coords t 0).val ∧ win0_8.index t 1 = 0))

theorem iblk0 (t : Fin cfg0.N) (i : Fin 256) (k : Fin 2048) (T : Fin 8192) (hT : T.val = 256 * (grid0.coords t 0).val + i.val) :
    (iblk m c 0 t : FVec Ideal S256x2048 .bf16) (ix2 i k) = (V m c main_v6 : FVec Ideal S8192x2048 .bf16) (ix2 T k) := by
  obtain ⟨⟨h0, h1⟩, -⟩ := idx t
  blk_ext [iblk, h0, h1]

theorem iblk1 (t : Fin cfg0.N) (k d : Fin 2048) :
    (iblk m c 1 t : FVec Ideal S2048x2048 .bf16) (ix2 k d) = (V m c main_v7 : FVec Ideal S2048x2048 .bf16) (ix2 k d) := by
  obtain ⟨-, ⟨h0, h1⟩, -⟩ := idx t
  blk_ext [iblk, h0, h1]

theorem iblk2 (t : Fin cfg0.N) (i : Fin 256) (k : Fin 2048) (T : Fin 8192) (hT : T.val = 256 * (grid0.coords t 0).val + i.val) :
    (iblk m c 2 t : FVec Ideal S256x2048 .f32) (ix2 i k) = (V m c main_v8 : FVec Ideal S8192x2048 .f32) (ix2 T k) := by
  obtain ⟨-, -, ⟨h0, h1⟩, -⟩ := idx t
  blk_ext [iblk, h0, h1]

theorem iblk3 (t : Fin cfg0.N) (d : Fin 2048) :
    (iblk m c 3 t : FVec Ideal S1x2048 .f32) (ix2 (0 : Fin 1) d) = (V m c main_v9 : FVec Ideal S1x2048 .f32) (ix2 (0 : Fin 1) d) := by
  obtain ⟨-, -, -, ⟨h0, h1⟩, -⟩ := idx t
  blk_ext [iblk, h0, h1]

theorem iblk4 (t : Fin cfg0.N) (d : Fin 2048) :
    (iblk m c 4 t : FVec Ideal S1x2048 .f32) (ix2 (0 : Fin 1) d) = (V m c main_v10 : FVec Ideal S1x2048 .f32) (ix2 (0 : Fin 1) d) := by
  obtain ⟨-, -, -, -, ⟨h0, h1⟩, -⟩ := idx t
  blk_ext [iblk, h0, h1]

/-- The result, from the arguments. -/
def rows (q : FVec Ideal S1x8192x2048 .f32) (w : FVec Ideal S2048x2048 .f32) (x : FVec Ideal S1x8192x2048 .f32) (g b : FVec Ideal S2048 .f32) (t : Fin 8192) (d : Fin 2048) : EReal :=
  norm (row (fun k => x (ix3 (0 : Fin 1) t k)) (fun k => q (ix3 (0 : Fin 1) t k)) (fun k e => w (ix2 k e))) (g (ix1 d)) (b (ix1 d)) d

def result (y : S8192x2048.Idx) : EReal :=
  rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)

def result7 : FVec Ideal S8192x2048 .f32 := result m c
def result8 : FVec Ideal S8192x2048 .bf16 := result m c

theorem tile_row (t : Fin cfg0.N) (i : Fin 256) (d : Fin 2048) (y : S8192x2048.Idx) (hT : (y 0).val = 256 * (grid0.coords t 0).val + i.val) (hd : (y 1).val = d.val) :
    norm (row (fun k => (iblk m c 2 t : FVec Ideal S256x2048 .f32) (ix2 i k)) (fun k => (iblk m c 0 t : FVec Ideal S256x2048 .bf16) (ix2 i k)) (fun k e => (iblk m c 1 t : FVec Ideal S2048x2048 .bf16) (ix2 k e)))
      ((iblk m c 3 t : FVec Ideal S1x2048 .f32) (ix2 (0 : Fin 1) d)) ((iblk m c 4 t : FVec Ideal S1x2048 .f32) (ix2 (0 : Fin 1) d)) d = result m c y := by
  have hd' : d = y 1 := Fin.ext hd.symm
  subst hd'
  have hq : ∀ k : Fin 2048, (iblk m c 0 t : FVec Ideal S256x2048 .bf16) (ix2 i k) = (m ((c.tc : Thread nD τ).loc main_arg0) : FVec Ideal S1x8192x2048 .f32) (ix3 (0 : Fin 1) (y 0) k) := fun k => by
    rw [iblk0 m c t i k (y 0) hT, entry_q]; exact qA_entry _ _ _
  have hw : ∀ k d : Fin 2048, (iblk m c 1 t : FVec Ideal S2048x2048 .bf16) (ix2 k d) = (m ((c.tc : Thread nD τ).loc main_arg1) : FVec Ideal S2048x2048 .f32) (ix2 k d) := fun k d => by
    rw [iblk1 m c t k d, entry_w]; rfl
  have hx : ∀ k : Fin 2048, (iblk m c 2 t : FVec Ideal S256x2048 .f32) (ix2 i k) = (m ((c.tc : Thread nD τ).loc main_arg2) : FVec Ideal S1x8192x2048 .f32) (ix3 (0 : Fin 1) (y 0) k) := fun k => by
    rw [iblk2 m c t i k (y 0) hT, entry_x]; exact xA_entry _ _ _
  have hg : (iblk m c 3 t : FVec Ideal S1x2048 .f32) (ix2 (0 : Fin 1) (y 1)) = (m ((c.tc : Thread nD τ).loc main_arg3) : FVec Ideal S2048 .f32) (ix1 (y 1)) := by
    rw [iblk3 m c t (y 1), entry_g]; exact gA_entry _ _
  have hb : (iblk m c 4 t : FVec Ideal S1x2048 .f32) (ix2 (0 : Fin 1) (y 1)) = (m ((c.tc : Thread nD τ).loc main_arg4) : FVec Ideal S2048 .f32) (ix1 (y 1)) := by
    rw [iblk4 m c t (y 1), entry_b]; exact gA_entry _ _
  simp only [hq, hw, hx, hg, hb]
  rfl

theorem tile7_point (t : Fin cfg0.N) (z : S256x2048.Idx) (y : S8192x2048.Idx) (hT : (y 0).val = 256 * (grid0.coords t 0).val + (z 0).val) (hd : (y 1).val = (z 1).val) :
    out0_7 (iblk m c 0 t) (iblk m c 1 t) (iblk m c 2 t) (iblk m c 3 t) (iblk m c 4 t) (iblk m c 5 t) (iblk m c 6 t) z = result7 m c y := by
  obtain ⟨i, d, rfl⟩ : ∃ (i : Fin 256) (d : Fin 2048), z = ix2 i d := ⟨z 0, z 1, eq_ix2 (n0 := 256) (n1 := 2048) z⟩
  exact (out7_entry _ _ _ _ _ _ _ i d).trans (tile_row m c t i d y hT hd)

theorem arr7_eq : (dats m 0 c).arrAt 7 cfg0.N = result7 m c := by
  refine (dats m 0 c).arrAt_eq_of_covers 7 _ (by decide +kernel) fun t hf y => ?_
  obtain ⟨-, -, -, -, -, ⟨h0, h1⟩, ⟨h0', h1'⟩⟩ := idx t
  have k0 : ((((cfg0.win 7).blk t).view.emb y) 0 : ℕ) = 256 * (grid0.coords t 0).val + (y 0).val := by
    blk_simp [h0, h0']
    omega
  have k1 : ((((cfg0.win 7).blk t).view.emb y) 1 : ℕ) = (y 1).val := by
    blk_simp [h1, h1']
  rw [after0_7]
  generalize hG : result7 m c = G
  generalize hE : ((cfg0.win 7).blk t).view.emb y = e at k0 k1 ⊢
  blk_simp
  subst hG
  exact tile7_point m c t y _ k0 k1

theorem tile8_point (t : Fin cfg0.N) (z : S256x2048.Idx) (y : S8192x2048.Idx) (hT : (y 0).val = 256 * (grid0.coords t 0).val + (z 0).val) (hd : (y 1).val = (z 1).val) :
    out0_8 (iblk m c 0 t) (iblk m c 1 t) (iblk m c 2 t) (iblk m c 3 t) (iblk m c 4 t) (iblk m c 5 t) (iblk m c 6 t) z = result8 m c y := by
  obtain ⟨i, d, rfl⟩ : ∃ (i : Fin 256) (d : Fin 2048), z = ix2 i d := ⟨z 0, z 1, eq_ix2 (n0 := 256) (n1 := 2048) z⟩
  exact (out8_entry _ _ _ _ _ _ _ i d).trans (tile_row m c t i d y hT hd)

theorem arr8_eq : (dats m 0 c).arrAt 8 cfg0.N = result8 m c := by
  refine (dats m 0 c).arrAt_eq_of_covers 8 _ (by decide +kernel) fun t hf y => ?_
  obtain ⟨-, -, -, -, -, ⟨h0, h1⟩, ⟨h0', h1'⟩⟩ := idx t
  have k0 : ((((cfg0.win 8).blk t).view.emb y) 0 : ℕ) = 256 * (grid0.coords t 0).val + (y 0).val := by
    blk_simp [h0, h0']
    omega
  have k1 : ((((cfg0.win 8).blk t).view.emb y) 1 : ℕ) = (y 1).val := by
    blk_simp [h1, h1']
  rw [after0_8]
  generalize hG : result8 m c = G
  generalize hE : ((cfg0.win 8).blk t).view.emb y = e at k0 k1 ⊢
  blk_simp
  subst hG
  exact tile8_point m c t y _ k0 k1

end Cert.OutIdeal.Prj

namespace Cert.OutReferenceIdeal.Prj

open Cert.OutReferenceIdeal Cert.OutReferenceIdeal.Gen Cert.OutVal
open Idealize.ShloMosaic Idealize.ShloMosaic.TcCoe Idealize.ShloMosaic.Tactic

/-- The residual plus the projection. -/
def pre (q : FVec Ideal S1x8192x2048 .f32) (w : FVec Ideal S2048x2048 .f32) (x : FVec Ideal S1x8192x2048 .f32) : FVec Ideal S1x8192x2048 .f32 :=
  addf (mulf (broadcastInDim S1x8192x2048 ![] bcast_S_S1x8192x2048 (constant S_ .f32 0x3FD744FD#32)) x) (Host.dotGeneral dot_S1x8192x2048_S2048x2048_S1x8192x2048_2_0_01_1_n_n none q w)

/-- It less its mean. -/
def cen (v : FVec Ideal S1x8192x2048 .f32) : FVec Ideal S1x8192x2048 .f32 :=
  subf v (broadcastInDim S1x8192x2048 ![0, 1, 2] bcast_S1x8192x1_S1x8192x2048_0_1_2 (Host.divf (broadcastInDim S1x8192x1 ![0, 1] bcast_S1x8192_S1x8192x1_0_1 (Host.reduceAdd v (constant S_ .f32 0x00000000#32) reducesTo_S1x8192x2048_S1x8192_d2 h_S_)) (broadcastInDim S1x8192x1 ![] bcast_S_S1x8192x1 (constant S_ .f32 0x45000000#32))))

/-- That over its deviation, scaled and shifted. -/
def normed (d : FVec Ideal S1x8192x2048 .f32) (g b : FVec Ideal S2048 .f32) : FVec Ideal S8192x2048 .f32 :=
  shapeCast _ (addf (mulf (mulf d (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf d d) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x3727C5AC#32)))))) (broadcastInDim S1x8192x2048 ![0, 1, 2] bcast_S1x1x2048_S1x8192x2048_0_1_2 (broadcastInDim S1x1x2048 ![2] bcast_S2048_S1x1x2048_2 g))) (broadcastInDim S1x8192x2048 ![0, 1, 2] bcast_S1x1x2048_S1x8192x2048_0_1_2 (broadcastInDim S1x1x2048 ![2] bcast_S2048_S1x1x2048_2 b))) shapeCasts_S1x8192x2048_S8192x2048

theorem pre_entry (q : FVec Ideal S1x8192x2048 .f32) (w : FVec Ideal S2048x2048 .f32) (x : FVec Ideal S1x8192x2048 .f32) (t : Fin 8192) (d : Fin 2048) :
    pre q w x (ix3 (0 : Fin 1) t d) = row (fun k => x (ix3 (0 : Fin 1) t k)) (fun k => q (ix3 (0 : Fin 1) t k)) (fun k e => w (ix2 k e)) d := by
  pointwise [pre]
  rfl

theorem cen_entry (v : FVec Ideal S1x8192x2048 .f32) (t : Fin 8192) (d : Fin 2048) :
    cen v (ix3 (0 : Fin 1) t d) = (v (ix3 (0 : Fin 1) t d) - mean (fun k => v (ix3 (0 : Fin 1) t k)) : EReal) := by
  pointwise [cen]
  rfl

theorem normed_entry (v : FVec Ideal S1x8192x2048 .f32) (g b : FVec Ideal S2048 .f32) (t : Fin 8192) (d : Fin 2048) :
    normed v g b (ix2 t d) = (v (ix3 (0 : Fin 1) t d) * Ideal.rsqrt (mean (fun k => v (ix3 (0 : Fin 1) t k) * v (ix3 (0 : Fin 1) t k)) + Ideal.ofBits .f32 0x3727C5AC#32) * g (ix1 d) + b (ix1 d) : EReal) := by
  pointwise [normed]
  rfl

theorem result_entry (q : FVec Ideal S1x8192x2048 .f32) (w : FVec Ideal S2048x2048 .f32) (x : FVec Ideal S1x8192x2048 .f32) (g b : FVec Ideal S2048 .f32) (t : Fin 8192) (d : Fin 2048) :
    normed (cen (pre q w x)) g b (ix2 t d) = Cert.OutIdeal.Prj.rows q w x g b t d := by
  rw [normed_entry]
  simp only [cen_entry, pre_entry]
  rfl

end Cert.OutReferenceIdeal.Prj

end
-- ==== Proof.LatentVal.lean ====
/- The latent up-projections of the attention, entry by entry: the queries and the keys normalized, projected and rotated,
   the values, and the lanes beside them. -/
module

public import proofs.«01_k».proof.Proof.Gen.LatentIdeal.Value
public import proofs.«01_k».proof.Proof.Gen.LatentReferenceIdeal.Run
public import Idealize.ShloMosaic.Lib.Pointwise
public import Idealize.ShloMosaic.Lib.Tactic.IndexArith
public import Idealize.ShloMosaic.Lib.Claim
public import Idealize.ShloMosaic.Lib.Pipeline.ValueKit.Point
public import Idealize.ShloMosaic.Lib.Tactic.CleanTypes

@[expose] public section

set_option maxRecDepth 16384

noncomputable section

namespace Cert.LatentVal

open Idealize.ShloMosaic Idealize.ShloMosaic.TcCoe Idealize.ShloMosaic.Tactic

/-- A row divided by its root mean square and scaled, at one place. -/
def unit {n : Nat} (v : Fin n → EReal) (s : EReal) (g : EReal) (k : Fin n) : EReal :=
  v k * Ideal.rsqrt (Ideal.div (∑ j, v j * v j) s + Ideal.ofBits .f32 0x3727C5AC#32) * g

/-- A head's lanes turned by three tables, at one lane. -/
def turned (x c s1 s2 : Fin 128 → EReal) (l : Fin 128) : EReal :=
  x l * c l + x ⟨(l.val + 128 - 112) % 128, by omega⟩ * s1 l + x ⟨(l.val + 128 - 16) % 128, by omega⟩ * s2 l

/-- The lanes beside the latents, moved to the place where a head's rotated lanes stand. -/
def moved (x : Fin 128 → EReal) (l : Fin 128) : EReal :=
  if (l.val + 128 - 64) % 128 < 32 then x ⟨(l.val + 128 - 64) % 128, by omega⟩ else 0

theorem select_lt (n : Nat) (hn : n < 128) (a : EReal) :
    Scalar.select (IntOp.cmpi CmpIPredicate.slt (BitVec.ofNat 32 n) 32#32) a (0 : EReal) = if n < 32 then a else 0 := by
  have h : IntOp.cmpi CmpIPredicate.slt (BitVec.ofNat 32 n) 32#32 = if n < 32 then 1#1 else 0#1 := by
    revert n; decide +kernel
  rw [h]
  by_cases hn' : n < 32
  · rw [if_pos hn', if_pos hn']; rfl
  · rw [if_neg hn', if_neg hn']; rfl

/-- The tables of the rotation over a head's lanes: the cosines, the negated sines and the sines. -/
def tc (c : Fin 16 → EReal) (l : Fin 128) : EReal :=
  if h0 : l.val < 64 then 1 else if h1 : l.val - 64 < 16 then c ⟨l.val - 64, h1⟩ else if h2 : l.val - 64 - 16 < 16 then c ⟨l.val - 64 - 16, h2⟩ else 1
def ts1 (s : Fin 16 → EReal) (l : Fin 128) : EReal :=
  if h0 : l.val < 64 then 0 else if h1 : l.val - 64 < 16 then -s ⟨l.val - 64, h1⟩ else if h2 : l.val - 64 - 16 < 16 then 0 else 0
def ts2 (s : Fin 16 → EReal) (l : Fin 128) : EReal :=
  if h0 : l.val < 64 then 0 else if h1 : l.val - 64 < 16 then 0 else if h2 : l.val - 64 - 16 < 16 then s ⟨l.val - 64 - 16, h2⟩ else 0

/-- A query head's lanes: the first pass, the next are rotated, all are scaled, the rest are zero. -/
def headQ (z : Fin 96 → EReal) (c s : Fin 16 → EReal) (f : EReal) (l : Fin 128) : EReal :=
  if h : l.val < 96 then
    (if h0 : l.val < 64 then z ⟨l.val, h⟩
      else if h1 : l.val - 64 < 16 then z ⟨64 + (l.val - 64), by omega⟩ * c ⟨l.val - 64, h1⟩ - z ⟨64 + (16 + (l.val - 64)), by omega⟩ * s ⟨l.val - 64, h1⟩
      else z ⟨64 + (16 + (l.val - 64 - 16)), by omega⟩ * c ⟨l.val - 64 - 16, by omega⟩ + z ⟨64 + (l.val - 64 - 16), by omega⟩ * s ⟨l.val - 64 - 16, by omega⟩) * f
  else 0

/-- A key head's lanes: the first are the head's own, the next are the shared ones rotated, the rest are zero. -/
def headK (z : Fin 64 → EReal) (p : Fin 32 → EReal) (c s : Fin 16 → EReal) (l : Fin 128) : EReal :=
  if h : l.val < 96 then
    (if h0 : l.val < 64 then z ⟨l.val, h0⟩
      else if h1 : l.val - 64 < 16 then p ⟨l.val - 64, by omega⟩ * c ⟨l.val - 64, h1⟩ - p ⟨16 + (l.val - 64), by omega⟩ * s ⟨l.val - 64, h1⟩
      else p ⟨16 + (l.val - 64 - 16), by omega⟩ * c ⟨l.val - 64 - 16, by omega⟩ + p ⟨l.val - 64 - 16, by omega⟩ * s ⟨l.val - 64 - 16, by omega⟩)
  else 0

theorem scale_sub (a b c s : EReal) (r : ℝ) (hr : 0 ≤ r) : a * (r : EReal) * c + b * (r : EReal) * (-s) = (a * c - b * s) * (r : EReal) := by
  rw [sub_eq_add_neg, EReal.right_distrib_of_nonneg_of_ne_top (by exact_mod_cast hr) (EReal.coe_ne_top r), mul_neg, EReal.neg_mul, mul_right_comm a, mul_right_comm b]

theorem scale_add (a b c s : EReal) (r : ℝ) (hr : 0 ≤ r) : a * (r : EReal) * c + b * (r : EReal) * s = (a * c + b * s) * (r : EReal) := by
  rw [EReal.right_distrib_of_nonneg_of_ne_top (by exact_mod_cast hr) (EReal.coe_ne_top r), mul_right_comm a, mul_right_comm b]

theorem turned_q (z : Fin 96 → EReal) (c s : Fin 16 → EReal) (r : ℝ) (hr : 0 ≤ r) (l : Fin 128) :
    turned (fun k => if h : k.val < 96 then z ⟨k.val, h⟩ * (r : EReal) else 0) (tc c) (ts1 s) (ts2 s) l = headQ z c s (r : EReal) l := by
  have hl := l.isLt
  unfold turned headQ tc ts1 ts2
  by_cases h0 : l.val < 64
  · have h : l.val < 96 := by omega
    simp only [dif_pos h0, dif_pos h, mul_one, mul_zero, add_zero]
  by_cases h1 : l.val - 64 < 16
  · have h : l.val < 96 := by omega
    have h' : (l.val + 128 - 112) % 128 < 96 := by omega
    simp only [dif_neg h0, dif_pos h1, dif_pos h, dif_pos h', mul_zero, add_zero]
    have ea : (⟨l.val, h⟩ : Fin 96) = ⟨64 + (l.val - 64), by omega⟩ := Fin.ext (by show l.val = 64 + (l.val - 64); omega)
    have eb : (⟨(l.val + 128 - 112) % 128, h'⟩ : Fin 96) = ⟨64 + (16 + (l.val - 64)), by omega⟩ := Fin.ext (by show (l.val + 128 - 112) % 128 = 64 + (16 + (l.val - 64)); omega)
    rw [ea, eb]
    exact scale_sub _ _ _ _ r hr
  by_cases h2 : l.val - 64 - 16 < 16
  · have h : l.val < 96 := by omega
    have h' : (l.val + 128 - 16) % 128 < 96 := by omega
    simp only [dif_neg h0, dif_neg h1, dif_pos h2, dif_pos h, dif_pos h', mul_zero, add_zero]
    have ea : (⟨l.val, h⟩ : Fin 96) = ⟨64 + (16 + (l.val - 64 - 16)), by omega⟩ := Fin.ext (by show l.val = 64 + (16 + (l.val - 64 - 16)); omega)
    have eb : (⟨(l.val + 128 - 16) % 128, h'⟩ : Fin 96) = ⟨64 + (l.val - 64 - 16), by omega⟩ := Fin.ext (by show (l.val + 128 - 16) % 128 = 64 + (l.val - 64 - 16); omega)
    rw [ea, eb]
    exact scale_add _ _ _ _ r hr
  · have h : ¬ l.val < 96 := by omega
    simp only [dif_neg h0, dif_neg h1, dif_neg h2, dif_neg h, mul_zero, zero_mul, add_zero]

theorem turned_k (x : Fin 128 → EReal) (c s : Fin 16 → EReal) (l : Fin 128) :
    turned (moved x) (tc c) (ts1 s) (ts2 s) l = headK (fun _ => 0) (fun e => x ⟨e.val, by omega⟩) c s l := by
  have hl := l.isLt
  unfold turned headK tc ts1 ts2 moved
  by_cases h0 : l.val < 64
  · have h : l.val < 96 := by omega
    have h' : ¬ (l.val + 128 - 64) % 128 < 32 := by omega
    simp only [dif_pos h0, dif_pos h, if_neg h', mul_one, mul_zero, add_zero]
  by_cases h1 : l.val - 64 < 16
  · have h : l.val < 96 := by omega
    have h' : (l.val + 128 - 64) % 128 < 32 := by omega
    have h'' : ((l.val + 128 - 112) % 128 + 128 - 64) % 128 < 32 := by omega
    simp only [dif_neg h0, dif_pos h1, dif_pos h, if_pos h', if_pos h'', mul_zero, add_zero]
    rw [sub_eq_add_neg, ← mul_neg]
    congr 2
    · exact congrArg x (Fin.ext (by show (l.val + 128 - 64) % 128 = l.val - 64; omega))
    · exact congrArg x (Fin.ext (by show ((l.val + 128 - 112) % 128 + 128 - 64) % 128 = 16 + (l.val - 64); omega))
  by_cases h2 : l.val - 64 - 16 < 16
  · have h : l.val < 96 := by omega
    have h' : (l.val + 128 - 64) % 128 < 32 := by omega
    have h'' : ((l.val + 128 - 16) % 128 + 128 - 64) % 128 < 32 := by omega
    simp only [dif_neg h0, dif_neg h1, dif_pos h2, dif_pos h, if_pos h', if_pos h'', mul_zero, add_zero]
    congr 2
    · exact congrArg x (Fin.ext (by show (l.val + 128 - 64) % 128 = 16 + (l.val - 64 - 16); omega))
    · exact congrArg x (Fin.ext (by show ((l.val + 128 - 16) % 128 + 128 - 64) % 128 = l.val - 64 - 16; omega))
  · have h : ¬ l.val < 96 := by omega
    have h' : ¬ (l.val + 128 - 64) % 128 < 32 := by omega
    simp only [dif_neg h0, dif_neg h1, dif_neg h2, dif_neg h, if_neg h', mul_zero, zero_mul, add_zero]

/-- A key head's own lanes stand beside the rotated ones. -/
theorem headK_add (z : Fin 64 → EReal) (p : Fin 32 → EReal) (c s : Fin 16 → EReal) (l : Fin 128) :
    (if h : l.val < 64 then z ⟨l.val, h⟩ else 0) + headK (fun _ => 0) p c s l = headK z p c s l := by
  unfold headK
  by_cases h0 : l.val < 64
  · have h : l.val < 96 := by omega
    simp only [dif_pos h0, dif_pos h, add_zero]
  · simp only [dif_neg h0, zero_add]

theorem sum_scale {n : Nat} (f g : Fin n → EReal) (s : ℝ) (hs : 0 ≤ s) : ∑ k, f k * (g k * (s : EReal)) = (∑ k, f k * g k) * (s : EReal) := by
  have h : ∀ F : Finset (Fin n), ∑ k ∈ F, f k * (g k * (s : EReal)) = (∑ k ∈ F, f k * g k) * (s : EReal) := fun F => by
    induction F using Finset.induction_on with
    | empty => simp
    | insert a F ha ih =>
      rw [Finset.sum_insert ha, Finset.sum_insert ha, EReal.right_distrib_of_nonneg_of_ne_top (by exact_mod_cast hs) (EReal.coe_ne_top s), ih, mul_assoc]
  exact h Finset.univ

/-- The scale of the scores is a nonnegative number. -/
theorem scale_real : ∃ r : ℝ, 0 ≤ r ∧ (Ideal.ofBits .f32 0x3E16C740#32 : EReal) = (r : EReal) := by
  refine ⟨9881408 / 67108864, by norm_num, ?_⟩
  simp [Ideal.ofBits, Ideal.ieee, -EReal.coe_mul]
  norm_num

theorem word_zero : (FloatOps.sitofp .f32 (0#32 : BitVec 32) : Ideal .f32) = (0 : EReal) := by
  show (((0#32 : BitVec 32).toInt : ℝ) : EReal) = 0
  simp

/-- The results, from the arguments. -/
def qF (x : Fin 8192 → Fin 2304 → EReal) (c s : Fin 8192 → Fin 16 → EReal) (g : Fin 384 → EReal) (w : Fin 384 → Fin 768 → EReal) (t : Fin 8192) (r : Fin 1024) : EReal :=
  headQ (fun e => ∑ k : Fin 384, unit (fun a : Fin 384 => x t ⟨1536 + a.val, by omega⟩) (Ideal.ofBits .f32 0x43C00000#32) (g k) k * w k ⟨r.val / 128 * 96 + e.val, by omega⟩)
    (c t) (s t) (Ideal.ofBits .f32 0x3E16C740#32) ⟨r.val % 128, by omega⟩

def kvF (x : Fin 8192 → Fin 2304 → EReal) (g : Fin 256 → EReal) (w : Fin 256 → Fin 1024 → EReal) (t : Fin 8192) (r : Fin 1024) : EReal :=
  ∑ k : Fin 256, unit (fun a : Fin 256 => x t ⟨2048 + a.val, by omega⟩) (Ideal.ofBits .f32 0x43800000#32) (g k) k * w k r

def kF (x : Fin 8192 → Fin 2304 → EReal) (c s : Fin 8192 → Fin 16 → EReal) (g : Fin 256 → EReal) (w : Fin 256 → Fin 1024 → EReal) (t : Fin 8192) (r : Fin 1024) : EReal :=
  headK (fun e => kvF x g w t ⟨r.val / 128 * 128 + e.val, by omega⟩) (fun e => x t ⟨1920 + e.val, by omega⟩) (c t) (s t) ⟨r.val % 128, by omega⟩

def vF (x : Fin 8192 → Fin 2304 → EReal) (g : Fin 256 → EReal) (w : Fin 256 → Fin 1024 → EReal) (t : Fin 8192) (r : Fin 512) : EReal :=
  kvF x g w t ⟨r.val / 64 * 128 + (64 + r.val % 64), by omega⟩

end Cert.LatentVal

namespace Cert.LatentIdeal.Prj

open Cert.LatentIdeal Cert.LatentIdeal.Gen Cert.LatentVal
open Idealize.ShloMosaic Idealize.ShloMosaic.TcCoe Idealize.ShloMosaic.Tactic

theorem pay4_entry (x : Vec Ideal S256x384 .f32) (g : Vec Ideal S1x384 .f32) (i : Fin 256) (k : Fin 384) :
    k0_pay4 x g (ix2 i k) = unit (fun j => x (ix2 i j)) (Ideal.ofBits .f32 0x43C00000#32) (g (ix2 (0 : Fin 1) k)) k := by
  pointwise [k0_pay4]
  rfl

theorem pay5_entry (x : Vec Ideal S256x256 .f32) (g : Vec Ideal S1x256 .f32) (i : Fin 256) (k : Fin 256) :
    k0_pay5 x g (ix2 i k) = unit (fun j => x (ix2 i j)) (Ideal.ofBits .f32 0x43800000#32) (g (ix2 (0 : Fin 1) k)) k := by
  pointwise [k0_pay5]
  rfl

theorem pay8_entry (a : Vec Ideal S256x384 .bf16) (w : Vec Ideal S384x1024 .bf16) (i : Fin 256) (e : Fin 1024) :
    k0_pay8 a w (ix2 i e) = ∑ k : Fin 384, a (ix2 i k) * w (ix2 k e) := by
  pointwise [k0_pay8]

theorem pay9_entry (a : Vec Ideal S256x256 .bf16) (w : Vec Ideal S256x1024 .bf16) (i : Fin 256) (e : Fin 1024) :
    k0_pay9 a w (ix2 i e) = ∑ k : Fin 256, a (ix2 i k) * w (ix2 k e) := by
  pointwise [k0_pay9]

theorem pay30_entry (a : Vec Ideal S256x256 .bf16) (w : Vec Ideal S256x512 .bf16) (i : Fin 256) (e : Fin 512) :
    k0_pay30 a w (ix2 i e) = ∑ k : Fin 256, a (ix2 i k) * w (ix2 k e) := by
  pointwise [k0_pay30]

theorem pay7_entry (c s1 s2 : Vec Ideal S256x128 .f32) (x : Vec Ideal S256x128 .f32) (i : Fin 256) (l : Fin 128) :
    k0_pay7 c s1 s2 x (ix2 i l) = turned (moved fun k => x (ix2 i k)) (fun k => c (ix2 i k)) (fun k => s1 (ix2 i k)) (fun k => s2 (ix2 i k)) l := by
  pointwise [k0_pay7]
  rw [select_lt _ (by omega), select_lt _ (by omega), select_lt _ (by omega)]
  simp only [turned, moved, ite_mul, zero_mul]

theorem pay10_entry (c s1 s2 : Vec Ideal S256x128 .f32) (a : Vec Ideal S256x384 .bf16) (w : Vec Ideal S384x1024 .bf16) (i : Fin 256) (l : Fin 128) :
    k0_pay10 c s1 s2 a w (ix3 (0 : Fin 1) l i) = turned (fun k => k0_pay8 a w (ix2 i ⟨0 + k.val, by omega⟩)) (fun k => c (ix2 i k)) (fun k => s1 (ix2 i k)) (fun k => s2 (ix2 i k)) l := by
  pointwise [k0_pay10, turned]

theorem pay12_entry (c s1 s2 : Vec Ideal S256x128 .f32) (v : Vec Ideal S256x1024 .f32) (i : Fin 256) (l : Fin 128) :
    k0_pay12 (F := Ideal) c s1 s2 v (ix3 (0 : Fin 1) l i) = turned (fun k => v (ix2 i ⟨128 + k.val, by omega⟩)) (fun k => c (ix2 i k)) (fun k => s1 (ix2 i k)) (fun k => s2 (ix2 i k)) l := by
  pointwise [k0_pay12, turned]

theorem pay14_entry (c s1 s2 : Vec Ideal S256x128 .f32) (v : Vec Ideal S256x1024 .f32) (i : Fin 256) (l : Fin 128) :
    k0_pay14 (F := Ideal) c s1 s2 v (ix3 (0 : Fin 1) l i) = turned (fun k => v (ix2 i ⟨256 + k.val, by omega⟩)) (fun k => c (ix2 i k)) (fun k => s1 (ix2 i k)) (fun k => s2 (ix2 i k)) l := by
  pointwise [k0_pay14, turned]

theorem pay16_entry (c s1 s2 : Vec Ideal S256x128 .f32) (v : Vec Ideal S256x1024 .f32) (i : Fin 256) (l : Fin 128) :
    k0_pay16 (F := Ideal) c s1 s2 v (ix3 (0 : Fin 1) l i) = turned (fun k => v (ix2 i ⟨384 + k.val, by omega⟩)) (fun k => c (ix2 i k)) (fun k => s1 (ix2 i k)) (fun k => s2 (ix2 i k)) l := by
  pointwise [k0_pay16, turned]

theorem pay18_entry (c s1 s2 : Vec Ideal S256x128 .f32) (v : Vec Ideal S256x1024 .f32) (i : Fin 256) (l : Fin 128) :
    k0_pay18 (F := Ideal) c s1 s2 v (ix3 (0 : Fin 1) l i) = turned (fun k => v (ix2 i ⟨512 + k.val, by omega⟩)) (fun k => c (ix2 i k)) (fun k => s1 (ix2 i k)) (fun k => s2 (ix2 i k)) l := by
  pointwise [k0_pay18, turned]

theorem pay25_entry (c s1 s2 : Vec Ideal S256x128 .f32) (v : Vec Ideal S256x1024 .f32) (i : Fin 256) (l : Fin 128) :
    k0_pay25 (F := Ideal) c s1 s2 v (ix3 (0 : Fin 1) l i) = turned (fun k => v (ix2 i ⟨768 + k.val, by omega⟩)) (fun k => c (ix2 i k)) (fun k => s1 (ix2 i k)) (fun k => s2 (ix2 i k)) l := by
  pointwise [k0_pay25, turned]

theorem pay23_entry (c s1 s2 : Vec Ideal S256x128 .f32) (v : Vec Ideal S256x1024 .f32) (i : Fin 256) (l : Fin 128) :
    k0_pay23 (F := Ideal) s2 (k0_pay21 c s1 v) (k0_pay22 v) (ix3 (0 : Fin 1) l i) = turned (fun k => v (ix2 i ⟨640 + k.val, by omega⟩)) (fun k => c (ix2 i k)) (fun k => s1 (ix2 i k)) (fun k => s2 (ix2 i k)) l := by
  pointwise [k0_pay23, k0_pay21, k0_pay22, k0_pay20, turned]

theorem pay28_entry (c s1 s2 : Vec Ideal S256x128 .f32) (v : Vec Ideal S256x1024 .f32) (i : Fin 256) (l : Fin 128) :
    k0_pay28 (F := Ideal) (k0_pay27 c s1 s2 v) (ix3 (0 : Fin 1) l i) = turned (fun k => v (ix2 i ⟨896 + k.val, by omega⟩)) (fun k => c (ix2 i k)) (fun k => s1 (ix2 i k)) (fun k => s2 (ix2 i k)) l := by
  pointwise [k0_pay28, k0_pay27, turned]

theorem pay11_entry (p : Vec Ideal S256x128 .f32) (v : Vec Ideal S256x1024 .f32) (i : Fin 256) (l : Fin 128) :
    k0_pay11 (F := Ideal) p v (ix2 i l) = v (ix2 i ⟨0 + l.val, by omega⟩) + p (ix2 i l) := by
  pointwise [k0_pay11]

theorem pay13_entry (p : Vec Ideal S256x128 .f32) (v : Vec Ideal S256x1024 .f32) (i : Fin 256) (l : Fin 128) :
    k0_pay13 (F := Ideal) p v (ix2 i l) = v (ix2 i ⟨128 + l.val, by omega⟩) + p (ix2 i l) := by
  pointwise [k0_pay13]

theorem pay15_entry (p : Vec Ideal S256x128 .f32) (v : Vec Ideal S256x1024 .f32) (i : Fin 256) (l : Fin 128) :
    k0_pay15 (F := Ideal) p v (ix2 i l) = v (ix2 i ⟨256 + l.val, by omega⟩) + p (ix2 i l) := by
  pointwise [k0_pay15]

theorem pay17_entry (p : Vec Ideal S256x128 .f32) (v : Vec Ideal S256x1024 .f32) (i : Fin 256) (l : Fin 128) :
    k0_pay17 (F := Ideal) p v (ix2 i l) = v (ix2 i ⟨384 + l.val, by omega⟩) + p (ix2 i l) := by
  pointwise [k0_pay17]

theorem pay19_entry (p : Vec Ideal S256x128 .f32) (v : Vec Ideal S256x1024 .f32) (i : Fin 256) (l : Fin 128) :
    k0_pay19 (F := Ideal) p v (ix2 i l) = v (ix2 i ⟨512 + l.val, by omega⟩) + p (ix2 i l) := by
  pointwise [k0_pay19]

theorem pay24_entry (p : Vec Ideal S256x128 .f32) (v : Vec Ideal S256x1024 .f32) (i : Fin 256) (l : Fin 128) :
    k0_pay24 (F := Ideal) p v (ix2 i l) = v (ix2 i ⟨640 + l.val, by omega⟩) + p (ix2 i l) := by
  pointwise [k0_pay24]

theorem pay26_entry (p : Vec Ideal S256x128 .f32) (v : Vec Ideal S256x1024 .f32) (i : Fin 256) (l : Fin 128) :
    k0_pay26 (F := Ideal) p v (ix2 i l) = v (ix2 i ⟨768 + l.val, by omega⟩) + p (ix2 i l) := by
  pointwise [k0_pay26]

theorem pay29_entry (p : Vec Ideal S256x128 .f32) (v : Vec Ideal S256x1024 .f32) (i : Fin 256) (l : Fin 128) :
    k0_pay29 (F := Ideal) p v (ix2 i l) = v (ix2 i ⟨896 + l.val, by omega⟩) + p (ix2 i l) := by
  pointwise [k0_pay29]

theorem pay31_entry (a : Vec Ideal S256x256 .bf16) (w : Vec Ideal S256x512 .bf16) (i : Fin 256) (l : Fin 128) :
    k0_pay31 (F := Ideal) a w (ix3 (0 : Fin 1) l i) = k0_pay30 a w (ix2 i ⟨0 + l.val, by omega⟩) := by
  pointwise [k0_pay31]

theorem pay32_entry (a : Vec Ideal S256x256 .bf16) (w : Vec Ideal S256x512 .bf16) (i : Fin 256) (l : Fin 128) :
    k0_pay32 (F := Ideal) a w (ix3 (0 : Fin 1) l i) = k0_pay30 a w (ix2 i ⟨128 + l.val, by omega⟩) := by
  pointwise [k0_pay32]

theorem pay33_entry (a : Vec Ideal S256x256 .bf16) (w : Vec Ideal S256x512 .bf16) (i : Fin 256) (l : Fin 128) :
    k0_pay33 (F := Ideal) a w (ix3 (0 : Fin 1) l i) = k0_pay30 a w (ix2 i ⟨256 + l.val, by omega⟩) := by
  pointwise [k0_pay33]

theorem pay34_entry (a : Vec Ideal S256x256 .bf16) (w : Vec Ideal S256x512 .bf16) (i : Fin 256) (l : Fin 128) :
    k0_pay34 (F := Ideal) a w (ix3 (0 : Fin 1) l i) = k0_pay30 a w (ix2 i ⟨384 + l.val, by omega⟩) := by
  pointwise [k0_pay34]

theorem pay6_entry (x : Vec Ideal S256x128 .f32) (i : Fin 256) (l : Fin 128) :
    k0_pay6 x (ix3 (0 : Fin 1) l i) = x (ix2 i l) := by
  pointwise [k0_pay6]

/-- A block's queries, keys and values at one place: the row and the lane among all heads' lanes. -/
def qT (x0 : Vec Ideal S256x384 .f32) (x3 : Vec Ideal S1x384 .f32) (x5 : Vec Ideal S384x1024 .bf16) (x8 x9 x10 : Vec Ideal S256x128 .f32) (i : Fin 256) (r : Fin 1024) : EReal :=
  turned (fun k => ∑ j : Fin 384, unit (fun a => x0 (ix2 i a)) (Ideal.ofBits .f32 0x43C00000#32) (x3 (ix2 (0 : Fin 1) j)) j * x5 (ix2 j ⟨128 * (r.val / 128) + k.val, by omega⟩))
    (fun k => x8 (ix2 i k)) (fun k => x9 (ix2 i k)) (fun k => x10 (ix2 i k)) ⟨r.val % 128, by omega⟩

def kT (x1 : Vec Ideal S256x256 .f32) (x2 : Vec Ideal S256x128 .f32) (x4 : Vec Ideal S1x256 .f32) (x6 : Vec Ideal S256x1024 .bf16) (x8 x9 x10 : Vec Ideal S256x128 .f32) (i : Fin 256) (r : Fin 1024) : EReal :=
  ∑ j : Fin 256, unit (fun a => x1 (ix2 i a)) (Ideal.ofBits .f32 0x43800000#32) (x4 (ix2 (0 : Fin 1) j)) j * x6 (ix2 j r)
    + turned (moved fun k => x2 (ix2 i k)) (fun k => x8 (ix2 i k)) (fun k => x9 (ix2 i k)) (fun k => x10 (ix2 i k)) ⟨r.val % 128, by omega⟩

def vT (x1 : Vec Ideal S256x256 .f32) (x4 : Vec Ideal S1x256 .f32) (x7 : Vec Ideal S256x512 .bf16) (i : Fin 256) (r : Fin 512) : EReal :=
  ∑ j : Fin 256, unit (fun a => x1 (ix2 i a)) (Ideal.ofBits .f32 0x43800000#32) (x4 (ix2 (0 : Fin 1) j)) j * x7 (ix2 j r)

/-- The tiles, from the entries of the blocks. -/
theorem qT_of (x0 : Vec Ideal S256x384 .f32) (x3 : Vec Ideal S1x384 .f32) (x5 : Vec Ideal S384x1024 .bf16) (x8 x9 x10 : Vec Ideal S256x128 .f32) (i : Fin 256) (r : Fin 1024)
    (X G : Fin 384 → EReal) (W : Fin 384 → Fin 768 → EReal) (C S : Fin 16 → EReal)
    (h0 : ∀ k, x0 (ix2 i k) = X k) (h3 : ∀ k, x3 (ix2 (0 : Fin 1) k) = G k)
    (h5 : ∀ k (r : Fin 1024), x5 (ix2 k r) = if h : r.val % 128 < 96 then W k ⟨r.val / 128 * 96 + r.val % 128, by omega⟩ * Ideal.ofBits .f32 0x3E16C740#32 else 0)
    (h8 : (fun k : Fin 128 => x8 (ix2 i k)) = tc C) (h9 : (fun k : Fin 128 => x9 (ix2 i k)) = ts1 S) (h10 : (fun k : Fin 128 => x10 (ix2 i k)) = ts2 S) :
    qT x0 x3 x5 x8 x9 x10 i r = headQ (fun e => ∑ k : Fin 384, unit X (Ideal.ofBits .f32 0x43C00000#32) (G k) k * W k ⟨r.val / 128 * 96 + e.val, by omega⟩) C S (Ideal.ofBits .f32 0x3E16C740#32) ⟨r.val % 128, by omega⟩ := by
  obtain ⟨f, hf, hs⟩ := scale_real
  have hz : (fun k : Fin 128 => ∑ j : Fin 384, unit (fun a => x0 (ix2 i a)) (Ideal.ofBits .f32 0x43C00000#32) (x3 (ix2 (0 : Fin 1) j)) j * x5 (ix2 j ⟨128 * (r.val / 128) + k.val, by omega⟩))
      = fun k : Fin 128 => if h : k.val < 96 then (fun e : Fin 96 => ∑ j : Fin 384, unit X (Ideal.ofBits .f32 0x43C00000#32) (G j) j * W j ⟨r.val / 128 * 96 + e.val, by omega⟩) ⟨k.val, h⟩ * (f : EReal) else 0 := by
    funext k
    have e1 : (128 * (r.val / 128) + k.val) % 128 = k.val := by omega
    have e2 : (128 * (r.val / 128) + k.val) / 128 = r.val / 128 := by omega
    simp only [h0, h3, h5, hs, e1, e2]
    by_cases h : k.val < 96
    · simp only [dif_pos h]
      exact sum_scale (fun j => unit X (Ideal.ofBits .f32 0x43C00000#32) (G j) j) (fun j => W j ⟨r.val / 128 * 96 + k.val, by omega⟩) f hf
    · simp only [dif_neg h, mul_zero, Finset.sum_const_zero]
  unfold qT
  rw [hz, h8, h9, h10, hs]
  exact turned_q (fun e : Fin 96 => ∑ j : Fin 384, unit X (Ideal.ofBits .f32 0x43C00000#32) (G j) j * W j ⟨r.val / 128 * 96 + e.val, by omega⟩) C S f hf _

theorem kT_of (x1 : Vec Ideal S256x256 .f32) (x2 : Vec Ideal S256x128 .f32) (x4 : Vec Ideal S1x256 .f32) (x6 : Vec Ideal S256x1024 .bf16) (x8 x9 x10 : Vec Ideal S256x128 .f32) (i : Fin 256) (r : Fin 1024)
    (X : Fin 256 → EReal) (Y : Fin 128 → EReal) (G : Fin 256 → EReal) (W : Fin 256 → Fin 1024 → EReal) (C S : Fin 16 → EReal)
    (h1 : ∀ k, x1 (ix2 i k) = X k) (h2 : ∀ k, x2 (ix2 i k) = Y k) (h4 : ∀ k, x4 (ix2 (0 : Fin 1) k) = G k)
    (h6 : ∀ k (r : Fin 1024), x6 (ix2 k r) = if h : r.val % 128 < 64 then W k r else 0)
    (h8 : (fun k : Fin 128 => x8 (ix2 i k)) = tc C) (h9 : (fun k : Fin 128 => x9 (ix2 i k)) = ts1 S) (h10 : (fun k : Fin 128 => x10 (ix2 i k)) = ts2 S) :
    kT x1 x2 x4 x6 x8 x9 x10 i r = headK (fun e => ∑ k : Fin 256, unit X (Ideal.ofBits .f32 0x43800000#32) (G k) k * W k ⟨r.val / 128 * 128 + e.val, by omega⟩) (fun e => Y ⟨e.val, by omega⟩) C S ⟨r.val % 128, by omega⟩ := by
  have hz : (∑ j : Fin 256, unit (fun a => x1 (ix2 i a)) (Ideal.ofBits .f32 0x43800000#32) (x4 (ix2 (0 : Fin 1) j)) j * x6 (ix2 j r))
      = if h : r.val % 128 < 64 then (∑ k : Fin 256, unit X (Ideal.ofBits .f32 0x43800000#32) (G k) k * W k ⟨r.val / 128 * 128 + r.val % 128, by omega⟩) else 0 := by
    simp only [h1, h4, h6]
    by_cases h : r.val % 128 < 64
    · simp only [dif_pos h]
      have e : (⟨r.val / 128 * 128 + r.val % 128, by omega⟩ : Fin 1024) = r := Fin.ext (by show r.val / 128 * 128 + r.val % 128 = r.val; omega)
      rw [e]
    · simp only [dif_neg h, mul_zero, Finset.sum_const_zero]
  unfold kT
  rw [hz, h8, h9, h10, turned_k]
  simp only [h2]
  exact headK_add (fun e => ∑ k : Fin 256, unit X (Ideal.ofBits .f32 0x43800000#32) (G k) k * W k ⟨r.val / 128 * 128 + e.val, by omega⟩) (fun e => Y ⟨e.val, by omega⟩) C S ⟨r.val % 128, by omega⟩

theorem vT_of (x1 : Vec Ideal S256x256 .f32) (x4 : Vec Ideal S1x256 .f32) (x7 : Vec Ideal S256x512 .bf16) (i : Fin 256) (r : Fin 512)
    (X : Fin 256 → EReal) (G : Fin 256 → EReal) (W : Fin 256 → Fin 1024 → EReal)
    (h1 : ∀ k, x1 (ix2 i k) = X k) (h4 : ∀ k, x4 (ix2 (0 : Fin 1) k) = G k)
    (h7 : ∀ k (r : Fin 512), x7 (ix2 k r) = W k ⟨r.val / 64 * 128 + (64 + r.val % 64), by omega⟩) :
    vT x1 x4 x7 i r = ∑ k : Fin 256, unit X (Ideal.ofBits .f32 0x43800000#32) (G k) k * W k ⟨r.val / 64 * 128 + (64 + r.val % 64), by omega⟩ := by
  unfold vT
  simp only [h1, h4, h7]

theorem qT_at (x0 : Vec Ideal S256x384 .f32) (x3 : Vec Ideal S1x384 .f32) (x5 : Vec Ideal S384x1024 .bf16) (x8 x9 x10 : Vec Ideal S256x128 .f32) (i i' : Fin 256) (r : Fin 1024) (l : Fin 128)
    (h : Nat) (hh : h + 128 ≤ 1024) (hd : h % 128 = 0) (hr : r.val = h + l.val) (hi : i'.val = i.val) :
    turned (fun k => k0_pay8 (F := Ideal) (k0_pay4 x0 x3) x5 (ix2 i ⟨h + k.val, by omega⟩)) (fun k => x8 (ix2 i k)) (fun k => x9 (ix2 i k)) (fun k => x10 (ix2 i k)) l = qT x0 x3 x5 x8 x9 x10 i' r := by
  have e : i' = i := Fin.ext (by omega)
  have el : (⟨r.val % 128, by omega⟩ : Fin 128) = l := Fin.ext (by show r.val % 128 = l.val; omega)
  have er : h = 128 * (r.val / 128) := by omega
  subst e
  subst er
  unfold qT
  rw [el]
  simp only [pay8_entry, pay4_entry]

theorem kT_at (x1 : Vec Ideal S256x256 .f32) (x2 : Vec Ideal S256x128 .f32) (x4 : Vec Ideal S1x256 .f32) (x6 : Vec Ideal S256x1024 .bf16) (x8 x9 x10 : Vec Ideal S256x128 .f32) (i i' : Fin 256) (r : Fin 1024) (l : Fin 128)
    (h : Nat) (hh : h + 128 ≤ 1024) (hd : h % 128 = 0) (hr : r.val = h + l.val) (hi : i'.val = i.val) :
    k0_pay9 (F := Ideal) (k0_pay5 x1 x4) x6 (ix2 i ⟨h + l.val, by omega⟩) + k0_pay7 x8 x9 x10 x2 (ix2 i l) = kT x1 x2 x4 x6 x8 x9 x10 i' r := by
  have e : i' = i := Fin.ext hi
  have el : (⟨r.val % 128, by omega⟩ : Fin 128) = l := Fin.ext (by show r.val % 128 = l.val; omega)
  have er : (⟨h + l.val, by omega⟩ : Fin 1024) = r := Fin.ext hr.symm
  subst e
  rw [er]
  unfold kT
  rw [el, pay7_entry, pay9_entry]
  simp only [pay5_entry]

theorem vT_at (x1 : Vec Ideal S256x256 .f32) (x4 : Vec Ideal S1x256 .f32) (x7 : Vec Ideal S256x512 .bf16) (i i' : Fin 256) (r : Fin 512) (l : Fin 128)
    (h : Nat) (hh : h + 128 ≤ 512) (hr : r.val = h + l.val) (hi : i'.val = i.val) :
    k0_pay30 (F := Ideal) (k0_pay5 x1 x4) x7 (ix2 i ⟨h + l.val, by omega⟩) = vT x1 x4 x7 i' r := by
  have e : i' = i := Fin.ext hi
  have er : (⟨h + l.val, by omega⟩ : Fin 512) = r := Fin.ext hr.symm
  subst e
  rw [er]
  unfold vT
  rw [pay30_entry]
  simp only [pay5_entry]

theorem pay1_eq (x : Vec Ideal S256x128 .f32) : k0_pay1 (F := Ideal) x = x := by
  funext y
  pointwise [k0_pay1]
theorem pay2_eq (x : Vec Ideal S256x128 .f32) : k0_pay2 (F := Ideal) x = x := by
  funext y
  pointwise [k0_pay2]
theorem pay3_eq (x : Vec Ideal S256x128 .f32) : k0_pay3 (F := Ideal) x = x := by
  funext y
  pointwise [k0_pay3]

theorem at3 (x : S1x128x256.Idx) : ∃ (l : Fin 128) (i : Fin 256), x = ix3 (0 : Fin 1) l i :=
  by
  have h0 : (x 0).val = 0 := Nat.lt_one_iff.mp (x 0).isLt
  exact ⟨x 1, x 2, (eq_ix3 x).trans (congrArg (fun z : Fin 1 => (ix3 z (x 1) (x 2) : S1x128x256.Idx)) (Fin.ext h0))⟩

theorem out11_entry (x0 : Vec Ideal S256x384 .f32) (x1 : Vec Ideal S256x256 .f32) (x2 : Vec Ideal S256x128 .f32) (x3 : Vec Ideal S1x384 .f32) (x4 : Vec Ideal S1x256 .f32) (x5 : Vec Ideal S384x1024 .bf16) (x6 : Vec Ideal S256x1024 .bf16) (x7 : Vec Ideal S256x512 .bf16) (x8 x9 x10 : Vec Ideal S256x128 .f32) (y : S1x1024x256.Idx) :
    out0_11 x0 x1 x2 x3 x4 x5 x6 x7 x8 x9 x10 y = qT x0 x3 x5 x8 x9 x10 (y 2) (y 1) := by
  unfold_out out0_11
  canon_tiles x h
  all_goals simp (disch := decide) only [View.ld_unit_lit', pay1_eq, pay2_eq, pay3_eq]
  all_goals obtain ⟨l, i, rfl⟩ := at3 x
  · exact (pay28_entry x8 x9 x10 _ i l).trans (qT_at x0 x3 x5 x8 x9 x10 i _ _ l 896 (by decide) (by decide) h1 h2)
  · exact (pay25_entry x8 x9 x10 _ i l).trans (qT_at x0 x3 x5 x8 x9 x10 i _ _ l 768 (by decide) (by decide) h1 h2)
  · exact (pay23_entry x8 x9 x10 _ i l).trans (qT_at x0 x3 x5 x8 x9 x10 i _ _ l 640 (by decide) (by decide) h1 h2)
  · exact (pay18_entry x8 x9 x10 _ i l).trans (qT_at x0 x3 x5 x8 x9 x10 i _ _ l 512 (by decide) (by decide) h1 h2)
  · exact (pay16_entry x8 x9 x10 _ i l).trans (qT_at x0 x3 x5 x8 x9 x10 i _ _ l 384 (by decide) (by decide) h1 h2)
  · exact (pay14_entry x8 x9 x10 _ i l).trans (qT_at x0 x3 x5 x8 x9 x10 i _ _ l 256 (by decide) (by decide) h1 h2)
  · exact (pay12_entry x8 x9 x10 _ i l).trans (qT_at x0 x3 x5 x8 x9 x10 i _ _ l 128 (by decide) (by decide) h1 h2)
  · exact (pay10_entry x8 x9 x10 _ _ i l).trans (qT_at x0 x3 x5 x8 x9 x10 i _ _ l 0 (by decide) (by decide) (h1.trans (Nat.zero_add _).symm) h2)

theorem out12_entry (x0 : Vec Ideal S256x384 .f32) (x1 : Vec Ideal S256x256 .f32) (x2 : Vec Ideal S256x128 .f32) (x3 : Vec Ideal S1x384 .f32) (x4 : Vec Ideal S1x256 .f32) (x5 : Vec Ideal S384x1024 .bf16) (x6 : Vec Ideal S256x1024 .bf16) (x7 : Vec Ideal S256x512 .bf16) (x8 x9 x10 : Vec Ideal S256x128 .f32) (y : S256x1024.Idx) :
    out0_12 x0 x1 x2 x3 x4 x5 x6 x7 x8 x9 x10 y = kT x1 x2 x4 x6 x8 x9 x10 (y 0) (y 1) := by
  unfold_out out0_12
  canon_tiles x h
  all_goals simp (disch := decide) only [View.ld_unit_lit', pay1_eq, pay2_eq, pay3_eq]
  · rw [eq_ix2 x]; exact (pay29_entry _ _ (x 0) (x 1)).trans (kT_at x1 x2 x4 x6 x8 x9 x10 (x 0) _ _ (x 1) 896 (by decide) (by decide) h1 h0)
  · rw [eq_ix2 x]; exact (pay26_entry _ _ (x 0) (x 1)).trans (kT_at x1 x2 x4 x6 x8 x9 x10 (x 0) _ _ (x 1) 768 (by decide) (by decide) h1 h0)
  · rw [eq_ix2 x]; exact (pay24_entry _ _ (x 0) (x 1)).trans (kT_at x1 x2 x4 x6 x8 x9 x10 (x 0) _ _ (x 1) 640 (by decide) (by decide) h1 h0)
  · rw [eq_ix2 x]; exact (pay19_entry _ _ (x 0) (x 1)).trans (kT_at x1 x2 x4 x6 x8 x9 x10 (x 0) _ _ (x 1) 512 (by decide) (by decide) h1 h0)
  · rw [eq_ix2 x]; exact (pay17_entry _ _ (x 0) (x 1)).trans (kT_at x1 x2 x4 x6 x8 x9 x10 (x 0) _ _ (x 1) 384 (by decide) (by decide) h1 h0)
  · rw [eq_ix2 x]; exact (pay15_entry _ _ (x 0) (x 1)).trans (kT_at x1 x2 x4 x6 x8 x9 x10 (x 0) _ _ (x 1) 256 (by decide) (by decide) h1 h0)
  · rw [eq_ix2 x]; exact (pay13_entry _ _ (x 0) (x 1)).trans (kT_at x1 x2 x4 x6 x8 x9 x10 (x 0) _ _ (x 1) 128 (by decide) (by decide) h1 h0)
  · rw [eq_ix2 x]; exact (pay11_entry _ _ (x 0) (x 1)).trans (kT_at x1 x2 x4 x6 x8 x9 x10 (x 0) _ _ (x 1) 0 (by decide) (by decide) (h1.trans (Nat.zero_add _).symm) h0)

theorem out13_entry (x0 : Vec Ideal S256x384 .f32) (x1 : Vec Ideal S256x256 .f32) (x2 : Vec Ideal S256x128 .f32) (x3 : Vec Ideal S1x384 .f32) (x4 : Vec Ideal S1x256 .f32) (x5 : Vec Ideal S384x1024 .bf16) (x6 : Vec Ideal S256x1024 .bf16) (x7 : Vec Ideal S256x512 .bf16) (x8 x9 x10 : Vec Ideal S256x128 .f32) (y : S1x512x256.Idx) :
    out0_13 x0 x1 x2 x3 x4 x5 x6 x7 x8 x9 x10 y = vT x1 x4 x7 (y 2) (y 1) := by
  unfold_out out0_13
  canon_tiles x h
  all_goals simp (disch := decide) only [View.ld_unit_lit', pay1_eq, pay2_eq, pay3_eq]
  all_goals obtain ⟨l, i, rfl⟩ := at3 x
  · exact (pay34_entry _ _ i l).trans (vT_at x1 x4 x7 i _ _ l 384 (by decide) h1 h2)
  · exact (pay33_entry _ _ i l).trans (vT_at x1 x4 x7 i _ _ l 256 (by decide) h1 h2)
  · exact (pay32_entry _ _ i l).trans (vT_at x1 x4 x7 i _ _ l 128 (by decide) h1 h2)
  · exact (pay31_entry _ _ i l).trans (vT_at x1 x4 x7 i _ _ l 0 (by decide) (h1.trans (Nat.zero_add _).symm) h2)

theorem out14_entry (x0 : Vec Ideal S256x384 .f32) (x1 : Vec Ideal S256x256 .f32) (x2 : Vec Ideal S256x128 .f32) (x3 : Vec Ideal S1x384 .f32) (x4 : Vec Ideal S1x256 .f32) (x5 : Vec Ideal S384x1024 .bf16) (x6 : Vec Ideal S256x1024 .bf16) (x7 : Vec Ideal S256x512 .bf16) (x8 x9 x10 : Vec Ideal S256x128 .f32) (y : S1x128x256.Idx) :
    out0_14 x0 x1 x2 x3 x4 x5 x6 x7 x8 x9 x10 y = x2 (ix2 (y 2) (y 1)) := by
  unfold_out out0_14
  frame_out
  obtain ⟨l, i, rfl⟩ := at3 y
  exact pay6_entry x2 i l

variable (m : (ℓ : Loc nD τ sig) → Buf (Elt Ideal) ℓ) (c : Dev nD)

/-- The weights, the tables of the rotation and the norms' scales, as the kernel is entered with them. -/
def wqA (w : FVec Ideal S384x768 .f32) : FVec Ideal S384x1024 .bf16 :=
  truncf .bf16 (shapeCast S384x1024 (pad S384x8x128 ![0, 0, 0] ![0, 0, 32] ![0, 0, 0] (mulf (shapeCast S384x8x96 w shapeCasts_S384x768_S384x8x96) (broadcastInDim S384x8x96 ![] bcast_S_S384x8x96 (constant S_ .f32 0x3E16C740#32))) (sitofp .f32 (constantI S_ 32 0#32)) pads_S384x8x96_S384x8x128_000_000_0320 h_S_) shapeCasts_S384x8x128_S384x1024) bitsLt_bf16_f32
def wkA (w : FVec Ideal S256x1024 .f32) : FVec Ideal S256x1024 .bf16 :=
  truncf .bf16 (shapeCast S256x1024 (pad S256x8x128 ![0, 0, 0] ![0, 0, 64] ![0, 0, 0] (extractStridedSlice S256x8x64 ![0, 0, 0] (shapeCast S256x8x128 w shapeCasts_S256x1024_S256x8x128) slices_S256x8x128_S256x8x64_0_0_0) (sitofp .f32 (constantI S_ 32 0#32)) pads_S256x8x64_S256x8x128_000_000_0640 h_S_) shapeCasts_S256x8x128_S256x1024) bitsLt_bf16_f32
def wvA (w : FVec Ideal S256x1024 .f32) : FVec Ideal S256x512 .bf16 :=
  truncf .bf16 (shapeCast S256x512 (extractStridedSlice S256x8x64 ![0, 0, 64] (shapeCast S256x8x128 w shapeCasts_S256x1024_S256x8x128) slices_S256x8x128_S256x8x64_0_0_64) shapeCasts_S256x8x64_S256x512) bitsLt_bf16_f32
def rA (c : FVec Ideal S1x8192x16 .f32) : FVec Ideal S8192x16 .f32 := shapeCast S8192x16 c shapeCasts_S1x8192x16_S8192x16
def cA (c : FVec Ideal S1x8192x16 .f32) : FVec Ideal S8192x128 .f32 :=
  concatenate S8192x128 1 [⟨S8192x64, broadcastInDim S8192x64 ![] bcast_S_S8192x64 (constant S_ .f32 0x3F800000#32)⟩, ⟨S8192x16, rA c⟩, ⟨S8192x16, rA c⟩, ⟨S8192x32, broadcastInDim S8192x32 ![] bcast_S_S8192x32 (constant S_ .f32 0x3F800000#32)⟩] concatenates_S8192x64_S8192x16_S8192x16_S8192x32_S8192x128_d1
def s1A (s : FVec Ideal S1x8192x16 .f32) : FVec Ideal S8192x128 .f32 :=
  concatenate S8192x128 1 [⟨S8192x64, broadcastInDim S8192x64 ![] bcast_S_S8192x64 (constant S_ .f32 0x00000000#32)⟩, ⟨S8192x16, Host.negf (rA s)⟩, ⟨S8192x16, broadcastInDim S8192x16 ![] bcast_S_S8192x16 (constant S_ .f32 0x00000000#32)⟩, ⟨S8192x32, broadcastInDim S8192x32 ![] bcast_S_S8192x32 (constant S_ .f32 0x00000000#32)⟩] concatenates_S8192x64_S8192x16_S8192x16_S8192x32_S8192x128_d1
def s2A (s : FVec Ideal S1x8192x16 .f32) : FVec Ideal S8192x128 .f32 :=
  concatenate S8192x128 1 [⟨S8192x64, broadcastInDim S8192x64 ![] bcast_S_S8192x64 (constant S_ .f32 0x00000000#32)⟩, ⟨S8192x16, broadcastInDim S8192x16 ![] bcast_S_S8192x16 (constant S_ .f32 0x00000000#32)⟩, ⟨S8192x16, rA s⟩, ⟨S8192x32, broadcastInDim S8192x32 ![] bcast_S_S8192x32 (constant S_ .f32 0x00000000#32)⟩] concatenates_S8192x64_S8192x16_S8192x16_S8192x32_S8192x128_d1
def gqA (g : FVec Ideal S384 .f32) : FVec Ideal S1x384 .f32 := shapeCast S1x384 g shapeCasts_S384_S1x384
def gkA (g : FVec Ideal S256 .f32) : FVec Ideal S1x256 .f32 := shapeCast S1x256 g shapeCasts_S256_S1x256

theorem entry_wq : (V m c main_v11 : FVec Ideal S384x1024 .bf16) = wqA (m ((c.tc : Thread nD τ).loc main_arg4)) := by
  unfold_abbrev_sides
  after_reads_simp
  rfl
theorem entry_wk : (V m c main_v12 : FVec Ideal S256x1024 .bf16) = wkA (m ((c.tc : Thread nD τ).loc main_arg6)) := by
  unfold_abbrev_sides
  after_reads_simp
  rfl
theorem entry_wv : (V m c main_v13 : FVec Ideal S256x512 .bf16) = wvA (m ((c.tc : Thread nD τ).loc main_arg6)) := by
  unfold_abbrev_sides
  after_reads_simp
  rfl
theorem entry_c : (V m c main_v21 : FVec Ideal S8192x128 .f32) = cA (m ((c.tc : Thread nD τ).loc main_arg1)) := by
  unfold_abbrev_sides
  after_reads_simp
  rfl
theorem entry_s1 : (V m c main_v23 : FVec Ideal S8192x128 .f32) = s1A (m ((c.tc : Thread nD τ).loc main_arg2)) := by
  unfold_abbrev_sides
  after_reads_simp
  rfl
theorem entry_s2 : (V m c main_v24 : FVec Ideal S8192x128 .f32) = s2A (m ((c.tc : Thread nD τ).loc main_arg2)) := by
  unfold_abbrev_sides
  after_reads_simp
  rfl
theorem entry_gq : (V m c main_v25 : FVec Ideal S1x384 .f32) = gqA (m ((c.tc : Thread nD τ).loc main_arg3)) := by
  unfold_abbrev_sides
  after_reads_simp
  rfl
theorem entry_gk : (V m c main_v26 : FVec Ideal S1x256 .f32) = gkA (m ((c.tc : Thread nD τ).loc main_arg5)) := by
  unfold_abbrev_sides
  after_reads_simp
  rfl
theorem entry_p : (V m c main_arg0 : FVec Ideal S8192x2304 .f32) = m ((c.tc : Thread nD τ).loc main_arg0) := by
  unfold_abbrev_sides
  after_reads_simp

theorem wqA_entry (w : FVec Ideal S384x768 .f32) (k : Fin 384) (r : Fin 1024) :
    wqA w (ix2 k r) = if h : r.val % 128 < 96 then w (ix2 k ⟨r.val / 128 * 96 + r.val % 128, by omega⟩) * Ideal.ofBits .f32 0x3E16C740#32 else FloatOps.sitofp (F := Ideal) .f32 (0#32) := by
  pointwise [wqA]
  by_cases hl : r.val % 128 < 96
  · rw [dif_pos hl, dif_pos ⟨by omega, hl⟩]
  · rw [dif_neg hl, dif_neg (fun h => hl h.2)]
theorem wkA_entry (w : FVec Ideal S256x1024 .f32) (k : Fin 256) (r : Fin 1024) :
    wkA w (ix2 k r) = if h : r.val % 128 < 64 then w (ix2 k r) else FloatOps.sitofp (F := Ideal) .f32 (0#32) := by
  pointwise [wkA]
  by_cases hl : r.val % 128 < 64
  · rw [dif_pos hl, dif_pos ⟨by omega, hl⟩]
  · rw [dif_neg hl, dif_neg (fun h => hl h.2)]
theorem wvA_entry (w : FVec Ideal S256x1024 .f32) (k : Fin 256) (r : Fin 512) :
    wvA w (ix2 k r) = w (ix2 k ⟨r.val / 64 * 128 + (64 + r.val % 64), by omega⟩) := by
  pointwise [wvA]
theorem cA_entry (c : FVec Ideal S1x8192x16 .f32) (t : Fin 8192) (l : Fin 128) :
    cA c (ix2 t l) = if h0 : l.val < 64 then 1 else if h1 : l.val - 64 < 16 then c (ix3 (0 : Fin 1) t ⟨l.val - 64, h1⟩) else if h2 : l.val - 64 - 16 < 16 then c (ix3 (0 : Fin 1) t ⟨l.val - 64 - 16, h2⟩) else 1 := by
  pointwise [cA, rA]
theorem s1A_entry (s : FVec Ideal S1x8192x16 .f32) (t : Fin 8192) (l : Fin 128) :
    s1A s (ix2 t l) = if h0 : l.val < 64 then 0 else if h1 : l.val - 64 < 16 then -s (ix3 (0 : Fin 1) t ⟨l.val - 64, h1⟩) else if h2 : l.val - 64 - 16 < 16 then 0 else 0 := by
  pointwise [s1A, rA]
theorem s2A_entry (s : FVec Ideal S1x8192x16 .f32) (t : Fin 8192) (l : Fin 128) :
    s2A s (ix2 t l) = if h0 : l.val < 64 then 0 else if h1 : l.val - 64 < 16 then 0 else if h2 : l.val - 64 - 16 < 16 then s (ix3 (0 : Fin 1) t ⟨l.val - 64 - 16, h2⟩) else 0 := by
  pointwise [s2A, rA]
theorem gqA_entry (g : FVec Ideal S384 .f32) (k : Fin 384) : gqA g (ix2 (0 : Fin 1) k) = g (ix1 k) := by
  pointwise [gqA]
theorem gkA_entry (g : FVec Ideal S256 .f32) (k : Fin 256) : gkA g (ix2 (0 : Fin 1) k) = g (ix1 k) := by
  pointwise [gkA]

theorem idx : ∀ t : Fin cfg0.N, (win0_0.index t 0 = (grid0.coords t 0).val ∧ win0_0.index t 1 = 4) ∧ (win0_1.index t 0 = (grid0.coords t 0).val ∧ win0_1.index t 1 = 8) ∧ (win0_2.index t 0 = (grid0.coords t 0).val ∧ win0_2.index t 1 = 15) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = (grid0.coords t 0).val ∧ win0_8.index t 1 = 0) ∧ (win0_9.index t 0 = (grid0.coords t 0).val ∧ win0_9.index t 1 = 0) ∧ (win0_10.index t 0 = (grid0.coords t 0).val ∧ win0_10.index t 1 = 0) ∧ (win0_11.index t 0 = (grid0.coords t 0).val ∧ win0_11.index t 1 = 0 ∧ win0_11.index t 2 = 0) ∧ (win0_12.index t 0 = (grid0.coords t 0).val ∧ win0_12.index t 1 = 0) ∧ (win0_13.index t 0 = (grid0.coords t 0).val ∧ win0_13.index t 1 = 0 ∧ win0_13.index t 2 = 0) ∧ (win0_14.index t 0 = (grid0.coords t 0).val ∧ win0_14.index t 1 = 0 ∧ win0_14.index t 2 = 0) :=
  (by decide +kernel : ∀ t : Fin grid0.N, (win0_0.index t 0 = (grid0.coords t 0).val ∧ win0_0.index t 1 = 4) ∧ (win0_1.index t 0 = (grid0.coords t 0).val ∧ win0_1.index t 1 = 8) ∧ (win0_2.index t 0 = (grid0.coords t 0).val ∧ win0_2.index t 1 = 15) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = (grid0.coords t 0).val ∧ win0_8.index t 1 = 0) ∧ (win0_9.index t 0 = (grid0.coords t 0).val ∧ win0_9.index t 1 = 0) ∧ (win0_10.index t 0 = (grid0.coords t 0).val ∧ win0_10.index t 1 = 0) ∧ (win0_11.index t 0 = (grid0.coords t 0).val ∧ win0_11.index t 1 = 0 ∧ win0_11.index t 2 = 0) ∧ (win0_12.index t 0 = (grid0.coords t 0).val ∧ win0_12.index t 1 = 0) ∧ (win0_13.index t 0 = (grid0.coords t 0).val ∧ win0_13.index t 1 = 0 ∧ win0_13.index t 2 = 0) ∧ (win0_14.index t 0 = (grid0.coords t 0).val ∧ win0_14.index t 1 = 0 ∧ win0_14.index t 2 = 0))

theorem iblk0 (t : Fin cfg0.N) (i : Fin 256) (k : Fin 384) (T : Fin 8192) (hT : T.val = 256 * (grid0.coords t 0).val + i.val) :
    (iblk m c 0 t : FVec Ideal S256x384 .f32) (ix2 i k) = (V m c main_arg0 : FVec Ideal S8192x2304 .f32) (ix2 T ⟨1536 + k.val, by omega⟩) := by
  obtain ⟨⟨h0, h1⟩, -⟩ := idx t
  blk_ext [iblk, h0, h1]

theorem iblk1 (t : Fin cfg0.N) (i : Fin 256) (k : Fin 256) (T : Fin 8192) (hT : T.val = 256 * (grid0.coords t 0).val + i.val) :
    (iblk m c 1 t : FVec Ideal S256x256 .f32) (ix2 i k) = (V m c main_arg0 : FVec Ideal S8192x2304 .f32) (ix2 T ⟨2048 + k.val, by omega⟩) := by
  obtain ⟨-, ⟨h0, h1⟩, -⟩ := idx t
  blk_ext [iblk, h0, h1]

theorem iblk2 (t : Fin cfg0.N) (i : Fin 256) (k : Fin 128) (T : Fin 8192) (hT : T.val = 256 * (grid0.coords t 0).val + i.val) :
    (iblk m c 2 t : FVec Ideal S256x128 .f32) (ix2 i k) = (V m c main_arg0 : FVec Ideal S8192x2304 .f32) (ix2 T ⟨1920 + k.val, by omega⟩) := by
  obtain ⟨-, -, ⟨h0, h1⟩, -⟩ := idx t
  blk_ext [iblk, h0, h1]

theorem iblk3 (t : Fin cfg0.N) (i : Fin 1) (k : Fin 384) :
    (iblk m c 3 t : FVec Ideal S1x384 .f32) (ix2 i k) = (V m c main_v25 : FVec Ideal S1x384 .f32) (ix2 i k) := by
  obtain ⟨-, -, -, ⟨h0, h1⟩, -⟩ := idx t
  blk_ext [iblk, h0, h1]

theorem iblk4 (t : Fin cfg0.N) (i : Fin 1) (k : Fin 256) :
    (iblk m c 4 t : FVec Ideal S1x256 .f32) (ix2 i k) = (V m c main_v26 : FVec Ideal S1x256 .f32) (ix2 i k) := by
  obtain ⟨-, -, -, -, ⟨h0, h1⟩, -⟩ := idx t
  blk_ext [iblk, h0, h1]

theorem iblk5 (t : Fin cfg0.N) (i : Fin 384) (k : Fin 1024) :
    (iblk m c 5 t : FVec Ideal S384x1024 .bf16) (ix2 i k) = (V m c main_v11 : FVec Ideal S384x1024 .bf16) (ix2 i k) := by
  obtain ⟨-, -, -, -, -, ⟨h0, h1⟩, -⟩ := idx t
  blk_ext [iblk, h0, h1]

theorem iblk6 (t : Fin cfg0.N) (i : Fin 256) (k : Fin 1024) :
    (iblk m c 6 t : FVec Ideal S256x1024 .bf16) (ix2 i k) = (V m c main_v12 : FVec Ideal S256x1024 .bf16) (ix2 i k) := by
  obtain ⟨-, -, -, -, -, -, ⟨h0, h1⟩, -⟩ := idx t
  blk_ext [iblk, h0, h1]

theorem iblk7 (t : Fin cfg0.N) (i : Fin 256) (k : Fin 512) :
    (iblk m c 7 t : FVec Ideal S256x512 .bf16) (ix2 i k) = (V m c main_v13 : FVec Ideal S256x512 .bf16) (ix2 i k) := by
  obtain ⟨-, -, -, -, -, -, -, ⟨h0, h1⟩, -⟩ := idx t
  blk_ext [iblk, h0, h1]

theorem iblk8 (t : Fin cfg0.N) (i : Fin 256) (k : Fin 128) (T : Fin 8192) (hT : T.val = 256 * (grid0.coords t 0).val + i.val) :
    (iblk m c 8 t : FVec Ideal S256x128 .f32) (ix2 i k) = (V m c main_v21 : FVec Ideal S8192x128 .f32) (ix2 T k) := by
  obtain ⟨-, -, -, -, -, -, -, -, ⟨h0, h1⟩, -⟩ := idx t
  blk_ext [iblk, h0, h1]

theorem iblk9 (t : Fin cfg0.N) (i : Fin 256) (k : Fin 128) (T : Fin 8192) (hT : T.val = 256 * (grid0.coords t 0).val + i.val) :
    (iblk m c 9 t : FVec Ideal S256x128 .f32) (ix2 i k) = (V m c main_v23 : FVec Ideal S8192x128 .f32) (ix2 T k) := by
  obtain ⟨-, -, -, -, -, -, -, -, -, ⟨h0, h1⟩, -⟩ := idx t
  blk_ext [iblk, h0, h1]

theorem iblk10 (t : Fin cfg0.N) (i : Fin 256) (k : Fin 128) (T : Fin 8192) (hT : T.val = 256 * (grid0.coords t 0).val + i.val) :
    (iblk m c 10 t : FVec Ideal S256x128 .f32) (ix2 i k) = (V m c main_v24 : FVec Ideal S8192x128 .f32) (ix2 T k) := by
  obtain ⟨-, -, -, -, -, -, -, -, -, -, ⟨h0, h1⟩, -⟩ := idx t
  blk_ext [iblk, h0, h1]

/-- The arguments by their places. -/
def ax (t : Fin 8192) (e : Fin 2304) : EReal := (m ((c.tc : Thread nD τ).loc main_arg0) : FVec Ideal S8192x2304 .f32) (ix2 t e)
def ac (t : Fin 8192) (e : Fin 16) : EReal := (m ((c.tc : Thread nD τ).loc main_arg1) : FVec Ideal S1x8192x16 .f32) (ix3 (0 : Fin 1) t e)
def asn (t : Fin 8192) (e : Fin 16) : EReal := (m ((c.tc : Thread nD τ).loc main_arg2) : FVec Ideal S1x8192x16 .f32) (ix3 (0 : Fin 1) t e)
def agq (k : Fin 384) : EReal := (m ((c.tc : Thread nD τ).loc main_arg3) : FVec Ideal S384 .f32) (ix1 k)
def awq (k : Fin 384) (e : Fin 768) : EReal := (m ((c.tc : Thread nD τ).loc main_arg4) : FVec Ideal S384x768 .f32) (ix2 k e)
def agk (k : Fin 256) : EReal := (m ((c.tc : Thread nD τ).loc main_arg5) : FVec Ideal S256 .f32) (ix1 k)
def awk (k : Fin 256) (e : Fin 1024) : EReal := (m ((c.tc : Thread nD τ).loc main_arg6) : FVec Ideal S256x1024 .f32) (ix2 k e)

/-- The results, from the arguments. -/
def result11 : FVec Ideal S32x1024x256 .bf16 := fun y => qF (ax m c) (ac m c) (asn m c) (agq m c) (awq m c) ⟨(y 0).val * 256 + (y 2).val, by have h0 : (y 0).val < 32 := (y 0).isLt; have h2 : (y 2).val < 256 := (y 2).isLt; omega⟩ (y 1)
def result12 : FVec Ideal S8192x1024 .bf16 := fun y => kF (ax m c) (ac m c) (asn m c) (agk m c) (awk m c) (y 0) (y 1)
def result13 : FVec Ideal S32x512x256 .bf16 := fun y => vF (ax m c) (agk m c) (awk m c) ⟨(y 0).val * 256 + (y 2).val, by have h0 : (y 0).val < 32 := (y 0).isLt; have h2 : (y 2).val < 256 := (y 2).isLt; omega⟩ (y 1)
def result14 : FVec Ideal S32x128x256 .f32 := fun y => ax m c ⟨(y 0).val * 256 + (y 2).val, by have h0 : (y 0).val < 32 := (y 0).isLt; have h2 : (y 2).val < 256 := (y 2).isLt; omega⟩ ⟨1920 + (y 1).val, by have h1 : (y 1).val < 128 := (y 1).isLt; omega⟩

section blocks

variable (t : Fin cfg0.N)

theorem b3 (k : Fin 384) : (iblk m c 3 t : FVec Ideal S1x384 .f32) (ix2 (0 : Fin 1) k) = agq m c k := by
  rw [iblk3 m c t 0 k, entry_gq]; exact gqA_entry _ _
theorem b4 (k : Fin 256) : (iblk m c 4 t : FVec Ideal S1x256 .f32) (ix2 (0 : Fin 1) k) = agk m c k := by
  rw [iblk4 m c t 0 k, entry_gk]; exact gkA_entry _ _
theorem b5 (k : Fin 384) (r : Fin 1024) : (iblk m c 5 t : FVec Ideal S384x1024 .bf16) (ix2 k r) = if h : r.val % 128 < 96 then awq m c k ⟨r.val / 128 * 96 + r.val % 128, by omega⟩ * Ideal.ofBits .f32 0x3E16C740#32 else 0 := by
  rw [iblk5 m c t k r, entry_wq]; refine (wqA_entry _ _ _).trans ?_; rw [word_zero]; rfl
theorem b6 (k : Fin 256) (r : Fin 1024) : (iblk m c 6 t : FVec Ideal S256x1024 .bf16) (ix2 k r) = if h : r.val % 128 < 64 then awk m c k r else 0 := by
  rw [iblk6 m c t k r, entry_wk]; refine (wkA_entry _ _ _).trans ?_; rw [word_zero]; rfl
theorem b7 (k : Fin 256) (r : Fin 512) : (iblk m c 7 t : FVec Ideal S256x512 .bf16) (ix2 k r) = awk m c k ⟨r.val / 64 * 128 + (64 + r.val % 64), by omega⟩ := by
  rw [iblk7 m c t k r, entry_wv]; exact wvA_entry _ _ _

variable (i : Fin 256) (T : Fin 8192) (hT : T.val = 256 * (grid0.coords t 0).val + i.val)

include hT in
theorem b0 (k : Fin 384) : (iblk m c 0 t : FVec Ideal S256x384 .f32) (ix2 i k) = ax m c T ⟨1536 + k.val, by omega⟩ := by
  rw [iblk0 m c t i k T hT, entry_p]; rfl
include hT in
theorem b1 (k : Fin 256) : (iblk m c 1 t : FVec Ideal S256x256 .f32) (ix2 i k) = ax m c T ⟨2048 + k.val, by omega⟩ := by
  rw [iblk1 m c t i k T hT, entry_p]; rfl
include hT in
theorem b2 (k : Fin 128) : (iblk m c 2 t : FVec Ideal S256x128 .f32) (ix2 i k) = ax m c T ⟨1920 + k.val, by omega⟩ := by
  rw [iblk2 m c t i k T hT, entry_p]; rfl
include hT in
theorem b8 : (fun k : Fin 128 => (iblk m c 8 t : FVec Ideal S256x128 .f32) (ix2 i k)) = tc (ac m c T) := by
  funext k; rw [iblk8 m c t i k T hT, entry_c]; exact cA_entry _ _ _
include hT in
theorem b9 : (fun k : Fin 128 => (iblk m c 9 t : FVec Ideal S256x128 .f32) (ix2 i k)) = ts1 (asn m c T) := by
  funext k; rw [iblk9 m c t i k T hT, entry_s1]; exact s1A_entry _ _ _
include hT in
theorem b10 : (fun k : Fin 128 => (iblk m c 10 t : FVec Ideal S256x128 .f32) (ix2 i k)) = ts2 (asn m c T) := by
  funext k; rw [iblk10 m c t i k T hT, entry_s2]; exact s2A_entry _ _ _

include hT in
theorem q_tile (r : Fin 1024) : qT (iblk m c 0 t) (iblk m c 3 t) (iblk m c 5 t) (iblk m c 8 t) (iblk m c 9 t) (iblk m c 10 t) i r = qF (ax m c) (ac m c) (asn m c) (agq m c) (awq m c) T r :=
  qT_of _ _ _ _ _ _ i r _ _ _ _ _ (b0 m c t i T hT) (b3 m c t) (b5 m c t) (b8 m c t i T hT) (b9 m c t i T hT) (b10 m c t i T hT)

include hT in
theorem k_tile (r : Fin 1024) : kT (iblk m c 1 t) (iblk m c 2 t) (iblk m c 4 t) (iblk m c 6 t) (iblk m c 8 t) (iblk m c 9 t) (iblk m c 10 t) i r = kF (ax m c) (ac m c) (asn m c) (agk m c) (awk m c) T r :=
  kT_of _ _ _ _ _ _ _ i r _ _ _ _ _ _ (b1 m c t i T hT) (b2 m c t i T hT) (b4 m c t) (b6 m c t) (b8 m c t i T hT) (b9 m c t i T hT) (b10 m c t i T hT)

include hT in
theorem v_tile (r : Fin 512) : vT (iblk m c 1 t) (iblk m c 4 t) (iblk m c 7 t) i r = vF (ax m c) (agk m c) (awk m c) T r :=
  vT_of _ _ _ i r _ _ _ (b1 m c t i T hT) (b4 m c t) (b7 m c t)

end blocks

theorem tile11_point (t : Fin cfg0.N) (z : S1x1024x256.Idx) (y : S32x1024x256.Idx) (hT : (y 0).val = (grid0.coords t 0).val) (hd : (y 1).val = (z 1).val) (hi : (y 2).val = (z 2).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) z = result11 m c y := by
  have hd' : (z 1 : Fin 1024) = y 1 := Fin.ext hd.symm
  refine (out11_entry _ _ _ _ _ _ _ _ _ _ _ z).trans ?_
  refine (q_tile m c t (z 2) ⟨(y 0).val * 256 + (y 2).val, by have h0 : (y 0).val < 32 := (y 0).isLt; have h2 : (y 2).val < 256 := (y 2).isLt; omega⟩ (by show (y 0).val * 256 + (y 2).val = _; rw [hT, hi, Nat.mul_comm]) (z 1)).trans ?_
  rw [hd']; rfl

theorem arr11_eq : (dats m 0 c).arrAt 11 cfg0.N = result11 m c := by
  refine (dats m 0 c).arrAt_eq_of_covers 11 _ (by decide +kernel) fun t hf y => ?_
  obtain ⟨-, -, -, -, -, -, -, -, -, -, -, ⟨h0, h1, h2⟩, -⟩ := idx t
  have z0 : (y 0).val = 0 := Nat.lt_one_iff.mp (y 0).isLt
  have k0 : ((((cfg0.win 11).blk t).view.emb y) 0 : ℕ) = (grid0.coords t 0).val := by
    blk_simp [h0]
  have k1 : ((((cfg0.win 11).blk t).view.emb y) 1 : ℕ) = (y 1).val := by
    blk_simp [h1]
  have k2 : ((((cfg0.win 11).blk t).view.emb y) 2 : ℕ) = (y 2).val := by
    blk_simp [h2]
  rw [after0_11]
  generalize hG : result11 m c = G
  generalize hE : ((cfg0.win 11).blk t).view.emb y = e at k0 k1 k2 ⊢
  blk_simp
  subst hG
  exact tile11_point m c t y _ k0 k1 k2

theorem tile12_point (t : Fin cfg0.N) (z : S256x1024.Idx) (y : S8192x1024.Idx) (hT : (y 0).val = 256 * (grid0.coords t 0).val + (z 0).val) (hd : (y 1).val = (z 1).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) z = result12 m c y := by
  have hd' : (z 1 : Fin 1024) = y 1 := Fin.ext hd.symm
  refine (out12_entry _ _ _ _ _ _ _ _ _ _ _ z).trans ?_
  refine (k_tile m c t (z 0) (y 0) hT (z 1)).trans ?_
  rw [hd']; rfl

theorem arr12_eq : (dats m 0 c).arrAt 12 cfg0.N = result12 m c := by
  refine (dats m 0 c).arrAt_eq_of_covers 12 _ (by decide +kernel) fun t hf y => ?_
  obtain ⟨-, -, -, -, -, -, -, -, -, -, -, -, ⟨h0, h1⟩, -⟩ := idx t
  have k0 : ((((cfg0.win 12).blk t).view.emb y) 0 : ℕ) = 256 * (grid0.coords t 0).val + (y 0).val := by
    blk_simp [h0]
    omega
  have k1 : ((((cfg0.win 12).blk t).view.emb y) 1 : ℕ) = (y 1).val := by
    blk_simp [h1]
  rw [after0_12]
  generalize hG : result12 m c = G
  generalize hE : ((cfg0.win 12).blk t).view.emb y = e at k0 k1 ⊢
  blk_simp
  subst hG
  exact tile12_point m c t y _ k0 k1

theorem tile13_point (t : Fin cfg0.N) (z : S1x512x256.Idx) (y : S32x512x256.Idx) (hT : (y 0).val = (grid0.coords t 0).val) (hd : (y 1).val = (z 1).val) (hi : (y 2).val = (z 2).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) z = result13 m c y := by
  have hd' : (z 1 : Fin 512) = y 1 := Fin.ext hd.symm
  refine (out13_entry _ _ _ _ _ _ _ _ _ _ _ z).trans ?_
  refine (v_tile m c t (z 2) ⟨(y 0).val * 256 + (y 2).val, by have h0 : (y 0).val < 32 := (y 0).isLt; have h2 : (y 2).val < 256 := (y 2).isLt; omega⟩ (by show (y 0).val * 256 + (y 2).val = _; rw [hT, hi, Nat.mul_comm]) (z 1)).trans ?_
  rw [hd']; rfl

theorem arr13_eq : (dats m 0 c).arrAt 13 cfg0.N = result13 m c := by
  refine (dats m 0 c).arrAt_eq_of_covers 13 _ (by decide +kernel) fun t hf y => ?_
  obtain ⟨-, -, -, -, -, -, -, -, -, -, -, -, -, ⟨h0, h1, h2⟩, -⟩ := idx t
  have z0 : (y 0).val = 0 := Nat.lt_one_iff.mp (y 0).isLt
  have k0 : ((((cfg0.win 13).blk t).view.emb y) 0 : ℕ) = (grid0.coords t 0).val := by
    blk_simp [h0]
  have k1 : ((((cfg0.win 13).blk t).view.emb y) 1 : ℕ) = (y 1).val := by
    blk_simp [h1]
  have k2 : ((((cfg0.win 13).blk t).view.emb y) 2 : ℕ) = (y 2).val := by
    blk_simp [h2]
  rw [after0_13]
  generalize hG : result13 m c = G
  generalize hE : ((cfg0.win 13).blk t).view.emb y = e at k0 k1 k2 ⊢
  blk_simp
  subst hG
  exact tile13_point m c t y _ k0 k1 k2

theorem tile14_point (t : Fin cfg0.N) (z : S1x128x256.Idx) (y : S32x128x256.Idx) (hT : (y 0).val = (grid0.coords t 0).val) (hd : (y 1).val = (z 1).val) (hi : (y 2).val = (z 2).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) z = result14 m c y := by
  have hd' : (z 1 : Fin 128) = y 1 := Fin.ext hd.symm
  refine (out14_entry _ _ _ _ _ _ _ _ _ _ _ z).trans ?_
  refine (b2 m c t (z 2) ⟨(y 0).val * 256 + (y 2).val, by have h0 : (y 0).val < 32 := (y 0).isLt; have h2 : (y 2).val < 256 := (y 2).isLt; omega⟩ (by show (y 0).val * 256 + (y 2).val = _; rw [hT, hi, Nat.mul_comm]) (z 1)).trans ?_
  rw [hd']; rfl

theorem arr14_eq : (dats m 0 c).arrAt 14 cfg0.N = result14 m c := by
  refine (dats m 0 c).arrAt_eq_of_covers 14 _ (by decide +kernel) fun t hf y => ?_
  obtain ⟨-, -, -, -, -, -, -, -, -, -, -, -, -, -, ⟨h0, h1, h2⟩⟩ := idx t
  have z0 : (y 0).val = 0 := Nat.lt_one_iff.mp (y 0).isLt
  have k0 : ((((cfg0.win 14).blk t).view.emb y) 0 : ℕ) = (grid0.coords t 0).val := by
    blk_simp [h0]
  have k1 : ((((cfg0.win 14).blk t).view.emb y) 1 : ℕ) = (y 1).val := by
    blk_simp [h1]
  have k2 : ((((cfg0.win 14).blk t).view.emb y) 2 : ℕ) = (y 2).val := by
    blk_simp [h2]
  rw [after0_14]
  generalize hG : result14 m c = G
  generalize hE : ((cfg0.win 14).blk t).view.emb y = e at k0 k1 k2 ⊢
  blk_simp
  subst hG
  exact tile14_point m c t y _ k0 k1 k2

end Cert.LatentIdeal.Prj

namespace Cert.LatentReferenceIdeal.Prj

open Cert.LatentReferenceIdeal Cert.LatentReferenceIdeal.Gen Cert.LatentVal
open Idealize.ShloMosaic Idealize.ShloMosaic.TcCoe Idealize.ShloMosaic.Tactic

/-- The latents of the queries and of the keys, each row normalized. -/
def xqR (x : FVec Ideal S8192x2304 .f32) : FVec Ideal S1x8192x384 .f32 := broadcastInDim S1x8192x384 ![1, 2] bcast_S8192x384_S1x8192x384_1_2 (extractStridedSlice S8192x384 ![0, 1536] x slices_S8192x2304_S8192x384_0_1536)
def uqR (x : FVec Ideal S8192x2304 .f32) (g : FVec Ideal S384 .f32) : FVec Ideal S1x8192x384 .f32 :=
  mulf (mulf (xqR x) (broadcastInDim S1x8192x384 ![0, 1, 2] bcast_S1x8192x1_S1x8192x384_0_1_2 (Host.rsqrt (addf (Host.divf (broadcastInDim S1x8192x1 ![0, 1] bcast_S1x8192_S1x8192x1_0_1 (Host.reduceAdd (mulf (xqR x) (xqR x)) (constant S_ .f32 0x00000000#32) reducesTo_S1x8192x384_S1x8192_d2 h_S_)) (broadcastInDim S1x8192x1 ![] bcast_S_S1x8192x1 (constant S_ .f32 0x43C00000#32))) (broadcastInDim S1x8192x1 ![] bcast_S_S1x8192x1 (constant S_ .f32 0x3727C5AC#32)))))) (broadcastInDim S1x8192x384 ![0, 1, 2] bcast_S1x1x384_S1x8192x384_0_1_2 (broadcastInDim S1x1x384 ![2] bcast_S384_S1x1x384_2 g))
def xkR (x : FVec Ideal S8192x2304 .f32) : FVec Ideal S1x8192x256 .f32 := broadcastInDim S1x8192x256 ![1, 2] bcast_S8192x256_S1x8192x256_1_2 (extractStridedSlice S8192x256 ![0, 2048] x slices_S8192x2304_S8192x256_0_2048)
def ukR (x : FVec Ideal S8192x2304 .f32) (g : FVec Ideal S256 .f32) : FVec Ideal S1x8192x256 .f32 :=
  mulf (mulf (xkR x) (broadcastInDim S1x8192x256 ![0, 1, 2] bcast_S1x8192x1_S1x8192x256_0_1_2 (Host.rsqrt (addf (Host.divf (broadcastInDim S1x8192x1 ![0, 1] bcast_S1x8192_S1x8192x1_0_1 (Host.reduceAdd (mulf (xkR x) (xkR x)) (constant S_ .f32 0x00000000#32) reducesTo_S1x8192x256_S1x8192_d2 h_S_)) (broadcastInDim S1x8192x1 ![] bcast_S_S1x8192x1 (constant S_ .f32 0x43800000#32))) (broadcastInDim S1x8192x1 ![] bcast_S_S1x8192x1 (constant S_ .f32 0x3727C5AC#32)))))) (broadcastInDim S1x8192x256 ![0, 1, 2] bcast_S1x1x256_S1x8192x256_0_1_2 (broadcastInDim S1x1x256 ![2] bcast_S256_S1x1x256_2 g))

theorem xqR_entry (x : FVec Ideal S8192x2304 .f32) (t : Fin 8192) (k : Fin 384) : xqR x (ix3 (0 : Fin 1) t k) = x (ix2 t ⟨1536 + k.val, by omega⟩) := by
  pointwise [xqR]
theorem xkR_entry (x : FVec Ideal S8192x2304 .f32) (t : Fin 8192) (k : Fin 256) : xkR x (ix3 (0 : Fin 1) t k) = x (ix2 t ⟨2048 + k.val, by omega⟩) := by
  pointwise [xkR]
theorem uqR_entry (x : FVec Ideal S8192x2304 .f32) (g : FVec Ideal S384 .f32) (t : Fin 8192) (k : Fin 384) :
    uqR x g (ix3 (0 : Fin 1) t k) = unit (fun a : Fin 384 => x (ix2 t ⟨1536 + a.val, by omega⟩)) (Ideal.ofBits .f32 0x43C00000#32) (g (ix1 k)) k := by
  pointwise [uqR, xqR]
  rfl
theorem ukR_entry (x : FVec Ideal S8192x2304 .f32) (g : FVec Ideal S256 .f32) (t : Fin 8192) (k : Fin 256) :
    ukR x g (ix3 (0 : Fin 1) t k) = unit (fun a : Fin 256 => x (ix2 t ⟨2048 + a.val, by omega⟩)) (Ideal.ofBits .f32 0x43800000#32) (g (ix1 k)) k := by
  pointwise [ukR, xkR]
  rfl

/-- Their projections, by head. -/
def zR (u : FVec Ideal S1x8192x384 .f32) (w : FVec Ideal S384x768 .f32) : FVec Ideal S1x8192x8x96 .f32 := shapeCast _ (Host.dotGeneral dot_S1x8192x384_S384x768_S1x8192x768_2_0_01_1_n_n none u w) shapeCasts_S1x8192x768_S1x8192x8x96
def kvR (u : FVec Ideal S1x8192x256 .f32) (w : FVec Ideal S256x1024 .f32) : FVec Ideal S1x8192x8x128 .f32 := shapeCast _ (Host.dotGeneral dot_S1x8192x256_S256x1024_S1x8192x1024_2_0_01_1_n_n none u w) shapeCasts_S1x8192x1024_S1x8192x8x128

theorem zR_entry (u : FVec Ideal S1x8192x384 .f32) (w : FVec Ideal S384x768 .f32) (t : Fin 8192) (h : Fin 8) (e : Fin 96) :
    zR u w (ix4 (0 : Fin 1) t h e) = ∑ k : Fin 384, u (ix3 (0 : Fin 1) t k) * w (ix2 k ⟨h.val * 96 + e.val, by omega⟩) := by
  pointwise [zR]
theorem kvR_entry (u : FVec Ideal S1x8192x256 .f32) (w : FVec Ideal S256x1024 .f32) (t : Fin 8192) (h : Fin 8) (e : Fin 128) :
    kvR u w (ix4 (0 : Fin 1) t h e) = ∑ k : Fin 256, u (ix3 (0 : Fin 1) t k) * w (ix2 k ⟨h.val * 128 + e.val, by omega⟩) := by
  pointwise [kvR]

/-- The two halves of the rotation of the queries' last lanes. -/
def qaR (z : FVec Ideal S1x8192x8x96 .f32) (c s : FVec Ideal S1x8192x16 .f32) : FVec Ideal S1x8192x8x16 .f32 :=
  subf (mulf (extractStridedSlice S1x8192x8x16 ![0, 0, 0, 0] (extractStridedSlice S1x8192x8x32 ![0, 0, 0, 64] z slices_S1x8192x8x96_S1x8192x8x32_0_0_0_64) slices_S1x8192x8x32_S1x8192x8x16_0_0_0_0) (broadcastInDim S1x8192x8x16 ![0, 1, 2, 3] bcast_S1x8192x1x16_S1x8192x8x16_0_1_2_3 (broadcastInDim S1x8192x1x16 ![0, 1, 3] bcast_S1x8192x16_S1x8192x1x16_0_1_3 c)))
    (mulf (extractStridedSlice S1x8192x8x16 ![0, 0, 0, 16] (extractStridedSlice S1x8192x8x32 ![0, 0, 0, 64] z slices_S1x8192x8x96_S1x8192x8x32_0_0_0_64) slices_S1x8192x8x32_S1x8192x8x16_0_0_0_16) (broadcastInDim S1x8192x8x16 ![0, 1, 2, 3] bcast_S1x8192x1x16_S1x8192x8x16_0_1_2_3 (broadcastInDim S1x8192x1x16 ![0, 1, 3] bcast_S1x8192x16_S1x8192x1x16_0_1_3 s)))
def qbR (z : FVec Ideal S1x8192x8x96 .f32) (c s : FVec Ideal S1x8192x16 .f32) : FVec Ideal S1x8192x8x16 .f32 :=
  addf (mulf (extractStridedSlice S1x8192x8x16 ![0, 0, 0, 16] (extractStridedSlice S1x8192x8x32 ![0, 0, 0, 64] z slices_S1x8192x8x96_S1x8192x8x32_0_0_0_64) slices_S1x8192x8x32_S1x8192x8x16_0_0_0_16) (broadcastInDim S1x8192x8x16 ![0, 1, 2, 3] bcast_S1x8192x1x16_S1x8192x8x16_0_1_2_3 (broadcastInDim S1x8192x1x16 ![0, 1, 3] bcast_S1x8192x16_S1x8192x1x16_0_1_3 c)))
    (mulf (extractStridedSlice S1x8192x8x16 ![0, 0, 0, 0] (extractStridedSlice S1x8192x8x32 ![0, 0, 0, 64] z slices_S1x8192x8x96_S1x8192x8x32_0_0_0_64) slices_S1x8192x8x32_S1x8192x8x16_0_0_0_0) (broadcastInDim S1x8192x8x16 ![0, 1, 2, 3] bcast_S1x8192x1x16_S1x8192x8x16_0_1_2_3 (broadcastInDim S1x8192x1x16 ![0, 1, 3] bcast_S1x8192x16_S1x8192x1x16_0_1_3 s)))

theorem qaR_entry (z : FVec Ideal S1x8192x8x96 .f32) (c s : FVec Ideal S1x8192x16 .f32) (t : Fin 8192) (h : Fin 8) (e : Fin 16) :
    qaR z c s (ix4 (0 : Fin 1) t h e) = z (ix4 (0 : Fin 1) t h ⟨64 + e.val, by omega⟩) * c (ix3 (0 : Fin 1) t e) - z (ix4 (0 : Fin 1) t h ⟨64 + (16 + e.val), by omega⟩) * s (ix3 (0 : Fin 1) t e) := by
  pointwise [qaR]
theorem qbR_entry (z : FVec Ideal S1x8192x8x96 .f32) (c s : FVec Ideal S1x8192x16 .f32) (t : Fin 8192) (h : Fin 8) (e : Fin 16) :
    qbR z c s (ix4 (0 : Fin 1) t h e) = z (ix4 (0 : Fin 1) t h ⟨64 + (16 + e.val), by omega⟩) * c (ix3 (0 : Fin 1) t e) + z (ix4 (0 : Fin 1) t h ⟨64 + e.val, by omega⟩) * s (ix3 (0 : Fin 1) t e) := by
  pointwise [qbR]

/-- The lanes of a head put together. -/
def catR (z : FVec Ideal S1x8192x8x64 .f32) (a b : FVec Ideal S1x8192x8x16 .f32) : FVec Ideal S1x8192x8x96 .f32 :=
  concatenate S1x8192x8x96 3 [⟨S1x8192x8x64, z⟩, ⟨S1x8192x8x32, (concatenate S1x8192x8x32 3 [⟨S1x8192x8x16, a⟩, ⟨S1x8192x8x16, b⟩] concatenates_S1x8192x8x16_S1x8192x8x16_S1x8192x8x32_d3)⟩] concatenates_S1x8192x8x64_S1x8192x8x32_S1x8192x8x96_d3
def padR (z : FVec Ideal S1x8192x8x96 .f32) : FVec Ideal S1x8192x8x128 .f32 := pad S1x8192x8x128 ![0, 0, 0, 0] ![0, 0, 0, 32] ![0, 0, 0, 0] z (sitofp .f32 (constantI S_ 32 0#32)) pads_S1x8192x8x96_S1x8192x8x128_000_000_000_0320 h_S_
def scR (z : FVec Ideal S1x8192x8x96 .f32) : FVec Ideal S1x8192x8x96 .f32 := mulf z (broadcastInDim S1x8192x8x96 ![] bcast_S_S1x8192x8x96 (constant S_ .f32 0x3E16C740#32))
def qR (z : FVec Ideal S1x8192x8x96 .f32) (c s : FVec Ideal S1x8192x16 .f32) : FVec Ideal S32x1024x256 .bf16 :=
  truncf .bf16 (transpose S32x1024x256 [0, 2, 1] (shapeCast _ (shapeCast S8192x1024 (padR (scR (catR (extractStridedSlice S1x8192x8x64 ![0, 0, 0, 0] z slices_S1x8192x8x96_S1x8192x8x64_0_0_0_0) (qaR z c s) (qbR z c s)))) shapeCasts_S1x8192x8x128_S8192x1024) shapeCasts_S8192x1024_S32x256x1024) transposes_S32x256x1024_S32x1024x256_0_2_1) bitsLt_bf16_f32

theorem catR_entry (z : FVec Ideal S1x8192x8x64 .f32) (a b : FVec Ideal S1x8192x8x16 .f32) (t : Fin 8192) (h : Fin 8) (e : Fin 96) :
    catR z a b (ix4 (0 : Fin 1) t h e) = if h0 : e.val < 64 then z (ix4 (0 : Fin 1) t h ⟨e.val, h0⟩) else if h1 : e.val - 64 < 16 then a (ix4 (0 : Fin 1) t h ⟨e.val - 64, by omega⟩) else b (ix4 (0 : Fin 1) t h ⟨e.val - 64 - 16, by omega⟩) := by
  pointwise [catR]
theorem padR_entry (z : FVec Ideal S1x8192x8x96 .f32) (t : Fin 8192) (h : Fin 8) (l : Fin 128) :
    padR z (ix4 (0 : Fin 1) t h l) = if h0 : l.val < 96 then z (ix4 (0 : Fin 1) t h ⟨l.val, h0⟩) else FloatOps.sitofp (F := Ideal) .f32 (0#32) := by
  pointwise [padR]
theorem scR_entry (z : FVec Ideal S1x8192x8x96 .f32) (t : Fin 8192) (h : Fin 8) (e : Fin 96) :
    scR z (ix4 (0 : Fin 1) t h e) = z (ix4 (0 : Fin 1) t h e) * Ideal.ofBits .f32 0x3E16C740#32 := by
  pointwise [scR]
theorem qR_entry (z : FVec Ideal S1x8192x8x96 .f32) (c s : FVec Ideal S1x8192x16 .f32) (b : Fin 32) (r : Fin 1024) (i : Fin 256) :
    qR z c s (ix3 b r i) = padR (scR (catR (extractStridedSlice S1x8192x8x64 ![0, 0, 0, 0] z slices_S1x8192x8x96_S1x8192x8x64_0_0_0_0) (qaR z c s) (qbR z c s)))
      (ix4 (0 : Fin 1) ⟨b.val * 256 + i.val, by omega⟩ ⟨r.val / 128, by omega⟩ ⟨r.val % 128, by omega⟩) := by
  pointwise [qR]

/-- The keys: the rotated lanes are shared by every head. -/
def kpR (x : FVec Ideal S8192x2304 .f32) : FVec Ideal S1x8192x1x32 .f32 := broadcastInDim S1x8192x1x32 ![0, 1, 3] bcast_S1x8192x32_S1x8192x1x32_0_1_3 (broadcastInDim S1x8192x32 ![1, 2] bcast_S8192x32_S1x8192x32_1_2 (extractStridedSlice S8192x32 ![0, 1920] x slices_S8192x2304_S8192x32_0_1920))
def kaR (p : FVec Ideal S1x8192x1x32 .f32) (c s : FVec Ideal S1x8192x16 .f32) : FVec Ideal S1x8192x1x16 .f32 :=
  subf (mulf (extractStridedSlice S1x8192x1x16 ![0, 0, 0, 0] p slices_S1x8192x1x32_S1x8192x1x16_0_0_0_0) (broadcastInDim S1x8192x1x16 ![0, 1, 3] bcast_S1x8192x16_S1x8192x1x16_0_1_3 c)) (mulf (extractStridedSlice S1x8192x1x16 ![0, 0, 0, 16] p slices_S1x8192x1x32_S1x8192x1x16_0_0_0_16) (broadcastInDim S1x8192x1x16 ![0, 1, 3] bcast_S1x8192x16_S1x8192x1x16_0_1_3 s))
def kbR (p : FVec Ideal S1x8192x1x32 .f32) (c s : FVec Ideal S1x8192x16 .f32) : FVec Ideal S1x8192x1x16 .f32 :=
  addf (mulf (extractStridedSlice S1x8192x1x16 ![0, 0, 0, 16] p slices_S1x8192x1x32_S1x8192x1x16_0_0_0_16) (broadcastInDim S1x8192x1x16 ![0, 1, 3] bcast_S1x8192x16_S1x8192x1x16_0_1_3 c)) (mulf (extractStridedSlice S1x8192x1x16 ![0, 0, 0, 0] p slices_S1x8192x1x32_S1x8192x1x16_0_0_0_0) (broadcastInDim S1x8192x1x16 ![0, 1, 3] bcast_S1x8192x16_S1x8192x1x16_0_1_3 s))
def kcatR (z : FVec Ideal S1x8192x8x64 .f32) (a b : FVec Ideal S1x8192x1x16 .f32) : FVec Ideal S1x8192x8x96 .f32 :=
  concatenate S1x8192x8x96 3 [⟨S1x8192x8x64, z⟩, ⟨S1x8192x8x32, (broadcastInDim S1x8192x8x32 ![0, 1, 2, 3] bcast_S1x8192x1x32_S1x8192x8x32_0_1_2_3 (concatenate S1x8192x1x32 3 [⟨S1x8192x1x16, a⟩, ⟨S1x8192x1x16, b⟩] concatenates_S1x8192x1x16_S1x8192x1x16_S1x8192x1x32_d3))⟩] concatenates_S1x8192x8x64_S1x8192x8x32_S1x8192x8x96_d3
def kR (z : FVec Ideal S1x8192x8x128 .f32) (p : FVec Ideal S1x8192x1x32 .f32) (c s : FVec Ideal S1x8192x16 .f32) : FVec Ideal S8192x1024 .bf16 :=
  truncf .bf16 (shapeCast _ (padR (kcatR (extractStridedSlice S1x8192x8x64 ![0, 0, 0, 0] z slices_S1x8192x8x128_S1x8192x8x64_0_0_0_0) (kaR p c s) (kbR p c s))) shapeCasts_S1x8192x8x128_S8192x1024) bitsLt_bf16_f32

theorem kpR_entry (x : FVec Ideal S8192x2304 .f32) (t : Fin 8192) (e : Fin 32) : kpR x (ix4 (0 : Fin 1) t (0 : Fin 1) e) = x (ix2 t ⟨1920 + e.val, by omega⟩) := by
  pointwise [kpR]
theorem kaR_entry (p : FVec Ideal S1x8192x1x32 .f32) (c s : FVec Ideal S1x8192x16 .f32) (t : Fin 8192) (e : Fin 16) :
    kaR p c s (ix4 (0 : Fin 1) t (0 : Fin 1) e) = p (ix4 (0 : Fin 1) t (0 : Fin 1) ⟨e.val, by omega⟩) * c (ix3 (0 : Fin 1) t e) - p (ix4 (0 : Fin 1) t (0 : Fin 1) ⟨16 + e.val, by omega⟩) * s (ix3 (0 : Fin 1) t e) := by
  pointwise [kaR]
theorem kbR_entry (p : FVec Ideal S1x8192x1x32 .f32) (c s : FVec Ideal S1x8192x16 .f32) (t : Fin 8192) (e : Fin 16) :
    kbR p c s (ix4 (0 : Fin 1) t (0 : Fin 1) e) = p (ix4 (0 : Fin 1) t (0 : Fin 1) ⟨16 + e.val, by omega⟩) * c (ix3 (0 : Fin 1) t e) + p (ix4 (0 : Fin 1) t (0 : Fin 1) ⟨e.val, by omega⟩) * s (ix3 (0 : Fin 1) t e) := by
  pointwise [kbR]
theorem kcatR_entry (z : FVec Ideal S1x8192x8x64 .f32) (a b : FVec Ideal S1x8192x1x16 .f32) (t : Fin 8192) (h : Fin 8) (e : Fin 96) :
    kcatR z a b (ix4 (0 : Fin 1) t h e) = if h0 : e.val < 64 then z (ix4 (0 : Fin 1) t h ⟨e.val, h0⟩) else if h1 : e.val - 64 < 16 then a (ix4 (0 : Fin 1) t (0 : Fin 1) ⟨e.val - 64, by omega⟩) else b (ix4 (0 : Fin 1) t (0 : Fin 1) ⟨e.val - 64 - 16, by omega⟩) := by
  pointwise [kcatR]
theorem kR_entry (z : FVec Ideal S1x8192x8x128 .f32) (p : FVec Ideal S1x8192x1x32 .f32) (c s : FVec Ideal S1x8192x16 .f32) (t : Fin 8192) (r : Fin 1024) :
    kR z p c s (ix2 t r) = padR (kcatR (extractStridedSlice S1x8192x8x64 ![0, 0, 0, 0] z slices_S1x8192x8x128_S1x8192x8x64_0_0_0_0) (kaR p c s) (kbR p c s)) (ix4 (0 : Fin 1) t ⟨r.val / 128, by omega⟩ ⟨r.val % 128, by omega⟩) := by
  pointwise [kR]

/-- The values, and the lanes beside the latents. -/
def vR (z : FVec Ideal S1x8192x8x128 .f32) : FVec Ideal S32x512x256 .bf16 := truncf .bf16 (transpose S32x512x256 [0, 2, 1] (shapeCast _ (extractStridedSlice S1x8192x8x64 ![0, 0, 0, 64] z slices_S1x8192x8x128_S1x8192x8x64_0_0_0_64) shapeCasts_S1x8192x8x64_S32x256x512) transposes_S32x256x512_S32x512x256_0_2_1) bitsLt_bf16_f32
def mR (x : FVec Ideal S8192x2304 .f32) : FVec Ideal S32x128x256 .f32 := transpose S32x128x256 [0, 2, 1] (shapeCast _ (extractStridedSlice S8192x128 ![0, 1920] x slices_S8192x2304_S8192x128_0_1920) shapeCasts_S8192x128_S32x256x128) transposes_S32x256x128_S32x128x256_0_2_1

theorem vR_entry (z : FVec Ideal S1x8192x8x128 .f32) (b : Fin 32) (r : Fin 512) (i : Fin 256) :
    vR z (ix3 b r i) = z (ix4 (0 : Fin 1) ⟨b.val * 256 + i.val, by omega⟩ ⟨r.val / 64, by omega⟩ ⟨64 + r.val % 64, by omega⟩) := by
  pointwise [vR]
theorem mR_entry (x : FVec Ideal S8192x2304 .f32) (b : Fin 32) (l : Fin 128) (i : Fin 256) :
    mR x (ix3 b l i) = x (ix2 ⟨b.val * 256 + i.val, by omega⟩ ⟨1920 + l.val, by omega⟩) := by
  pointwise [mR]

variable (m : (ℓ : Loc nD τ sig) → Buf (Elt Ideal) ℓ) (c : Dev nD)

/-- The four results of the reference, by these names. -/
def qVal : FVec Ideal S32x1024x256 .bf16 := qR (zR (uqR (m ((c.tc : Thread nD τ).loc main_arg0)) (m ((c.tc : Thread nD τ).loc main_arg3))) (m ((c.tc : Thread nD τ).loc main_arg4))) (m ((c.tc : Thread nD τ).loc main_arg1)) (m ((c.tc : Thread nD τ).loc main_arg2))
def kvVal : FVec Ideal S1x8192x8x128 .f32 := kvR (ukR (m ((c.tc : Thread nD τ).loc main_arg0)) (m ((c.tc : Thread nD τ).loc main_arg5))) (m ((c.tc : Thread nD τ).loc main_arg6))
def kVal : FVec Ideal S8192x1024 .bf16 := kR (kvVal m c) (kpR (m ((c.tc : Thread nD τ).loc main_arg0))) (m ((c.tc : Thread nD τ).loc main_arg1)) (m ((c.tc : Thread nD τ).loc main_arg2))
def vVal : FVec Ideal S32x512x256 .bf16 := vR (kvVal m c)
def mVal : FVec Ideal S32x128x256 .f32 := mR (m ((c.tc : Thread nD τ).loc main_arg0))

theorem res_eq : Value.res_main_v76 (F := Ideal) m c = qVal m c := rfl

theorem q_at (x : FVec Ideal S8192x2304 .f32) (c s : FVec Ideal S1x8192x16 .f32) (g : FVec Ideal S384 .f32) (w : FVec Ideal S384x768 .f32) (b : Fin 32) (r : Fin 1024) (i : Fin 256) :
    qR (zR (uqR x g) w) c s (ix3 b r i) = qF (fun t e => x (ix2 t e)) (fun t e => c (ix3 (0 : Fin 1) t e)) (fun t e => s (ix3 (0 : Fin 1) t e)) (fun k => g (ix1 k)) (fun k e => w (ix2 k e)) ⟨b.val * 256 + i.val, by omega⟩ r := by
  have hz : ∀ (z : FVec Ideal S1x8192x8x96 .f32) (t : Fin 8192) (h : Fin 8) (e : Fin 64), extractStridedSlice S1x8192x8x64 ![0, 0, 0, 0] z slices_S1x8192x8x96_S1x8192x8x64_0_0_0_0 (ix4 (0 : Fin 1) t h e) = z (ix4 (0 : Fin 1) t h ⟨e.val, by omega⟩) := fun z t h e => by
    pointwise
  rw [qR_entry, padR_entry, word_zero]
  unfold qF headQ
  by_cases h : r.val % 128 < 96
  · simp only [dif_pos h]
    rw [scR_entry, catR_entry]
    by_cases h0 : r.val % 128 < 64
    · simp only [dif_pos h0, hz, zR_entry, uqR_entry]
    by_cases h1 : r.val % 128 - 64 < 16
    · simp only [dif_neg h0, dif_pos h1, qaR_entry, zR_entry, uqR_entry]
    · simp only [dif_neg h0, dif_neg h1, qbR_entry, zR_entry, uqR_entry]
  · simp only [dif_neg h]

theorem kv_at (x : FVec Ideal S8192x2304 .f32) (g : FVec Ideal S256 .f32) (w : FVec Ideal S256x1024 .f32) (t : Fin 8192) (h : Fin 8) (e : Fin 128) :
    kvR (ukR x g) w (ix4 (0 : Fin 1) t h e) = kvF (fun t e => x (ix2 t e)) (fun k => g (ix1 k)) (fun k e => w (ix2 k e)) t ⟨h.val * 128 + e.val, by omega⟩ := by
  rw [kvR_entry]
  simp only [ukR_entry]
  rfl

theorem k_at (x : FVec Ideal S8192x2304 .f32) (c s : FVec Ideal S1x8192x16 .f32) (g : FVec Ideal S256 .f32) (w : FVec Ideal S256x1024 .f32) (t : Fin 8192) (r : Fin 1024) :
    kR (kvR (ukR x g) w) (kpR x) c s (ix2 t r) = kF (fun t e => x (ix2 t e)) (fun t e => c (ix3 (0 : Fin 1) t e)) (fun t e => s (ix3 (0 : Fin 1) t e)) (fun k => g (ix1 k)) (fun k e => w (ix2 k e)) t r := by
  have hz : ∀ (z : FVec Ideal S1x8192x8x128 .f32) (t : Fin 8192) (h : Fin 8) (e : Fin 64), extractStridedSlice S1x8192x8x64 ![0, 0, 0, 0] z slices_S1x8192x8x128_S1x8192x8x64_0_0_0_0 (ix4 (0 : Fin 1) t h e) = z (ix4 (0 : Fin 1) t h ⟨e.val, by omega⟩) := fun z t h e => by
    pointwise
  rw [kR_entry, padR_entry, word_zero]
  unfold kF headK
  by_cases h : r.val % 128 < 96
  · simp only [dif_pos h]
    rw [kcatR_entry]
    by_cases h0 : r.val % 128 < 64
    · simp only [dif_pos h0, hz, kv_at]
    by_cases h1 : r.val % 128 - 64 < 16
    · simp only [dif_neg h0, dif_pos h1, kaR_entry, kpR_entry]
    · simp only [dif_neg h0, dif_neg h1, kbR_entry, kpR_entry]
  · simp only [dif_neg h]

theorem v_at (x : FVec Ideal S8192x2304 .f32) (g : FVec Ideal S256 .f32) (w : FVec Ideal S256x1024 .f32) (b : Fin 32) (r : Fin 512) (i : Fin 256) :
    vR (kvR (ukR x g) w) (ix3 b r i) = vF (fun t e => x (ix2 t e)) (fun k => g (ix1 k)) (fun k e => w (ix2 k e)) ⟨b.val * 256 + i.val, by omega⟩ r := by
  rw [vR_entry, kv_at]
  rfl

end Cert.LatentReferenceIdeal.Prj
-- ==== Proof.RouterTop.lean ====
/- Choosing the greatest four of a row: the least lane of the greatest value, round by round, and the stable sort's order. -/
module

public import proofs.«01_k».proof.Proof.OutVal
public import Idealize.ShloMosaic.Lib.SortFacts

@[expose] public section

set_option maxRecDepth 16384

noncomputable section

namespace Cert.RouterVal

open Idealize.ShloMosaic Idealize.ShloMosaic.TcCoe Idealize.ShloMosaic.Tactic

theorem bottom : Ideal.ofBits FTy.f32 4286578688#32 = (⊥ : EReal) := by
  first | rfl | simp [Ideal.ofBits] | decide

/-- `a` is the least lane of the greatest value. -/
def First (g : Fin 128 → EReal) (a : Fin 128) : Prop := (∀ l, g l ≤ g a) ∧ ∀ l, g l = g a → a ≤ l

theorem First.max {g : Fin 128 → EReal} {a : Fin 128} (h : First g a) : Finset.univ.fold Max.max (Ideal.ofBits FTy.f32 4286578688#32) g = g a := by
  rw [bottom]
  exact le_antisymm ((Finset.fold_max_le _).2 ⟨bot_le, fun l _ => h.1 l⟩) ((Finset.le_fold_max _).2 (Or.inr ⟨a, Finset.mem_univ a, le_rfl⟩))

theorem toInt_min (x y : BitVec 32) : (IntOp.minsi x y).toInt = Min.min x.toInt y.toInt := by
  unfold IntOp.minsi
  simp only [BitVec.sle_eq_decide, BitVec.slt_eq_decide, decide_eq_true_eq]
  split <;> omega

theorem toInt_lane (l : Fin 128) : (BitVec.ofNat 32 l.val).toInt = l.val := by
  have := l.isLt
  rw [BitVec.toInt_eq_toNat_cond, BitVec.toNat_ofNat]
  omega

theorem First.min {g : Fin 128 → EReal} {a : Fin 128} (h : First g a) {m : EReal} (hm : m = g a) :
    Finset.univ.fold IntOp.minsi 2147483647#32 (fun x : Fin 128 => if g x = m then BitVec.ofNat 32 ↑x else 128#32) = BitVec.ofNat 32 ↑a := by
  subst hm
  apply BitVec.eq_of_toInt_eq
  rw [← Finset.fold_hom (op' := Min.min) (m := BitVec.toInt) toInt_min, toInt_lane]
  apply le_antisymm
  · refine (Finset.fold_min_le _).2 (Or.inr ⟨a, Finset.mem_univ a, ?_⟩)
    rw [if_pos rfl, toInt_lane]
  · refine (Finset.le_fold_min _).2 ⟨?_, fun l _ => ?_⟩
    · have := a.isLt
      rw [show (2147483647#32).toInt = 2147483647 from by decide]
      omega
    · by_cases hl : g l = g a
      · rw [if_pos hl, toInt_lane]
        exact_mod_cast h.2 l hl
      · rw [if_neg hl, show (128#32).toInt = 128 from by decide]
        have := a.isLt
        omega

/-! ## The order a stable sort puts a row in -/

/-- `σ` lists the lanes by descending value, equal values by ascending lane. -/
structure Sorted (L : Fin 32 → EReal) (σ : Fin 32 → Fin 32) : Prop where
  inj : Function.Injective σ
  onto : Function.Surjective σ
  le : ∀ i j, i < j → L (σ j) ≤ L (σ i)
  tie : ∀ i j, i < j → L (σ i) = L (σ j) → σ i < σ j

/-- The stable sort of a row, by descending value. -/
@[irreducible] def order (L : Fin 32 → EReal) : Fin 32 → Fin 32 := sortedFrom fun k k' => FloatOps.cmpfTotal (F := Ideal) (φ := .f32) .gt (L k) (L k') == 1#1

theorem before_iff (x y : EReal) : (FloatOps.cmpfTotal (F := Ideal) (φ := .f32) .gt x y == 1#1) = decide (y < x) := by
  rw [Ideal.cmpfTotal_def]
  by_cases h : y < x <;> simp [Ideal.cmp, CmpDirection.ordered, h]

/-- Greater first, and of equal ones the lesser lane first. -/
def strict (L : Fin 32 → EReal) (a b : Fin 32) : Bool := decide (L b < L a ∨ (L a = L b ∧ a < b))

theorem sort_strict (L : Fin 32 → EReal) (l : List (Fin 32)) (h : l.Pairwise (· < ·)) :
    stableSort (fun k k' => FloatOps.cmpfTotal (F := Ideal) (φ := .f32) .gt (L k) (L k') == 1#1) l = stableSort (strict L) l := by
  induction l with
  | nil => rfl
  | cons a l ih =>
    rw [List.pairwise_cons] at h
    unfold stableSort
    rw [ih h.2]
    refine insertBefore_congr _ _ a _ fun b hb => ?_
    have hab : a < b := h.1 b ((perm_stableSort _ l).mem_iff.1 hb)
    rw [before_iff]
    unfold strict
    simp [not_lt.2 hab.le]

theorem of_positions {n : Nat} {R S : Fin n → Fin n → Bool} (h : sortPositions n R = sortPositions n S) : sortedFrom R = sortedFrom S := by
  funext k
  unfold sortedFrom
  rw [List.get_of_eq h]
  rfl

theorem order_strict (L : Fin 32 → EReal) : order L = sortedFrom (strict L) := by
  unfold order
  exact of_positions (sort_strict L _ (List.pairwise_lt_finRange 32))

theorem order_sorted (L : Fin 32 → EReal) : Sorted L (order L) := by
  have hb : ∀ i j : Fin 32, i < j → ¬(L (order L i) < L (order L j) ∨ (L (order L j) = L (order L i) ∧ order L j < order L i)) := by
    intro i j hij
    rw [order_strict]
    have := sortedFrom_noInversion (strict L) (strict L) ?_ (fun _ _ h => h) ?_ i j hij
    · simpa [strict] using this
    · intro a b h
      simp only [strict, decide_eq_true_eq, decide_eq_false_iff_not] at h ⊢
      rintro (h' | ⟨h1, h2⟩)
      · rcases h with h | ⟨h3, h4⟩
        · exact lt_asymm h h'
        · exact h'.ne h3
      · rcases h with h | ⟨h3, h4⟩
        · exact h.ne h1
        · exact lt_asymm h2 h4
    · intro a b c h1 h2
      simp only [strict, decide_eq_false_iff_not, not_or, not_and, not_lt] at h1 h2 ⊢
      refine ⟨h1.1.trans h2.1, fun h => ?_⟩
      have e1 : L a = L b := le_antisymm h1.1 (h ▸ h2.1)
      have e2 : L b = L c := e1.symm.trans h
      exact (h2.2 e2).trans (h1.2 e1)
  have hi : Function.Injective (order L) := by rw [order_strict]; exact sortedFrom_injective _
  have ho : Function.Surjective (order L) := by rw [order_strict]; exact sortedFrom_surjective _
  refine ⟨hi, ho, fun i j hij => ?_, fun i j hij he => ?_⟩
  · exact not_lt.1 fun h => hb i j hij (Or.inl h)
  · refine lt_of_le_of_ne (not_lt.1 fun h => hb i j hij (Or.inr ⟨he.symm, h⟩)) fun h => hij.ne (hi h)

/-! ## The rounds -/

/-- The row widened by bottoms. -/
def wide (L : Fin 32 → EReal) (l : Fin 128) : EReal := if h : l.val < 32 then L ⟨l.val, h⟩ else ⊥

def lane (a : Fin 32) : Fin 128 := ⟨a.val, by omega⟩

/-- The row after `n` rounds: the first `n` of the order replaced by bottom. -/
def after (L : Fin 32 → EReal) (σ : Fin 32 → Fin 32) : Nat → Fin 128 → EReal
  | 0, l => wide L l
  | n + 1, l => if h : n < 32 then if l = lane (σ ⟨n, h⟩) then ⊥ else after L σ n l else after L σ n l

theorem after_succ (L : Fin 32 → EReal) (σ : Fin 32 → Fin 32) (k : Fin 32) (l : Fin 128) :
    after L σ (k.val + 1) l = if l = lane (σ k) then ⊥ else after L σ k.val l := by
  show (if h : k.val < 32 then _ else _) = _
  rw [dif_pos k.isLt]

theorem after_kept (L : Fin 32 → EReal) {σ : Fin 32 → Fin 32} (hσ : Function.Injective σ) (n : Nat) (k : Fin 32) (h : n ≤ k.val) :
    after L σ n (lane (σ k)) = L (σ k) := by
  induction n with
  | zero =>
    show wide L (lane (σ k)) = _
    unfold wide
    rw [dif_pos (show (lane (σ k)).val < 32 from (σ k).isLt)]
    rfl
  | succ n ih =>
    have hn : n < 32 := by omega
    rw [after_succ L σ ⟨n, hn⟩, if_neg, ih (by omega)]
    intro he
    have h1 : (σ k).val = (σ ⟨n, hn⟩).val := congrArg (fun x : Fin 128 => x.val) he
    have h2 : k.val = n := congrArg Fin.val (hσ (Fin.ext h1))
    omega

theorem after_else (L : Fin 32 → EReal) {σ : Fin 32 → Fin 32} (hσ : Function.Surjective σ) (n : Nat) (l : Fin 128) :
    after L σ n l = ⊥ ∨ ∃ j : Fin 32, n ≤ j.val ∧ l = lane (σ j) := by
  induction n with
  | zero =>
    by_cases h : l.val < 32
    · obtain ⟨j, hj⟩ := hσ ⟨l.val, h⟩
      exact Or.inr ⟨j, Nat.zero_le _, by rw [hj]; rfl⟩
    · left
      show wide L l = _
      unfold wide
      rw [dif_neg h]
  | succ n ih =>
    by_cases hn : n < 32
    · rw [after_succ L σ ⟨n, hn⟩]
      by_cases hl : l = lane (σ ⟨n, hn⟩)
      · left; rw [if_pos hl]
      · rw [if_neg hl]
        rcases ih with h | ⟨j, hj, rfl⟩
        · exact Or.inl h
        · refine Or.inr ⟨j, ?_, rfl⟩
          rcases Nat.lt_or_ge n j.val with h | h
          · exact h
          · exact absurd (congrArg (fun j => lane (σ j)) (Fin.ext (Nat.le_antisymm h hj) : j = ⟨n, hn⟩)) hl
    · rcases ih with h | ⟨j, hj, rfl⟩
      · left
        show (if h : n < 32 then _ else _) = _
        rw [dif_neg hn]; exact h
      · have := j.isLt
        omega

/-- In round `k` the least lane of the greatest value left is the `k`th of the order. -/
theorem round {L : Fin 32 → EReal} {σ : Fin 32 → Fin 32} (hσ : Sorted L σ) (k : Fin 32) (hL : L (σ k) ≠ ⊥) : First (after L σ k.val) (lane (σ k)) := by
  have hk := after_kept L hσ.inj k.val k le_rfl
  constructor
  · intro l
    rw [hk]
    rcases after_else L hσ.onto k.val l with h | ⟨j, hj, rfl⟩
    · rw [h]; exact bot_le
    · rw [after_kept L hσ.inj k.val j hj]
      rcases Nat.lt_or_eq_of_le hj with h | h
      · exact hσ.le k j h
      · rw [show j = k from Fin.ext h.symm]
  · intro l hl
    rw [hk] at hl
    rcases after_else L hσ.onto k.val l with h | ⟨j, hj, rfl⟩
    · exact absurd (hl.symm.trans h) hL
    · rw [after_kept L hσ.inj k.val j hj] at hl
      rcases Nat.lt_or_eq_of_le hj with h | h
      · exact (hσ.tie k j h hl.symm).le
      · rw [show j = k from Fin.ext h.symm]

end Cert.RouterVal
end
-- ==== Proof.RouterVal.lean ====
/- The router's lanes and gates, row by row: the lanes of the greatest four logits, and their exponentials over the sum of the
   four. -/
module

public import proofs.«01_k».proof.Proof.RouterTop
public import proofs.«01_k».proof.Proof.Gen.RouterIdeal.Value
public import proofs.«01_k».proof.Proof.Gen.RouterReferenceIdeal.Run
public import proofs.«01_k».proof.Pre_above_bottom

@[expose] public section

set_option maxRecDepth 16384

noncomputable section

namespace Cert.RouterVal

open Idealize.ShloMosaic Idealize.ShloMosaic.TcCoe Idealize.ShloMosaic.Tactic Cert.OutVal

/-- One row's logit in a lane. -/
def logit (y : Fin 2048 → EReal) (w : Fin 2048 → EReal) (b : EReal) : EReal := ∑ k, y k * w k + b

/-- The chosen lanes, then zeros. -/
def picks (L : Fin 32 → EReal) (l : Fin 128) : BitVec 32 := if h : l.val < 4 then BitVec.ofNat 32 (order L ⟨l.val, by omega⟩).val else 0#32

/-- A chosen logit's exponential, the greatest taken off. -/
def share (L : Fin 32 → EReal) (k : Fin 32) : EReal := Ideal.exp (L (order L k) - L (order L 0))

/-- The sum of the four. -/
def total (L : Fin 32 → EReal) : EReal := share L 0 + share L 1 + share L 2 + share L 3

/-- The gates, then zeros. -/
def gates (L : Fin 32 → EReal) (l : Fin 128) : EReal := if h : l.val < 4 then Ideal.div (share L ⟨l.val, by omega⟩) (total L) else Ideal.ofBits .f32 0#32

theorem zero_word : (FloatOps.sitofp FTy.f32 0#32 : Ideal .f32) = (0 : EReal) := by
  simp [FloatOps.sitofp]

theorem zero_bits : Ideal.ofBits FTy.f32 0#32 = (0 : EReal) := by
  simp

theorem at_lane {α : Type} (l : Fin 128) (a : Nat) (ha : a < 128) (x y : α) :
    Scalar.select (IntOp.cmpi .eq (BitVec.ofNat 32 l.val) (BitVec.ofNat 32 a)) x y = if l.val = a then x else y := by
  have hl := l.isLt
  have e : (BitVec.ofNat 32 l.val = BitVec.ofNat 32 a) ↔ l.val = a := by
    constructor
    · intro h
      have := congrArg BitVec.toNat h
      simp only [BitVec.toNat_ofNat] at this
      omega
    · intro h; rw [h]
  by_cases h : l.val = a
  · simp [Scalar.select, IntOp.cmpi, h]
  · have h' : (BitVec.ofNat 32 l.val == BitVec.ofNat 32 a) = false := beq_eq_false_iff_ne.2 fun h' => h (e.1 h')
    simp [Scalar.select, IntOp.cmpi, h', h]

end Cert.RouterVal

namespace Cert.RouterIdeal.Prj

open Cert.RouterIdeal Cert.RouterIdeal.Gen Cert.OutVal Cert.RouterVal
open Idealize.ShloMosaic Idealize.ShloMosaic.TcCoe Idealize.ShloMosaic.Tactic

/-- The greatest of each row, the least lane holding it, and the rows with that lane put to the bottom. -/
def mxV (v : FVec Ideal S256x128 .f32) : FVec Ideal S256x1 .f32 :=
  shapeCast S256x1 (multiReduction .maximumf [1] S256 v 0xFF800000#32 reduces_S256x128_S256 (.inl rfl) rfl) shapeCasts_S256_S256x1
def ixV (v : FVec Ideal S256x128 .f32) : IVec S256x1 32 :=
  shapeCast S256x1 (multiReductionI .minsi [1] S256 (select (cmpf .oeq v (broadcastTo S256x128 (mxV v) broadcasts_S256x1_S256x128)) (iota .tc S256x128 32 [1] iota_S256x128_d1_w32) (broadcast S256x128 128#32)) 2147483647#32 reduces_S256x128_S256 rfl) shapeCasts_S256_S256x1
def stV (v : FVec Ideal S256x128 .f32) : FVec Ideal S256x128 .f32 :=
  select (cmpi .eq (iota .tc S256x128 32 [1] iota_S256x128_d1_w32) (broadcastTo S256x128 (ixV v) broadcasts_S256x1_S256x128)) (broadcast S256x128 (Scalar.ofBits .f32 0xFF800000#32)) v

variable {v : FVec Ideal S256x128 .f32} {i : Fin 256} {a : Fin 128}

theorem mx_entry (h : First (fun l => v (ix2 i l)) a) : mxV v (ix2 i (0 : Fin 1)) = v (ix2 i a) := by
  pointwise [mxV]
  exact h.max

theorem ix_entry (h : First (fun l => v (ix2 i l)) a) : ixV v (ix2 i (0 : Fin 1)) = BitVec.ofNat 32 a.val := by
  have hm := mx_entry h
  unfold ixV
  generalize mxV v = m at hm
  pointwise []
  exact h.min hm

theorem st_entry (h : First (fun l => v (ix2 i l)) a) (l : Fin 128) : stV v (ix2 i l) = if l = a then (⊥ : EReal) else v (ix2 i l) := by
  have hm := ix_entry h
  unfold stV
  generalize ixV v = m at hm
  pointwise []
  rw [hm, bottom, at_lane l a.val a.isLt]
  simp only [Fin.ext_iff]

/-- One round. -/
theorem round_entry {L : Fin 32 → EReal} (k : Fin 32) (hL : L (order L k) ≠ ⊥) (hv : ∀ l, v (ix2 i l) = after L (order L) k.val l) :
    mxV v (ix2 i (0 : Fin 1)) = L (order L k) ∧ ixV v (ix2 i (0 : Fin 1)) = BitVec.ofNat 32 (order L k).val
      ∧ ∀ l, stV v (ix2 i l) = after L (order L) (k.val + 1) l := by
  have h : First (fun l => v (ix2 i l)) (lane (order L k)) := by
    rw [show (fun l => v (ix2 i l)) = after L (order L) k.val from funext hv]
    exact round (order_sorted L) k hL
  refine ⟨(mx_entry h).trans ((hv _).trans (after_kept L (order_sorted L).inj k.val k le_rfl)), ix_entry h, fun l => ?_⟩
  rw [st_entry h, after_succ, hv l]

/-- The greatest four are above the bottom. -/
def Above (L : Fin 32 → EReal) : Prop := ∀ k : Fin 32, k.val < 4 → L (order L k) ≠ ⊥

/-- Four rounds. -/
theorem rounds_entry {L : Fin 32 → EReal} (hL : Above L) (hv : ∀ l, v (ix2 i l) = wide L l) :
    (mxV v (ix2 i (0 : Fin 1)) = L (order L 0) ∧ mxV (stV v) (ix2 i (0 : Fin 1)) = L (order L 1) ∧ mxV (stV (stV v)) (ix2 i (0 : Fin 1)) = L (order L 2)
      ∧ mxV (stV (stV (stV v))) (ix2 i (0 : Fin 1)) = L (order L 3))
    ∧ (ixV v (ix2 i (0 : Fin 1)) = BitVec.ofNat 32 (order L 0).val ∧ ixV (stV v) (ix2 i (0 : Fin 1)) = BitVec.ofNat 32 (order L 1).val
      ∧ ixV (stV (stV v)) (ix2 i (0 : Fin 1)) = BitVec.ofNat 32 (order L 2).val ∧ ixV (stV (stV (stV v))) (ix2 i (0 : Fin 1)) = BitVec.ofNat 32 (order L 3).val) := by
  obtain ⟨a0, b0, c0⟩ := round_entry 0 (hL 0 (by decide)) hv
  obtain ⟨a1, b1, c1⟩ := round_entry 1 (hL 1 (by decide)) c0
  obtain ⟨a2, b2, c2⟩ := round_entry 2 (hL 2 (by decide)) c1
  obtain ⟨a3, b3, c3⟩ := round_entry 3 (hL 3 (by decide)) c2
  exact ⟨⟨a0, a1, a2, a3⟩, ⟨b0, b1, b2, b3⟩⟩

abbrev io : IVec S256x128 32 := iota .tc S256x128 32 [1] iota_S256x128_d1_w32

/-- The lanes' payload over the four rounds' lanes. -/
def ixs (x0 x1 x2 x3 : IVec S256x1 32) : IVec S256x128 32 :=
  select (cmpi .eq io (broadcast S256x128 3#32)) (broadcastTo S256x128 (shapeCast S256x1 x3 shapeCasts_S256x1_S256x1) broadcasts_S256x1_S256x128)
    (select (cmpi .eq io (broadcast S256x128 2#32)) (broadcastTo S256x128 (shapeCast S256x1 x2 shapeCasts_S256x1_S256x1) broadcasts_S256x1_S256x128)
      (select (cmpi .eq io (broadcast S256x128 1#32)) (broadcastTo S256x128 (shapeCast S256x1 x1 shapeCasts_S256x1_S256x1) broadcasts_S256x1_S256x128)
        (select (cmpi .eq io (broadcast S256x128 0#32)) (broadcastTo S256x128 (shapeCast S256x1 x0 shapeCasts_S256x1_S256x1) broadcasts_S256x1_S256x128)
          (broadcast S256x128 0#32))))

theorem ixs_entry (x0 x1 x2 x3 : IVec S256x1 32) (i : Fin 256) (l : Fin 128) :
    ixs x0 x1 x2 x3 (ix2 i l) = if l.val = 3 then x3 (ix2 i (0 : Fin 1)) else if l.val = 2 then x2 (ix2 i (0 : Fin 1)) else if l.val = 1 then x1 (ix2 i (0 : Fin 1)) else if l.val = 0 then x0 (ix2 i (0 : Fin 1)) else 0#32 := by
  pointwise [ixs]
  rw [at_lane l 3 (by decide), at_lane l 2 (by decide), at_lane l 1 (by decide), at_lane l 0 (by decide)]

/-- The gates' payload over the four rounds' greatest values. -/
def gts (m0 m1 m2 m3 : FVec Ideal S256x1 .f32) : FVec Ideal S256x128 .f32 :=
  select (cmpi .eq io (broadcast S256x128 3#32)) (broadcastTo S256x128 (shapeCast S256x1 (divf (exp (subf m3 m0)) (addf (addf (addf (exp (subf m0 m0)) (exp (subf m1 m0))) (exp (subf m2 m0))) (exp (subf m3 m0)))) shapeCasts_S256x1_S256x1) broadcasts_S256x1_S256x128)
    (select (cmpi .eq io (broadcast S256x128 2#32)) (broadcastTo S256x128 (shapeCast S256x1 (divf (exp (subf m2 m0)) (addf (addf (addf (exp (subf m0 m0)) (exp (subf m1 m0))) (exp (subf m2 m0))) (exp (subf m3 m0)))) shapeCasts_S256x1_S256x1) broadcasts_S256x1_S256x128)
      (select (cmpi .eq io (broadcast S256x128 1#32)) (broadcastTo S256x128 (shapeCast S256x1 (divf (exp (subf m1 m0)) (addf (addf (addf (exp (subf m0 m0)) (exp (subf m1 m0))) (exp (subf m2 m0))) (exp (subf m3 m0)))) shapeCasts_S256x1_S256x1) broadcasts_S256x1_S256x128)
        (select (cmpi .eq io (broadcast S256x128 0#32)) (broadcastTo S256x128 (shapeCast S256x1 (divf (exp (subf m0 m0)) (addf (addf (addf (exp (subf m0 m0)) (exp (subf m1 m0))) (exp (subf m2 m0))) (exp (subf m3 m0)))) shapeCasts_S256x1_S256x1) broadcasts_S256x1_S256x128)
          (broadcast S256x128 (Scalar.ofBits .f32 0x00000000#32)))))

theorem gts_entry (m0 m1 m2 m3 : FVec Ideal S256x1 .f32) (i : Fin 256) (l : Fin 128) (L : Fin 32 → EReal)
    (h0 : m0 (ix2 i (0 : Fin 1)) = L (order L 0)) (h1 : m1 (ix2 i (0 : Fin 1)) = L (order L 1)) (h2 : m2 (ix2 i (0 : Fin 1)) = L (order L 2)) (h3 : m3 (ix2 i (0 : Fin 1)) = L (order L 3)) :
    gts m0 m1 m2 m3 (ix2 i l) = if l.val = 3 then Ideal.div (share L 3) (total L) else if l.val = 2 then Ideal.div (share L 2) (total L) else if l.val = 1 then Ideal.div (share L 1) (total L) else if l.val = 0 then Ideal.div (share L 0) (total L) else (Ideal.ofBits .f32 0#32 : EReal) := by
  pointwise [gts]
  rw [at_lane l 3 (by decide), at_lane l 2 (by decide), at_lane l 1 (by decide), at_lane l 0 (by decide)]
  rw [h0, h1, h2, h3]
  rfl

theorem pay19_eq (y : FVec Ideal S256x2048 .bf16) (w : Vec Ideal S2048x128 .bf16) (b : Vec Ideal S1x128 .f32) :
    k0_pay19 io (k0_pay9 y w b) (k0_pay12 y w b) k0_pay13 (k0_pay14 y w b)
      = ixs (ixV (k0_pay4 y w b)) (ixV (stV (k0_pay4 y w b))) (ixV (stV (stV (k0_pay4 y w b)))) (ixV (stV (stV (stV (k0_pay4 y w b))))) := rfl

theorem pay1_eq (y : FVec Ideal S256x2048 .bf16) (w : Vec Ideal S2048x128 .bf16) (b : Vec Ideal S1x128 .f32) :
    k0_pay1 io (k0_pay21 (k0_pay6 y w b) (k0_pay10 y w b)) (k0_pay22 (k0_pay6 y w b) (k0_pay12 y w b)) (k0_pay23 io (k0_pay6 y w b) (k0_pay12 y w b))
        (k0_pay24 io (k0_pay6 y w b) (k0_pay10 y w b) (k0_pay12 y w b)) (k0_pay25 io (k0_pay5 (F := Ideal)) (k0_pay6 y w b) (k0_pay10 y w b) (k0_pay12 y w b)) 1#32
      = gts (mxV (k0_pay4 y w b)) (mxV (stV (k0_pay4 y w b))) (mxV (stV (stV (k0_pay4 y w b)))) (mxV (stV (stV (stV (k0_pay4 y w b))))) := rfl

theorem lanes_entry {y : FVec Ideal S256x2048 .bf16} {w : Vec Ideal S2048x128 .bf16} {b : Vec Ideal S1x128 .f32} {i : Fin 256} {L : Fin 32 → EReal} (hL : Above L)
    (hv : ∀ l, k0_pay4 y w b (ix2 i l) = wide L l) (l : Fin 128) :
    k0_pay19 io (k0_pay9 y w b) (k0_pay12 y w b) k0_pay13 (k0_pay14 y w b) (ix2 i l) = picks L l := by
  rw [pay19_eq, ixs_entry]
  obtain ⟨-, e0, e1, e2, e3⟩ := rounds_entry hL hv
  rw [e0, e1, e2, e3]
  unfold picks
  obtain ⟨l, hl⟩ := l
  dsimp only
  rcases l with _ | _ | _ | _ | l
  · rfl
  · rfl
  · rfl
  · rfl
  · simp

theorem gates_entry {y : FVec Ideal S256x2048 .bf16} {w : Vec Ideal S2048x128 .bf16} {b : Vec Ideal S1x128 .f32} {i : Fin 256} {L : Fin 32 → EReal} (hL : Above L)
    (hv : ∀ l, k0_pay4 y w b (ix2 i l) = wide L l) (l : Fin 128) :
    k0_pay1 io (k0_pay21 (k0_pay6 y w b) (k0_pay10 y w b)) (k0_pay22 (k0_pay6 y w b) (k0_pay12 y w b)) (k0_pay23 io (k0_pay6 y w b) (k0_pay12 y w b))
        (k0_pay24 io (k0_pay6 y w b) (k0_pay10 y w b) (k0_pay12 y w b)) (k0_pay25 io (k0_pay5 (F := Ideal)) (k0_pay6 y w b) (k0_pay10 y w b) (k0_pay12 y w b)) 1#32 (ix2 i l)
      = gates L l := by
  rw [pay1_eq]
  obtain ⟨⟨e0, e1, e2, e3⟩, -⟩ := rounds_entry hL hv
  rw [gts_entry _ _ _ _ i l L e0 e1 e2 e3]
  unfold gates
  obtain ⟨l, hl⟩ := l
  dsimp only
  rcases l with _ | _ | _ | _ | l
  · rfl
  · rfl
  · rfl
  · rfl
  · simp

theorem pay3_entry (q : Vec Ideal S256x2048 .bf16) (w : Vec Ideal S2048x2048 .bf16) (x : Vec Ideal S256x2048 .f32) (g b : Vec Ideal S1x2048 .f32) (i : Fin 256) (d : Fin 2048) :
    k0_pay3 q w x g b (ix2 i d) = norm (row (fun k => x (ix2 i k)) (fun k => q (ix2 i k)) (fun k e => w (ix2 k e))) (g (ix2 (0 : Fin 1) d)) (b (ix2 (0 : Fin 1) d)) d := by
  pointwise [k0_pay3, k0_pay2]
  rfl

theorem pay4_entry (y : FVec Ideal S256x2048 .bf16) (w : Vec Ideal S2048x128 .bf16) (b : Vec Ideal S1x128 .f32) (i : Fin 256) (l : Fin 128) :
    k0_pay4 y w b (ix2 i l) = logit (fun k => y (ix2 i k)) (fun k => w (ix2 k l)) (b (ix2 (0 : Fin 1) l)) := by
  pointwise [k0_pay4]
  rfl

theorem out9_entry (q : Vec Ideal S256x2048 .bf16) (w : Vec Ideal S2048x2048 .bf16) (x : Vec Ideal S256x2048 .f32) (g b : Vec Ideal S1x2048 .f32) (rw : Vec Ideal S2048x128 .bf16) (rb : Vec Ideal S1x128 .f32) (i : Fin 256) (l : Fin 128)
    {L : Fin 32 → EReal} (hL : Above L) (hv : ∀ l, k0_pay4 (k0_pay3 q w x g b) rw rb (ix2 i l) = wide L l) :
    out0_9 q w x g b rw rb (ix2 i l) = picks L l := by
  unfold_out out0_9
  frame_out
  exact lanes_entry hL hv l

theorem out10_entry (q : Vec Ideal S256x2048 .bf16) (w : Vec Ideal S2048x2048 .bf16) (x : Vec Ideal S256x2048 .f32) (g b : Vec Ideal S1x2048 .f32) (rw : Vec Ideal S2048x128 .bf16) (rb : Vec Ideal S1x128 .f32) (i : Fin 256) (l : Fin 128)
    {L : Fin 32 → EReal} (hL : Above L) (hv : ∀ l, k0_pay4 (k0_pay3 q w x g b) rw rb (ix2 i l) = wide L l) :
    out0_10 q w x g b rw rb (ix2 i l) = gates L l := by
  unfold_out out0_10
  frame_out
  exact gates_entry hL hv l

variable (m : (ℓ : Loc nD τ sig) → Buf (Elt Ideal) ℓ) (c : Dev nD)

/-- The kernel's operands, as it is entered with them. -/
def qA (x : FVec Ideal S1x8192x2048 .f32) : FVec Ideal S8192x2048 .bf16 := truncf .bf16 (shapeCast S8192x2048 x shapeCasts_S1x8192x2048_S8192x2048) bitsLt_bf16_f32
def wA (w : FVec Ideal S2048x2048 .f32) : FVec Ideal S2048x2048 .bf16 := truncf .bf16 w bitsLt_bf16_f32
def xA (x : FVec Ideal S1x8192x2048 .f32) : FVec Ideal S8192x2048 .f32 := shapeCast S8192x2048 x shapeCasts_S1x8192x2048_S8192x2048
def gA (g : FVec Ideal S2048 .f32) : FVec Ideal S1x2048 .f32 := shapeCast S1x2048 g shapeCasts_S2048_S1x2048
def rA (w : FVec Ideal S2048x32 .f32) : FVec Ideal S2048x128 .bf16 := truncf .bf16 (pad S2048x128 ![0, 0] ![0, 96] ![0, 0] w (sitofp .f32 (constantI S_ 32 0#32)) pads_S2048x32_S2048x128_000_0960 h_S_) bitsLt_bf16_f32
def sA (b : FVec Ideal S32 .f32) : FVec Ideal S1x128 .f32 := shapeCast S1x128 (concatenate S128 0 [⟨S32, b⟩, ⟨S96, broadcastInDim S96 ![] bcast_S_S96 (constant S_ .f32 0xFF800000#32)⟩] concatenates_S32_S96_S128_d0) shapeCasts_S128_S1x128

theorem entry_q : (V m c main_v6 : FVec Ideal S8192x2048 .bf16) = qA (m ((c.tc : Thread nD τ).loc main_arg0)) := by
  unfold_abbrev_sides
  after_reads_simp
  rfl
theorem entry_w : (V m c main_v7 : FVec Ideal S2048x2048 .bf16) = wA (m ((c.tc : Thread nD τ).loc main_arg1)) := by
  unfold_abbrev_sides
  after_reads_simp
  rfl
theorem entry_x : (V m c main_v8 : FVec Ideal S8192x2048 .f32) = xA (m ((c.tc : Thread nD τ).loc main_arg2)) := by
  unfold_abbrev_sides
  after_reads_simp
  rfl
theorem entry_g : (V m c main_v9 : FVec Ideal S1x2048 .f32) = gA (m ((c.tc : Thread nD τ).loc main_arg3)) := by
  unfold_abbrev_sides
  after_reads_simp
  rfl
theorem entry_b : (V m c main_v10 : FVec Ideal S1x2048 .f32) = gA (m ((c.tc : Thread nD τ).loc main_arg4)) := by
  unfold_abbrev_sides
  after_reads_simp
  rfl
theorem entry_r : (V m c main_v1 : FVec Ideal S2048x128 .bf16) = rA (m ((c.tc : Thread nD τ).loc main_arg5)) := by
  unfold_abbrev_sides
  after_reads_simp
  rfl
theorem entry_s : (V m c main_v4 : FVec Ideal S1x128 .f32) = sA (m ((c.tc : Thread nD τ).loc main_arg6)) := by
  unfold_abbrev_sides
  after_reads_simp
  rfl

theorem qA_entry (x : FVec Ideal S1x8192x2048 .f32) (t : Fin 8192) (k : Fin 2048) : qA x (ix2 t k) = x (ix3 (0 : Fin 1) t k) := by
  pointwise [qA]
theorem xA_entry (x : FVec Ideal S1x8192x2048 .f32) (t : Fin 8192) (k : Fin 2048) : xA x (ix2 t k) = x (ix3 (0 : Fin 1) t k) := by
  pointwise [xA]
theorem gA_entry (g : FVec Ideal S2048 .f32) (k : Fin 2048) : gA g (ix2 (0 : Fin 1) k) = g (ix1 k) := by
  pointwise [gA]
theorem rA_entry (w : FVec Ideal S2048x32 .f32) (k : Fin 2048) (l : Fin 128) : rA w (ix2 k l) = if h : l.val < 32 then w (ix2 k ⟨l.val, h⟩) else (0 : EReal) := by
  pointwise [rA]
  rw [zero_word]
theorem sA_entry (b : FVec Ideal S32 .f32) (l : Fin 128) : sA b (ix2 (0 : Fin 1) l) = if h : l.val < 32 then b (ix1 ⟨l.val, h⟩) else (⊥ : EReal) := by
  pointwise [sA]
  rw [bottom]

abbrev Idxs (t : Fin grid0.N) : Prop :=
  (win0_0.index t 0 = (grid0.coords t 0).val ∧ win0_0.index t 1 = 0) ∧ (win0_1.index t 0 = 0 ∧ win0_1.index t 1 = 0) ∧ (win0_2.index t 0 = (grid0.coords t 0).val ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_9.index t 0 = (grid0.coords t 0).val ∧ win0_9.index t 1 = 0) ∧ (win0_10.index t 0 = (grid0.coords t 0).val ∧ win0_10.index t 1 = 0)

theorem idx : ∀ t : Fin grid0.N, Idxs t := by decide +kernel

theorem iblk0 (t : Fin cfg0.N) (i : Fin 256) (k : Fin 2048) (T : Fin 8192) (hT : T.val = 256 * (grid0.coords t 0).val + i.val) :
    (iblk m c 0 t : FVec Ideal S256x2048 .bf16) (ix2 i k) = (V m c main_v6 : FVec Ideal S8192x2048 .bf16) (ix2 T k) := by
  obtain ⟨⟨h0, h1⟩, -⟩ := idx t
  blk_ext [iblk, h0, h1]

theorem iblk1 (t : Fin cfg0.N) (k d : Fin 2048) :
    (iblk m c 1 t : FVec Ideal S2048x2048 .bf16) (ix2 k d) = (V m c main_v7 : FVec Ideal S2048x2048 .bf16) (ix2 k d) := by
  obtain ⟨-, ⟨h0, h1⟩, -⟩ := idx t
  blk_ext [iblk, h0, h1]

theorem iblk2 (t : Fin cfg0.N) (i : Fin 256) (k : Fin 2048) (T : Fin 8192) (hT : T.val = 256 * (grid0.coords t 0).val + i.val) :
    (iblk m c 2 t : FVec Ideal S256x2048 .f32) (ix2 i k) = (V m c main_v8 : FVec Ideal S8192x2048 .f32) (ix2 T k) := by
  obtain ⟨-, -, ⟨h0, h1⟩, -⟩ := idx t
  blk_ext [iblk, h0, h1]

theorem iblk3 (t : Fin cfg0.N) (d : Fin 2048) :
    (iblk m c 3 t : FVec Ideal S1x2048 .f32) (ix2 (0 : Fin 1) d) = (V m c main_v9 : FVec Ideal S1x2048 .f32) (ix2 (0 : Fin 1) d) := by
  obtain ⟨-, -, -, ⟨h0, h1⟩, -⟩ := idx t
  blk_ext [iblk, h0, h1]

theorem iblk4 (t : Fin cfg0.N) (d : Fin 2048) :
    (iblk m c 4 t : FVec Ideal S1x2048 .f32) (ix2 (0 : Fin 1) d) = (V m c main_v10 : FVec Ideal S1x2048 .f32) (ix2 (0 : Fin 1) d) := by
  obtain ⟨-, -, -, -, ⟨h0, h1⟩, -⟩ := idx t
  blk_ext [iblk, h0, h1]

theorem iblk5 (t : Fin cfg0.N) (k : Fin 2048) (l : Fin 128) :
    (iblk m c 5 t : FVec Ideal S2048x128 .bf16) (ix2 k l) = (V m c main_v1 : FVec Ideal S2048x128 .bf16) (ix2 k l) := by
  obtain ⟨-, -, -, -, -, ⟨h0, h1⟩, -⟩ := idx t
  blk_ext [iblk, h0, h1]

theorem iblk6 (t : Fin cfg0.N) (l : Fin 128) :
    (iblk m c 6 t : FVec Ideal S1x128 .f32) (ix2 (0 : Fin 1) l) = (V m c main_v4 : FVec Ideal S1x128 .f32) (ix2 (0 : Fin 1) l) := by
  obtain ⟨-, -, -, -, -, -, ⟨h0, h1⟩, -⟩ := idx t
  blk_ext [iblk, h0, h1]

/-- A row's logits, from the arguments. -/
def logits (q : FVec Ideal S1x8192x2048 .f32) (w : FVec Ideal S2048x2048 .f32) (x : FVec Ideal S1x8192x2048 .f32) (g b : FVec Ideal S2048 .f32) (r : FVec Ideal S2048x32 .f32) (s : FVec Ideal S32 .f32) (t : Fin 8192) (a : Fin 32) : EReal :=
  logit (fun d => norm (row (fun k => x (ix3 (0 : Fin 1) t k)) (fun k => q (ix3 (0 : Fin 1) t k)) (fun k e => w (ix2 k e))) (g (ix1 d)) (b (ix1 d)) d) (fun k => r (ix2 k a)) (s (ix1 a))

def logitsAt (t : Fin 8192) : Fin 32 → EReal :=
  logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) t

/-- The results. -/
def result9 : IVec S8192x128 32 := fun y => picks (logitsAt m c (y 0)) (y 1)
def result10 : FVec Ideal S8192x128 .f32 := fun y => gates (logitsAt m c (y 0)) (y 1)

theorem tile_logits (t : Fin cfg0.N) (i : Fin 256) (T : Fin 8192) (hT : T.val = 256 * (grid0.coords t 0).val + i.val) (l : Fin 128) :
    k0_pay4 (k0_pay3 (iblk m c 0 t) (iblk m c 1 t) (iblk m c 2 t) (iblk m c 3 t) (iblk m c 4 t)) (iblk m c 5 t) (iblk m c 6 t) (ix2 i l) = wide (logitsAt m c T) l := by
  have hq : ∀ k : Fin 2048, (iblk m c 0 t : FVec Ideal S256x2048 .bf16) (ix2 i k) = (m ((c.tc : Thread nD τ).loc main_arg0) : FVec Ideal S1x8192x2048 .f32) (ix3 (0 : Fin 1) T k) := fun k => by
    rw [iblk0 m c t i k T hT, entry_q]; exact qA_entry _ _ _
  have hw : ∀ k d : Fin 2048, (iblk m c 1 t : FVec Ideal S2048x2048 .bf16) (ix2 k d) = (m ((c.tc : Thread nD τ).loc main_arg1) : FVec Ideal S2048x2048 .f32) (ix2 k d) := fun k d => by
    rw [iblk1 m c t k d, entry_w]; rfl
  have hx : ∀ k : Fin 2048, (iblk m c 2 t : FVec Ideal S256x2048 .f32) (ix2 i k) = (m ((c.tc : Thread nD τ).loc main_arg2) : FVec Ideal S1x8192x2048 .f32) (ix3 (0 : Fin 1) T k) := fun k => by
    rw [iblk2 m c t i k T hT, entry_x]; exact xA_entry _ _ _
  have hg : ∀ d : Fin 2048, (iblk m c 3 t : FVec Ideal S1x2048 .f32) (ix2 (0 : Fin 1) d) = (m ((c.tc : Thread nD τ).loc main_arg3) : FVec Ideal S2048 .f32) (ix1 d) := fun d => by
    rw [iblk3 m c t d, entry_g]; exact gA_entry _ _
  have hb : ∀ d : Fin 2048, (iblk m c 4 t : FVec Ideal S1x2048 .f32) (ix2 (0 : Fin 1) d) = (m ((c.tc : Thread nD τ).loc main_arg4) : FVec Ideal S2048 .f32) (ix1 d) := fun d => by
    rw [iblk4 m c t d, entry_b]; exact gA_entry _ _
  have hr : ∀ k : Fin 2048, (iblk m c 5 t : FVec Ideal S2048x128 .bf16) (ix2 k l) = if h : l.val < 32 then (m ((c.tc : Thread nD τ).loc main_arg5) : FVec Ideal S2048x32 .f32) (ix2 k ⟨l.val, h⟩) else (0 : EReal) := fun k => by
    rw [iblk5 m c t k l, entry_r]; exact rA_entry _ _ _
  have hs : (iblk m c 6 t : FVec Ideal S1x128 .f32) (ix2 (0 : Fin 1) l) = if h : l.val < 32 then (m ((c.tc : Thread nD τ).loc main_arg6) : FVec Ideal S32 .f32) (ix1 ⟨l.val, h⟩) else (⊥ : EReal) := by
    rw [iblk6 m c t l, entry_s]; exact sA_entry _ _
  rw [pay4_entry]
  simp only [pay3_entry, hq, hw, hx, hg, hb, hr, hs]
  unfold wide
  by_cases h : l.val < 32
  · simp only [dif_pos h]
    rfl
  · simp only [dif_neg h]
    unfold logit
    rw [EReal.add_bot]

variable (hL : ∀ t, Above (logitsAt m c t))

include hL in
theorem tile9_point (t : Fin cfg0.N) (z : S256x128.Idx) (y : S8192x128.Idx) (hT : (y 0).val = 256 * (grid0.coords t 0).val + (z 0).val) (hd : (y 1).val = (z 1).val) :
    out0_9 (iblk m c 0 t) (iblk m c 1 t) (iblk m c 2 t) (iblk m c 3 t) (iblk m c 4 t) (iblk m c 5 t) (iblk m c 6 t) z = result9 m c y := by
  obtain ⟨i, d, rfl⟩ : ∃ (i : Fin 256) (d : Fin 128), z = ix2 i d := ⟨z 0, z 1, eq_ix2 (n0 := 256) (n1 := 128) z⟩
  have hd' : d = y 1 := Fin.ext hd.symm
  subst hd'
  exact out9_entry _ _ _ _ _ _ _ i (y 1) (hL (y 0)) (tile_logits m c t i (y 0) hT)

include hL in
theorem tile10_point (t : Fin cfg0.N) (z : S256x128.Idx) (y : S8192x128.Idx) (hT : (y 0).val = 256 * (grid0.coords t 0).val + (z 0).val) (hd : (y 1).val = (z 1).val) :
    out0_10 (iblk m c 0 t) (iblk m c 1 t) (iblk m c 2 t) (iblk m c 3 t) (iblk m c 4 t) (iblk m c 5 t) (iblk m c 6 t) z = result10 m c y := by
  obtain ⟨i, d, rfl⟩ : ∃ (i : Fin 256) (d : Fin 128), z = ix2 i d := ⟨z 0, z 1, eq_ix2 (n0 := 256) (n1 := 128) z⟩
  have hd' : d = y 1 := Fin.ext hd.symm
  subst hd'
  exact out10_entry _ _ _ _ _ _ _ i (y 1) (hL (y 0)) (tile_logits m c t i (y 0) hT)

include hL in
theorem arr9_eq : (dats m 0 c).arrAt 9 cfg0.N = result9 m c := by
  refine (dats m 0 c).arrAt_eq_of_covers 9 _ (by decide +kernel) fun t hf y => ?_
  obtain ⟨-, -, -, -, -, -, -, ⟨h0, h1⟩, ⟨h0', h1'⟩⟩ := idx t
  have k0 : ((((cfg0.win 9).blk t).view.emb y) 0 : ℕ) = 256 * (grid0.coords t 0).val + (y 0).val := by
    blk_simp [h0, h0']
    omega
  have k1 : ((((cfg0.win 9).blk t).view.emb y) 1 : ℕ) = (y 1).val := by
    blk_simp [h1, h1']
  rw [after0_9]
  generalize hG : result9 m c = G
  generalize hE : ((cfg0.win 9).blk t).view.emb y = e at k0 k1 ⊢
  blk_simp
  subst hG
  exact tile9_point m c hL t y _ k0 k1

include hL in
theorem arr10_eq : (dats m 0 c).arrAt 10 cfg0.N = result10 m c := by
  refine (dats m 0 c).arrAt_eq_of_covers 10 _ (by decide +kernel) fun t hf y => ?_
  obtain ⟨-, -, -, -, -, -, -, ⟨h0, h1⟩, ⟨h0', h1'⟩⟩ := idx t
  have k0 : ((((cfg0.win 10).blk t).view.emb y) 0 : ℕ) = 256 * (grid0.coords t 0).val + (y 0).val := by
    blk_simp [h0, h0']
    omega
  have k1 : ((((cfg0.win 10).blk t).view.emb y) 1 : ℕ) = (y 1).val := by
    blk_simp [h1, h1']
  rw [after0_10]
  generalize hG : result10 m c = G
  generalize hE : ((cfg0.win 10).blk t).view.emb y = e at k0 k1 ⊢
  blk_simp
  subst hG
  exact tile10_point m c hL t y _ k0 k1

end Cert.RouterIdeal.Prj

namespace Cert.RouterReferenceIdeal.Prj

open Cert.RouterReferenceIdeal Cert.RouterReferenceIdeal.Gen Cert.OutVal Cert.RouterVal
open Idealize.ShloMosaic Idealize.ShloMosaic.TcCoe Idealize.ShloMosaic.Tactic

/-- The logits. -/
def lg (y : FVec Ideal S8192x2048 .f32) (r : FVec Ideal S2048x32 .f32) (s : FVec Ideal S32 .f32) : FVec Ideal S8192x32 .f32 :=
  addf (Host.dotGeneral dot_S8192x2048_S2048x32_S8192x32_1_0_0_1_n_n none y r) (broadcastInDim S8192x32 ![0, 1] bcast_S1x32_S8192x32_0_1 (broadcastInDim S1x32 ![1] bcast_S32_S1x32_1 s))

theorem lg_entry (y : FVec Ideal S8192x2048 .f32) (r : FVec Ideal S2048x32 .f32) (s : FVec Ideal S32 .f32) (t : Fin 8192) (a : Fin 32) :
    lg y r s (ix2 t a) = logit (fun k => y (ix2 t k)) (fun k => r (ix2 k a)) (s (ix1 a)) := by
  pointwise [lg]
  rfl

/-- The greatest four and their lanes. -/
def vals (x : FVec Ideal S8192x32 .f32) : FVec Ideal S8192x4 .f32 := (Host.topK S8192x4 1 (FloatOps.cmpfTotal .gt) x sliceFits_S8192x32_S8192x4).1
def inds (x : FVec Ideal S8192x32 .f32) : IVec S8192x4 32 := (Host.topK S8192x4 1 (FloatOps.cmpfTotal .gt) x sliceFits_S8192x32_S8192x4).2

def wd (k : Fin 4) : Fin 32 := ⟨k.val, by omega⟩

theorem along_eq (t : Fin 8192) (b a : Fin 32) : (ix2 t b : S8192x32.Idx).along 1 a = ix2 t a := by
  funext d
  match d with
  | ⟨0, _⟩ => rfl
  | ⟨1, _⟩ => rfl

theorem sliced {α : Type} (y : S8192x32.Idx → α) (t : Fin 8192) (k : Fin 4) :
    extractStridedSlice S8192x4 (fun _ => 0) y sliceFits_S8192x32_S8192x4 (ix2 t k) = y (ix2 t (wd k)) := by
  refine extractStridedSlice_apply _ y _ _ _ fun d => ?_
  match d with
  | ⟨0, _⟩ => simp
  | ⟨1, _⟩ => simp [wd]

theorem sorted_at (x : FVec Ideal S8192x32 .f32) (t : Fin 8192) (b : Fin 32) :
    sortedFrom (fun k k' : Fin 32 => FloatOps.cmpfTotal (F := Ideal) (φ := .f32) .gt (x ((ix2 t b : S8192x32.Idx).along 1 k)) (x ((ix2 t b : S8192x32.Idx).along 1 k')) == 1#1) b = order (fun a => x (ix2 t a)) b := by
  have e : ∀ a : Fin 32, x ((ix2 t b : S8192x32.Idx).along 1 a) = x (ix2 t a) := fun a => congrArg x (along_eq t b a)
  unfold order
  exact congrFun (congrArg sortedFrom (funext fun k => funext fun k' => by rw [e, e])) b

theorem vals_entry (x : FVec Ideal S8192x32 .f32) (t : Fin 8192) (k : Fin 4) : vals x (ix2 t k) = x (ix2 t (order (fun a => x (ix2 t a)) (wd k))) := by
  show extractStridedSlice S8192x4 (fun _ => 0) (fun j : S8192x32.Idx => x (j.along 1 (sortedFrom (fun k k' => FloatOps.cmpfTotal (F := Ideal) (φ := .f32) .gt (x (j.along 1 k)) (x (j.along 1 k')) == 1#1) (j 1)))) sliceFits_S8192x32_S8192x4 (ix2 t k) = _
  rw [sliced]
  refine (congrArg (fun z : Fin 32 => x ((ix2 t (wd k) : S8192x32.Idx).along 1 z)) (sorted_at x t (wd k))).trans ?_
  exact congrArg x (along_eq t (wd k) _)

theorem inds_entry (x : FVec Ideal S8192x32 .f32) (t : Fin 8192) (k : Fin 4) : inds x (ix2 t k) = BitVec.ofNat 32 (order (fun a => x (ix2 t a)) (wd k)).val := by
  show extractStridedSlice S8192x4 (fun _ => 0) (fun j : S8192x32.Idx => BitVec.ofNat 32 ((j.along 1 (sortedFrom (fun k k' => FloatOps.cmpfTotal (F := Ideal) (φ := .f32) .gt (x (j.along 1 k)) (x (j.along 1 k')) == 1#1) (j 1))) 1).val) sliceFits_S8192x32_S8192x4 (ix2 t k) = _
  rw [sliced]
  refine (congrArg (fun z : Fin 32 => BitVec.ofNat 32 ((ix2 t (wd k) : S8192x32.Idx).along 1 z 1).val) (sorted_at x t (wd k))).trans ?_
  exact congrArg (fun z : S8192x32.Idx => BitVec.ofNat 32 (z 1).val) (along_eq t (wd k) _)

/-- Their softmax. -/
def sft (v : FVec Ideal S8192x4 .f32) : FVec Ideal S8192x4 .f32 :=
  Host.exp (subf v (broadcastInDim S8192x4 ![0, 1] bcast_S8192x1_S8192x4_0_1 (broadcastInDim S8192x1 ![0] bcast_S8192_S8192x1_0 (maximumf (broadcastInDim S8192 ![] bcast_S_S8192 (constant S_ .f32 0xFF800000#32)) (Host.reduce FloatOps.maximumf v (constant S_ .f32 0xFF800000#32) reducesTo_S8192x4_S8192_d1 h_S_)))))
def quo (e : FVec Ideal S8192x4 .f32) : FVec Ideal S8192x4 .f32 :=
  Host.divf e (broadcastInDim S8192x4 ![0, 1] bcast_S8192x1_S8192x4_0_1 (broadcastInDim S8192x1 ![0] bcast_S8192_S8192x1_0 (Host.reduceAdd e (constant S_ .f32 0x00000000#32) reducesTo_S8192x4_S8192_d1 h_S_)))

theorem sft_entry (v : FVec Ideal S8192x4 .f32) (t : Fin 8192) (k : Fin 4) (h : ∀ x, v (ix2 t x) ≤ v (ix2 t (0 : Fin 4))) :
    sft v (ix2 t k) = Ideal.exp (v (ix2 t k) - v (ix2 t (0 : Fin 4)) : EReal) := by
  have e : max (Ideal.ofBits FTy.f32 4286578688#32) (Finset.fold max (Ideal.ofBits FTy.f32 4286578688#32) (fun x : Fin 4 => v (ix2 t x)) Finset.univ) = (v (ix2 t (0 : Fin 4)) : EReal) := by
    rw [bottom, max_eq_right bot_le]
    exact le_antisymm ((Finset.fold_max_le _).2 ⟨bot_le, fun l _ => h l⟩) ((Finset.le_fold_max _).2 (Or.inr ⟨0, Finset.mem_univ _, le_rfl⟩))
  pointwise [sft]
  rw [e]
theorem quo_entry (v : FVec Ideal S8192x4 .f32) (t : Fin 8192) (k : Fin 4) :
    quo v (ix2 t k) = Ideal.div (v (ix2 t k)) (v (ix2 t (0 : Fin 4)) + v (ix2 t (1 : Fin 4)) + v (ix2 t (2 : Fin 4)) + v (ix2 t (3 : Fin 4)) : EReal) := by
  pointwise [quo]
  rw [Fin.sum_univ_four]

def padI (v : IVec S8192x4 32) : IVec S8192x128 32 := pad S8192x128 ![0, 0] ![0, 124] ![0, 0] v (constantI S_ 32 0#32) pads_S8192x4_S8192x128_000_01240 h_S_
def padF (v : FVec Ideal S8192x4 .f32) : FVec Ideal S8192x128 .f32 := pad S8192x128 ![0, 0] ![0, 124] ![0, 0] v (sitofp .f32 (constantI S_ 32 0#32)) pads_S8192x4_S8192x128_000_01240 h_S_

theorem padI_entry (v : IVec S8192x4 32) (t : Fin 8192) (l : Fin 128) : padI v (ix2 t l) = if h : l.val < 4 then v (ix2 t ⟨l.val, h⟩) else 0#32 := by
  pointwise [padI]
theorem padF_entry (v : FVec Ideal S8192x4 .f32) (t : Fin 8192) (l : Fin 128) : padF v (ix2 t l) = if h : l.val < 4 then v (ix2 t ⟨l.val, h⟩) else (0 : EReal) := by
  pointwise [padF]
  rw [zero_word]

variable (x : FVec Ideal S8192x32 .f32) (t : Fin 8192)

theorem picks_at (l : Fin 128) : padI (inds x) (ix2 t l) = picks (fun a => x (ix2 t a)) l := by
  rw [padI_entry]
  unfold picks
  by_cases h : l.val < 4
  · rw [dif_pos h, dif_pos h, inds_entry]
    rfl
  · rw [dif_neg h, dif_neg h]

theorem share_at (k : Fin 4) : sft (vals x) (ix2 t k) = share (fun a => x (ix2 t a)) (wd k) := by
  have h : ∀ y, vals x (ix2 t y) ≤ vals x (ix2 t (0 : Fin 4)) := fun y => by
    rw [vals_entry, vals_entry]
    rcases Fin.eq_zero_or_eq_succ y with rfl | ⟨z, rfl⟩
    · exact le_rfl
    · exact (order_sorted (fun a => x (ix2 t a))).le (wd 0) (wd z.succ) (Nat.succ_pos _)
  rw [sft_entry _ t k h, vals_entry, vals_entry]
  rfl

theorem gates_at (l : Fin 128) : padF (quo (sft (vals x))) (ix2 t l) = gates (fun a => x (ix2 t a)) l := by
  rw [padF_entry]
  unfold gates
  by_cases h : l.val < 4
  · rw [dif_pos h, dif_pos h, quo_entry, share_at, share_at, share_at, share_at, share_at]
    rfl
  · rw [dif_neg h, dif_neg h, zero_bits]

/-- The logits, from the arguments. -/
def lgs (q : FVec Ideal S1x8192x2048 .f32) (w : FVec Ideal S2048x2048 .f32) (x : FVec Ideal S1x8192x2048 .f32) (g b : FVec Ideal S2048 .f32) (r : FVec Ideal S2048x32 .f32) (s : FVec Ideal S32 .f32) : FVec Ideal S8192x32 .f32 :=
  lg (Cert.OutReferenceIdeal.Prj.normed (Cert.OutReferenceIdeal.Prj.cen (Cert.OutReferenceIdeal.Prj.pre q w x)) g b) r s

theorem lgs_entry (q : FVec Ideal S1x8192x2048 .f32) (w : FVec Ideal S2048x2048 .f32) (x : FVec Ideal S1x8192x2048 .f32) (g b : FVec Ideal S2048 .f32) (r : FVec Ideal S2048x32 .f32) (s : FVec Ideal S32 .f32) (t : Fin 8192) :
    (fun a => lgs q w x g b r s (ix2 t a)) = Cert.RouterIdeal.Prj.logits q w x g b r s t := by
  funext a
  refine (lg_entry _ r s t a).trans ?_
  unfold Cert.RouterIdeal.Prj.logits
  refine congrArg (fun y => logit y (fun k => r (ix2 k a)) (s (ix1 a))) (funext fun d => ?_)
  exact Cert.OutReferenceIdeal.Prj.result_entry q w x g b t d

variable (m : (ℓ : Loc nD τ sig) → Buf (Elt Ideal) ℓ) (c : Dev nD)

def lgsAt : FVec Ideal S8192x32 .f32 :=
  lgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem res0_eq : (Cert.RouterReferenceIdeal.Value.res_out0 m c : IVec S8192x128 32) = padI (inds (lgsAt m c)) := by
  unfold_abbrev_sides
  unfold Cert.RouterReferenceIdeal.Value.res_main_v44
  rfl
theorem res1_eq : (Cert.RouterReferenceIdeal.Value.res_out1 m c : FVec Ideal S8192x128 .f32) = padF (quo (sft (vals (lgsAt m c)))) := by
  unfold_abbrev_sides
  unfold Cert.RouterReferenceIdeal.Value.res_main_v45
  rfl

end Cert.RouterReferenceIdeal.Prj

namespace Cert.RouterVal

open Idealize.ShloMosaic Idealize.ShloMosaic.TcCoe Idealize.ShloMosaic.Tactic

instance above_facts : Cert.Pre_above_bottom.Facts := by constructor <;> decide

/-- What the precondition says: a row's greatest four logits are above the bottom. -/
theorem above_entry (q : FVec Ideal Cert.Pre_above_bottom.S1x8192x2048 .f32) (w : FVec Ideal Cert.Pre_above_bottom.S2048x2048 .f32) (x : FVec Ideal Cert.Pre_above_bottom.S1x8192x2048 .f32) (g b : FVec Ideal Cert.Pre_above_bottom.S2048 .f32) (r : FVec Ideal Cert.Pre_above_bottom.S2048x32 .f32) (s : FVec Ideal Cert.Pre_above_bottom.S32 .f32)
    (hp : Cert.Pre_above_bottom.fn (F := Ideal) q w x g b r s = fun _ => 1#1) (t : Fin 8192) : Cert.RouterIdeal.Prj.Above (Cert.RouterIdeal.Prj.logits q w x g b r s t) := by
  have e : Cert.Pre_above_bottom.fn (F := Ideal) q w x g b r s
      = cmpf .ogt (Cert.RouterReferenceIdeal.Prj.vals (Cert.RouterReferenceIdeal.Prj.lgs q w x g b r s)) (broadcastInDim Cert.Pre_above_bottom.S8192x4 ![] Cert.Pre_above_bottom.Facts.bcast_S_S8192x4 (constant Cert.Pre_above_bottom.S_ .f32 0xFF800000#32)) := rfl
  intro k hk
  have h1 := congrFun (e.symm.trans hp) (ix2 t (⟨k.val, hk⟩ : Fin 4))
  rw [← Cert.RouterReferenceIdeal.Prj.lgs_entry q w x g b r s t]
  have h2 := Cert.RouterReferenceIdeal.Prj.vals_entry (Cert.RouterReferenceIdeal.Prj.lgs q w x g b r s) t ⟨k.val, hk⟩
  intro h3
  replace h2 := h2.trans h3
  generalize Cert.RouterReferenceIdeal.Prj.vals (Cert.RouterReferenceIdeal.Prj.lgs q w x g b r s) = z at h1 h2
  revert h1
  pointwise []
  rw [bottom, h2]
  simp

end Cert.RouterVal

end
-- ==== Proof.HeadsIdealFrame.lean ====
/- The projections of the idealized program to queries, keys and values: one grid point run once for each value of the flag its column block
   carries, and the program as a whole from it. -/
module

public import proofs.«01_k».proof.Proof.Gen.HeadsIdeal.Launch
public import proofs.«01_k».proof.Proof.Gen.HeadsIdeal.Flash
public import proofs.«01_k».proof.Proof.Gen.HeadsIdeal.Skeleton
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.WordCmp
public import Idealize.ShloMosaic.Lib.StableHlo.RunRead
public import Idealize.ShloMosaic.Lib.Pipeline.ValueKit.Point
public import Idealize.ShloMosaic.Lib.Tactic.CleanTypes

@[expose] public section

set_option maxRecDepth 16384

noncomputable section

namespace Cert.HeadsIdeal.Hd

open Cert.HeadsIdeal Cert.HeadsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves in its two result buffers -/

abbrev rI0 : Rect S512x2048 := Rect.unit (s := S512x2048) ![0, 0] S512x2048.size inb_S512x2048_S512x2048_0_0
abbrev rI1 : Rect S2048x512 := Rect.unit (s := S2048x512) ![0, 0] S2048x512.size inb_S2048x512_S2048x512_0_0
abbrev rI2 : Rect S512x128 := Rect.unit (s := S512x128) ![0, 0] S512x128.size inb_S512x128_S512x128_0_0
abbrev rO0 : Rect S512x512 := Rect.unit (s := S512x512) ![0, 0] S512x128.size inb_S512x512_S512x128_0_0
abbrev rO1 : Rect S512x512 := Rect.unit (s := S512x512) ![0, 128] S512x128.size inb_S512x512_S512x128_0_128
abbrev rO2 : Rect S512x512 := Rect.unit (s := S512x512) ![0, 256] S512x128.size inb_S512x512_S512x128_0_256
abbrev rO3 : Rect S512x512 := Rect.unit (s := S512x512) ![0, 384] S512x128.size inb_S512x512_S512x128_0_384
abbrev rT00 : Rect S2x512x256 := Rect.unit (s := S2x512x256) ![0, 0, 0] S1x128x256.size inb_S2x512x256_S1x128x256_0_0_0
abbrev rT01 : Rect S2x512x256 := Rect.unit (s := S2x512x256) ![0, 128, 0] S1x128x256.size inb_S2x512x256_S1x128x256_0_128_0
abbrev rT02 : Rect S2x512x256 := Rect.unit (s := S2x512x256) ![0, 256, 0] S1x128x256.size inb_S2x512x256_S1x128x256_0_256_0
abbrev rT03 : Rect S2x512x256 := Rect.unit (s := S2x512x256) ![0, 384, 0] S1x128x256.size inb_S2x512x256_S1x128x256_0_384_0
abbrev rT10 : Rect S2x512x256 := Rect.unit (s := S2x512x256) ![1, 0, 0] S1x128x256.size inb_S2x512x256_S1x128x256_1_0_0
abbrev rT11 : Rect S2x512x256 := Rect.unit (s := S2x512x256) ![1, 128, 0] S1x128x256.size inb_S2x512x256_S1x128x256_1_128_0
abbrev rT12 : Rect S2x512x256 := Rect.unit (s := S2x512x256) ![1, 256, 0] S1x128x256.size inb_S2x512x256_S1x128x256_1_256_0
abbrev rT13 : Rect S2x512x256 := Rect.unit (s := S2x512x256) ![1, 384, 0] S1x128x256.size inb_S2x512x256_S1x128x256_1_384_0

/-- The rows of a rotated block. -/
def turnedRows (x0 : Vec F S512x2048 .bf16) (x1 : Vec F S2048x512 .bf16) (x2 : Vec F S512x128 .f32) (x3 : Vec F S512x128 .f32) (x4 : Vec F S512x128 .f32) : Vec F S512x512 .bf16 :=
  View.canon [⟨rO3, k0_pay3 (k0_pay13 (View.ld x3 rI2)) (k0_pay14 (View.ld x4 rI2)) (k0_pay27 (k0_pay1 (View.ld x0 rI0) (View.ld x1 rI1))) (k0_pay28 (k0_pay1 (View.ld x0 rI0) (View.ld x1 rI1)) (k0_pay12 (View.ld x2 rI2))) 120#32⟩,
    ⟨rO2, k0_pay24 (k0_pay1 (View.ld x0 rI0) (View.ld x1 rI1)) (k0_pay12 (View.ld x2 rI2)) (k0_pay13 (View.ld x3 rI2)) (k0_pay14 (View.ld x4 rI2))⟩,
    ⟨rO1, k0_pay20 (k0_pay1 (View.ld x0 rI0) (View.ld x1 rI1)) (View.ld x2 rI2) (View.ld x3 rI2) (View.ld x4 rI2)⟩,
    ⟨rO0, k0_pay16 (k0_pay1 (View.ld x0 rI0) (View.ld x1 rI1)) (View.ld x2 rI2) (View.ld x3 rI2) (View.ld x4 rI2)⟩]

/-- The transposed tiles of a rotated block. -/
def turnedTiles (x0 : Vec F S512x2048 .bf16) (x1 : Vec F S2048x512 .bf16) (x2 : Vec F S512x128 .f32) (x3 : Vec F S512x128 .f32) (x4 : Vec F S512x128 .f32) : Vec F S2x512x256 .bf16 :=
  View.canon [⟨rT13, k0_pay5 (k0_pay13 (View.ld x3 rI2)) (k0_pay14 (View.ld x4 rI2)) (k0_pay27 (k0_pay1 (View.ld x0 rI0) (View.ld x1 rI1))) (k0_pay28 (k0_pay1 (View.ld x0 rI0) (View.ld x1 rI1)) (k0_pay12 (View.ld x2 rI2))) 120#32⟩,
    ⟨rT03, k0_pay4 (k0_pay13 (View.ld x3 rI2)) (k0_pay14 (View.ld x4 rI2)) (k0_pay27 (k0_pay1 (View.ld x0 rI0) (View.ld x1 rI1))) (k0_pay28 (k0_pay1 (View.ld x0 rI0) (View.ld x1 rI1)) (k0_pay12 (View.ld x2 rI2))) 120#32⟩,
    ⟨rT12, k0_pay26 (k0_pay1 (View.ld x0 rI0) (View.ld x1 rI1)) (k0_pay12 (View.ld x2 rI2)) (k0_pay13 (View.ld x3 rI2)) (k0_pay14 (View.ld x4 rI2))⟩,
    ⟨rT02, k0_pay25 (k0_pay1 (View.ld x0 rI0) (View.ld x1 rI1)) (k0_pay12 (View.ld x2 rI2)) (k0_pay13 (View.ld x3 rI2)) (k0_pay14 (View.ld x4 rI2))⟩,
    ⟨rT11, k0_pay22 (k0_pay19 (k0_pay1 (View.ld x0 rI0) (View.ld x1 rI1)) (View.ld x2 rI2) (View.ld x3 rI2) (View.ld x4 rI2))⟩,
    ⟨rT01, k0_pay21 (k0_pay19 (k0_pay1 (View.ld x0 rI0) (View.ld x1 rI1)) (View.ld x2 rI2) (View.ld x3 rI2) (View.ld x4 rI2))⟩,
    ⟨rT10, k0_pay18 (k0_pay1 (View.ld x0 rI0) (View.ld x1 rI1)) (View.ld x2 rI2) (View.ld x3 rI2) (View.ld x4 rI2)⟩,
    ⟨rT00, k0_pay17 (k0_pay1 (View.ld x0 rI0) (View.ld x1 rI1)) (View.ld x2 rI2) (View.ld x3 rI2) (View.ld x4 rI2)⟩]

/-- The rows of a block left as it is. -/
def plainRows (x0 : Vec F S512x2048 .bf16) (x1 : Vec F S2048x512 .bf16) : Vec F S512x512 .bf16 :=
  View.canon [⟨rO3, k0_pay9 (View.ld x0 rI0) (View.ld x1 rI1)⟩,
    ⟨rO2, k0_pay38 (k0_pay1 (View.ld x0 rI0) (View.ld x1 rI1))⟩,
    ⟨rO1, k0_pay34 (k0_pay1 (View.ld x0 rI0) (View.ld x1 rI1))⟩,
    ⟨rO0, k0_pay30 (k0_pay1 (View.ld x0 rI0) (View.ld x1 rI1))⟩]

/-- The transposed tiles of a block left as it is. -/
def plainTiles (x0 : Vec F S512x2048 .bf16) (x1 : Vec F S2048x512 .bf16) : Vec F S2x512x256 .bf16 :=
  View.canon [⟨rT13, k0_pay11 (View.ld x0 rI0) (View.ld x1 rI1)⟩,
    ⟨rT03, k0_pay10 (View.ld x0 rI0) (View.ld x1 rI1)⟩,
    ⟨rT12, k0_pay7 (k0_pay37 (k0_pay1 (View.ld x0 rI0) (View.ld x1 rI1)))⟩,
    ⟨rT02, k0_pay6 (k0_pay39 (k0_pay1 (View.ld x0 rI0) (View.ld x1 rI1)))⟩,
    ⟨rT11, k0_pay36 (k0_pay1 (View.ld x0 rI0) (View.ld x1 rI1))⟩,
    ⟨rT01, k0_pay35 (k0_pay1 (View.ld x0 rI0) (View.ld x1 rI1))⟩,
    ⟨rT10, k0_pay32 (k0_pay1 (View.ld x0 rI0) (View.ld x1 rI1))⟩,
    ⟨rT00, k0_pay31 (k0_pay1 (View.ld x0 rI0) (View.ld x1 rI1))⟩]

/-- Four stores side by side cover the rows. -/
theorem coverRows (p0 p1 p2 p3 : Vec F S512x128 .bf16) (y : S512x512.Idx) :
    ∃ pc ∈ ([⟨rO3, p0⟩, ⟨rO2, p1⟩, ⟨rO1, p2⟩, ⟨rO0, p3⟩] : List (View.Piece (Elt F) S512x512 .bf16)), y ∈ pc.1.set :=
  View.cover_of_tiled [⟨rO3, p0⟩, ⟨rO2, p1⟩, ⟨rO1, p2⟩, ⟨rO0, p3⟩] S512x128.size (by rfl) y

/-- Eight stores cover the tiles. -/
theorem coverTiles (p0 p1 p2 p3 p4 p5 p6 p7 : Vec F S1x128x256 .bf16) (y : S2x512x256.Idx) :
    ∃ pc ∈ ([⟨rT13, p0⟩, ⟨rT03, p1⟩, ⟨rT12, p2⟩, ⟨rT02, p3⟩, ⟨rT11, p4⟩, ⟨rT01, p5⟩, ⟨rT10, p6⟩, ⟨rT00, p7⟩] : List (View.Piece (Elt F) S2x512x256 .bf16)), y ∈ pc.1.set :=
  View.cover_of_tiled [⟨rT13, p0⟩, ⟨rT03, p1⟩, ⟨rT12, p2⟩, ⟨rT02, p3⟩, ⟨rT11, p4⟩, ⟨rT01, p5⟩, ⟨rT10, p6⟩, ⟨rT00, p7⟩] S1x128x256.size (by rfl) y

/-! ## The body at one point -/

set_option maxHeartbeats 1000000 in
/-- The point of a block the flag says to rotate. -/
theorem run_turned (c : Dev nD) (E : Set ℕ) (i : grid0.Coords) (arg2 : Memref sig .tc .smem S7 .i32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S2x512x256 .bf16) (harg9 : arg9.IsWhole)
    (x0 : Vec F S512x2048 .bf16) (x1 : Vec F S2048x512 .bf16) (x2 : Vec F S512x128 .f32) (x3 : Vec F S512x128 .f32) (x4 : Vec F S512x128 .f32) (tb : BufTy.Contents (Elt F) arg2.view.ty)
    (h1 : k0_cond1 ((arg2.access (Rect.unit (s := S7) (k0_off1 i) S1.size (k0_off1_inb i))).read (Elt F) tb (Shape.Idx.first (numel1_S1.symm ▸ Nat.one_pos))) = 1#1)
    (h2 : ¬ k0_cond2 ((arg2.access (Rect.unit (s := S7) (k0_off2 i) S1.size (k0_off2_inb i))).read (Elt F) tb (Shape.Idx.first (numel1_S1.symm ▸ Nat.one_pos))) = 1#1)
    (K : PUnit → sProp 𝕄) :
    iprop((arg2.view.loc (c : Thread nD τ) ↦[arg2.view.set]{fullShare.right} tb) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop((arg2.view.loc (c : Thread nD τ) ↦[arg2.view.set]{fullShare.right} tb) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (turnedRows x0 x1 x2 x3 x4) ∗ owns (c : Thread nD τ) arg9 fullShare (turnedTiles x0 x1 x2 x3 x4)) -∗ K ⟨⟩))
      ⊢ wp frame (wpE (defs₀ (F := F)) Variants.none c none) E (cc0_proj_attention i arg2 harg2 arg3 harg3 arg4 harg4 arg5 harg5 arg6 harg6 arg7 harg7 arg8 harg8 arg9 harg9) K := by
  simp only [cc0_proj_attention_eq_skeleton]; unfold cc0_proj_attention_skel
  simp only [k0_part1_eq_skeleton, k0_part2_eq_skeleton, k0_part3_eq_skeleton]
  unfold owns
  iintro ⟨HT, ⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | exact h1 | exact h2)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverRows _ _ _ _)).trans ?_
    rfl
  iexists _; isplitr
  swap; · iexact H6
  ipureintro
  refine (View.read_writes_eq_canon _ _ _ (coverTiles _ _ _ _ _ _ _ _)).trans ?_
  rfl

set_option maxHeartbeats 1000000 in
/-- The point of a block the flag says to leave. -/
theorem run_plain (c : Dev nD) (E : Set ℕ) (i : grid0.Coords) (arg2 : Memref sig .tc .smem S7 .i32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S2x512x256 .bf16) (harg9 : arg9.IsWhole)
    (x0 : Vec F S512x2048 .bf16) (x1 : Vec F S2048x512 .bf16) (x2 : Vec F S512x128 .f32) (x3 : Vec F S512x128 .f32) (x4 : Vec F S512x128 .f32) (tb : BufTy.Contents (Elt F) arg2.view.ty)
    (h1 : ¬ k0_cond1 ((arg2.access (Rect.unit (s := S7) (k0_off1 i) S1.size (k0_off1_inb i))).read (Elt F) tb (Shape.Idx.first (numel1_S1.symm ▸ Nat.one_pos))) = 1#1)
    (h2 : k0_cond2 ((arg2.access (Rect.unit (s := S7) (k0_off2 i) S1.size (k0_off2_inb i))).read (Elt F) tb (Shape.Idx.first (numel1_S1.symm ▸ Nat.one_pos))) = 1#1)
    (K : PUnit → sProp 𝕄) :
    iprop((arg2.view.loc (c : Thread nD τ) ↦[arg2.view.set]{fullShare.right} tb) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop((arg2.view.loc (c : Thread nD τ) ↦[arg2.view.set]{fullShare.right} tb) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (plainRows x0 x1) ∗ owns (c : Thread nD τ) arg9 fullShare (plainTiles x0 x1)) -∗ K ⟨⟩))
      ⊢ wp frame (wpE (defs₀ (F := F)) Variants.none c none) E (cc0_proj_attention i arg2 harg2 arg3 harg3 arg4 harg4 arg5 harg5 arg6 harg6 arg7 harg7 arg8 harg8 arg9 harg9) K := by
  simp only [cc0_proj_attention_eq_skeleton]; unfold cc0_proj_attention_skel
  simp only [k0_part1_eq_skeleton, k0_part2_eq_skeleton, k0_part3_eq_skeleton]
  unfold owns
  iintro ⟨HT, ⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | exact h1 | exact h2)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverRows _ _ _ _)).trans ?_
    rfl
  iexists _; isplitr
  swap; · iexact H6
  ipureintro
  refine (View.read_writes_eq_canon _ _ _ (coverTiles _ _ _ _ _ _ _ _)).trans ?_
  rfl

/-! ## The flags -/

/-- The table of flags, one word for each block of columns. -/
def tab : BufTy.Contents (Elt F) (Memref.whole main_c : Memref sig .tc .smem S7 .i32).view.ty := fun i => lit0 (S7.rowMajor i)

/-- The tables the launch is handed. -/
def tabs : pre0.Contents (Elt F) := fun k => match k with | ⟨0, _⟩ => tab

/-- Nothing is asked of them. -/
def adm : (p : Fin 1) → (pcfgs (F := F) p).Adm := fun _ => ⟨tabs, trivial⟩

theorem word1 (i : grid0.Coords) : ((Memref.whole main_c).access (Rect.unit (s := S7) (k0_off1 i) S1.size (k0_off1_inb i))).read (Elt F) tab (Shape.Idx.first (numel1_S1.symm ▸ Nat.one_pos)) = lit0 (i 0) := by
  have h : ∀ i : grid0.Coords, (S7.rowMajor ((Rect.unit (s := S7) (k0_off1 i) S1.size (k0_off1_inb i)).idx (Shape.Idx.first (numel1_S1.symm ▸ Nat.one_pos)))).val = (i 0).val := by decide +kernel
  exact congrArg lit0 (Fin.ext (h i))
theorem word2 (i : grid0.Coords) : ((Memref.whole main_c).access (Rect.unit (s := S7) (k0_off2 i) S1.size (k0_off2_inb i))).read (Elt F) tab (Shape.Idx.first (numel1_S1.symm ▸ Nat.one_pos)) = lit0 (i 0) := by
  have h : ∀ i : grid0.Coords, (S7.rowMajor ((Rect.unit (s := S7) (k0_off2 i) S1.size (k0_off2_inb i)).idx (Shape.Idx.first (numel1_S1.symm ▸ Nat.one_pos)))).val = (i 0).val := by decide +kernel
  exact congrArg lit0 (Fin.ext (h i))

theorem cond_of_one (v : BitVec 32) (h : v = 1#32) : k0_cond1 v = 1#1 ∧ ¬ k0_cond2 v = 1#1 := by subst h; decide
theorem cond_of_zero (v : BitVec 32) (h : v = 0#32) : ¬ k0_cond1 v = 1#1 ∧ k0_cond2 v = 1#1 := by subst h; decide
theorem flag_or (j : Fin 7) : ¬ lit0 j = 1#32 → lit0 j = 0#32 := by revert j; decide

/-! ## The launch -/

variable (m : (ℓ : Loc nD τ sig) → Buf (Elt F) ℓ) (ρ : Dev nD → PrngReg)

/-- What a buffer holds when the kernel is entered: what the operations before it leave. -/
abbrev V (c : Dev nD) (b : Ref sig .tc) : Buf (Elt F) ((c : Thread nD τ).loc b) :=
  StableHlo.after hostOps0 (fun b => m (c, b)) b

theorem fresh0 : (hostOps0 : List (HloOp τ sig (Elt F))).Forall fun op => op.fresh = ∅ := by
  simp only [List.Forall]; repeat' constructor

set_option maxHeartbeats 800000 in
theorem upto (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

theorem kept0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem kept1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem kept2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem kept3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The flags reach the kernel as written. -/
theorem flags_kept (c : Dev nD) : V m c main_c = tab := by
  unfold_abbrev_sides
  after_reads_simp
  rfl

/-- A window's block at a point. -/
def iblk (c : Dev nD) (w : Fin 7) (t : Fin grid0.N) : (((cfg0 (F := F) (adm 0)).win w).xblock (grid0.coords t)).Idx → Elt F ((cfg0 (F := F) (adm 0)).win w).elt :=
  (((cfg0 (F := F) (adm 0)).win w).blk t).view.read (Elt F) (V m c (Pipeline.arrRef spec0 w))

/-- The rows a point leaves. -/
def rowsAt (c : Dev nD) (t : Fin grid0.N) : Vec F S512x512 .bf16 :=
  if lit0 ((grid0.coords t) 0) = 1#32 then turnedRows (iblk m c 0 t) (iblk m c 1 t) (iblk m c 2 t) (iblk m c 3 t) (iblk m c 4 t)
  else plainRows (iblk m c 0 t) (iblk m c 1 t)

/-- The tiles a point leaves. -/
def tilesAt (c : Dev nD) (t : Fin grid0.N) : Vec F S2x512x256 .bf16 :=
  if lit0 ((grid0.coords t) 0) = 1#32 then turnedTiles (iblk m c 0 t) (iblk m c 1 t) (iblk m c 2 t) (iblk m c 3 t) (iblk m c 4 t)
  else plainTiles (iblk m c 0 t) (iblk m c 1 t)

/-- What the launch is proved against: every input staged at its block, the results at what the point leaves. -/
def data (_ : Fin 1) (c : Dev nD) : Dat τ (Elt F) Unit ℕ (UR sig nD τ) ℕ (cfg0 (F := F) (adm 0)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsAt m c t
    | ⟨6, _⟩ => tilesAt m c t
  Φ _ := iprop(Pipeline.ΦA spec0 c ∗ Pipeline.ΦT pre0 tabs c)
  q _ := fullShare
  owed _ := 0

theorem data_A (c : Dev nD) (w : Fin 7) : (data m 0 c).A w = V m c (Pipeline.arrRef spec0 w) := by dsimp only [data]
theorem data_after0 (c : Dev nD) (t : Fin grid0.N) : (data m 0 c).after 0 t = iblk m c 0 t := rfl
theorem data_after1 (c : Dev nD) (t : Fin grid0.N) : (data m 0 c).after 1 t = iblk m c 1 t := rfl
theorem data_after2 (c : Dev nD) (t : Fin grid0.N) : (data m 0 c).after 2 t = iblk m c 2 t := rfl
theorem data_after3 (c : Dev nD) (t : Fin grid0.N) : (data m 0 c).after 3 t = iblk m c 3 t := rfl
theorem data_after4 (c : Dev nD) (t : Fin grid0.N) : (data m 0 c).after 4 t = iblk m c 4 t := rfl
theorem data_after5 (c : Dev nD) (t : Fin grid0.N) : (data m 0 c).after 5 t = rowsAt m c t := rfl
theorem data_after6 (c : Dev nD) (t : Fin grid0.N) : (data m 0 c).after 6 t = tilesAt m c t := rfl
theorem data_before0 (c : Dev nD) (t : Fin grid0.N) (d) : (data m 0 c).before 0 t d = iblk m c 0 t :=
  ((data m 0 c).before_in_eq_fetched 0 rfl (fun _ => rfl) (fun _ _ _ => rfl) (fun t => by rw [data_after0]; unfold Dat.blockOf iblk; rw [data_A]; try rfl) t d).trans
    (by unfold Dat.fetched Dat.blockOf iblk; rw [data_A]; try rfl)
theorem data_before1 (c : Dev nD) (t : Fin grid0.N) (d) : (data m 0 c).before 1 t d = iblk m c 1 t :=
  ((data m 0 c).before_in_eq_fetched 1 rfl (fun _ => rfl) (fun _ _ _ => rfl) (fun t => by rw [data_after1]; unfold Dat.blockOf iblk; rw [data_A]; try rfl) t d).trans
    (by unfold Dat.fetched Dat.blockOf iblk; rw [data_A]; try rfl)
theorem data_before2 (c : Dev nD) (t : Fin grid0.N) (d) : (data m 0 c).before 2 t d = iblk m c 2 t :=
  ((data m 0 c).before_in_eq_fetched 2 rfl (fun _ => rfl) (fun _ _ _ => rfl) (fun t => by rw [data_after2]; unfold Dat.blockOf iblk; rw [data_A]; try rfl) t d).trans
    (by unfold Dat.fetched Dat.blockOf iblk; rw [data_A]; try rfl)
theorem data_before3 (c : Dev nD) (t : Fin grid0.N) (d) : (data m 0 c).before 3 t d = iblk m c 3 t :=
  ((data m 0 c).before_in_eq_fetched 3 rfl (fun _ => rfl) (fun _ _ _ => rfl) (fun t => by rw [data_after3]; unfold Dat.blockOf iblk; rw [data_A]; try rfl) t d).trans
    (by unfold Dat.fetched Dat.blockOf iblk; rw [data_A]; try rfl)
theorem data_before4 (c : Dev nD) (t : Fin grid0.N) (d) : (data m 0 c).before 4 t d = iblk m c 4 t :=
  ((data m 0 c).before_in_eq_fetched 4 rfl (fun _ => rfl) (fun _ _ _ => rfl) (fun t => by rw [data_after4]; unfold Dat.blockOf iblk; rw [data_A]; try rfl) t d).trans
    (by unfold Dat.fetched Dat.blockOf iblk; rw [data_A]; try rfl)
abbrev st0 (t : Fin grid0.N) : Memref sig .tc .vmem S512x2048 .bf16 := spec0_0.stage ((cfg0 (F := F) (adm 0)).slots t 0)
abbrev wh0 (t : Fin grid0.N) : (st0 (F := F) t).IsWhole := hstage0_0 (((cfg0 (F := F) (adm 0)).slots t 0).cast nbuf0_0)
abbrev st1 (t : Fin grid0.N) : Memref sig .tc .vmem S2048x512 .bf16 := spec0_1.stage ((cfg0 (F := F) (adm 0)).slots t 1)
abbrev wh1 (t : Fin grid0.N) : (st1 (F := F) t).IsWhole := hstage0_1 (((cfg0 (F := F) (adm 0)).slots t 1).cast nbuf0_1)
abbrev st2 (t : Fin grid0.N) : Memref sig .tc .vmem S512x128 .f32 := spec0_2.stage ((cfg0 (F := F) (adm 0)).slots t 2)
abbrev wh2 (t : Fin grid0.N) : (st2 (F := F) t).IsWhole := hstage0_2 (((cfg0 (F := F) (adm 0)).slots t 2).cast nbuf0_2)
abbrev st3 (t : Fin grid0.N) : Memref sig .tc .vmem S512x128 .f32 := spec0_3.stage ((cfg0 (F := F) (adm 0)).slots t 3)
abbrev wh3 (t : Fin grid0.N) : (st3 (F := F) t).IsWhole := hstage0_3 (((cfg0 (F := F) (adm 0)).slots t 3).cast nbuf0_3)
abbrev st4 (t : Fin grid0.N) : Memref sig .tc .vmem S512x128 .f32 := spec0_4.stage ((cfg0 (F := F) (adm 0)).slots t 4)
abbrev wh4 (t : Fin grid0.N) : (st4 (F := F) t).IsWhole := hstage0_4 (((cfg0 (F := F) (adm 0)).slots t 4).cast nbuf0_4)
abbrev st5 (t : Fin grid0.N) : Memref sig .tc .vmem S512x512 .bf16 := spec0_5.stage ((cfg0 (F := F) (adm 0)).slots t 5)
abbrev wh5 (t : Fin grid0.N) : (st5 (F := F) t).IsWhole := hstage0_5 (((cfg0 (F := F) (adm 0)).slots t 5).cast nbuf0_5)
abbrev st6 (t : Fin grid0.N) : Memref sig .tc .vmem S2x512x256 .bf16 := spec0_6.stage ((cfg0 (F := F) (adm 0)).slots t 6)
abbrev wh6 (t : Fin grid0.N) : (st6 (F := F) t).IsWhole := hstage0_6 (((cfg0 (F := F) (adm 0)).slots t 6).cast nbuf0_6)

/-- The body at a point's buffers. -/
abbrev bodyAt (t : Fin grid0.N) : Prog (TpuEff nD τ sig (Elt F) Λ₀ .tc) PUnit :=
  cc0_proj_attention (grid0.coords t) (Memref.whole main_c) (Memref.isWhole_whole _) (st0 (F := F) t) (wh0 (F := F) t) (st1 (F := F) t) (wh1 (F := F) t) (st2 (F := F) t) (wh2 (F := F) t) (st3 (F := F) t) (wh3 (F := F) t) (st4 (F := F) t) (wh4 (F := F) t) (st5 (F := F) t) (wh5 (F := F) t) (st6 (F := F) t) (wh6 (F := F) t)

theorem table_at (t : Fin grid0.N) : defs₀ (F := F) .tc (cfg0 (F := F) (adm 0)).body ((cfg0 (F := F) (adm 0)).bodyArgs t ((cfg0 (F := F) (adm 0)).slots t)) = bodyAt t := by
  unfold defs₀; rw [Defs.onTc_tc]

/-- What the body is entered with at a point, buffer by buffer. -/
def entryAt (c : Dev nD) (t : Fin grid0.N) : sProp 𝕄 :=
  iprop((data m 0 c).Φ t.castSucc ∗ (data m 0 c).owesAt () t.castSucc
    ∗ (∃ d, owns (c : Thread nD τ) (st0 (F := F) t) fullShare ((data m 0 c).before 0 t d)) ∗ (∃ d, owns (c : Thread nD τ) (st1 (F := F) t) fullShare ((data m 0 c).before 1 t d)) ∗ (∃ d, owns (c : Thread nD τ) (st2 (F := F) t) fullShare ((data m 0 c).before 2 t d)) ∗ (∃ d, owns (c : Thread nD τ) (st3 (F := F) t) fullShare ((data m 0 c).before 3 t d)) ∗ (∃ d, owns (c : Thread nD τ) (st4 (F := F) t) fullShare ((data m 0 c).before 4 t d)) ∗ (∃ d, owns (c : Thread nD τ) (st5 (F := F) t) fullShare ((data m 0 c).before 5 t d)) ∗ (∃ d, owns (c : Thread nD τ) (st6 (F := F) t) fullShare ((data m 0 c).before 6 t d)))

/-- What it is left with. -/
def exitAt (c : Dev nD) (t : Fin grid0.N) : sProp 𝕄 :=
  iprop((data m 0 c).Φ t.succ ∗ (data m 0 c).owesAt () t.succ
    ∗ owns (c : Thread nD τ) (st0 (F := F) t) fullShare ((data m 0 c).after 0 t) ∗ owns (c : Thread nD τ) (st1 (F := F) t) fullShare ((data m 0 c).after 1 t) ∗ owns (c : Thread nD τ) (st2 (F := F) t) fullShare ((data m 0 c).after 2 t) ∗ owns (c : Thread nD τ) (st3 (F := F) t) fullShare ((data m 0 c).after 3 t) ∗ owns (c : Thread nD τ) (st4 (F := F) t) fullShare ((data m 0 c).after 4 t) ∗ owns (c : Thread nD τ) (st5 (F := F) t) fullShare ((data m 0 c).after 5 t) ∗ owns (c : Thread nD τ) (st6 (F := F) t) fullShare ((data m 0 c).after 6 t))

/-- The table as the body holds it. -/
theorem held_eq (c : Dev nD) : (Pipeline.ΦT pre0 (tabs (F := F)) c : sProp 𝕄)
    = ((Memref.whole main_c : Memref sig .tc .smem S7 .i32).view.loc (c : Thread nD τ) ↦[(Memref.whole main_c : Memref sig .tc .smem S7 .i32).view.set]{fullShare.right} tab) := by
  unfold Pipeline.ΦT Pipeline.prefHeld
  rw [show (Finset.univ : Finset (Fin pre0.K)) = {(0 : Fin 1)} from rfl, bigSep_singleton]
  rfl

/-- The body at any point, whatever its flag says. -/
theorem body_at (c : Dev nD) (t : Fin grid0.N) :
    entryAt m c t ⊢ wp frame (wpE (defs₀ (F := F)) Variants.none c none) Set.univ (bodyAt t) (fun _ => exitAt m c t) := by
  unfold entryAt exitAt bodyAt
  simp only [data_before0, data_before1, data_before2, data_before3, data_before4]
  rw [show (data m 0 c).Φ t.succ = (data m 0 c).Φ t.castSucc from rfl,
    show (data m 0 c).owesAt () t.succ = (data m 0 c).owesAt () t.castSucc from rfl,
    data_after0, data_after1, data_after2, data_after3, data_after4, data_after5, data_after6]
  rw [show (data m 0 c).Φ t.castSucc = iprop(Pipeline.ΦA spec0 c ∗ Pipeline.ΦT pre0 tabs c) from rfl, held_eq]
  unfold rowsAt tilesAt
  iintro ⟨⟨Hg, HT⟩, Ho, ⟨%d0, H0⟩, ⟨%d1, H1⟩, ⟨%d2, H2⟩, ⟨%d3, H3⟩, ⟨%d4, H4⟩, ⟨%d5, H5⟩, ⟨%d6, H6⟩⟩
  by_cases hc : lit0 ((grid0.coords t) 0) = 1#32
  · rw [if_pos hc, if_pos hc]
    iapply (run_turned c Set.univ (grid0.coords t) (Memref.whole main_c) (Memref.isWhole_whole _) (st0 t) (wh0 t) (st1 t) (wh1 t) (st2 t) (wh2 t) (st3 t) (wh3 t) (st4 t) (wh4 t) (st5 t) (wh5 t) (st6 t) (wh6 t) (iblk m c 0 t) (iblk m c 1 t) (iblk m c 2 t) (iblk m c 3 t) (iblk m c 4 t) tab (cond_of_one _ ((word1 (F := F) (grid0.coords t)).trans hc)).1 (cond_of_one _ ((word2 (F := F) (grid0.coords t)).trans hc)).2 _)
    isplitl [HT]; · iexact HT
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨HT, H0, H1, H2, H3, H4, H5, H6⟩
    isplitl [Hg HT]
    · isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [if_neg hc, if_neg hc]
    iapply (run_plain c Set.univ (grid0.coords t) (Memref.whole main_c) (Memref.isWhole_whole _) (st0 t) (wh0 t) (st1 t) (wh1 t) (st2 t) (wh2 t) (st3 t) (wh3 t) (st4 t) (wh4 t) (st5 t) (wh5 t) (st6 t) (wh6 t) (iblk m c 0 t) (iblk m c 1 t) (iblk m c 2 t) (iblk m c 3 t) (iblk m c 4 t) tab (cond_of_zero _ ((word1 (F := F) (grid0.coords t)).trans (flag_or _ hc))).1 (cond_of_zero _ ((word2 (F := F) (grid0.coords t)).trans (flag_or _ hc))).2 _)
    isplitl [HT]; · iexact HT
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨HT, H0, H1, H2, H3, H4, H5, H6⟩
    isplitl [Hg HT]
    · isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- At every point one of the two conditions holds. -/
theorem stores : ∀ i : grid0.Coords,
    (!(k0_cond1 (if h : ∀ a, k0_off1 i a + 1 ≤ S7.size a then lit0 (S7.rowMajor fun a => ⟨k0_off1 i a, h a⟩) else default) == 1#1)
      && !(k0_cond2 (if h : ∀ a, k0_off2 i a + 1 ≤ S7.size a then lit0 (S7.rowMajor fun a => ⟨k0_off2 i a, h a⟩) else default) == 1#1)) = false := by
  decide +kernel

/-- No point leaves a result's buffer as it found it. -/
theorem idle5 (t : Fin grid0.N) : (cfg0 (F := F) (adm 0)).idle 5 (grid0.coords t) = false := stores (grid0.coords t)
theorem idle6 (t : Fin grid0.N) : (cfg0 (F := F) (adm 0)).idle 6 (grid0.coords t) = false := idle5 t

theorem bodies (c : Dev nD) : BodyObligation (data (F := F) m 0 c) (defs₀ (F := F)) Variants.none () Set.univ := fun t => by
  rw [bigSep_W0, bigSep_W0, table_at]
  refine triple_restated (body_at m c t) rfl .rfl fun _ => ?_
  rw [idle5, idle6]
  exact .rfl

set_option backward.isDefEq.respectTransparency.types false in
/-- Every execution ends, with the arrays as the launch's data says and every counter at zero. -/
theorem ends : θ_run defs (onTc (τ := τ) (main (F := F))) (s₀ m ρ) (fun r => (Pipeline.FramePost (Pipeline.pin pcfgs adm) (data m) 0 (V m)) r ∧ r.2.sem = fun _ => 0) :=
  Pipeline.θ_run_frameP (Q' := _) pcfgs adm (data m) (0 : Fin 1) launch0 defs₀ Variants.none m ρ main
    (hbody := fun c => (bodies m c).loose) (hshare := fun c => (data m 0 c).share_full fun _ => rfl)
    (howed := fun _ _ => rfl) (V := V m) (hmain := upto m Variants.none) (hA := data_A m) (hpf := fun c k => by
      match k with
      | ⟨0, _⟩ => exact flags_kept m c) (hΦ := fun _ _ => rfl)

/-- Every execution ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (show ∀ w : Fin 7, (spec0 w).arr.view.ref ≠ main_arg0 by decide))).trans (kept0 m c),
      ((h.1 c).2 main_arg1 (Pipeline.mem_restRefs_of main_arg1 (by decide) (show ∀ w : Fin 7, (spec0 w).arr.view.ref ≠ main_arg1 by decide))).trans (kept1 m c),
      ((h.1 c).2 main_arg2 (Pipeline.mem_restRefs_of main_arg2 (by decide) (show ∀ w : Fin 7, (spec0 w).arr.view.ref ≠ main_arg2 by decide))).trans (kept2 m c),
      ((h.1 c).2 main_arg3 (Pipeline.mem_restRefs_of main_arg3 (by decide) (show ∀ w : Fin 7, (spec0 w).arr.view.ref ≠ main_arg3 by decide))).trans (kept3 m c)⟩, h.2⟩) (ends m ρ)

/-- Every execution ends with the result arrays at the launch's. -/
theorem ends_value : θ_run defs (onTc (τ := τ) (main (F := F))) ⟨m, fun _ => 0, ρ⟩ fun r => ∀ c : Dev nD,
      r.2.mem ((c : Thread nD τ).loc main_v34_0) = (data m 0 c).arrAt 5 (cfg0 (F := F) (adm 0)).N
      ∧ r.2.mem ((c : Thread nD τ).loc main_v34_1) = (data m 0 c).arrAt 6 (cfg0 (F := F) (adm 0)).N :=
  (θ_run defs _ _).mono (fun r h c => ⟨(h.1 c).1 5, (h.1 c).1 6⟩) (ends m ρ)

/-! ## The result arrays, block by block -/

/-- No two points write the same block. -/
theorem rows_inj : ∀ t t' : Fin grid0.N, cc0_transform_5 (grid0.coords t) = cc0_transform_5 (grid0.coords t') → t = t' := by decide +kernel
theorem tiles_inj : ∀ t t' : Fin grid0.N, cc0_transform_6 (grid0.coords t) = cc0_transform_6 (grid0.coords t') → t = t' := by decide +kernel

/-- What a result array holds at a point's block is what that point left. -/
theorem rows_eq (c : Dev nD) (t : Fin grid0.N) (hf : ((cfg0 (F := F) (adm 0)).win 5).flush t = true) :
    (((cfg0 (F := F) (adm 0)).win 5).blk t).view.read (Elt F) ((data m 0 c).arrAt 5 (cfg0 (F := F) (adm 0)).N)
      = ((cfg0 (F := F) (adm 0)).win 5).cut (grid0.coords t) (rowsAt m c t) :=
  ((data m 0 c).read_blk_arrAt_eq_flushed 5 (fun a b _ _ hne => ((cfg0 (F := F) (adm 0)).win 5).disjoint_blk fun h => hne (rows_inj a b h)) (cfg0 (F := F) (adm 0)).N t t.isLt hf).trans (by
    show ((cfg0 (F := F) (adm 0)).win 5).cut (grid0.coords t) ((data m 0 c).after 5 t) = _
    rw [data_after5])
theorem tiles_eq (c : Dev nD) (t : Fin grid0.N) (hf : ((cfg0 (F := F) (adm 0)).win 6).flush t = true) :
    (((cfg0 (F := F) (adm 0)).win 6).blk t).view.read (Elt F) ((data m 0 c).arrAt 6 (cfg0 (F := F) (adm 0)).N)
      = ((cfg0 (F := F) (adm 0)).win 6).cut (grid0.coords t) (tilesAt m c t) :=
  ((data m 0 c).read_blk_arrAt_eq_flushed 6 (fun a b _ _ hne => ((cfg0 (F := F) (adm 0)).win 6).disjoint_blk fun h => hne (tiles_inj a b h)) (cfg0 (F := F) (adm 0)).N t t.isLt hf).trans (by
    show ((cfg0 (F := F) (adm 0)).win 6).cut (grid0.coords t) ((data m 0 c).after 6 t) = _
    rw [data_after6])

end Cert.HeadsIdeal.Hd

end
-- ==== Proof.HeadsSpec.lean ====
/- What the projections to queries, keys and values hold at one place, and the law that joins the two spellings of the rotation. -/
module

public import proofs.«01_k».proof.Proof.LatentVal

@[expose] public section

set_option maxRecDepth 16384

noncomputable section

namespace Cert.HeadsVal

open Idealize.ShloMosaic Idealize.ShloMosaic.TcCoe Idealize.ShloMosaic.Tactic

/-- A head's lanes: the first eight and the next eight are rotated against each other, the rest pass. -/
def rope (z : Fin 64 → EReal) (c s : Fin 8 → EReal) (d : Fin 64) : EReal :=
  if h0 : d.val < 16 then
    if h1 : d.val < 8 then z ⟨d.val, by omega⟩ * c ⟨d.val, h1⟩ - z ⟨8 + d.val, by omega⟩ * s ⟨d.val, h1⟩
    else z ⟨8 + (d.val - 8), by omega⟩ * c ⟨d.val - 8, by omega⟩ + z ⟨d.val - 8, by omega⟩ * s ⟨d.val - 8, by omega⟩
  else z ⟨16 + (d.val - 16), by omega⟩

/-- The lanes of two heads turned by three tables, at one lane. -/
def turned (x c s1 s2 : Fin 128 → EReal) (l : Fin 128) : EReal :=
  x l * c l + x ⟨(l.val + 128 - 120) % 128, by omega⟩ * s1 l + x ⟨(l.val + 128 - 8) % 128, by omega⟩ * s2 l

/-- The tables over two heads' lanes: the cosines, the negated sines and the sines. -/
def tc (c : Fin 8 → EReal) (l : Fin 128) : EReal :=
  if h1 : l.val % 64 < 8 then c ⟨l.val % 64, h1⟩ else if h2 : l.val % 64 - 8 < 8 then c ⟨l.val % 64 - 8, h2⟩ else 1
def ts1 (s : Fin 8 → EReal) (l : Fin 128) : EReal :=
  if h1 : l.val % 64 < 8 then -s ⟨l.val % 64, h1⟩ else if h2 : l.val % 64 - 8 < 8 then 0 else 0
def ts2 (s : Fin 8 → EReal) (l : Fin 128) : EReal :=
  if h1 : l.val % 64 < 8 then 0 else if h2 : l.val % 64 - 8 < 8 then s ⟨l.val % 64 - 8, h2⟩ else 0

/-- Scaled lanes turned by the tables are the rotated lanes, scaled. -/
theorem turned_rope (v : Fin 128 → EReal) (c s : Fin 8 → EReal) (r : ℝ) (hr : 0 ≤ r) (l : Fin 128) :
    turned (fun k => v k * (r : EReal)) (tc c) (ts1 s) (ts2 s) l = rope (fun e => v ⟨l.val / 64 * 64 + e.val, by omega⟩) c s ⟨l.val % 64, by omega⟩ * (r : EReal) := by
  have hl := l.isLt
  unfold turned rope tc ts1 ts2
  by_cases h1 : l.val % 64 < 8
  · have h0 : l.val % 64 < 16 := by omega
    simp only [dif_pos h0, dif_pos h1, mul_zero, add_zero]
    have ea : l = ⟨l.val / 64 * 64 + l.val % 64, by omega⟩ := Fin.ext (by show l.val = l.val / 64 * 64 + l.val % 64; omega)
    have eb : (⟨(l.val + 128 - 120) % 128, by omega⟩ : Fin 128) = ⟨l.val / 64 * 64 + (8 + l.val % 64), by omega⟩ := Fin.ext (by show (l.val + 128 - 120) % 128 = l.val / 64 * 64 + (8 + l.val % 64); omega)
    rw [congrArg v eb, congrArg v ea]
    exact Cert.LatentVal.scale_sub _ _ _ _ r hr
  by_cases h2 : l.val % 64 - 8 < 8
  · have h0 : l.val % 64 < 16 := by omega
    simp only [dif_pos h0, dif_neg h1, dif_pos h2, mul_zero, add_zero]
    have ea : l = ⟨l.val / 64 * 64 + (8 + (l.val % 64 - 8)), by omega⟩ := Fin.ext (by show l.val = l.val / 64 * 64 + (8 + (l.val % 64 - 8)); omega)
    have eb : (⟨(l.val + 128 - 8) % 128, by omega⟩ : Fin 128) = ⟨l.val / 64 * 64 + (l.val % 64 - 8), by omega⟩ := Fin.ext (by show (l.val + 128 - 8) % 128 = l.val / 64 * 64 + (l.val % 64 - 8); omega)
    rw [congrArg v eb, congrArg v ea]
    exact Cert.LatentVal.scale_add _ _ _ _ r hr
  · have h0 : ¬ l.val % 64 < 16 := by omega
    simp only [dif_neg h0, dif_neg h1, dif_neg h2, mul_one, mul_zero, add_zero]
    have ea : l = ⟨l.val / 64 * 64 + (16 + (l.val % 64 - 16)), by omega⟩ := Fin.ext (by show l.val = l.val / 64 * 64 + (16 + (l.val % 64 - 16)); omega)
    rw [congrArg v ea]

/-- The column of the weights behind a column of the results. -/
def col (q : Fin 3584) : Fin 13804 := ⟨if q.val < 1536 then q.val else if q.val < 3328 then q.val + 1544 else 4872 + q.val % 64, by split_ifs <;> omega⟩

/-- The columns of queries carry the scale of the scores, the others none. -/
def fac (q : Fin 3584) : EReal := if q.val / 512 = 0 ∨ q.val / 512 = 3 then Ideal.ofBits .f32 0x3E38AA3B#32 else 1

/-- The scale is a nonnegative number. -/
theorem scale_real : ∃ r : ℝ, 0 ≤ r ∧ (Ideal.ofBits .f32 0x3E38AA3B#32 : EReal) = (r : EReal) := by
  refine ⟨12102203 / 67108864, by norm_num, ?_⟩
  simp [Ideal.ofBits, Ideal.ieee, -EReal.coe_mul]
  norm_num

theorem fac_real (q : Fin 3584) : ∃ r : ℝ, 0 ≤ r ∧ fac q = (r : EReal) := by
  unfold fac
  by_cases h : q.val / 512 = 0 ∨ q.val / 512 = 3
  · rw [if_pos h]; exact scale_real
  · rw [if_neg h]; exact ⟨1, zero_le_one, rfl⟩

/-- A projection at one place. -/
def zF (x : Fin 8192 → Fin 2048 → EReal) (w : Fin 2048 → Fin 13804 → EReal) (t : Fin 8192) (r : Fin 13804) : EReal := ∑ k : Fin 2048, x t k * w k r

/-- The results, from the arguments: two blocks of columns pass, the others are rotated by head. -/
def hF (x : Fin 8192 → Fin 2048 → EReal) (w : Fin 2048 → Fin 13804 → EReal) (c s : Fin 8192 → Fin 8 → EReal) (t : Fin 8192) (q : Fin 3584) : EReal :=
  (if q.val / 512 = 2 ∨ q.val / 512 = 5 then zF x w t (col q)
    else rope (fun e => zF x w t (col ⟨q.val / 64 * 64 + e.val, by omega⟩)) (c t) (s t) ⟨q.val % 64, by omega⟩) * fac q

end Cert.HeadsVal

end
-- ==== Proof.HeadsVal.lean ====
/- The projections to queries, keys and values, entry by entry: a row of the activations times the chosen columns of the weights, rotated
   by head where the block's flag says so, as rows and as transposed tiles. -/
module

public import proofs.«01_k».proof.Proof.HeadsSpec
public import proofs.«01_k».proof.Proof.HeadsIdealFrame
public import Idealize.ShloMosaic.Lib.Pointwise
public import Idealize.ShloMosaic.Lib.Tactic.IndexArith
public import Idealize.ShloMosaic.Lib.Claim
public import Idealize.ShloMosaic.Lib.Pipeline.ValueKit.Point
public import Idealize.ShloMosaic.Lib.Tactic.CleanTypes

@[expose] public section

set_option maxRecDepth 16384

noncomputable section

namespace Cert.HeadsIdeal.Hd

open Cert.HeadsIdeal Cert.HeadsIdeal.Gen Cert.HeadsVal
open Idealize.ShloMosaic Idealize.ShloMosaic.TcCoe Idealize.ShloMosaic.Tactic

theorem pay1_entry (x : Vec Ideal S512x2048 .bf16) (w : Vec Ideal S2048x512 .bf16) (i : Fin 512) (e : Fin 512) :
    k0_pay1 x w (ix2 i e) = ∑ k : Fin 2048, x (ix2 i k) * w (ix2 k e) := by
  pointwise [k0_pay1]

theorem pay12_eq (x : Vec Ideal S512x128 .f32) : k0_pay12 (F := Ideal) x = x := by
  funext y
  pointwise [k0_pay12]
theorem pay13_eq (x : Vec Ideal S512x128 .f32) : k0_pay13 (F := Ideal) x = x := by
  funext y
  pointwise [k0_pay13]
theorem pay14_eq (x : Vec Ideal S512x128 .f32) : k0_pay14 (F := Ideal) x = x := by
  funext y
  pointwise [k0_pay14]

theorem pay16_entry (v : FVec Ideal S512x512 .f32) (c s1 s2 : Vec Ideal S512x128 .f32) (i : Fin 512) (l : Fin 128) :
    k0_pay16 (F := Ideal) v c s1 s2 (ix2 i l) = turned (fun k => v (ix2 i ⟨0 + k.val, by omega⟩)) (fun k => c (ix2 i k)) (fun k => s1 (ix2 i k)) (fun k => s2 (ix2 i k)) l := by
  pointwise [k0_pay16, k0_pay15, k0_pay12, k0_pay13, k0_pay14, turned]

theorem pay17_entry (v : FVec Ideal S512x512 .f32) (c s1 s2 : Vec Ideal S512x128 .f32) (p : Fin 256) (l : Fin 128) :
    k0_pay17 (F := Ideal) v c s1 s2 (ix3 (0 : Fin 1) l p) = turned (fun k => v (ix2 ⟨0 + p.val, by omega⟩ ⟨0 + k.val, by omega⟩)) (fun k => c (ix2 ⟨0 + p.val, by omega⟩ k)) (fun k => s1 (ix2 ⟨0 + p.val, by omega⟩ k)) (fun k => s2 (ix2 ⟨0 + p.val, by omega⟩ k)) l := by
  pointwise [k0_pay17, k0_pay15, k0_pay12, k0_pay13, k0_pay14, turned]

theorem pay18_entry (v : FVec Ideal S512x512 .f32) (c s1 s2 : Vec Ideal S512x128 .f32) (p : Fin 256) (l : Fin 128) :
    k0_pay18 (F := Ideal) v c s1 s2 (ix3 (0 : Fin 1) l p) = turned (fun k => v (ix2 ⟨256 + p.val, by omega⟩ ⟨0 + k.val, by omega⟩)) (fun k => c (ix2 ⟨256 + p.val, by omega⟩ k)) (fun k => s1 (ix2 ⟨256 + p.val, by omega⟩ k)) (fun k => s2 (ix2 ⟨256 + p.val, by omega⟩ k)) l := by
  pointwise [k0_pay18, k0_pay15, k0_pay12, k0_pay13, k0_pay14, turned]

theorem pay20_entry (v : FVec Ideal S512x512 .f32) (c s1 s2 : Vec Ideal S512x128 .f32) (i : Fin 512) (l : Fin 128) :
    k0_pay20 (F := Ideal) v c s1 s2 (ix2 i l) = turned (fun k => v (ix2 i ⟨128 + k.val, by omega⟩)) (fun k => c (ix2 i k)) (fun k => s1 (ix2 i k)) (fun k => s2 (ix2 i k)) l := by
  pointwise [k0_pay20, k0_pay19, k0_pay12, k0_pay13, k0_pay14, turned]

theorem pay21_entry (v : FVec Ideal S512x512 .f32) (c s1 s2 : Vec Ideal S512x128 .f32) (p : Fin 256) (l : Fin 128) :
    k0_pay21 (F := Ideal) (k0_pay19 (F := Ideal) v c s1 s2) (ix3 (0 : Fin 1) l p) = turned (fun k => v (ix2 ⟨0 + p.val, by omega⟩ ⟨128 + k.val, by omega⟩)) (fun k => c (ix2 ⟨0 + p.val, by omega⟩ k)) (fun k => s1 (ix2 ⟨0 + p.val, by omega⟩ k)) (fun k => s2 (ix2 ⟨0 + p.val, by omega⟩ k)) l := by
  pointwise [k0_pay21, k0_pay19, k0_pay12, k0_pay13, k0_pay14, turned]

theorem pay22_entry (v : FVec Ideal S512x512 .f32) (c s1 s2 : Vec Ideal S512x128 .f32) (p : Fin 256) (l : Fin 128) :
    k0_pay22 (F := Ideal) (k0_pay19 (F := Ideal) v c s1 s2) (ix3 (0 : Fin 1) l p) = turned (fun k => v (ix2 ⟨256 + p.val, by omega⟩ ⟨128 + k.val, by omega⟩)) (fun k => c (ix2 ⟨256 + p.val, by omega⟩ k)) (fun k => s1 (ix2 ⟨256 + p.val, by omega⟩ k)) (fun k => s2 (ix2 ⟨256 + p.val, by omega⟩ k)) l := by
  pointwise [k0_pay22, k0_pay19, k0_pay12, k0_pay13, k0_pay14, turned]

theorem pay24_entry (v : FVec Ideal S512x512 .f32) (c s1 s2 : Vec Ideal S512x128 .f32) (i : Fin 512) (l : Fin 128) :
    k0_pay24 (F := Ideal) v c s1 s2 (ix2 i l) = turned (fun k => v (ix2 i ⟨256 + k.val, by omega⟩)) (fun k => c (ix2 i k)) (fun k => s1 (ix2 i k)) (fun k => s2 (ix2 i k)) l := by
  pointwise [k0_pay24, k0_pay23, turned]

theorem pay25_entry (v : FVec Ideal S512x512 .f32) (c s1 s2 : Vec Ideal S512x128 .f32) (p : Fin 256) (l : Fin 128) :
    k0_pay25 (F := Ideal) v c s1 s2 (ix3 (0 : Fin 1) l p) = turned (fun k => v (ix2 ⟨0 + p.val, by omega⟩ ⟨256 + k.val, by omega⟩)) (fun k => c (ix2 ⟨0 + p.val, by omega⟩ k)) (fun k => s1 (ix2 ⟨0 + p.val, by omega⟩ k)) (fun k => s2 (ix2 ⟨0 + p.val, by omega⟩ k)) l := by
  pointwise [k0_pay25, k0_pay23, turned]

theorem pay26_entry (v : FVec Ideal S512x512 .f32) (c s1 s2 : Vec Ideal S512x128 .f32) (p : Fin 256) (l : Fin 128) :
    k0_pay26 (F := Ideal) v c s1 s2 (ix3 (0 : Fin 1) l p) = turned (fun k => v (ix2 ⟨256 + p.val, by omega⟩ ⟨256 + k.val, by omega⟩)) (fun k => c (ix2 ⟨256 + p.val, by omega⟩ k)) (fun k => s1 (ix2 ⟨256 + p.val, by omega⟩ k)) (fun k => s2 (ix2 ⟨256 + p.val, by omega⟩ k)) l := by
  pointwise [k0_pay26, k0_pay23, turned]

theorem pay3_entry (v : FVec Ideal S512x512 .f32) (c s1 s2 : Vec Ideal S512x128 .f32) (i : Fin 512) (l : Fin 128) :
    k0_pay3 (F := Ideal) s1 s2 (k0_pay27 (F := Ideal) v) (k0_pay28 (F := Ideal) v c) 120#32 (ix2 i l) = turned (fun k => v (ix2 i ⟨384 + k.val, by omega⟩)) (fun k => c (ix2 i k)) (fun k => s1 (ix2 i k)) (fun k => s2 (ix2 i k)) l := by
  pointwise [k0_pay3, k0_pay2, k0_pay27, k0_pay28, turned]

theorem pay4_entry (v : FVec Ideal S512x512 .f32) (c s1 s2 : Vec Ideal S512x128 .f32) (p : Fin 256) (l : Fin 128) :
    k0_pay4 (F := Ideal) s1 s2 (k0_pay27 (F := Ideal) v) (k0_pay28 (F := Ideal) v c) 120#32 (ix3 (0 : Fin 1) l p) = turned (fun k => v (ix2 ⟨0 + p.val, by omega⟩ ⟨384 + k.val, by omega⟩)) (fun k => c (ix2 ⟨0 + p.val, by omega⟩ k)) (fun k => s1 (ix2 ⟨0 + p.val, by omega⟩ k)) (fun k => s2 (ix2 ⟨0 + p.val, by omega⟩ k)) l := by
  pointwise [k0_pay4, k0_pay2, k0_pay27, k0_pay28, turned]

theorem pay5_entry (v : FVec Ideal S512x512 .f32) (c s1 s2 : Vec Ideal S512x128 .f32) (p : Fin 256) (l : Fin 128) :
    k0_pay5 (F := Ideal) s1 s2 (k0_pay27 (F := Ideal) v) (k0_pay28 (F := Ideal) v c) 120#32 (ix3 (0 : Fin 1) l p) = turned (fun k => v (ix2 ⟨256 + p.val, by omega⟩ ⟨384 + k.val, by omega⟩)) (fun k => c (ix2 ⟨256 + p.val, by omega⟩ k)) (fun k => s1 (ix2 ⟨256 + p.val, by omega⟩ k)) (fun k => s2 (ix2 ⟨256 + p.val, by omega⟩ k)) l := by
  pointwise [k0_pay5, k0_pay2, k0_pay27, k0_pay28, turned]

theorem pay30_entry (v : FVec Ideal S512x512 .f32) (i : Fin 512) (l : Fin 128) :
    k0_pay30 (F := Ideal) v (ix2 i l) = v (ix2 i ⟨0 + l.val, by omega⟩) := by
  pointwise [k0_pay30, k0_pay29]

theorem pay31_entry (v : FVec Ideal S512x512 .f32) (p : Fin 256) (l : Fin 128) :
    k0_pay31 (F := Ideal) v (ix3 (0 : Fin 1) l p) = v (ix2 ⟨0 + p.val, by omega⟩ ⟨0 + l.val, by omega⟩) := by
  pointwise [k0_pay31, k0_pay29]

theorem pay32_entry (v : FVec Ideal S512x512 .f32) (p : Fin 256) (l : Fin 128) :
    k0_pay32 (F := Ideal) v (ix3 (0 : Fin 1) l p) = v (ix2 ⟨256 + p.val, by omega⟩ ⟨0 + l.val, by omega⟩) := by
  pointwise [k0_pay32, k0_pay29]

theorem pay34_entry (v : FVec Ideal S512x512 .f32) (i : Fin 512) (l : Fin 128) :
    k0_pay34 (F := Ideal) v (ix2 i l) = v (ix2 i ⟨128 + l.val, by omega⟩) := by
  pointwise [k0_pay34, k0_pay33]

theorem pay35_entry (v : FVec Ideal S512x512 .f32) (p : Fin 256) (l : Fin 128) :
    k0_pay35 (F := Ideal) v (ix3 (0 : Fin 1) l p) = v (ix2 ⟨0 + p.val, by omega⟩ ⟨128 + l.val, by omega⟩) := by
  pointwise [k0_pay35, k0_pay33]

theorem pay36_entry (v : FVec Ideal S512x512 .f32) (p : Fin 256) (l : Fin 128) :
    k0_pay36 (F := Ideal) v (ix3 (0 : Fin 1) l p) = v (ix2 ⟨256 + p.val, by omega⟩ ⟨128 + l.val, by omega⟩) := by
  pointwise [k0_pay36, k0_pay33]

theorem pay38_entry (v : FVec Ideal S512x512 .f32) (i : Fin 512) (l : Fin 128) :
    k0_pay38 (F := Ideal) v (ix2 i l) = v (ix2 i ⟨256 + l.val, by omega⟩) := by
  pointwise [k0_pay38, k0_pay37]

theorem pay6_entry (v : FVec Ideal S512x512 .f32) (p : Fin 256) (l : Fin 128) :
    k0_pay6 (F := Ideal) (k0_pay39 (F := Ideal) v) (ix3 (0 : Fin 1) l p) = v (ix2 ⟨0 + p.val, by omega⟩ ⟨256 + l.val, by omega⟩) := by
  pointwise [k0_pay6, k0_pay39, k0_pay37]

theorem pay7_entry (v : FVec Ideal S512x512 .f32) (p : Fin 256) (l : Fin 128) :
    k0_pay7 (F := Ideal) (k0_pay37 (F := Ideal) v) (ix3 (0 : Fin 1) l p) = v (ix2 ⟨256 + p.val, by omega⟩ ⟨256 + l.val, by omega⟩) := by
  pointwise [k0_pay7, k0_pay37]

theorem pay9_entry (x : Vec Ideal S512x2048 .bf16) (w : Vec Ideal S2048x512 .bf16) (i : Fin 512) (l : Fin 128) :
    k0_pay9 x w (ix2 i l) = k0_pay1 (F := Ideal) x w (ix2 i ⟨384 + l.val, by omega⟩) := by
  pointwise [k0_pay9, k0_pay8]

theorem pay10_entry (x : Vec Ideal S512x2048 .bf16) (w : Vec Ideal S2048x512 .bf16) (p : Fin 256) (l : Fin 128) :
    k0_pay10 x w (ix3 (0 : Fin 1) l p) = k0_pay1 (F := Ideal) x w (ix2 ⟨0 + p.val, by omega⟩ ⟨384 + l.val, by omega⟩) := by
  pointwise [k0_pay10, k0_pay8]

theorem pay11_entry (x : Vec Ideal S512x2048 .bf16) (w : Vec Ideal S2048x512 .bf16) (p : Fin 256) (l : Fin 128) :
    k0_pay11 x w (ix3 (0 : Fin 1) l p) = k0_pay1 (F := Ideal) x w (ix2 ⟨256 + p.val, by omega⟩ ⟨384 + l.val, by omega⟩) := by
  pointwise [k0_pay11, k0_pay8]

/-- A block's lanes at one place: the row and the column in the block. -/
def pT (x0 : Vec Ideal S512x2048 .bf16) (x1 : Vec Ideal S2048x512 .bf16) (i : Fin 512) (r : Fin 512) : EReal := ∑ k : Fin 2048, x0 (ix2 i k) * x1 (ix2 k r)
def tT (x0 : Vec Ideal S512x2048 .bf16) (x1 : Vec Ideal S2048x512 .bf16) (x2 x3 x4 : Vec Ideal S512x128 .f32) (i : Fin 512) (r : Fin 512) : EReal :=
  turned (fun k => pT x0 x1 i ⟨128 * (r.val / 128) + k.val, by omega⟩) (fun k => x2 (ix2 i k)) (fun k => x3 (ix2 i k)) (fun k => x4 (ix2 i k)) ⟨r.val % 128, by omega⟩

theorem tT_at (x0 : Vec Ideal S512x2048 .bf16) (x1 : Vec Ideal S2048x512 .bf16) (x2 x3 x4 : Vec Ideal S512x128 .f32) (i i' : Fin 512) (r : Fin 512) (l : Fin 128)
    (h : Nat) (hh : h + 128 ≤ 512) (hd : h % 128 = 0) (hr : r.val = h + l.val) (hi : i'.val = i.val) :
    turned (fun k => k0_pay1 (F := Ideal) x0 x1 (ix2 i ⟨h + k.val, by omega⟩)) (fun k => x2 (ix2 i k)) (fun k => x3 (ix2 i k)) (fun k => x4 (ix2 i k)) l = tT x0 x1 x2 x3 x4 i' r := by
  have e : i' = i := Fin.ext hi
  have el : (⟨r.val % 128, by omega⟩ : Fin 128) = l := Fin.ext (by show r.val % 128 = l.val; omega)
  have er : h = 128 * (r.val / 128) := by omega
  subst e
  subst er
  unfold tT pT
  rw [el]
  simp only [pay1_entry]

theorem pT_at (x0 : Vec Ideal S512x2048 .bf16) (x1 : Vec Ideal S2048x512 .bf16) (i i' : Fin 512) (r : Fin 512) (l : Fin 128)
    (h : Nat) (hh : h + 128 ≤ 512) (hr : r.val = h + l.val) (hi : i'.val = i.val) :
    k0_pay1 (F := Ideal) x0 x1 (ix2 i ⟨h + l.val, by omega⟩) = pT x0 x1 i' r := by
  have e : i' = i := Fin.ext hi
  subst e
  exact (pay1_entry _ _ _ _).trans (congrArg (pT x0 x1 i') (Fin.ext hr.symm))

theorem at3 (x : S1x128x256.Idx) : ∃ (l : Fin 128) (p : Fin 256), x = ix3 (0 : Fin 1) l p :=
  by
  have h0 : (x 0).val = 0 := Nat.lt_one_iff.mp (x 0).isLt
  exact ⟨x 1, x 2, (eq_ix3 x).trans (congrArg (fun z : Fin 1 => (ix3 z (x 1) (x 2) : S1x128x256.Idx)) (Fin.ext h0))⟩

theorem turnedRows_entry (x0 : Vec Ideal S512x2048 .bf16) (x1 : Vec Ideal S2048x512 .bf16) (x2 x3 x4 : Vec Ideal S512x128 .f32) (y : S512x512.Idx) :
    turnedRows x0 x1 x2 x3 x4 y = tT x0 x1 x2 x3 x4 (y 0) (y 1) := by
  unfold turnedRows
  canon_tiles x h
  all_goals simp (disch := decide) only [View.ld_unit_lit', pay12_eq, pay13_eq, pay14_eq]
  all_goals rw [eq_ix2 x]
  · exact (pay3_entry _ x2 x3 x4 (x 0) (x 1)).trans (tT_at x0 x1 x2 x3 x4 (x 0) _ _ (x 1) 384 (by decide) (by decide) h1 h0)
  · exact (pay24_entry _ x2 x3 x4 (x 0) (x 1)).trans (tT_at x0 x1 x2 x3 x4 (x 0) _ _ (x 1) 256 (by decide) (by decide) h1 h0)
  · exact (pay20_entry _ x2 x3 x4 (x 0) (x 1)).trans (tT_at x0 x1 x2 x3 x4 (x 0) _ _ (x 1) 128 (by decide) (by decide) h1 h0)
  · exact (pay16_entry _ x2 x3 x4 (x 0) (x 1)).trans (tT_at x0 x1 x2 x3 x4 (x 0) _ _ (x 1) 0 (by decide) (by decide) (h1.trans (Nat.zero_add _).symm) h0)

theorem plainRows_entry (x0 : Vec Ideal S512x2048 .bf16) (x1 : Vec Ideal S2048x512 .bf16) (y : S512x512.Idx) :
    plainRows x0 x1 y = pT x0 x1 (y 0) (y 1) := by
  unfold plainRows
  canon_tiles x h
  all_goals simp (disch := decide) only [View.ld_unit_lit']
  all_goals rw [eq_ix2 x]
  · exact (pay9_entry _ _ (x 0) (x 1)).trans (pT_at x0 x1 (x 0) _ _ (x 1) 384 (by decide) h1 h0)
  · exact (pay38_entry _ (x 0) (x 1)).trans (pT_at x0 x1 (x 0) _ _ (x 1) 256 (by decide) h1 h0)
  · exact (pay34_entry _ (x 0) (x 1)).trans (pT_at x0 x1 (x 0) _ _ (x 1) 128 (by decide) h1 h0)
  · exact (pay30_entry _ (x 0) (x 1)).trans (pT_at x0 x1 (x 0) _ _ (x 1) 0 (by decide) (h1.trans (Nat.zero_add _).symm) h0)

/-- A place of two transposed tiles lies in a row of the block. -/
def rw2 (y : S2x512x256.Idx) : Fin 512 := ⟨256 * (y 0).val + (y 2).val, by have h0 : (y 0).val < 2 := (y 0).isLt; have h2 : (y 2).val < 256 := (y 2).isLt; omega⟩

theorem tile_row (y : S2x512x256.Idx) (p : Fin 256) (b : Nat) (h0 : (y 0).val = b) (h2 : (y 2).val = p.val) (hb : 256 * b + p.val < 512 := by omega) : (rw2 y).val = (⟨256 * b + p.val, hb⟩ : Fin 512).val := by
  show 256 * (y 0).val + (y 2).val = 256 * b + p.val
  rw [h0, h2]

theorem turnedTiles_entry (x0 : Vec Ideal S512x2048 .bf16) (x1 : Vec Ideal S2048x512 .bf16) (x2 x3 x4 : Vec Ideal S512x128 .f32) (y : S2x512x256.Idx) :
    turnedTiles x0 x1 x2 x3 x4 y = tT x0 x1 x2 x3 x4 (rw2 y) (y 1) := by
  unfold turnedTiles
  canon_tiles x h
  all_goals simp (disch := decide) only [View.ld_unit_lit', pay12_eq, pay13_eq, pay14_eq]
  all_goals obtain ⟨l, p, rfl⟩ := at3 x

  · exact (pay5_entry _ x2 x3 x4 p l).trans (tT_at x0 x1 x2 x3 x4 _ _ _ l 384 (by decide) (by decide) h1 (tile_row y p 1 (h0.trans (by rfl)) h2))
  · exact (pay4_entry _ x2 x3 x4 p l).trans (tT_at x0 x1 x2 x3 x4 _ _ _ l 384 (by decide) (by decide) h1 (tile_row y p 0 (h0.trans (by rfl)) h2))
  · exact (pay26_entry _ x2 x3 x4 p l).trans (tT_at x0 x1 x2 x3 x4 _ _ _ l 256 (by decide) (by decide) h1 (tile_row y p 1 (h0.trans (by rfl)) h2))
  · exact (pay25_entry _ x2 x3 x4 p l).trans (tT_at x0 x1 x2 x3 x4 _ _ _ l 256 (by decide) (by decide) h1 (tile_row y p 0 (h0.trans (by rfl)) h2))
  · exact (pay22_entry _ x2 x3 x4 p l).trans (tT_at x0 x1 x2 x3 x4 _ _ _ l 128 (by decide) (by decide) h1 (tile_row y p 1 (h0.trans (by rfl)) h2))
  · exact (pay21_entry _ x2 x3 x4 p l).trans (tT_at x0 x1 x2 x3 x4 _ _ _ l 128 (by decide) (by decide) h1 (tile_row y p 0 (h0.trans (by rfl)) h2))
  · exact (pay18_entry _ x2 x3 x4 p l).trans (tT_at x0 x1 x2 x3 x4 _ _ _ l 0 (by decide) (by decide) (h1.trans (Nat.zero_add _).symm) (tile_row y p 1 (h0.trans (by rfl)) h2))
  · exact (pay17_entry _ x2 x3 x4 p l).trans (tT_at x0 x1 x2 x3 x4 _ _ _ l 0 (by decide) (by decide) (h1.trans (Nat.zero_add _).symm) (tile_row y p 0 (h0.trans (by rfl)) h2))

theorem plainTiles_entry (x0 : Vec Ideal S512x2048 .bf16) (x1 : Vec Ideal S2048x512 .bf16) (y : S2x512x256.Idx) :
    plainTiles x0 x1 y = pT x0 x1 (rw2 y) (y 1) := by
  unfold plainTiles
  canon_tiles x h
  all_goals simp (disch := decide) only [View.ld_unit_lit']
  all_goals obtain ⟨l, p, rfl⟩ := at3 x

  · exact (pay11_entry _ _ p l).trans (pT_at x0 x1 _ _ _ l 384 (by decide) h1 (tile_row y p 1 (h0.trans (by rfl)) h2))
  · exact (pay10_entry _ _ p l).trans (pT_at x0 x1 _ _ _ l 384 (by decide) h1 (tile_row y p 0 (h0.trans (by rfl)) h2))
  · exact (pay7_entry _ p l).trans (pT_at x0 x1 _ _ _ l 256 (by decide) h1 (tile_row y p 1 (h0.trans (by rfl)) h2))
  · exact (pay6_entry _ p l).trans (pT_at x0 x1 _ _ _ l 256 (by decide) h1 (tile_row y p 0 (h0.trans (by rfl)) h2))
  · exact (pay36_entry _ p l).trans (pT_at x0 x1 _ _ _ l 128 (by decide) h1 (tile_row y p 1 (h0.trans (by rfl)) h2))
  · exact (pay35_entry _ p l).trans (pT_at x0 x1 _ _ _ l 128 (by decide) h1 (tile_row y p 0 (h0.trans (by rfl)) h2))
  · exact (pay32_entry _ p l).trans (pT_at x0 x1 _ _ _ l 0 (by decide) (h1.trans (Nat.zero_add _).symm) (tile_row y p 1 (h0.trans (by rfl)) h2))
  · exact (pay31_entry _ p l).trans (pT_at x0 x1 _ _ _ l 0 (by decide) (h1.trans (Nat.zero_add _).symm) (tile_row y p 0 (h0.trans (by rfl)) h2))
variable (m : (ℓ : Loc nD τ sig) → Buf (Elt Ideal) ℓ) (c : Dev nD)

/-- The activations, the weights and the tables of the rotation, as the kernel is entered with them. -/
def xA (x : FVec Ideal S1x8192x2048 .f32) : FVec Ideal S8192x2048 .bf16 := truncf .bf16 (shapeCast S8192x2048 x shapeCasts_S1x8192x2048_S8192x2048) bitsLt_bf16_f32
def wA (w : FVec Ideal S2048x13804 .f32) : FVec Ideal S2048x3584 .bf16 :=
  truncf .bf16 (concatenate S2048x3584 1 [
    ⟨S2048x512, (mulf (extractStridedSlice S2048x512 ![0, 0] w slices_S2048x13804_S2048x512_0_0) (broadcastInDim S2048x512 ![] bcast_S_S2048x512 (constant S_ .f32 0x3E38AA3B#32)) : FVec Ideal S2048x512 .f32)⟩,
    ⟨S2048x512, (extractStridedSlice S2048x512 ![0, 512] w slices_S2048x13804_S2048x512_0_512 : FVec Ideal S2048x512 .f32)⟩,
    ⟨S2048x512, (extractStridedSlice S2048x512 ![0, 1024] w slices_S2048x13804_S2048x512_0_1024 : FVec Ideal S2048x512 .f32)⟩,
    ⟨S2048x512, (mulf (extractStridedSlice S2048x512 ![0, 3080] w slices_S2048x13804_S2048x512_0_3080) (broadcastInDim S2048x512 ![] bcast_S_S2048x512 (constant S_ .f32 0x3E38AA3B#32)) : FVec Ideal S2048x512 .f32)⟩,
    ⟨S2048x512, (extractStridedSlice S2048x512 ![0, 3592] w slices_S2048x13804_S2048x512_0_3592 : FVec Ideal S2048x512 .f32)⟩,
    ⟨S2048x512, (extractStridedSlice S2048x512 ![0, 4104] w slices_S2048x13804_S2048x512_0_4104 : FVec Ideal S2048x512 .f32)⟩,
    ⟨S2048x256, (extractStridedSlice S2048x256 ![0, 4616] w slices_S2048x13804_S2048x256_0_4616 : FVec Ideal S2048x256 .f32)⟩,
    ⟨S2048x64, (extractStridedSlice S2048x64 ![0, 4872] w slices_S2048x13804_S2048x64_0_4872 : FVec Ideal S2048x64 .f32)⟩,
    ⟨S2048x64, (extractStridedSlice S2048x64 ![0, 4872] w slices_S2048x13804_S2048x64_0_4872 : FVec Ideal S2048x64 .f32)⟩,
    ⟨S2048x64, (extractStridedSlice S2048x64 ![0, 4872] w slices_S2048x13804_S2048x64_0_4872 : FVec Ideal S2048x64 .f32)⟩,
    ⟨S2048x64, (extractStridedSlice S2048x64 ![0, 4872] w slices_S2048x13804_S2048x64_0_4872 : FVec Ideal S2048x64 .f32)⟩]
    concatenates_S2048x512_S2048x512_S2048x512_S2048x512_S2048x512_S2048x512_S2048x256_S2048x64_S2048x64_S2048x64_S2048x64_S2048x3584_d1 : FVec Ideal S2048x3584 .f32) bitsLt_bf16_f32
def rA (c : FVec Ideal S1x8192x8 .f32) : FVec Ideal S8192x8 .f32 := shapeCast S8192x8 c shapeCasts_S1x8192x8_S8192x8
def twice (a : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 a shapeCasts_S8192x64_S1x8192x1x64)) shapeCasts_S1x8192x2x64_S8192x128
def cA (c : FVec Ideal S1x8192x8 .f32) : FVec Ideal S8192x128 .f32 :=
  twice (concatenate S8192x64 1 [⟨S8192x8, rA c⟩, ⟨S8192x8, rA c⟩, ⟨S8192x48, broadcastInDim S8192x48 ![] bcast_S_S8192x48 (constant S_ .f32 0x3F800000#32)⟩] concatenates_S8192x8_S8192x8_S8192x48_S8192x64_d1)
def s1A (s : FVec Ideal S1x8192x8 .f32) : FVec Ideal S8192x128 .f32 :=
  twice (concatenate S8192x64 1 [⟨S8192x8, Host.negf (rA s)⟩, ⟨S8192x8, broadcastInDim S8192x8 ![] bcast_S_S8192x8 (constant S_ .f32 0x00000000#32)⟩, ⟨S8192x48, broadcastInDim S8192x48 ![] bcast_S_S8192x48 (constant S_ .f32 0x00000000#32)⟩] concatenates_S8192x8_S8192x8_S8192x48_S8192x64_d1)
def s2A (s : FVec Ideal S1x8192x8 .f32) : FVec Ideal S8192x128 .f32 :=
  twice (concatenate S8192x64 1 [⟨S8192x8, broadcastInDim S8192x8 ![] bcast_S_S8192x8 (constant S_ .f32 0x00000000#32)⟩, ⟨S8192x8, rA s⟩, ⟨S8192x48, broadcastInDim S8192x48 ![] bcast_S_S8192x48 (constant S_ .f32 0x00000000#32)⟩] concatenates_S8192x8_S8192x8_S8192x48_S8192x64_d1)

theorem entry_x : (V m c main_v19 : FVec Ideal S8192x2048 .bf16) = xA (m ((c.tc : Thread nD τ).loc main_arg0)) := by
  unfold_abbrev_sides
  after_reads_simp
  rfl
theorem entry_w : (V m c main_v33 : FVec Ideal S2048x3584 .bf16) = wA (m ((c.tc : Thread nD τ).loc main_arg1)) := by
  unfold_abbrev_sides
  after_reads_simp
  rfl
theorem entry_c : (V m c main_v11 : FVec Ideal S8192x128 .f32) = cA (m ((c.tc : Thread nD τ).loc main_arg2)) := by
  unfold_abbrev_sides
  after_reads_simp
  rfl
theorem entry_s1 : (V m c main_v14 : FVec Ideal S8192x128 .f32) = s1A (m ((c.tc : Thread nD τ).loc main_arg3)) := by
  unfold_abbrev_sides
  after_reads_simp
  rfl
theorem entry_s2 : (V m c main_v17 : FVec Ideal S8192x128 .f32) = s2A (m ((c.tc : Thread nD τ).loc main_arg3)) := by
  unfold_abbrev_sides
  after_reads_simp
  rfl

theorem xA_entry (x : FVec Ideal S1x8192x2048 .f32) (t : Fin 8192) (k : Fin 2048) : xA x (ix2 t k) = x (ix3 (0 : Fin 1) t k) := by
  pointwise [xA]
theorem cA_entry (c : FVec Ideal S1x8192x8 .f32) (t : Fin 8192) (l : Fin 128) : cA c (ix2 t l) = tc (fun e => c (ix3 (0 : Fin 1) t e)) l := by
  pointwise [cA, rA, twice, tc]
theorem s1A_entry (s : FVec Ideal S1x8192x8 .f32) (t : Fin 8192) (l : Fin 128) : s1A s (ix2 t l) = ts1 (fun e => s (ix3 (0 : Fin 1) t e)) l := by
  pointwise [s1A, rA, twice, ts1]
theorem s2A_entry (s : FVec Ideal S1x8192x8 .f32) (t : Fin 8192) (l : Fin 128) : s2A s (ix2 t l) = ts2 (fun e => s (ix3 (0 : Fin 1) t e)) l := by
  pointwise [s2A, rA, twice, ts2]

theorem pick (w : FVec Ideal S2048x13804 .f32) (k : Fin 2048) (q : Fin 3584) (r : Fin 13804) (hr : r.val = (if q.val < 1536 then q.val else if q.val < 3328 then q.val + 1544 else 4872 + q.val % 64)) (hf : ¬ (q.val / 512 = 0 ∨ q.val / 512 = 3)) :
    w (ix2 k r) = w (ix2 k (col q)) * fac q := by
  unfold fac
  rw [if_neg hf, mul_one]
  exact congrArg (fun z => w (ix2 k z)) (Fin.ext hr)
theorem pick_scaled (w : FVec Ideal S2048x13804 .f32) (k : Fin 2048) (q : Fin 3584) (r : Fin 13804) (hr : r.val = (if q.val < 1536 then q.val else if q.val < 3328 then q.val + 1544 else 4872 + q.val % 64)) (hf : q.val / 512 = 0 ∨ q.val / 512 = 3) :
    w (ix2 k r) * Ideal.ofBits .f32 0x3E38AA3B#32 = w (ix2 k (col q)) * fac q := by
  unfold fac
  rw [if_pos hf]
  exact congrArg (fun z => w (ix2 k z) * Ideal.ofBits .f32 0x3E38AA3B#32) (Fin.ext hr)

theorem wA_entry (w : FVec Ideal S2048x13804 .f32) (k : Fin 2048) (q : Fin 3584) : wA w (ix2 k q) = w (ix2 k (col q)) * fac q := by
  have hq := q.isLt
  pointwise [wA]
  by_cases h0 : q.val < 512
  · rw [dif_pos h0]
    exact pick_scaled w k q _ (by dsimp only; split_ifs <;> omega) (by omega)
  rw [dif_neg h0]
  by_cases h1 : q.val - 512 < 512
  · rw [dif_pos h1]
    exact pick w k q _ (by dsimp only; split_ifs <;> omega) (by omega)
  rw [dif_neg h1]
  by_cases h2 : q.val - 512 - 512 < 512
  · rw [dif_pos h2]
    exact pick w k q _ (by dsimp only; split_ifs <;> omega) (by omega)
  rw [dif_neg h2]
  by_cases h3 : q.val - 512 - 512 - 512 < 512
  · rw [dif_pos h3]
    exact pick_scaled w k q _ (by dsimp only; split_ifs <;> omega) (by omega)
  rw [dif_neg h3]
  by_cases h4 : q.val - 512 - 512 - 512 - 512 < 512
  · rw [dif_pos h4]
    exact pick w k q _ (by dsimp only; split_ifs <;> omega) (by omega)
  rw [dif_neg h4]
  by_cases h5 : q.val - 512 - 512 - 512 - 512 - 512 < 512
  · rw [dif_pos h5]
    exact pick w k q _ (by dsimp only; split_ifs <;> omega) (by omega)
  rw [dif_neg h5]
  by_cases h6 : q.val - 512 - 512 - 512 - 512 - 512 - 512 < 256
  · rw [dif_pos h6]
    exact pick w k q _ (by dsimp only; split_ifs <;> omega) (by omega)
  rw [dif_neg h6]
  by_cases h7 : q.val - 512 - 512 - 512 - 512 - 512 - 512 - 256 < 64
  · rw [dif_pos h7]
    exact pick w k q _ (by dsimp only; split_ifs <;> omega) (by omega)
  rw [dif_neg h7]
  by_cases h8 : q.val - 512 - 512 - 512 - 512 - 512 - 512 - 256 - 64 < 64
  · rw [dif_pos h8]
    exact pick w k q _ (by dsimp only; split_ifs <;> omega) (by omega)
  rw [dif_neg h8]
  by_cases h9 : q.val - 512 - 512 - 512 - 512 - 512 - 512 - 256 - 64 - 64 < 64
  · rw [dif_pos h9]
    exact pick w k q _ (by dsimp only; split_ifs <;> omega) (by omega)
  rw [dif_neg h9]
  exact pick w k q _ (by dsimp only; split_ifs <;> omega) (by omega)

/-- Where a window's block lies at a point. -/
theorem at_j : ∀ i : grid0.Coords, (cc0_transform_0 i 0 = (i 1).val ∧ cc0_transform_0 i 1 = 0) ∧ (cc0_transform_1 i 0 = 0 ∧ cc0_transform_1 i 1 = (i 0).val)
    ∧ (cc0_transform_2 i 0 = (i 1).val ∧ cc0_transform_2 i 1 = 0) ∧ (cc0_transform_3 i 0 = (i 1).val ∧ cc0_transform_3 i 1 = 0) ∧ (cc0_transform_4 i 0 = (i 1).val ∧ cc0_transform_4 i 1 = 0)
    ∧ (cc0_transform_5 i 0 = (i 1).val ∧ cc0_transform_5 i 1 = (i 0).val) ∧ (cc0_transform_6 i 0 = (i 1).val ∧ cc0_transform_6 i 1 = (i 0).val ∧ cc0_transform_6 i 2 = 0) := by decide +kernel

theorem flag : ∀ j : Fin 7, lit0 j = 1#32 ↔ ¬ (j.val = 2 ∨ j.val = 5) := by decide +kernel

theorem iblk0 (t : Fin grid0.N) (i : Fin 512) (k : Fin 2048) (T : Fin 8192) (q : Fin 2048) (hT : T.val = (grid0.coords t 1).val * 512 + i.val) (hq : q.val = 0 * 2048 + k.val) :
    (iblk m c 0 t : FVec Ideal S512x2048 .bf16) (ix2 i k) = (V m c main_v19 : FVec Ideal S8192x2048 .bf16) (ix2 T q) := by
  obtain ⟨⟨h0, h1⟩, -⟩ := at_j (grid0.coords t)
  show (V m c main_v19 : FVec Ideal S8192x2048 .bf16) ((((cfg0 (F := Ideal) (adm 0)).win 0).rect t).emb (ix2 i k)) = _
  refine congrArg (V m c main_v19 : FVec Ideal S8192x2048 .bf16) ?_
  funext a
  apply Fin.ext
  refine (((cfg0 (F := Ideal) (adm 0)).win 0).rect_emb_val t (ix2 i k) a).trans ?_
  fin_cases a
  · show cc0_transform_0 (grid0.coords t) 0 * 512 + i.val = T.val
    rw [h0, hT]
  · show cc0_transform_0 (grid0.coords t) 1 * 2048 + k.val = q.val
    rw [h1, hq]

theorem iblk1 (t : Fin grid0.N) (i : Fin 2048) (k : Fin 512) (T : Fin 2048) (q : Fin 3584) (hT : T.val = 0 * 2048 + i.val) (hq : q.val = (grid0.coords t 0).val * 512 + k.val) :
    (iblk m c 1 t : FVec Ideal S2048x512 .bf16) (ix2 i k) = (V m c main_v33 : FVec Ideal S2048x3584 .bf16) (ix2 T q) := by
  obtain ⟨-, ⟨h0, h1⟩, -⟩ := at_j (grid0.coords t)
  show (V m c main_v33 : FVec Ideal S2048x3584 .bf16) ((((cfg0 (F := Ideal) (adm 0)).win 1).rect t).emb (ix2 i k)) = _
  refine congrArg (V m c main_v33 : FVec Ideal S2048x3584 .bf16) ?_
  funext a
  apply Fin.ext
  refine (((cfg0 (F := Ideal) (adm 0)).win 1).rect_emb_val t (ix2 i k) a).trans ?_
  fin_cases a
  · show cc0_transform_1 (grid0.coords t) 0 * 2048 + i.val = T.val
    rw [h0, hT]
  · show cc0_transform_1 (grid0.coords t) 1 * 512 + k.val = q.val
    rw [h1, hq]

theorem iblk2 (t : Fin grid0.N) (i : Fin 512) (k : Fin 128) (T : Fin 8192) (q : Fin 128) (hT : T.val = (grid0.coords t 1).val * 512 + i.val) (hq : q.val = 0 * 128 + k.val) :
    (iblk m c 2 t : FVec Ideal S512x128 .f32) (ix2 i k) = (V m c main_v11 : FVec Ideal S8192x128 .f32) (ix2 T q) := by
  obtain ⟨-, -, ⟨h0, h1⟩, -⟩ := at_j (grid0.coords t)
  show (V m c main_v11 : FVec Ideal S8192x128 .f32) ((((cfg0 (F := Ideal) (adm 0)).win 2).rect t).emb (ix2 i k)) = _
  refine congrArg (V m c main_v11 : FVec Ideal S8192x128 .f32) ?_
  funext a
  apply Fin.ext
  refine (((cfg0 (F := Ideal) (adm 0)).win 2).rect_emb_val t (ix2 i k) a).trans ?_
  fin_cases a
  · show cc0_transform_2 (grid0.coords t) 0 * 512 + i.val = T.val
    rw [h0, hT]
  · show cc0_transform_2 (grid0.coords t) 1 * 128 + k.val = q.val
    rw [h1, hq]

theorem iblk3 (t : Fin grid0.N) (i : Fin 512) (k : Fin 128) (T : Fin 8192) (q : Fin 128) (hT : T.val = (grid0.coords t 1).val * 512 + i.val) (hq : q.val = 0 * 128 + k.val) :
    (iblk m c 3 t : FVec Ideal S512x128 .f32) (ix2 i k) = (V m c main_v14 : FVec Ideal S8192x128 .f32) (ix2 T q) := by
  obtain ⟨-, -, -, ⟨h0, h1⟩, -⟩ := at_j (grid0.coords t)
  show (V m c main_v14 : FVec Ideal S8192x128 .f32) ((((cfg0 (F := Ideal) (adm 0)).win 3).rect t).emb (ix2 i k)) = _
  refine congrArg (V m c main_v14 : FVec Ideal S8192x128 .f32) ?_
  funext a
  apply Fin.ext
  refine (((cfg0 (F := Ideal) (adm 0)).win 3).rect_emb_val t (ix2 i k) a).trans ?_
  fin_cases a
  · show cc0_transform_3 (grid0.coords t) 0 * 512 + i.val = T.val
    rw [h0, hT]
  · show cc0_transform_3 (grid0.coords t) 1 * 128 + k.val = q.val
    rw [h1, hq]

theorem iblk4 (t : Fin grid0.N) (i : Fin 512) (k : Fin 128) (T : Fin 8192) (q : Fin 128) (hT : T.val = (grid0.coords t 1).val * 512 + i.val) (hq : q.val = 0 * 128 + k.val) :
    (iblk m c 4 t : FVec Ideal S512x128 .f32) (ix2 i k) = (V m c main_v17 : FVec Ideal S8192x128 .f32) (ix2 T q) := by
  obtain ⟨-, -, -, -, ⟨h0, h1⟩, -⟩ := at_j (grid0.coords t)
  show (V m c main_v17 : FVec Ideal S8192x128 .f32) ((((cfg0 (F := Ideal) (adm 0)).win 4).rect t).emb (ix2 i k)) = _
  refine congrArg (V m c main_v17 : FVec Ideal S8192x128 .f32) ?_
  funext a
  apply Fin.ext
  refine (((cfg0 (F := Ideal) (adm 0)).win 4).rect_emb_val t (ix2 i k) a).trans ?_
  fin_cases a
  · show cc0_transform_4 (grid0.coords t) 0 * 512 + i.val = T.val
    rw [h0, hT]
  · show cc0_transform_4 (grid0.coords t) 1 * 128 + k.val = q.val
    rw [h1, hq]

/-- The arguments, read by place. -/
abbrev ax (t : Fin 8192) (k : Fin 2048) : EReal := (m ((c.tc : Thread nD τ).loc main_arg0) : FVec Ideal S1x8192x2048 .f32) (ix3 (0 : Fin 1) t k)
abbrev aw (k : Fin 2048) (r : Fin 13804) : EReal := (m ((c.tc : Thread nD τ).loc main_arg1) : FVec Ideal S2048x13804 .f32) (ix2 k r)
abbrev ac (t : Fin 8192) (e : Fin 8) : EReal := (m ((c.tc : Thread nD τ).loc main_arg2) : FVec Ideal S1x8192x8 .f32) (ix3 (0 : Fin 1) t e)
abbrev asn (t : Fin 8192) (e : Fin 8) : EReal := (m ((c.tc : Thread nD τ).loc main_arg3) : FVec Ideal S1x8192x8 .f32) (ix3 (0 : Fin 1) t e)

/-- The two results, as functions of the arguments. -/
def resultRows : FVec Ideal S8192x3584 .bf16 := fun y => hF (ax m c) (aw m c) (ac m c) (asn m c) (y 0) (y 1)
def resultTiles : FVec Ideal S32x3584x256 .bf16 := fun y => hF (ax m c) (aw m c) (ac m c) (asn m c)
  ⟨(y 0).val * 256 + (y 2).val, by have h0 : (y 0).val < 32 := (y 0).isLt; have h2 : (y 2).val < 256 := (y 2).isLt; omega⟩ (y 1)

section blocks
variable (t : Fin grid0.N) (i : Fin 512) (T : Fin 8192) (hT : T.val = (grid0.coords t 1).val * 512 + i.val)

include hT in
theorem p_tile (r : Fin 512) (q : Fin 3584) (hq : q.val = (grid0.coords t 0).val * 512 + r.val) :
    pT (iblk m c 0 t) (iblk m c 1 t) i r = zF (ax m c) (aw m c) T (col q) * fac q := by
  obtain ⟨f, hf0, hf⟩ := fac_real q
  unfold pT zF
  rw [hf]
  refine Eq.trans ?_ (Cert.LatentVal.sum_scale _ _ f hf0)
  refine Finset.sum_congr rfl fun k _ => ?_
  rw [iblk0 m c t i k T k hT (by omega), iblk1 m c t k r k q (by omega) hq, entry_x, entry_w, xA_entry, wA_entry, hf]

include hT in
theorem b2 : (fun k : Fin 128 => (iblk m c 2 t : FVec Ideal S512x128 .f32) (ix2 i k)) = tc (ac m c T) := by
  funext k; rw [iblk2 m c t i k T k hT (by omega), entry_c]; exact cA_entry _ _ _
include hT in
theorem b3 : (fun k : Fin 128 => (iblk m c 3 t : FVec Ideal S512x128 .f32) (ix2 i k)) = ts1 (asn m c T) := by
  funext k; rw [iblk3 m c t i k T k hT (by omega), entry_s1]; exact s1A_entry _ _ _
include hT in
theorem b4 : (fun k : Fin 128 => (iblk m c 4 t : FVec Ideal S512x128 .f32) (ix2 i k)) = ts2 (asn m c T) := by
  funext k; rw [iblk4 m c t i k T k hT (by omega), entry_s2]; exact s2A_entry _ _ _

include hT in
theorem t_tile (r : Fin 512) (q : Fin 3584) (hq : q.val = (grid0.coords t 0).val * 512 + r.val) :
    tT (iblk m c 0 t) (iblk m c 1 t) (iblk m c 2 t) (iblk m c 3 t) (iblk m c 4 t) i r
      = rope (fun e => zF (ax m c) (aw m c) T (col ⟨q.val / 64 * 64 + e.val, by omega⟩)) (ac m c T) (asn m c T) ⟨q.val % 64, by omega⟩ * fac q := by
  obtain ⟨f, hf0, hf⟩ := fac_real q
  have hql := q.isLt
  have hrl := r.isLt
  have hp : (fun k : Fin 128 => pT (iblk m c 0 t) (iblk m c 1 t) i ⟨128 * (r.val / 128) + k.val, by omega⟩)
      = fun k : Fin 128 => zF (ax m c) (aw m c) T (col ⟨q.val / 128 * 128 + k.val, by omega⟩) * (f : EReal) := by
    funext k
    rw [p_tile m c t i T hT _ ⟨q.val / 128 * 128 + k.val, by omega⟩ (by show q.val / 128 * 128 + k.val = (grid0.coords t 0).val * 512 + (128 * (r.val / 128) + k.val); omega), ← hf]
    have e : (q.val / 128 * 128 + k.val) / 512 = q.val / 512 := by omega
    unfold fac
    simp only [e]
  unfold tT
  rw [hp, b2 m c t i T hT, b3 m c t i T hT, b4 m c t i T hT, turned_rope _ _ _ f hf0, hf]
  have e1 : (⟨(⟨r.val % 128, by omega⟩ : Fin 128).val % 64, by omega⟩ : Fin 64) = ⟨q.val % 64, by omega⟩ := Fin.ext (by show r.val % 128 % 64 = q.val % 64; omega)
  have e2 : (fun e : Fin 64 => zF (ax m c) (aw m c) T (col ⟨q.val / 128 * 128 + (r.val % 128 / 64 * 64 + e.val), by omega⟩)) = fun e : Fin 64 => zF (ax m c) (aw m c) T (col ⟨q.val / 64 * 64 + e.val, by omega⟩) := by
    funext e
    exact congrArg (fun z => zF (ax m c) (aw m c) T (col z)) (Fin.ext (by show q.val / 128 * 128 + (r.val % 128 / 64 * 64 + e.val) = q.val / 64 * 64 + e.val; omega))
  rw [e1]
  exact congrArg (fun z => rope z (ac m c T) (asn m c T) ⟨q.val % 64, by omega⟩ * (f : EReal)) e2

include hT in
theorem turned_at (hc : lit0 (grid0.coords t 0) = 1#32) (r : Fin 512) (q : Fin 3584) (hq : q.val = (grid0.coords t 0).val * 512 + r.val) :
    tT (iblk m c 0 t) (iblk m c 1 t) (iblk m c 2 t) (iblk m c 3 t) (iblk m c 4 t) i r = hF (ax m c) (aw m c) (ac m c) (asn m c) T q := by
  have hn := (flag (grid0.coords t 0)).mp hc
  have hrl := r.isLt
  rw [t_tile m c t i T hT r q hq]
  unfold hF
  rw [if_neg (show ¬ (q.val / 512 = 2 ∨ q.val / 512 = 5) by omega)]

include hT in
theorem plain_at (hc : ¬ lit0 (grid0.coords t 0) = 1#32) (r : Fin 512) (q : Fin 3584) (hq : q.val = (grid0.coords t 0).val * 512 + r.val) :
    pT (iblk m c 0 t) (iblk m c 1 t) i r = hF (ax m c) (aw m c) (ac m c) (asn m c) T q := by
  have hn := Classical.not_not.mp fun h => hc ((flag (grid0.coords t 0)).mpr h)
  have hrl := r.isLt
  rw [p_tile m c t i T hT r q hq]
  unfold hF
  rw [if_pos (show q.val / 512 = 2 ∨ q.val / 512 = 5 by omega)]

end blocks

theorem rows_point (t : Fin grid0.N) (z : S512x512.Idx) (y : S8192x3584.Idx) (h0 : (y 0).val = (grid0.coords t 1).val * 512 + (z 0).val) (h1 : (y 1).val = (grid0.coords t 0).val * 512 + (z 1).val) :
    rowsAt m c t z = resultRows m c y := by
  unfold rowsAt
  by_cases hc : lit0 ((grid0.coords t) 0) = 1#32
  · rw [if_pos hc]
    exact (turnedRows_entry _ _ _ _ _ z).trans (turned_at m c t (z 0) (y 0) h0 hc (z 1) (y 1) h1)
  · rw [if_neg hc]
    exact (plainRows_entry _ _ z).trans (plain_at m c t (z 0) (y 0) h0 hc (z 1) (y 1) h1)

theorem tiles_point (t : Fin grid0.N) (z : S2x512x256.Idx) (y : S32x3584x256.Idx) (h0 : (y 0).val = (grid0.coords t 1).val * 2 + (z 0).val) (h1 : (y 1).val = (grid0.coords t 0).val * 512 + (z 1).val) (h2 : (y 2).val = (z 2).val) :
    tilesAt m c t z = resultTiles m c y := by
  have hb0 : (y 0).val < 32 := (y 0).isLt
  have hb2 : (y 2).val < 256 := (y 2).isLt
  have hT : (⟨(y 0).val * 256 + (y 2).val, by omega⟩ : Fin 8192).val = (grid0.coords t 1).val * 512 + (rw2 z).val := by
    show (y 0).val * 256 + (y 2).val = (grid0.coords t 1).val * 512 + (256 * (z 0).val + (z 2).val)
    omega
  unfold tilesAt
  by_cases hc : lit0 ((grid0.coords t) 0) = 1#32
  · rw [if_pos hc]
    exact (turnedTiles_entry _ _ _ _ _ z).trans (turned_at m c t (rw2 z) _ hT hc (z 1) (y 1) h1)
  · rw [if_neg hc]
    exact (plainTiles_entry _ _ z).trans (plain_at m c t (rw2 z) _ hT hc (z 1) (y 1) h1)

theorem rows_value : (data m 0 c).arrAt 5 (cfg0 (F := Ideal) (adm 0)).N = resultRows m c := by
  refine (data m 0 c).arrAt_eq_of_covers 5 _ (by decide +kernel) fun t hf y => ?_
  obtain ⟨-, -, -, -, -, ⟨h0, h1⟩, -⟩ := at_j (grid0.coords t)
  have k0 : ((((((cfg0 (F := Ideal) (adm 0)).win 5).rect t).emb y) 0 : Fin 8192) : ℕ) = (grid0.coords t 1).val * 512 + (y 0).val := by
    refine (((cfg0 (F := Ideal) (adm 0)).win 5).rect_emb_val t y 0).trans ?_
    show cc0_transform_5 (grid0.coords t) 0 * 512 + (y 0).val = _
    rw [h0]
  have k1 : ((((((cfg0 (F := Ideal) (adm 0)).win 5).rect t).emb y) 1 : Fin 3584) : ℕ) = (grid0.coords t 0).val * 512 + (y 1).val := by
    refine (((cfg0 (F := Ideal) (adm 0)).win 5).rect_emb_val t y 1).trans ?_
    show cc0_transform_5 (grid0.coords t) 1 * 512 + (y 1).val = _
    rw [h1]
  exact rows_point m c t y _ k0 k1

theorem tiles_value : (data m 0 c).arrAt 6 (cfg0 (F := Ideal) (adm 0)).N = resultTiles m c := by
  refine (data m 0 c).arrAt_eq_of_covers 6 _ (by decide +kernel) fun t hf y => ?_
  obtain ⟨-, -, -, -, -, -, ⟨h0, h1, h2⟩⟩ := at_j (grid0.coords t)
  have k0 : ((((((cfg0 (F := Ideal) (adm 0)).win 6).rect t).emb y) 0 : Fin 32) : ℕ) = (grid0.coords t 1).val * 2 + (y 0).val := by
    refine (((cfg0 (F := Ideal) (adm 0)).win 6).rect_emb_val t y 0).trans ?_
    show cc0_transform_6 (grid0.coords t) 0 * 2 + (y 0).val = _
    rw [h0]
  have k1 : ((((((cfg0 (F := Ideal) (adm 0)).win 6).rect t).emb y) 1 : Fin 3584) : ℕ) = (grid0.coords t 0).val * 512 + (y 1).val := by
    refine (((cfg0 (F := Ideal) (adm 0)).win 6).rect_emb_val t y 1).trans ?_
    show cc0_transform_6 (grid0.coords t) 1 * 512 + (y 1).val = _
    rw [h1]
  have k2 : ((((((cfg0 (F := Ideal) (adm 0)).win 6).rect t).emb y) 2 : Fin 256) : ℕ) = (y 2).val := by
    refine (((cfg0 (F := Ideal) (adm 0)).win 6).rect_emb_val t y 2).trans ?_
    show cc0_transform_6 (grid0.coords t) 2 * 256 + (y 2).val = _
    rw [h2]
    omega
  exact tiles_point m c t y _ k0 k1 k2

/-- Every execution ends with the two results and the arguments as they were. -/
theorem ends_result (ρ : Dev nD → PrngReg) : θ_run defs (onTc (τ := τ) (main (F := Ideal))) ⟨m, fun _ => 0, ρ⟩ fun r => ∀ c : Dev nD,
    r.2.mem ((c.tc : Thread nD τ).loc main_v34_0) = resultRows m c
    ∧ r.2.mem ((c.tc : Thread nD τ).loc main_v34_1) = resultTiles m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 5).trans (rows_value m c), ((h.1 c).1 6).trans (tiles_value m c),
    ((h.1 c).2 main_arg0 (Pipeline.mem_restRefs_of main_arg0 (by decide) (show ∀ w : Fin 7, (spec0 w).arr.view.ref ≠ main_arg0 by decide))).trans (kept0 m c),
    ((h.1 c).2 main_arg1 (Pipeline.mem_restRefs_of main_arg1 (by decide) (show ∀ w : Fin 7, (spec0 w).arr.view.ref ≠ main_arg1 by decide))).trans (kept1 m c),
    ((h.1 c).2 main_arg2 (Pipeline.mem_restRefs_of main_arg2 (by decide) (show ∀ w : Fin 7, (spec0 w).arr.view.ref ≠ main_arg2 by decide))).trans (kept2 m c),
    ((h.1 c).2 main_arg3 (Pipeline.mem_restRefs_of main_arg3 (by decide) (show ∀ w : Fin 7, (spec0 w).arr.view.ref ≠ main_arg3 by decide))).trans (kept3 m c)⟩) (ends m ρ)

end Cert.HeadsIdeal.Hd

end
-- ==== Proof.HeadsRef.lean ====
/- The reference's projections to queries, keys and values, entry by entry, as one function of the arguments. -/
module

public import proofs.«01_k».proof.Proof.HeadsSpec
public import proofs.«01_k».proof.Proof.Gen.HeadsReferenceIdeal.Run
public import Idealize.ShloMosaic.Lib.Pointwise
public import Idealize.ShloMosaic.Lib.Tactic.IndexArith
public import Idealize.ShloMosaic.Lib.Claim

@[expose] public section

set_option maxRecDepth 16384

noncomputable section

namespace Cert.HeadsReferenceIdeal.Hd

open Cert.HeadsReferenceIdeal Cert.HeadsReferenceIdeal.Gen Cert.HeadsVal
open Idealize.ShloMosaic Idealize.ShloMosaic.TcCoe Idealize.ShloMosaic.Tactic

/-- Every projection of the activations. -/
def allR (x : FVec Ideal S1x8192x2048 .f32) (w : FVec Ideal S2048x13804 .f32) : FVec Ideal S1x8192x13804 .f32 := Host.dotGeneral dot_S1x8192x2048_S2048x13804_S1x8192x13804_2_0_01_1_n_n none x w
theorem allR_entry (x : FVec Ideal S1x8192x2048 .f32) (w : FVec Ideal S2048x13804 .f32) (t : Fin 8192) (r : Fin 13804) :
    allR x w (ix3 (0 : Fin 1) t r) = zF (fun t k => x (ix3 (0 : Fin 1) t k)) (fun k r => w (ix2 k r)) t r := by
  unfold zF
  pointwise [allR]

/-- A section of the columns, by head. -/
def sec0 (p : FVec Ideal S1x8192x13804 .f32) : FVec Ideal S1x8192x16x64 .f32 := shapeCast _ (extractStridedSlice S1x8192x1024 ![0, 0, 0] p slices_S1x8192x13804_S1x8192x1024_0_0_0) shapeCasts_S1x8192x1024_S1x8192x16x64
def sec1 (p : FVec Ideal S1x8192x13804 .f32) : FVec Ideal S1x8192x8x64 .f32 := shapeCast _ (extractStridedSlice S1x8192x512 ![0, 0, 1024] p slices_S1x8192x13804_S1x8192x512_0_0_1024) shapeCasts_S1x8192x512_S1x8192x8x64
def sec2 (p : FVec Ideal S1x8192x13804 .f32) : FVec Ideal S1x8192x16x64 .f32 := shapeCast _ (extractStridedSlice S1x8192x1024 ![0, 0, 3080] p slices_S1x8192x13804_S1x8192x1024_0_0_3080) shapeCasts_S1x8192x1024_S1x8192x16x64
def sec3 (p : FVec Ideal S1x8192x13804 .f32) : FVec Ideal S1x8192x8x64 .f32 := shapeCast _ (extractStridedSlice S1x8192x512 ![0, 0, 4104] p slices_S1x8192x13804_S1x8192x512_0_0_4104) shapeCasts_S1x8192x512_S1x8192x8x64
def sec4 (p : FVec Ideal S1x8192x13804 .f32) : FVec Ideal S1x8192x5x64 .f32 := shapeCast _ (extractStridedSlice S1x8192x320 ![0, 0, 4616] p slices_S1x8192x13804_S1x8192x320_0_0_4616) shapeCasts_S1x8192x320_S1x8192x5x64
theorem sec0_entry (p : FVec Ideal S1x8192x13804 .f32) (t : Fin 8192) (h : Fin 16) (e : Fin 64) : sec0 p (ix4 (0 : Fin 1) t h e) = p (ix3 (0 : Fin 1) t ⟨0 + (h.val * 64 + e.val), by omega⟩) := by
  pointwise [sec0]
theorem sec1_entry (p : FVec Ideal S1x8192x13804 .f32) (t : Fin 8192) (h : Fin 8) (e : Fin 64) : sec1 p (ix4 (0 : Fin 1) t h e) = p (ix3 (0 : Fin 1) t ⟨1024 + (h.val * 64 + e.val), by omega⟩) := by
  pointwise [sec1]
theorem sec2_entry (p : FVec Ideal S1x8192x13804 .f32) (t : Fin 8192) (h : Fin 16) (e : Fin 64) : sec2 p (ix4 (0 : Fin 1) t h e) = p (ix3 (0 : Fin 1) t ⟨3080 + (h.val * 64 + e.val), by omega⟩) := by
  pointwise [sec2]
theorem sec3_entry (p : FVec Ideal S1x8192x13804 .f32) (t : Fin 8192) (h : Fin 8) (e : Fin 64) : sec3 p (ix4 (0 : Fin 1) t h e) = p (ix3 (0 : Fin 1) t ⟨4104 + (h.val * 64 + e.val), by omega⟩) := by
  pointwise [sec3]
theorem sec4_entry (p : FVec Ideal S1x8192x13804 .f32) (t : Fin 8192) (h : Fin 5) (e : Fin 64) : sec4 p (ix4 (0 : Fin 1) t h e) = p (ix3 (0 : Fin 1) t ⟨4616 + (h.val * 64 + e.val), by omega⟩) := by
  pointwise [sec4]

/-- The rotation by head, for sixteen heads and for five. -/
def fst16 (z : FVec Ideal S1x8192x16x64 .f32) (c s : FVec Ideal S1x8192x8 .f32) : FVec Ideal S1x8192x16x8 .f32 :=
  subf (mulf (extractStridedSlice S1x8192x16x8 ![0, 0, 0, 0] (extractStridedSlice S1x8192x16x16 ![0, 0, 0, 0] z slices_S1x8192x16x64_S1x8192x16x16_0_0_0_0) slices_S1x8192x16x16_S1x8192x16x8_0_0_0_0) (broadcastInDim S1x8192x16x8 ![0, 1, 2, 3] bcast_S1x8192x1x8_S1x8192x16x8_0_1_2_3 (broadcastInDim S1x8192x1x8 ![0, 1, 3] bcast_S1x8192x8_S1x8192x1x8_0_1_3 c))) (mulf (extractStridedSlice S1x8192x16x8 ![0, 0, 0, 8] (extractStridedSlice S1x8192x16x16 ![0, 0, 0, 0] z slices_S1x8192x16x64_S1x8192x16x16_0_0_0_0) slices_S1x8192x16x16_S1x8192x16x8_0_0_0_8) (broadcastInDim S1x8192x16x8 ![0, 1, 2, 3] bcast_S1x8192x1x8_S1x8192x16x8_0_1_2_3 (broadcastInDim S1x8192x1x8 ![0, 1, 3] bcast_S1x8192x8_S1x8192x1x8_0_1_3 s)))
def snd16 (z : FVec Ideal S1x8192x16x64 .f32) (c s : FVec Ideal S1x8192x8 .f32) : FVec Ideal S1x8192x16x8 .f32 :=
  addf (mulf (extractStridedSlice S1x8192x16x8 ![0, 0, 0, 8] (extractStridedSlice S1x8192x16x16 ![0, 0, 0, 0] z slices_S1x8192x16x64_S1x8192x16x16_0_0_0_0) slices_S1x8192x16x16_S1x8192x16x8_0_0_0_8) (broadcastInDim S1x8192x16x8 ![0, 1, 2, 3] bcast_S1x8192x1x8_S1x8192x16x8_0_1_2_3 (broadcastInDim S1x8192x1x8 ![0, 1, 3] bcast_S1x8192x8_S1x8192x1x8_0_1_3 c))) (mulf (extractStridedSlice S1x8192x16x8 ![0, 0, 0, 0] (extractStridedSlice S1x8192x16x16 ![0, 0, 0, 0] z slices_S1x8192x16x64_S1x8192x16x16_0_0_0_0) slices_S1x8192x16x16_S1x8192x16x8_0_0_0_0) (broadcastInDim S1x8192x16x8 ![0, 1, 2, 3] bcast_S1x8192x1x8_S1x8192x16x8_0_1_2_3 (broadcastInDim S1x8192x1x8 ![0, 1, 3] bcast_S1x8192x8_S1x8192x1x8_0_1_3 s)))
def rest16 (z : FVec Ideal S1x8192x16x64 .f32) : FVec Ideal S1x8192x16x48 .f32 := extractStridedSlice S1x8192x16x48 ![0, 0, 0, 16] z slices_S1x8192x16x64_S1x8192x16x48_0_0_0_16
def join16 (a b : FVec Ideal S1x8192x16x8 .f32) (r : FVec Ideal S1x8192x16x48 .f32) : FVec Ideal S1x8192x16x64 .f32 :=
  concatenate S1x8192x16x64 3 [⟨S1x8192x16x16, (concatenate S1x8192x16x16 3 [⟨S1x8192x16x8, a⟩, ⟨S1x8192x16x8, b⟩] concatenates_S1x8192x16x8_S1x8192x16x8_S1x8192x16x16_d3)⟩, ⟨S1x8192x16x48, r⟩] concatenates_S1x8192x16x16_S1x8192x16x48_S1x8192x16x64_d3
def rot16 (z : FVec Ideal S1x8192x16x64 .f32) (c s : FVec Ideal S1x8192x8 .f32) : FVec Ideal S1x8192x16x64 .f32 := join16 (fst16 z c s) (snd16 z c s) (rest16 z)

theorem fst16_entry (z : FVec Ideal S1x8192x16x64 .f32) (c s : FVec Ideal S1x8192x8 .f32) (t : Fin 8192) (h : Fin 16) (e : Fin 8) :
    fst16 z c s (ix4 (0 : Fin 1) t h e) = z (ix4 (0 : Fin 1) t h ⟨e.val, by omega⟩) * c (ix3 (0 : Fin 1) t e) - z (ix4 (0 : Fin 1) t h ⟨8 + e.val, by omega⟩) * s (ix3 (0 : Fin 1) t e) := by
  pointwise [fst16]
theorem snd16_entry (z : FVec Ideal S1x8192x16x64 .f32) (c s : FVec Ideal S1x8192x8 .f32) (t : Fin 8192) (h : Fin 16) (e : Fin 8) :
    snd16 z c s (ix4 (0 : Fin 1) t h e) = z (ix4 (0 : Fin 1) t h ⟨8 + e.val, by omega⟩) * c (ix3 (0 : Fin 1) t e) + z (ix4 (0 : Fin 1) t h ⟨e.val, by omega⟩) * s (ix3 (0 : Fin 1) t e) := by
  pointwise [snd16]
theorem rest16_entry (z : FVec Ideal S1x8192x16x64 .f32) (t : Fin 8192) (h : Fin 16) (e : Fin 48) : rest16 z (ix4 (0 : Fin 1) t h e) = z (ix4 (0 : Fin 1) t h ⟨16 + e.val, by omega⟩) := by
  pointwise [rest16]
theorem join16_entry (a b : FVec Ideal S1x8192x16x8 .f32) (r : FVec Ideal S1x8192x16x48 .f32) (t : Fin 8192) (h : Fin 16) (e : Fin 64) :
    join16 a b r (ix4 (0 : Fin 1) t h e) = if h0 : e.val < 16 then if h1 : e.val < 8 then a (ix4 (0 : Fin 1) t h ⟨e.val, h1⟩) else b (ix4 (0 : Fin 1) t h ⟨e.val - 8, by omega⟩) else r (ix4 (0 : Fin 1) t h ⟨e.val - 16, by omega⟩) := by
  pointwise [join16]
theorem rot16_entry (z : FVec Ideal S1x8192x16x64 .f32) (c s : FVec Ideal S1x8192x8 .f32) (t : Fin 8192) (h : Fin 16) (e : Fin 64) :
    rot16 z c s (ix4 (0 : Fin 1) t h e) = rope (fun e => z (ix4 (0 : Fin 1) t h e)) (fun e => c (ix3 (0 : Fin 1) t e)) (fun e => s (ix3 (0 : Fin 1) t e)) e := by
  unfold rot16 rope
  rw [join16_entry]
  by_cases h0 : e.val < 16
  · rw [dif_pos h0, dif_pos h0]
    by_cases h1 : e.val < 8
    · rw [dif_pos h1, dif_pos h1]
      exact fst16_entry z c s t h _
    · rw [dif_neg h1, dif_neg h1]
      exact snd16_entry z c s t h _
  · rw [dif_neg h0, dif_neg h0]
    exact rest16_entry z t h _

def fst5 (z : FVec Ideal S1x8192x5x64 .f32) (c s : FVec Ideal S1x8192x8 .f32) : FVec Ideal S1x8192x5x8 .f32 :=
  subf (mulf (extractStridedSlice S1x8192x5x8 ![0, 0, 0, 0] (extractStridedSlice S1x8192x5x16 ![0, 0, 0, 0] z slices_S1x8192x5x64_S1x8192x5x16_0_0_0_0) slices_S1x8192x5x16_S1x8192x5x8_0_0_0_0) (broadcastInDim S1x8192x5x8 ![0, 1, 2, 3] bcast_S1x8192x1x8_S1x8192x5x8_0_1_2_3 (broadcastInDim S1x8192x1x8 ![0, 1, 3] bcast_S1x8192x8_S1x8192x1x8_0_1_3 c))) (mulf (extractStridedSlice S1x8192x5x8 ![0, 0, 0, 8] (extractStridedSlice S1x8192x5x16 ![0, 0, 0, 0] z slices_S1x8192x5x64_S1x8192x5x16_0_0_0_0) slices_S1x8192x5x16_S1x8192x5x8_0_0_0_8) (broadcastInDim S1x8192x5x8 ![0, 1, 2, 3] bcast_S1x8192x1x8_S1x8192x5x8_0_1_2_3 (broadcastInDim S1x8192x1x8 ![0, 1, 3] bcast_S1x8192x8_S1x8192x1x8_0_1_3 s)))
def snd5 (z : FVec Ideal S1x8192x5x64 .f32) (c s : FVec Ideal S1x8192x8 .f32) : FVec Ideal S1x8192x5x8 .f32 :=
  addf (mulf (extractStridedSlice S1x8192x5x8 ![0, 0, 0, 8] (extractStridedSlice S1x8192x5x16 ![0, 0, 0, 0] z slices_S1x8192x5x64_S1x8192x5x16_0_0_0_0) slices_S1x8192x5x16_S1x8192x5x8_0_0_0_8) (broadcastInDim S1x8192x5x8 ![0, 1, 2, 3] bcast_S1x8192x1x8_S1x8192x5x8_0_1_2_3 (broadcastInDim S1x8192x1x8 ![0, 1, 3] bcast_S1x8192x8_S1x8192x1x8_0_1_3 c))) (mulf (extractStridedSlice S1x8192x5x8 ![0, 0, 0, 0] (extractStridedSlice S1x8192x5x16 ![0, 0, 0, 0] z slices_S1x8192x5x64_S1x8192x5x16_0_0_0_0) slices_S1x8192x5x16_S1x8192x5x8_0_0_0_0) (broadcastInDim S1x8192x5x8 ![0, 1, 2, 3] bcast_S1x8192x1x8_S1x8192x5x8_0_1_2_3 (broadcastInDim S1x8192x1x8 ![0, 1, 3] bcast_S1x8192x8_S1x8192x1x8_0_1_3 s)))
def rest5 (z : FVec Ideal S1x8192x5x64 .f32) : FVec Ideal S1x8192x5x48 .f32 := extractStridedSlice S1x8192x5x48 ![0, 0, 0, 16] z slices_S1x8192x5x64_S1x8192x5x48_0_0_0_16
def join5 (a b : FVec Ideal S1x8192x5x8 .f32) (r : FVec Ideal S1x8192x5x48 .f32) : FVec Ideal S1x8192x5x64 .f32 :=
  concatenate S1x8192x5x64 3 [⟨S1x8192x5x16, (concatenate S1x8192x5x16 3 [⟨S1x8192x5x8, a⟩, ⟨S1x8192x5x8, b⟩] concatenates_S1x8192x5x8_S1x8192x5x8_S1x8192x5x16_d3)⟩, ⟨S1x8192x5x48, r⟩] concatenates_S1x8192x5x16_S1x8192x5x48_S1x8192x5x64_d3
def rot5 (z : FVec Ideal S1x8192x5x64 .f32) (c s : FVec Ideal S1x8192x8 .f32) : FVec Ideal S1x8192x5x64 .f32 := join5 (fst5 z c s) (snd5 z c s) (rest5 z)

theorem fst5_entry (z : FVec Ideal S1x8192x5x64 .f32) (c s : FVec Ideal S1x8192x8 .f32) (t : Fin 8192) (h : Fin 5) (e : Fin 8) :
    fst5 z c s (ix4 (0 : Fin 1) t h e) = z (ix4 (0 : Fin 1) t h ⟨e.val, by omega⟩) * c (ix3 (0 : Fin 1) t e) - z (ix4 (0 : Fin 1) t h ⟨8 + e.val, by omega⟩) * s (ix3 (0 : Fin 1) t e) := by
  pointwise [fst5]
theorem snd5_entry (z : FVec Ideal S1x8192x5x64 .f32) (c s : FVec Ideal S1x8192x8 .f32) (t : Fin 8192) (h : Fin 5) (e : Fin 8) :
    snd5 z c s (ix4 (0 : Fin 1) t h e) = z (ix4 (0 : Fin 1) t h ⟨8 + e.val, by omega⟩) * c (ix3 (0 : Fin 1) t e) + z (ix4 (0 : Fin 1) t h ⟨e.val, by omega⟩) * s (ix3 (0 : Fin 1) t e) := by
  pointwise [snd5]
theorem rest5_entry (z : FVec Ideal S1x8192x5x64 .f32) (t : Fin 8192) (h : Fin 5) (e : Fin 48) : rest5 z (ix4 (0 : Fin 1) t h e) = z (ix4 (0 : Fin 1) t h ⟨16 + e.val, by omega⟩) := by
  pointwise [rest5]
theorem join5_entry (a b : FVec Ideal S1x8192x5x8 .f32) (r : FVec Ideal S1x8192x5x48 .f32) (t : Fin 8192) (h : Fin 5) (e : Fin 64) :
    join5 a b r (ix4 (0 : Fin 1) t h e) = if h0 : e.val < 16 then if h1 : e.val < 8 then a (ix4 (0 : Fin 1) t h ⟨e.val, h1⟩) else b (ix4 (0 : Fin 1) t h ⟨e.val - 8, by omega⟩) else r (ix4 (0 : Fin 1) t h ⟨e.val - 16, by omega⟩) := by
  pointwise [join5]
theorem rot5_entry (z : FVec Ideal S1x8192x5x64 .f32) (c s : FVec Ideal S1x8192x8 .f32) (t : Fin 8192) (h : Fin 5) (e : Fin 64) :
    rot5 z c s (ix4 (0 : Fin 1) t h e) = rope (fun e => z (ix4 (0 : Fin 1) t h e)) (fun e => c (ix3 (0 : Fin 1) t e)) (fun e => s (ix3 (0 : Fin 1) t e)) e := by
  unfold rot5 rope
  rw [join5_entry]
  by_cases h0 : e.val < 16
  · rw [dif_pos h0, dif_pos h0]
    by_cases h1 : e.val < 8
    · rw [dif_pos h1, dif_pos h1]
      exact fst5_entry z c s t h _
    · rw [dif_neg h1, dif_neg h1]
      exact snd5_entry z c s t h _
  · rw [dif_neg h0, dif_neg h0]
    exact rest5_entry z t h _

/-- Some of the heads; eight heads, scaled; the last head, four times. -/
def lo (z : FVec Ideal S1x8192x16x64 .f32) : FVec Ideal S1x8192x8x64 .f32 := extractStridedSlice S1x8192x8x64 ![0, 0, 0, 0] z slices_S1x8192x16x64_S1x8192x8x64_0_0_0_0
def hi (z : FVec Ideal S1x8192x16x64 .f32) : FVec Ideal S1x8192x8x64 .f32 := extractStridedSlice S1x8192x8x64 ![0, 0, 8, 0] z slices_S1x8192x16x64_S1x8192x8x64_0_0_8_0
def lo4 (z : FVec Ideal S1x8192x5x64 .f32) : FVec Ideal S1x8192x4x64 .f32 := extractStridedSlice S1x8192x4x64 ![0, 0, 0, 0] z slices_S1x8192x5x64_S1x8192x4x64_0_0_0_0
theorem lo_entry (z : FVec Ideal S1x8192x16x64 .f32) (t : Fin 8192) (h : Fin 8) (e : Fin 64) : lo z (ix4 (0 : Fin 1) t h e) = z (ix4 (0 : Fin 1) t ⟨h.val, by omega⟩ e) := by
  pointwise [lo]
theorem hi_entry (z : FVec Ideal S1x8192x16x64 .f32) (t : Fin 8192) (h : Fin 8) (e : Fin 64) : hi z (ix4 (0 : Fin 1) t h e) = z (ix4 (0 : Fin 1) t ⟨8 + h.val, by omega⟩ e) := by
  pointwise [hi]
theorem lo4_entry (z : FVec Ideal S1x8192x5x64 .f32) (t : Fin 8192) (h : Fin 4) (e : Fin 64) : lo4 z (ix4 (0 : Fin 1) t h e) = z (ix4 (0 : Fin 1) t ⟨h.val, by omega⟩ e) := by
  pointwise [lo4]
def scaled (z : FVec Ideal S1x8192x8x64 .f32) : FVec Ideal S1x8192x8x64 .f32 := mulf z (broadcastInDim S1x8192x8x64 ![] bcast_S_S1x8192x8x64 (constant S_ .f32 0x3E38AA3B#32))
def four (z : FVec Ideal S1x8192x5x64 .f32) : FVec Ideal S1x8192x4x64 .f32 :=
  broadcastInDim S1x8192x4x64 ![0, 1, 2, 3] bcast_S1x8192x1x64_S1x8192x4x64_0_1_2_3 (extractStridedSlice S1x8192x1x64 ![0, 0, 4, 0] z slices_S1x8192x5x64_S1x8192x1x64_0_0_4_0)
theorem scaled_entry (z : FVec Ideal S1x8192x8x64 .f32) (t : Fin 8192) (h : Fin 8) (e : Fin 64) : scaled z (ix4 (0 : Fin 1) t h e) = z (ix4 (0 : Fin 1) t h e) * Ideal.ofBits .f32 0x3E38AA3B#32 := by
  pointwise [scaled]
theorem four_entry (z : FVec Ideal S1x8192x5x64 .f32) (t : Fin 8192) (h : Fin 4) (e : Fin 64) : four z (ix4 (0 : Fin 1) t h e) = z (ix4 (0 : Fin 1) t (4 : Fin 5) e) := by
  pointwise [four]

/-- Fifty-six heads beside each other. -/
def beside (a0 a1 a2 a3 a4 a5 : FVec Ideal S1x8192x8x64 .f32) (a6 a7 : FVec Ideal S1x8192x4x64 .f32) : FVec Ideal S1x8192x56x64 .f32 :=
  concatenate S1x8192x56x64 2 [⟨S1x8192x8x64, a0⟩, ⟨S1x8192x8x64, a1⟩, ⟨S1x8192x8x64, a2⟩, ⟨S1x8192x8x64, a3⟩, ⟨S1x8192x8x64, a4⟩, ⟨S1x8192x8x64, a5⟩, ⟨S1x8192x4x64, a6⟩, ⟨S1x8192x4x64, a7⟩] concatenates_S1x8192x8x64_S1x8192x8x64_S1x8192x8x64_S1x8192x8x64_S1x8192x8x64_S1x8192x8x64_S1x8192x4x64_S1x8192x4x64_S1x8192x56x64_d2
def rows (z : FVec Ideal S1x8192x56x64 .f32) : FVec Ideal S8192x3584 .bf16 := truncf .bf16 (shapeCast _ z shapeCasts_S1x8192x56x64_S8192x3584) bitsLt_bf16_f32
def tiles (z : FVec Ideal S1x8192x56x64 .f32) : FVec Ideal S32x3584x256 .bf16 :=
  truncf .bf16 (transpose S32x3584x256 [0, 2, 1] (shapeCast _ (shapeCast S8192x3584 z shapeCasts_S1x8192x56x64_S8192x3584) shapeCasts_S8192x3584_S32x256x3584) transposes_S32x256x3584_S32x3584x256_0_2_1) bitsLt_bf16_f32

theorem rows_entry (z : FVec Ideal S1x8192x56x64 .f32) (t : Fin 8192) (q : Fin 3584) : rows z (ix2 t q) = z (ix4 (0 : Fin 1) t ⟨q.val / 64, by omega⟩ ⟨q.val % 64, by omega⟩) := by
  pointwise [rows]
theorem tiles_entry (z : FVec Ideal S1x8192x56x64 .f32) (b : Fin 32) (q : Fin 3584) (i : Fin 256) : tiles z (ix3 b q i) = z (ix4 (0 : Fin 1) ⟨b.val * 256 + i.val, by omega⟩ ⟨q.val / 64, by omega⟩ ⟨q.val % 64, by omega⟩) := by
  pointwise [tiles]

theorem beside_entry (a0 a1 a2 a3 a4 a5 : FVec Ideal S1x8192x8x64 .f32) (a6 a7 : FVec Ideal S1x8192x4x64 .f32) (t : Fin 8192) (h : Fin 56) (e : Fin 64) :
    beside a0 a1 a2 a3 a4 a5 a6 a7 (ix4 (0 : Fin 1) t h e) = if h0 : h.val < 8 then a0 (ix4 (0 : Fin 1) t ⟨h.val, by omega⟩ e) else if h1 : h.val - 8 < 8 then a1 (ix4 (0 : Fin 1) t ⟨h.val - 8, by omega⟩ e) else if h2 : h.val - 8 - 8 < 8 then a2 (ix4 (0 : Fin 1) t ⟨h.val - 8 - 8, by omega⟩ e) else if h3 : h.val - 8 - 8 - 8 < 8 then a3 (ix4 (0 : Fin 1) t ⟨h.val - 8 - 8 - 8, by omega⟩ e) else if h4 : h.val - 8 - 8 - 8 - 8 < 8 then a4 (ix4 (0 : Fin 1) t ⟨h.val - 8 - 8 - 8 - 8, by omega⟩ e) else if h5 : h.val - 8 - 8 - 8 - 8 - 8 < 8 then a5 (ix4 (0 : Fin 1) t ⟨h.val - 8 - 8 - 8 - 8 - 8, by omega⟩ e) else if h6 : h.val - 8 - 8 - 8 - 8 - 8 - 8 < 4 then a6 (ix4 (0 : Fin 1) t ⟨h.val - 8 - 8 - 8 - 8 - 8 - 8, by omega⟩ e) else a7 (ix4 (0 : Fin 1) t ⟨h.val - 8 - 8 - 8 - 8 - 8 - 8 - 4, by omega⟩ e) := by
  pointwise [beside]

/-- The heads before they are laid out. -/
def made (x : FVec Ideal S1x8192x2048 .f32) (w : FVec Ideal S2048x13804 .f32) (c s : FVec Ideal S1x8192x8 .f32) : FVec Ideal S1x8192x56x64 .f32 :=
  beside (scaled (lo (rot16 (sec0 (allR x w)) c s))) (hi (rot16 (sec0 (allR x w)) c s)) (sec1 (allR x w)) (scaled (lo (rot16 (sec2 (allR x w)) c s))) (hi (rot16 (sec2 (allR x w)) c s)) (sec3 (allR x w)) (lo4 (rot5 (sec4 (allR x w)) c s)) (four (rot5 (sec4 (allR x w)) c s))

theorem made_entry (x : FVec Ideal S1x8192x2048 .f32) (w : FVec Ideal S2048x13804 .f32) (c s : FVec Ideal S1x8192x8 .f32) (t : Fin 8192) (q : Fin 3584) :
    made x w c s (ix4 (0 : Fin 1) t ⟨q.val / 64, by omega⟩ ⟨q.val % 64, by omega⟩)
      = hF (fun t k => x (ix3 (0 : Fin 1) t k)) (fun k r => w (ix2 k r)) (fun t e => c (ix3 (0 : Fin 1) t e)) (fun t e => s (ix3 (0 : Fin 1) t e)) t q := by
  have hq := q.isLt
  unfold made hF
  rw [beside_entry]
  dsimp only
  by_cases h0 : q.val / 64 < 8
  · rw [dif_pos h0]
    unfold fac
    rw [if_pos (show q.val / 512 = 0 ∨ q.val / 512 = 3 by omega), scaled_entry]
    refine congrArg (fun z => z * Ideal.ofBits .f32 0x3E38AA3B#32) ?_
    rw [if_neg (show ¬ (q.val / 512 = 2 ∨ q.val / 512 = 5) by omega), lo_entry, rot16_entry]
    refine congrArg (fun z => rope z (fun e => c (ix3 (0 : Fin 1) t e)) (fun e => s (ix3 (0 : Fin 1) t e)) _) ?_
    funext e
    have he := e.isLt
    rw [sec0_entry, allR_entry]
    exact congrArg _ (Fin.ext (by dsimp only [col]; split_ifs <;> omega))
  rw [dif_neg h0]
  by_cases h1 : q.val / 64 - 8 < 8
  · rw [dif_pos h1]
    unfold fac
    rw [if_neg (show ¬ (q.val / 512 = 0 ∨ q.val / 512 = 3) by omega), mul_one]
    rw [if_neg (show ¬ (q.val / 512 = 2 ∨ q.val / 512 = 5) by omega), hi_entry, rot16_entry]
    refine congrArg (fun z => rope z (fun e => c (ix3 (0 : Fin 1) t e)) (fun e => s (ix3 (0 : Fin 1) t e)) _) ?_
    funext e
    have he := e.isLt
    rw [sec0_entry, allR_entry]
    exact congrArg _ (Fin.ext (by dsimp only [col]; split_ifs <;> omega))
  rw [dif_neg h1]
  by_cases h2 : q.val / 64 - 8 - 8 < 8
  · rw [dif_pos h2]
    unfold fac
    rw [if_neg (show ¬ (q.val / 512 = 0 ∨ q.val / 512 = 3) by omega), mul_one]
    rw [if_pos (show q.val / 512 = 2 ∨ q.val / 512 = 5 by omega), sec1_entry, allR_entry]
    exact congrArg _ (Fin.ext (by dsimp only [col]; split_ifs <;> omega))
  rw [dif_neg h2]
  by_cases h3 : q.val / 64 - 8 - 8 - 8 < 8
  · rw [dif_pos h3]
    unfold fac
    rw [if_pos (show q.val / 512 = 0 ∨ q.val / 512 = 3 by omega), scaled_entry]
    refine congrArg (fun z => z * Ideal.ofBits .f32 0x3E38AA3B#32) ?_
    rw [if_neg (show ¬ (q.val / 512 = 2 ∨ q.val / 512 = 5) by omega), lo_entry, rot16_entry]
    refine congrArg (fun z => rope z (fun e => c (ix3 (0 : Fin 1) t e)) (fun e => s (ix3 (0 : Fin 1) t e)) _) ?_
    funext e
    have he := e.isLt
    rw [sec2_entry, allR_entry]
    exact congrArg _ (Fin.ext (by dsimp only [col]; split_ifs <;> omega))
  rw [dif_neg h3]
  by_cases h4 : q.val / 64 - 8 - 8 - 8 - 8 < 8
  · rw [dif_pos h4]
    unfold fac
    rw [if_neg (show ¬ (q.val / 512 = 0 ∨ q.val / 512 = 3) by omega), mul_one]
    rw [if_neg (show ¬ (q.val / 512 = 2 ∨ q.val / 512 = 5) by omega), hi_entry, rot16_entry]
    refine congrArg (fun z => rope z (fun e => c (ix3 (0 : Fin 1) t e)) (fun e => s (ix3 (0 : Fin 1) t e)) _) ?_
    funext e
    have he := e.isLt
    rw [sec2_entry, allR_entry]
    exact congrArg _ (Fin.ext (by dsimp only [col]; split_ifs <;> omega))
  rw [dif_neg h4]
  by_cases h5 : q.val / 64 - 8 - 8 - 8 - 8 - 8 < 8
  · rw [dif_pos h5]
    unfold fac
    rw [if_neg (show ¬ (q.val / 512 = 0 ∨ q.val / 512 = 3) by omega), mul_one]
    rw [if_pos (show q.val / 512 = 2 ∨ q.val / 512 = 5 by omega), sec3_entry, allR_entry]
    exact congrArg _ (Fin.ext (by dsimp only [col]; split_ifs <;> omega))
  rw [dif_neg h5]
  by_cases h6 : q.val / 64 - 8 - 8 - 8 - 8 - 8 - 8 < 4
  · rw [dif_pos h6]
    unfold fac
    rw [if_neg (show ¬ (q.val / 512 = 0 ∨ q.val / 512 = 3) by omega), mul_one]
    rw [if_neg (show ¬ (q.val / 512 = 2 ∨ q.val / 512 = 5) by omega), lo4_entry, rot5_entry]
    refine congrArg (fun z => rope z (fun e => c (ix3 (0 : Fin 1) t e)) (fun e => s (ix3 (0 : Fin 1) t e)) _) ?_
    funext e
    have he := e.isLt
    rw [sec4_entry, allR_entry]
    exact congrArg _ (Fin.ext (by dsimp only [col]; split_ifs <;> omega))
  rw [dif_neg h6]
  unfold fac
  rw [if_neg (show ¬ (q.val / 512 = 0 ∨ q.val / 512 = 3) by omega), mul_one]
  rw [if_neg (show ¬ (q.val / 512 = 2 ∨ q.val / 512 = 5) by omega), four_entry, rot5_entry]
  refine congrArg (fun z => rope z (fun e => c (ix3 (0 : Fin 1) t e)) (fun e => s (ix3 (0 : Fin 1) t e)) _) ?_
  funext e
  have he := e.isLt
  rw [sec4_entry, allR_entry]
  exact congrArg _ (Fin.ext (by dsimp only [col]; split_ifs <;> omega))

variable (m : (ℓ : Loc nD τ sig) → Buf (Elt Ideal) ℓ) (c : Dev nD)

abbrev madeAt : FVec Ideal S1x8192x56x64 .f32 := made (m ((c.tc : Thread nD τ).loc main_arg0)) (m ((c.tc : Thread nD τ).loc main_arg1)) (m ((c.tc : Thread nD τ).loc main_arg2)) (m ((c.tc : Thread nD τ).loc main_arg3))

/-- The two results of the reference, by these names. -/
theorem rows_result : Value.res_out0 (F := Ideal) m c = rows (madeAt m c) := rfl
theorem tiles_result : Value.res_out1 (F := Ideal) m c = tiles (madeAt m c) := rfl

theorem rows_at (t : Fin 8192) (q : Fin 3584) : (Value.res_out0 (F := Ideal) m c : FVec Ideal S8192x3584 .bf16) (ix2 t q)
    = hF (fun t k => (m ((c.tc : Thread nD τ).loc main_arg0) : FVec Ideal S1x8192x2048 .f32) (ix3 (0 : Fin 1) t k)) (fun k r => (m ((c.tc : Thread nD τ).loc main_arg1) : FVec Ideal S2048x13804 .f32) (ix2 k r))
      (fun t e => (m ((c.tc : Thread nD τ).loc main_arg2) : FVec Ideal S1x8192x8 .f32) (ix3 (0 : Fin 1) t e)) (fun t e => (m ((c.tc : Thread nD τ).loc main_arg3) : FVec Ideal S1x8192x8 .f32) (ix3 (0 : Fin 1) t e)) t q := by
  rw [rows_result, rows_entry]
  exact made_entry _ _ _ _ t q
theorem tiles_at (b : Fin 32) (q : Fin 3584) (i : Fin 256) : (Value.res_out1 (F := Ideal) m c : FVec Ideal S32x3584x256 .bf16) (ix3 b q i)
    = hF (fun t k => (m ((c.tc : Thread nD τ).loc main_arg0) : FVec Ideal S1x8192x2048 .f32) (ix3 (0 : Fin 1) t k)) (fun k r => (m ((c.tc : Thread nD τ).loc main_arg1) : FVec Ideal S2048x13804 .f32) (ix2 k r))
      (fun t e => (m ((c.tc : Thread nD τ).loc main_arg2) : FVec Ideal S1x8192x8 .f32) (ix3 (0 : Fin 1) t e)) (fun t e => (m ((c.tc : Thread nD τ).loc main_arg3) : FVec Ideal S1x8192x8 .f32) (ix3 (0 : Fin 1) t e)) ⟨b.val * 256 + i.val, by omega⟩ q := by
  rw [tiles_result, tiles_entry]
  exact made_entry _ _ _ _ _ q

end Cert.HeadsReferenceIdeal.Hd

end
-- ==== Proof.lean ====
/- The claims about the attention call, the gated merge, the projections' call, the output projection's, the latent up-projections', the
   router of the output projection's call and the heads' projections: each program and its reference run, leave their arguments alone and end with every counter at zero, each idealized program is the program (the attention's with its mask constant
   named), and it computes what its reference computes. -/
module

public import proofs.«01_k».proof.Defs
public import proofs.«01_k».proof.Proof.FrameBits
public import proofs.«01_k».proof.Proof.KVal
public import proofs.«01_k».proof.Proof.Ref
public import proofs.«01_k».proof.Proof.MergeVal
public import proofs.«01_k».proof.Proof.ProjVal
public import proofs.«01_k».proof.Proof.OutVal
public import proofs.«01_k».proof.Proof.LatentVal
public import proofs.«01_k».proof.Proof.RouterVal
public import proofs.«01_k».proof.Proof.HeadsFrame
public import proofs.«01_k».proof.Proof.HeadsIdealFrame
public import proofs.«01_k».proof.Proof.HeadsVal
public import proofs.«01_k».proof.Proof.HeadsRef
public import proofs.«01_k».proof.Proof.Gen.Merge.Frame
public import proofs.«01_k».proof.Proof.Gen.Proj.Frame
public import proofs.«01_k».proof.Proof.Gen.Out.Frame
public import proofs.«01_k».proof.Proof.Gen.Latent.Frame
public import proofs.«01_k».proof.Proof.Gen.Router.Frame

@[expose] public section

noncomputable section

namespace Cert.Proof

open Idealize.ShloMosaic Idealize.ShloMosaic.Tactic Idealize.SL.Sem
open Cert.Soft

instance finite_facts : Cert.Pre_finite_qk.Facts := ⟨by decide⟩

/-! ## The programs run -/

theorem quiet_kernel : Cert.quiescent_Kernel := fun m ρ _ => Cert.Kernel.Att.quiet m ρ

theorem quiet_ideal : Cert.quiescent_KernelIdeal := fun m ρ _ => Cert.KernelIdeal.Att.quiet m ρ

theorem quiet_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem mask_named : Cert.preserves_Kernel_KernelIdeal :=
  IdealRules.named_const.statement Cert.KernelIdeal.κ "mask" .f32 0xF149F2CA#32 ⊥ rfl

/-! ## What the precondition says -/

theorem fini_of_abs {x : Ideal .f32} (h : (FloatOps.absf x : Ideal .f32) < Ideal.ofBits .f32 2139095040#32) : Fini x := by
  have h' : max (x : EReal) (-x) < ⊤ := lt_of_lt_of_le h le_top
  obtain ⟨h1, h2⟩ := max_lt_iff.mp h'
  exact ⟨h1.ne, fun hb => by rw [hb] at h2; exact absurd h2 (by simp)⟩

theorem finite_entry (q k : FVec Ideal Cert.Pre_finite_qk.S1x8192x8x96 .f32) (v : FVec Ideal Cert.Pre_finite_qk.S1x8192x8x64 .f32) (hp : Cert.Pre_finite_qk.fn (F := Ideal) q k v = fun _ => 1#1)
    (t : Fin 8192) (h : Fin 8) (e : Fin 96) : Fini (q (ix4 (0 : Fin 1) t h e)) ∧ Fini (k (ix4 (0 : Fin 1) t h e)) := by
  have h1 := congrFun hp (ix4 (0 : Fin 1) t h e)
  revert h1
  pointwise [Cert.Pre_finite_qk.fn]
  intro h1
  by_cases hq : FloatOps.absf (q (ix4 (0 : Fin 1) t h e)) < Ideal.ofBits .f32 2139095040#32
  · by_cases hk : FloatOps.absf (k (ix4 (0 : Fin 1) t h e)) < Ideal.ofBits .f32 2139095040#32
    · exact ⟨fini_of_abs hq, fini_of_abs hk⟩
    · simp [hk, IntOp.andi] at h1
  · simp [hq, IntOp.andi] at h1

/-! ## The value -/

theorem value : Cert.algebraic_KernelIdeal_ReferenceIdeal_pre_finite_qk := fun m ρ m' ρ' hp hm => by
  have fin := fun c => finite_entry _ _ _ (hp c)
  refine ⟨fun c => Cert.KernelIdeal.Att.result m c, ?_, ?_⟩
  · exact (θ_run Cert.KernelIdeal.defs _ _).mono (fun r h c =>
      ⟨((h.1 c).1 3).trans (Cert.KernelIdeal.Att.arr_eq m c (fun t h e => (fin c t h e).1) (fun t h e => (fin c t h e).2)),
        ((h.1 c).2 Cert.KernelIdeal.main_arg0 (Pipeline.mem_restRefs_of Cert.KernelIdeal.main_arg0 (by decide) (by decide))).trans (Cert.KernelIdeal.Gen.V_main_arg0 m c),
        ((h.1 c).2 Cert.KernelIdeal.main_arg1 (Pipeline.mem_restRefs_of Cert.KernelIdeal.main_arg1 (by decide) (by decide))).trans (Cert.KernelIdeal.Gen.V_main_arg1 m c),
        ((h.1 c).2 Cert.KernelIdeal.main_arg2 (Pipeline.mem_restRefs_of Cert.KernelIdeal.main_arg2 (by decide) (by decide))).trans (Cert.KernelIdeal.Gen.V_main_arg2 m c)⟩)
      (Cert.KernelIdeal.Att.ends m ρ)
  · refine (θ_run Cert.ReferenceIdeal.defs _ _).mono (fun r h c => ⟨(h c).1.trans ?_, (h c).2⟩) (Cert.ReferenceIdeal.Value.run (F := Ideal) m' ρ')
    have hQ : Cert.ReferenceIdeal.Att.Qf m' c = Cert.KernelIdeal.Att.Qf m c := by
      funext t h e; exact congrFun (hm c).1 _
    have hK : Cert.ReferenceIdeal.Att.Kf m' c = Cert.KernelIdeal.Att.Kf m c := by
      funext t h e; exact congrFun (hm c).2.1 _
    have hV : Cert.ReferenceIdeal.Att.Vf m' c = Cert.KernelIdeal.Att.Vf m c := by
      funext t h e; exact congrFun (hm c).2.2 _
    funext i
    have hi : (i : Cert.ReferenceIdeal.S8192x512.Idx) = ix2 (i 0) (i 1) := eq_ix2 (n0 := 8192) (n1 := 512) i
    refine (congrArg _ hi).trans ((Cert.ReferenceIdeal.Att.out_entry m' c (fun t h e => ?_) (fun t h e => ?_) (i 0) (i 1)).trans ?_)
    · rw [hQ]; exact (fin c t h e).1
    · rw [hK]; exact (fin c t h e).2
    · rw [hQ, hK, hV]; rfl

/-! ## The other calls -/

theorem quiet_merge : Cert.quiescent_Merge := fun m ρ _ => Cert.Merge.Gen.frame m ρ

theorem quiet_merge_ideal : Cert.quiescent_MergeIdeal := fun m ρ _ => Cert.MergeIdeal.Gen.frame m ρ

theorem quiet_merge_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem quiet_proj : Cert.quiescent_Proj := fun m ρ _ => Cert.Proj.Gen.frame m ρ

theorem quiet_proj_ideal : Cert.quiescent_ProjIdeal := fun m ρ _ => Cert.ProjIdeal.Gen.frame m ρ

theorem quiet_proj_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem quiet_out : Cert.quiescent_Out := fun m ρ _ => Cert.Out.Gen.frame m ρ

theorem quiet_out_ideal : Cert.quiescent_OutIdeal := fun m ρ _ => Cert.OutIdeal.Gen.frame m ρ

theorem quiet_out_reference : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Value.run (F := Ideal) m ρ)

theorem quiet_router : Cert.quiescent_Router := fun m ρ _ => Cert.Router.Gen.frame m ρ

theorem quiet_router_ideal : Cert.quiescent_RouterIdeal := fun m ρ _ => Cert.RouterIdeal.Gen.frame m ρ

theorem quiet_router_reference : Cert.quiescent_RouterReferenceIdeal := fun m ρ _ =>
  (θ_run Cert.RouterReferenceIdeal.defs _ _).mono (fun r h => ⟨fun c => (h c).2.2, sem_eq_zero_of_no_sems (by decide) r.2⟩)
    (Cert.RouterReferenceIdeal.Value.run (F := Ideal) m ρ)

theorem quiet_latent : Cert.quiescent_Latent := fun m ρ _ => Cert.Latent.Gen.frame m ρ

theorem quiet_latent_ideal : Cert.quiescent_LatentIdeal := fun m ρ _ => Cert.LatentIdeal.Gen.frame m ρ

theorem quiet_latent_reference : Cert.quiescent_LatentReferenceIdeal := fun m ρ _ =>
  (θ_run Cert.LatentReferenceIdeal.defs _ _).mono (fun r h => ⟨fun c => (h c).2.2.2.2, sem_eq_zero_of_no_sems (by decide) r.2⟩)
    (Cert.LatentReferenceIdeal.Value.run (F := Ideal) m ρ)

theorem merge_value : Cert.algebraic_MergeIdeal_MergeReferenceIdeal := fun m ρ m' ρ' _ hm => by
  refine ⟨fun c => Cert.MergeIdeal.Mrg.result m c, ?_, ?_⟩
  · exact (θ_run Cert.MergeIdeal.defs _ _).mono (fun r h c => ⟨(h c).1.trans (Cert.MergeIdeal.Mrg.arr_eq m c), (h c).2⟩) (Cert.MergeIdeal.Value.run_blocks (F := Ideal) m ρ)
  · refine (θ_run Cert.MergeReferenceIdeal.defs _ _).mono (fun r h c => ⟨(h c).1.trans ?_, (h c).2⟩) (Cert.MergeReferenceIdeal.Value.run (F := Ideal) m' ρ')
    obtain ⟨h0, h1, h2, h3, h4, h5, h6, h7⟩ := hm c
    rw [h0, h1, h2, h3, h4, h5, h6, h7]
    funext i
    obtain ⟨t, d, rfl⟩ : ∃ (t : Fin 8192) (d : Fin 2048), i = ix2 t d := ⟨i 0, i 1, eq_ix2 (n0 := 8192) (n1 := 2048) i⟩
    exact Cert.MergeReferenceIdeal.Mrg.total_eq _ _ _ _ _ _ _ _ t d

theorem proj_value : Cert.algebraic_ProjIdeal_ProjReferenceIdeal := fun m ρ m' ρ' _ hm => by
  refine ⟨fun c => Cert.ProjIdeal.Prj.result m c, ?_, ?_⟩
  · exact (θ_run Cert.ProjIdeal.defs _ _).mono (fun r h c => ⟨(h c).1.trans (Cert.ProjIdeal.Prj.arr_eq m c), (h c).2⟩) (Cert.ProjIdeal.Value.run_blocks (F := Ideal) m ρ)
  · refine (θ_run Cert.ProjReferenceIdeal.defs _ _).mono (fun r h c => ⟨(h c).1.trans ?_, (h c).2⟩) (Cert.ProjReferenceIdeal.Value.run (F := Ideal) m' ρ')
    obtain ⟨h0, h1⟩ := hm c
    rw [h0, h1]
    funext i
    obtain ⟨t, d, rfl⟩ : ∃ (t : Fin 8192) (d : Fin 2304), i = ix2 t d := ⟨i 0, i 1, eq_ix2 (n0 := 8192) (n1 := 2304) i⟩
    exact Cert.ProjReferenceIdeal.Prj.chosen_entry _ _ t d

theorem out_value : Cert.algebraic_OutIdeal_OutReferenceIdeal := fun m ρ m' ρ' _ hm => by
  refine ⟨fun c => Cert.OutIdeal.Prj.result7 m c, fun c => Cert.OutIdeal.Prj.result8 m c, ?_, ?_⟩
  · exact (θ_run Cert.OutIdeal.defs _ _).mono (fun r h c => ⟨(h c).1.trans (Cert.OutIdeal.Prj.arr7_eq m c), (h c).2.1.trans (Cert.OutIdeal.Prj.arr8_eq m c), (h c).2.2.2.2⟩) (Cert.OutIdeal.Value.run_blocks (F := Ideal) m ρ)
  · refine (θ_run Cert.OutReferenceIdeal.defs _ _).mono (fun r h c => ⟨(h c).1.trans ?_, (h c).2.1.trans ?_, (h c).2.2⟩) (Cert.OutReferenceIdeal.Value.run (F := Ideal) m' ρ')
    all_goals
      obtain ⟨h0, h1, h2, h3, h4, h5, h6⟩ := hm c
      rw [h0, h1, h2, h3, h4]
      funext i
      obtain ⟨t, d, rfl⟩ : ∃ (t : Fin 8192) (d : Fin 2048), i = ix2 t d := ⟨i 0, i 1, eq_ix2 (n0 := 8192) (n1 := 2048) i⟩
      exact Cert.OutReferenceIdeal.Prj.result_entry _ _ _ _ _ t d

theorem latent_value : Cert.algebraic_LatentIdeal_LatentReferenceIdeal := fun m ρ m' ρ' _ hm => by
  refine ⟨fun c => Cert.LatentIdeal.Prj.result11 m c, fun c => Cert.LatentIdeal.Prj.result12 m c, fun c => Cert.LatentIdeal.Prj.result13 m c, fun c => Cert.LatentIdeal.Prj.result14 m c, ?_, ?_⟩
  · exact (θ_run Cert.LatentIdeal.defs _ _).mono (fun r h c => ⟨(h c).1.trans (Cert.LatentIdeal.Prj.arr11_eq m c), (h c).2.1.trans (Cert.LatentIdeal.Prj.arr12_eq m c),
      (h c).2.2.1.trans (Cert.LatentIdeal.Prj.arr13_eq m c), (h c).2.2.2.1.trans (Cert.LatentIdeal.Prj.arr14_eq m c), (h c).2.2.2.2⟩) (Cert.LatentIdeal.Value.run_blocks (F := Ideal) m ρ)
  · refine (θ_run Cert.LatentReferenceIdeal.defs _ _).mono (fun r h c => ⟨(h c).1.trans ?_, (h c).2.1.trans ?_, (h c).2.2.1.trans ?_, (h c).2.2.2.1.trans ?_, (h c).2.2.2.2⟩)
      (Cert.LatentReferenceIdeal.Value.run (F := Ideal) m' ρ')
    · obtain ⟨h0, h1, h2, h3, h4, h5, h6⟩ := hm c
      refine (Cert.LatentReferenceIdeal.Prj.res_eq m' c).trans ?_
      unfold Cert.LatentReferenceIdeal.Prj.qVal
      rw [h0, h1, h2, h3, h4]
      funext y
      obtain ⟨b, d, i, rfl⟩ : ∃ (b : Fin 32) (d : Fin 1024) (i : Fin 256), y = ix3 b d i := ⟨y 0, y 1, y 2, eq_ix3 (n0 := 32) (n1 := 1024) (n2 := 256) y⟩
      exact Cert.LatentReferenceIdeal.Prj.q_at _ _ _ _ _ b d i
    · obtain ⟨h0, h1, h2, h3, h4, h5, h6⟩ := hm c
      show Cert.LatentReferenceIdeal.Prj.kVal m' c = _
      unfold Cert.LatentReferenceIdeal.Prj.kVal Cert.LatentReferenceIdeal.Prj.kvVal
      rw [h0, h1, h2, h5, h6]
      funext y
      obtain ⟨t, d, rfl⟩ : ∃ (t : Fin 8192) (d : Fin 1024), y = ix2 t d := ⟨y 0, y 1, eq_ix2 (n0 := 8192) (n1 := 1024) y⟩
      exact Cert.LatentReferenceIdeal.Prj.k_at _ _ _ _ _ t d
    · obtain ⟨h0, h1, h2, h3, h4, h5, h6⟩ := hm c
      show Cert.LatentReferenceIdeal.Prj.vVal m' c = _
      unfold Cert.LatentReferenceIdeal.Prj.vVal Cert.LatentReferenceIdeal.Prj.kvVal
      rw [h0, h5, h6]
      funext y
      obtain ⟨b, d, i, rfl⟩ : ∃ (b : Fin 32) (d : Fin 512) (i : Fin 256), y = ix3 b d i := ⟨y 0, y 1, y 2, eq_ix3 (n0 := 32) (n1 := 512) (n2 := 256) y⟩
      exact Cert.LatentReferenceIdeal.Prj.v_at _ _ _ b d i
    · obtain ⟨h0, h1, h2, h3, h4, h5, h6⟩ := hm c
      show Cert.LatentReferenceIdeal.Prj.mVal m' c = _
      unfold Cert.LatentReferenceIdeal.Prj.mVal
      rw [h0]
      funext y
      obtain ⟨b, d, i, rfl⟩ : ∃ (b : Fin 32) (d : Fin 128) (i : Fin 256), y = ix3 b d i := ⟨y 0, y 1, y 2, eq_ix3 (n0 := 32) (n1 := 128) (n2 := 256) y⟩
      exact Cert.LatentReferenceIdeal.Prj.mR_entry _ b d i

theorem router_value : Cert.algebraic_RouterIdeal_RouterReferenceIdeal_pre_above_bottom := fun m ρ m' ρ' hp hm => by
  have hL : ∀ c t, Cert.RouterIdeal.Prj.Above (Cert.RouterIdeal.Prj.logitsAt m c t) := fun c t => Cert.RouterVal.above_entry _ _ _ _ _ _ _ (hp c) t
  refine ⟨fun c => Cert.RouterIdeal.Prj.result9 m c, fun c => Cert.RouterIdeal.Prj.result10 m c, ?_, ?_⟩
  · exact (θ_run Cert.RouterIdeal.defs _ _).mono (fun r h c => ⟨(h c).2.2.1.trans (Cert.RouterIdeal.Prj.arr9_eq m c (hL c)), (h c).2.2.2.1.trans (Cert.RouterIdeal.Prj.arr10_eq m c (hL c)), (h c).2.2.2.2⟩) (Cert.RouterIdeal.Value.run_blocks (F := Ideal) m ρ)
  · have e : ∀ c t, (fun a => Cert.RouterReferenceIdeal.Prj.lgsAt m' c (ix2 t a)) = Cert.RouterIdeal.Prj.logitsAt m c t := fun c t => by
      obtain ⟨h0, h1, h2, h3, h4, h5, h6⟩ := hm c
      unfold Cert.RouterReferenceIdeal.Prj.lgsAt
      rw [h0, h1, h2, h3, h4, h5, h6]
      exact Cert.RouterReferenceIdeal.Prj.lgs_entry _ _ _ _ _ _ _ t
    refine (θ_run Cert.RouterReferenceIdeal.defs _ _).mono (fun r h c => ⟨(h c).1.trans ?_, (h c).2.1.trans ?_, (h c).2.2⟩) (Cert.RouterReferenceIdeal.Value.run (F := Ideal) m' ρ')
    · refine (Cert.RouterReferenceIdeal.Prj.res0_eq m' c).trans ?_
      funext i
      obtain ⟨t, l, rfl⟩ : ∃ (t : Fin 8192) (l : Fin 128), i = ix2 t l := ⟨i 0, i 1, eq_ix2 (n0 := 8192) (n1 := 128) i⟩
      refine (Cert.RouterReferenceIdeal.Prj.picks_at _ t l).trans ?_
      rw [e c t]
      rfl
    · refine (Cert.RouterReferenceIdeal.Prj.res1_eq m' c).trans ?_
      funext i
      obtain ⟨t, l, rfl⟩ : ∃ (t : Fin 8192) (l : Fin 128), i = ix2 t l := ⟨i 0, i 1, eq_ix2 (n0 := 8192) (n1 := 128) i⟩
      refine (Cert.RouterReferenceIdeal.Prj.gates_at _ t l).trans ?_
      rw [e c t]
      rfl

theorem quiet_heads : Cert.quiescent_Heads := fun m ρ _ => Cert.Heads.Hd.quiet m ρ

theorem quiet_heads_ideal : Cert.quiescent_HeadsIdeal := fun m ρ _ => Cert.HeadsIdeal.Hd.quiet m ρ

theorem quiet_heads_reference : Cert.quiescent_HeadsReferenceIdeal := fun m ρ _ =>
  (θ_run Cert.HeadsReferenceIdeal.defs _ _).mono (fun r h => ⟨fun c => (h c).2.2, sem_eq_zero_of_no_sems (by decide) r.2⟩)
    (Cert.HeadsReferenceIdeal.Value.run (F := Ideal) m ρ)

theorem heads_value : Cert.algebraic_HeadsIdeal_HeadsReferenceIdeal := fun m ρ m' ρ' _ hm => by
  refine ⟨fun c => Cert.HeadsIdeal.Hd.resultRows m c, fun c => Cert.HeadsIdeal.Hd.resultTiles m c, Cert.HeadsIdeal.Hd.ends_result m ρ, ?_⟩
  refine (θ_run Cert.HeadsReferenceIdeal.defs _ _).mono (fun r h c => ⟨(h c).1.trans ?_, (h c).2.1.trans ?_, (h c).2.2⟩) (Cert.HeadsReferenceIdeal.Value.run (F := Ideal) m' ρ')
  · obtain ⟨h0, h1, h2, h3⟩ := hm c
    funext y
    obtain ⟨t, q, rfl⟩ : ∃ (t : Fin 8192) (q : Fin 3584), y = ix2 t q := ⟨y 0, y 1, eq_ix2 (n0 := 8192) (n1 := 3584) y⟩
    refine (Cert.HeadsReferenceIdeal.Hd.rows_at m' c t q).trans ?_
    rw [h0, h1, h2, h3]
    rfl
  · obtain ⟨h0, h1, h2, h3⟩ := hm c
    funext y
    obtain ⟨b, q, i, rfl⟩ : ∃ (b : Fin 32) (q : Fin 3584) (i : Fin 256), y = ix3 b q i := ⟨y 0, y 1, y 2, eq_ix3 (n0 := 32) (n1 := 3584) (n2 := 256) y⟩
    refine (Cert.HeadsReferenceIdeal.Hd.tiles_at m' c b q i).trans ?_
    rw [h0, h1, h2, h3]
    rfl

theorem claim : Cert.Claim := ⟨Cert.Kernel.Gen.facts, Cert.KernelIdeal.Gen.facts, Cert.ReferenceIdeal.Gen.facts, Cert.Merge.Gen.facts, Cert.MergeIdeal.Gen.facts,
  Cert.MergeReferenceIdeal.Gen.facts, Cert.Proj.Gen.facts, Cert.ProjIdeal.Gen.facts, Cert.ProjReferenceIdeal.Gen.facts, Cert.Out.Gen.facts, Cert.OutIdeal.Gen.facts,
  Cert.OutReferenceIdeal.Gen.facts, Cert.Latent.Gen.facts, Cert.LatentIdeal.Gen.facts, Cert.LatentReferenceIdeal.Gen.facts, Cert.Router.Gen.facts,
  Cert.RouterIdeal.Gen.facts, Cert.RouterReferenceIdeal.Gen.facts, Cert.Heads.Gen.facts,
  Cert.HeadsIdeal.Gen.facts, Cert.HeadsReferenceIdeal.Gen.facts, finite_facts, Cert.RouterVal.above_facts,
  quiet_kernel, quiet_ideal, fun m ρ _ => quiet_ideal m ρ trivial, quiet_reference, fun m ρ _ => quiet_reference m ρ trivial,
  quiet_merge, quiet_merge_ideal, quiet_merge_reference, quiet_proj, quiet_proj_ideal, quiet_proj_reference, quiet_out, quiet_out_ideal, quiet_out_reference,
  quiet_latent, quiet_latent_ideal, quiet_latent_reference,
  quiet_router, quiet_router_ideal, fun m ρ _ => quiet_router_ideal m ρ trivial, quiet_router_reference, fun m ρ _ => quiet_router_reference m ρ trivial,
  quiet_heads, quiet_heads_ideal, quiet_heads_reference,
  mask_named, value, trivial, merge_value, trivial, proj_value, trivial, out_value, trivial, latent_value, trivial, router_value, trivial, heads_value⟩

end Cert.Proof

end
